-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_rows : Cert.Pre_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_rows [hPre_in_rows : Cert.Pre_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_rows : Cert.Pre_in_rows.Facts] (m : (ℓ : Loc Cert.Reference.nD Cert.Reference.τ Cert.Reference.sig) → Buf (Elt Bits) ℓ) : Prop :=
  ∀ c : Dev Cert.Reference.nD,
    (Cert.Pre_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishReferenceIdeal (m : (ℓ : Loc Cert.FinishReferenceIdeal.nD Cert.FinishReferenceIdeal.τ Cert.FinishReferenceIdeal.sig) → Buf (Elt Ideal) ℓ) : Prop :=
  True

def Pre_Compact [hPre_in_window : Cert.Pre_in_window.Facts] (m : (ℓ : Loc Cert.Compact.nD Cert.Compact.τ Cert.Compact.sig) → Buf (Elt Bits) ℓ) : Prop :=
  ∀ c : Dev Cert.Compact.nD,
    (Cert.Pre_in_window.fn (F := Bits) (m ((c.tc : Thread Cert.Compact.nD Cert.Compact.τ).loc Cert.Compact.main_arg0)) (m ((c.tc : Thread Cert.Compact.nD Cert.Compact.τ).loc Cert.Compact.main_arg1))) = (fun _ => 1#1)

def Pre_CompactIdeal [hPre_in_window : Cert.Pre_in_window.Facts] (m : (ℓ : Loc Cert.CompactIdeal.nD Cert.CompactIdeal.τ Cert.CompactIdeal.sig) → Buf (Elt Ideal) ℓ) : Prop :=
  ∀ c : Dev Cert.CompactIdeal.nD,
    (Cert.Pre_in_window.fn (F := Ideal) (m ((c.tc : Thread Cert.CompactIdeal.nD Cert.CompactIdeal.τ).loc Cert.CompactIdeal.main_arg0)) (m ((c.tc : Thread Cert.CompactIdeal.nD Cert.CompactIdeal.τ).loc Cert.CompactIdeal.main_arg1))) = (fun _ => 1#1)

def Pre_CompactReferenceIdeal (m : (ℓ : Loc Cert.CompactReferenceIdeal.nD Cert.CompactReferenceIdeal.τ Cert.CompactReferenceIdeal.sig) → Buf (Elt Ideal) ℓ) : Prop :=
  True

def Pre_CompactReferenceIdeal_in_window [hPre_in_window : Cert.Pre_in_window.Facts] (m : (ℓ : Loc Cert.CompactReferenceIdeal.nD Cert.CompactReferenceIdeal.τ Cert.CompactReferenceIdeal.sig) → Buf (Elt Ideal) ℓ) : Prop :=
  ∀ c : Dev Cert.CompactReferenceIdeal.nD,
    (Cert.Pre_in_window.fn (F := Ideal) (m ((c.tc : Thread Cert.CompactReferenceIdeal.nD Cert.CompactReferenceIdeal.τ).loc Cert.CompactReferenceIdeal.main_arg0)) (m ((c.tc : Thread Cert.CompactReferenceIdeal.nD Cert.CompactReferenceIdeal.τ).loc Cert.CompactReferenceIdeal.main_arg1))) = (fun _ => 1#1)

def Pre_CompactReference [hPre_in_window : Cert.Pre_in_window.Facts] (m : (ℓ : Loc Cert.CompactReference.nD Cert.CompactReference.τ Cert.CompactReference.sig) → Buf (Elt Bits) ℓ) : Prop :=
  ∀ c : Dev Cert.CompactReference.nD,
    (Cert.Pre_in_window.fn (F := Bits) (m ((c.tc : Thread Cert.CompactReference.nD Cert.CompactReference.τ).loc Cert.CompactReference.main_arg0)) (m ((c.tc : Thread Cert.CompactReference.nD Cert.CompactReference.τ).loc Cert.CompactReference.main_arg1))) = (fun _ => 1#1)

def Pre_Sort (m : (ℓ : Loc Cert.Sort.nD Cert.Sort.τ Cert.Sort.sig) → Buf (Elt Bits) ℓ) : Prop :=
  True

def Pre_SortIdeal (m : (ℓ : Loc Cert.SortIdeal.nD Cert.SortIdeal.τ Cert.SortIdeal.sig) → Buf (Elt Ideal) ℓ) : Prop :=
  True

def Pre_SortReferenceIdeal (m : (ℓ : Loc Cert.SortReferenceIdeal.nD Cert.SortReferenceIdeal.τ Cert.SortReferenceIdeal.sig) → Buf (Elt Ideal) ℓ) : Prop :=
  True

def Pre_Dist (m : (ℓ : Loc Cert.Dist.nD Cert.Dist.τ Cert.Dist.sig) → Buf (Elt Bits) ℓ) : Prop :=
  True

def Pre_DistIdeal (m : (ℓ : Loc Cert.DistIdeal.nD Cert.DistIdeal.τ Cert.DistIdeal.sig) → Buf (Elt Ideal) ℓ) : Prop :=
  True

def Pre_DistReferenceIdeal (m : (ℓ : Loc Cert.DistReferenceIdeal.nD Cert.DistReferenceIdeal.τ Cert.DistReferenceIdeal.sig) → Buf (Elt Ideal) ℓ) : Prop :=
  True

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_rows [hReferenceIdeal : Cert.ReferenceIdeal.Facts] [hPre_in_rows : Cert.Pre_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_rows : Cert.Pre_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5))
      ∧ r.2.sem = fun _ => 0)

def quiescent_FinishReferenceIdeal [hFinishReferenceIdeal : Cert.FinishReferenceIdeal.Facts] : Prop :=
  ∀ (m : (ℓ : Loc Cert.FinishReferenceIdeal.nD Cert.FinishReferenceIdeal.τ Cert.FinishReferenceIdeal.sig) → Buf (Elt Ideal) ℓ) (g : Dev Cert.FinishReferenceIdeal.nD → PrngReg), Pre_FinishReferenceIdeal m →
    θ_run (Cert.FinishReferenceIdeal.defs (F := Ideal)) (onTc (τ := Cert.FinishReferenceIdeal.τ) (Cert.FinishReferenceIdeal.main (F := Ideal))) ⟨m, fun _ => 0, g⟩ (fun r => (∀ c : Dev Cert.FinishReferenceIdeal.nD,
      r.2.mem ((c.tc : Thread Cert.FinishReferenceIdeal.nD Cert.FinishReferenceIdeal.τ).loc Cert.FinishReferenceIdeal.main_arg0) = m ((c.tc : Thread Cert.FinishReferenceIdeal.nD Cert.FinishReferenceIdeal.τ).loc Cert.FinishReferenceIdeal.main_arg0)
      ∧ r.2.mem ((c.tc : Thread Cert.FinishReferenceIdeal.nD Cert.FinishReferenceIdeal.τ).loc Cert.FinishReferenceIdeal.main_arg1) = m ((c.tc : Thread Cert.FinishReferenceIdeal.nD Cert.FinishReferenceIdeal.τ).loc Cert.FinishReferenceIdeal.main_arg1)
      ∧ r.2.mem ((c.tc : Thread Cert.FinishReferenceIdeal.nD Cert.FinishReferenceIdeal.τ).loc Cert.FinishReferenceIdeal.main_arg2) = m ((c.tc : Thread Cert.FinishReferenceIdeal.nD Cert.FinishReferenceIdeal.τ).loc Cert.FinishReferenceIdeal.main_arg2)
      ∧ r.2.mem ((c.tc : Thread Cert.FinishReferenceIdeal.nD Cert.FinishReferenceIdeal.τ).loc Cert.FinishReferenceIdeal.main_arg3) = m ((c.tc : Thread Cert.FinishReferenceIdeal.nD Cert.FinishReferenceIdeal.τ).loc Cert.FinishReferenceIdeal.main_arg3)
      ∧ r.2.mem ((c.tc : Thread Cert.FinishReferenceIdeal.nD Cert.FinishReferenceIdeal.τ).loc Cert.FinishReferenceIdeal.main_arg4) = m ((c.tc : Thread Cert.FinishReferenceIdeal.nD Cert.FinishReferenceIdeal.τ).loc Cert.FinishReferenceIdeal.main_arg4)
      ∧ r.2.mem ((c.tc : Thread Cert.FinishReferenceIdeal.nD Cert.FinishReferenceIdeal.τ).loc Cert.FinishReferenceIdeal.main_arg5) = m ((c.tc : Thread Cert.FinishReferenceIdeal.nD Cert.FinishReferenceIdeal.τ).loc Cert.FinishReferenceIdeal.main_arg5))
      ∧ r.2.sem = fun _ => 0)

def quiescent_Compact [hCompact : Cert.Compact.Facts] [hPre_in_window : Cert.Pre_in_window.Facts] : Prop :=
  ∀ (m : (ℓ : Loc Cert.Compact.nD Cert.Compact.τ Cert.Compact.sig) → Buf (Elt Bits) ℓ) (g : Dev Cert.Compact.nD → PrngReg), Pre_Compact m →
    θ_run (Cert.Compact.defs (F := Bits)) (Cert.Compact.threads (F := Bits)) ⟨m, fun _ => 0, g⟩ (fun r => (∀ c : Dev Cert.Compact.nD,
      r.2.mem ((c.tc : Thread Cert.Compact.nD Cert.Compact.τ).loc Cert.Compact.main_arg0) = m ((c.tc : Thread Cert.Compact.nD Cert.Compact.τ).loc Cert.Compact.main_arg0)
      ∧ r.2.mem ((c.tc : Thread Cert.Compact.nD Cert.Compact.τ).loc Cert.Compact.main_arg1) = m ((c.tc : Thread Cert.Compact.nD Cert.Compact.τ).loc Cert.Compact.main_arg1))
      ∧ r.2.sem = fun _ => 0)

def quiescent_CompactIdeal [hCompactIdeal : Cert.CompactIdeal.Facts] [hPre_in_window : Cert.Pre_in_window.Facts] : Prop :=
  ∀ (m : (ℓ : Loc Cert.CompactIdeal.nD Cert.CompactIdeal.τ Cert.CompactIdeal.sig) → Buf (Elt Ideal) ℓ) (g : Dev Cert.CompactIdeal.nD → PrngReg), Pre_CompactIdeal m →
    θ_run (Cert.CompactIdeal.defs (F := Ideal)) (Cert.CompactIdeal.threads (F := Ideal)) ⟨m, fun _ => 0, g⟩ (fun r => (∀ c : Dev Cert.CompactIdeal.nD,
      r.2.mem ((c.tc : Thread Cert.CompactIdeal.nD Cert.CompactIdeal.τ).loc Cert.CompactIdeal.main_arg0) = m ((c.tc : Thread Cert.CompactIdeal.nD Cert.CompactIdeal.τ).loc Cert.CompactIdeal.main_arg0)
      ∧ r.2.mem ((c.tc : Thread Cert.CompactIdeal.nD Cert.CompactIdeal.τ).loc Cert.CompactIdeal.main_arg1) = m ((c.tc : Thread Cert.CompactIdeal.nD Cert.CompactIdeal.τ).loc Cert.CompactIdeal.main_arg1))
      ∧ r.2.sem = fun _ => 0)

def quiescent_CompactReferenceIdeal [hCompactReferenceIdeal : Cert.CompactReferenceIdeal.Facts] : Prop :=
  ∀ (m : (ℓ : Loc Cert.CompactReferenceIdeal.nD Cert.CompactReferenceIdeal.τ Cert.CompactReferenceIdeal.sig) → Buf (Elt Ideal) ℓ) (g : Dev Cert.CompactReferenceIdeal.nD → PrngReg), Pre_CompactReferenceIdeal m →
    θ_run (Cert.CompactReferenceIdeal.defs (F := Ideal)) (onTc (τ := Cert.CompactReferenceIdeal.τ) (Cert.CompactReferenceIdeal.main (F := Ideal))) ⟨m, fun _ => 0, g⟩ (fun r => (∀ c : Dev Cert.CompactReferenceIdeal.nD,
      r.2.mem ((c.tc : Thread Cert.CompactReferenceIdeal.nD Cert.CompactReferenceIdeal.τ).loc Cert.CompactReferenceIdeal.main_arg0) = m ((c.tc : Thread Cert.CompactReferenceIdeal.nD Cert.CompactReferenceIdeal.τ).loc Cert.CompactReferenceIdeal.main_arg0)
      ∧ r.2.mem ((c.tc : Thread Cert.CompactReferenceIdeal.nD Cert.CompactReferenceIdeal.τ).loc Cert.CompactReferenceIdeal.main_arg1) = m ((c.tc : Thread Cert.CompactReferenceIdeal.nD Cert.CompactReferenceIdeal.τ).loc Cert.CompactReferenceIdeal.main_arg1))
      ∧ r.2.sem = fun _ => 0)

def quiescent_CompactReferenceIdeal_pre_in_window [hCompactReferenceIdeal : Cert.CompactReferenceIdeal.Facts] [hPre_in_window : Cert.Pre_in_window.Facts] : Prop :=
  ∀ (m : (ℓ : Loc Cert.CompactReferenceIdeal.nD Cert.CompactReferenceIdeal.τ Cert.CompactReferenceIdeal.sig) → Buf (Elt Ideal) ℓ) (g : Dev Cert.CompactReferenceIdeal.nD → PrngReg), Pre_CompactReferenceIdeal_in_window m →
    θ_run (Cert.CompactReferenceIdeal.defs (F := Ideal)) (onTc (τ := Cert.CompactReferenceIdeal.τ) (Cert.CompactReferenceIdeal.main (F := Ideal))) ⟨m, fun _ => 0, g⟩ (fun r => (∀ c : Dev Cert.CompactReferenceIdeal.nD,
      r.2.mem ((c.tc : Thread Cert.CompactReferenceIdeal.nD Cert.CompactReferenceIdeal.τ).loc Cert.CompactReferenceIdeal.main_arg0) = m ((c.tc : Thread Cert.CompactReferenceIdeal.nD Cert.CompactReferenceIdeal.τ).loc Cert.CompactReferenceIdeal.main_arg0)
      ∧ r.2.mem ((c.tc : Thread Cert.CompactReferenceIdeal.nD Cert.CompactReferenceIdeal.τ).loc Cert.CompactReferenceIdeal.main_arg1) = m ((c.tc : Thread Cert.CompactReferenceIdeal.nD Cert.CompactReferenceIdeal.τ).loc Cert.CompactReferenceIdeal.main_arg1))
      ∧ r.2.sem = fun _ => 0)

def quiescent_CompactReference [hCompactReference : Cert.CompactReference.Facts] [hPre_in_window : Cert.Pre_in_window.Facts] : Prop :=
  ∀ (m : (ℓ : Loc Cert.CompactReference.nD Cert.CompactReference.τ Cert.CompactReference.sig) → Buf (Elt Bits) ℓ) (g : Dev Cert.CompactReference.nD → PrngReg), Pre_CompactReference m →
    θ_run (Cert.CompactReference.defs (F := Bits)) (onTc (τ := Cert.CompactReference.τ) (Cert.CompactReference.main (F := Bits))) ⟨m, fun _ => 0, g⟩ (fun r => (∀ c : Dev Cert.CompactReference.nD,
      r.2.mem ((c.tc : Thread Cert.CompactReference.nD Cert.CompactReference.τ).loc Cert.CompactReference.main_arg0) = m ((c.tc : Thread Cert.CompactReference.nD Cert.CompactReference.τ).loc Cert.CompactReference.main_arg0)
      ∧ r.2.mem ((c.tc : Thread Cert.CompactReference.nD Cert.CompactReference.τ).loc Cert.CompactReference.main_arg1) = m ((c.tc : Thread Cert.CompactReference.nD Cert.CompactReference.τ).loc Cert.CompactReference.main_arg1))
      ∧ r.2.sem = fun _ => 0)

def quiescent_Sort [hSort : Cert.Sort.Facts] : Prop :=
  ∀ (m : (ℓ : Loc Cert.Sort.nD Cert.Sort.τ Cert.Sort.sig) → Buf (Elt Bits) ℓ) (g : Dev Cert.Sort.nD → PrngReg), Pre_Sort m →
    θ_run (Cert.Sort.defs (F := Bits)) (onTc (τ := Cert.Sort.τ) (Cert.Sort.main (F := Bits))) ⟨m, fun _ => 0, g⟩ (fun r => (∀ c : Dev Cert.Sort.nD,
      r.2.mem ((c.tc : Thread Cert.Sort.nD Cert.Sort.τ).loc Cert.Sort.main_arg0) = m ((c.tc : Thread Cert.Sort.nD Cert.Sort.τ).loc Cert.Sort.main_arg0)
      ∧ r.2.mem ((c.tc : Thread Cert.Sort.nD Cert.Sort.τ).loc Cert.Sort.main_arg1) = m ((c.tc : Thread Cert.Sort.nD Cert.Sort.τ).loc Cert.Sort.main_arg1))
      ∧ r.2.sem = fun _ => 0)

def quiescent_SortIdeal [hSortIdeal : Cert.SortIdeal.Facts] : Prop :=
  ∀ (m : (ℓ : Loc Cert.SortIdeal.nD Cert.SortIdeal.τ Cert.SortIdeal.sig) → Buf (Elt Ideal) ℓ) (g : Dev Cert.SortIdeal.nD → PrngReg), Pre_SortIdeal m →
    θ_run (Cert.SortIdeal.defs (F := Ideal)) (onTc (τ := Cert.SortIdeal.τ) (Cert.SortIdeal.main (F := Ideal))) ⟨m, fun _ => 0, g⟩ (fun r => (∀ c : Dev Cert.SortIdeal.nD,
      r.2.mem ((c.tc : Thread Cert.SortIdeal.nD Cert.SortIdeal.τ).loc Cert.SortIdeal.main_arg0) = m ((c.tc : Thread Cert.SortIdeal.nD Cert.SortIdeal.τ).loc Cert.SortIdeal.main_arg0)
      ∧ r.2.mem ((c.tc : Thread Cert.SortIdeal.nD Cert.SortIdeal.τ).loc Cert.SortIdeal.main_arg1) = m ((c.tc : Thread Cert.SortIdeal.nD Cert.SortIdeal.τ).loc Cert.SortIdeal.main_arg1))
      ∧ r.2.sem = fun _ => 0)

def quiescent_SortReferenceIdeal [hSortReferenceIdeal : Cert.SortReferenceIdeal.Facts] : Prop :=
  ∀ (m : (ℓ : Loc Cert.SortReferenceIdeal.nD Cert.SortReferenceIdeal.τ Cert.SortReferenceIdeal.sig) → Buf (Elt Ideal) ℓ) (g : Dev Cert.SortReferenceIdeal.nD → PrngReg), Pre_SortReferenceIdeal m →
    θ_run (Cert.SortReferenceIdeal.defs (F := Ideal)) (onTc (τ := Cert.SortReferenceIdeal.τ) (Cert.SortReferenceIdeal.main (F := Ideal))) ⟨m, fun _ => 0, g⟩ (fun r => (∀ c : Dev Cert.SortReferenceIdeal.nD,
      r.2.mem ((c.tc : Thread Cert.SortReferenceIdeal.nD Cert.SortReferenceIdeal.τ).loc Cert.SortReferenceIdeal.main_arg0) = m ((c.tc : Thread Cert.SortReferenceIdeal.nD Cert.SortReferenceIdeal.τ).loc Cert.SortReferenceIdeal.main_arg0)
      ∧ r.2.mem ((c.tc : Thread Cert.SortReferenceIdeal.nD Cert.SortReferenceIdeal.τ).loc Cert.SortReferenceIdeal.main_arg1) = m ((c.tc : Thread Cert.SortReferenceIdeal.nD Cert.SortReferenceIdeal.τ).loc Cert.SortReferenceIdeal.main_arg1))
      ∧ r.2.sem = fun _ => 0)

def quiescent_Dist [hDist : Cert.Dist.Facts] : Prop :=
  ∀ (m : (ℓ : Loc Cert.Dist.nD Cert.Dist.τ Cert.Dist.sig) → Buf (Elt Bits) ℓ) (g : Dev Cert.Dist.nD → PrngReg), Pre_Dist m →
    θ_run (Cert.Dist.defs (F := Bits)) (onTc (τ := Cert.Dist.τ) (Cert.Dist.main (F := Bits))) ⟨m, fun _ => 0, g⟩ (fun r => (∀ c : Dev Cert.Dist.nD,
      r.2.mem ((c.tc : Thread Cert.Dist.nD Cert.Dist.τ).loc Cert.Dist.main_arg0) = m ((c.tc : Thread Cert.Dist.nD Cert.Dist.τ).loc Cert.Dist.main_arg0)
      ∧ r.2.mem ((c.tc : Thread Cert.Dist.nD Cert.Dist.τ).loc Cert.Dist.main_arg1) = m ((c.tc : Thread Cert.Dist.nD Cert.Dist.τ).loc Cert.Dist.main_arg1))
      ∧ r.2.sem = fun _ => 0)

def quiescent_DistIdeal [hDistIdeal : Cert.DistIdeal.Facts] : Prop :=
  ∀ (m : (ℓ : Loc Cert.DistIdeal.nD Cert.DistIdeal.τ Cert.DistIdeal.sig) → Buf (Elt Ideal) ℓ) (g : Dev Cert.DistIdeal.nD → PrngReg), Pre_DistIdeal m →
    θ_run (Cert.DistIdeal.defs (F := Ideal)) (onTc (τ := Cert.DistIdeal.τ) (Cert.DistIdeal.main (F := Ideal))) ⟨m, fun _ => 0, g⟩ (fun r => (∀ c : Dev Cert.DistIdeal.nD,
      r.2.mem ((c.tc : Thread Cert.DistIdeal.nD Cert.DistIdeal.τ).loc Cert.DistIdeal.main_arg0) = m ((c.tc : Thread Cert.DistIdeal.nD Cert.DistIdeal.τ).loc Cert.DistIdeal.main_arg0)
      ∧ r.2.mem ((c.tc : Thread Cert.DistIdeal.nD Cert.DistIdeal.τ).loc Cert.DistIdeal.main_arg1) = m ((c.tc : Thread Cert.DistIdeal.nD Cert.DistIdeal.τ).loc Cert.DistIdeal.main_arg1))
      ∧ r.2.sem = fun _ => 0)

def quiescent_DistReferenceIdeal [hDistReferenceIdeal : Cert.DistReferenceIdeal.Facts] : Prop :=
  ∀ (m : (ℓ : Loc Cert.DistReferenceIdeal.nD Cert.DistReferenceIdeal.τ Cert.DistReferenceIdeal.sig) → Buf (Elt Ideal) ℓ) (g : Dev Cert.DistReferenceIdeal.nD → PrngReg), Pre_DistReferenceIdeal m →
    θ_run (Cert.DistReferenceIdeal.defs (F := Ideal)) (onTc (τ := Cert.DistReferenceIdeal.τ) (Cert.DistReferenceIdeal.main (F := Ideal))) ⟨m, fun _ => 0, g⟩ (fun r => (∀ c : Dev Cert.DistReferenceIdeal.nD,
      r.2.mem ((c.tc : Thread Cert.DistReferenceIdeal.nD Cert.DistReferenceIdeal.τ).loc Cert.DistReferenceIdeal.main_arg0) = m ((c.tc : Thread Cert.DistReferenceIdeal.nD Cert.DistReferenceIdeal.τ).loc Cert.DistReferenceIdeal.main_arg0)
      ∧ r.2.mem ((c.tc : Thread Cert.DistReferenceIdeal.nD Cert.DistReferenceIdeal.τ).loc Cert.DistReferenceIdeal.main_arg1) = m ((c.tc : Thread Cert.DistReferenceIdeal.nD Cert.DistReferenceIdeal.τ).loc Cert.DistReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v12)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v12) = v0 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v7) = v0 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3))

def preserves_Finish_FinishIdeal : Prop :=
  True

def algebraic_FinishIdeal_FinishReferenceIdeal [hFinishIdeal : Cert.FinishIdeal.Facts] [hFinishReferenceIdeal : Cert.FinishReferenceIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishReferenceIdeal.nD Cert.FinishReferenceIdeal.τ Cert.FinishReferenceIdeal.sig) → Buf (Elt Ideal) ℓ) (g' : Dev Cert.FinishReferenceIdeal.nD → PrngReg), Pre_FinishIdeal m →
    (∀ c : Dev Cert.FinishIdeal.nD,
      m' ((c.tc : Thread Cert.FinishReferenceIdeal.nD Cert.FinishReferenceIdeal.τ).loc Cert.FinishReferenceIdeal.main_arg0) = m ((c.tc : Thread Cert.FinishIdeal.nD Cert.FinishIdeal.τ).loc Cert.FinishIdeal.main_arg0)
      ∧ m' ((c.tc : Thread Cert.FinishReferenceIdeal.nD Cert.FinishReferenceIdeal.τ).loc Cert.FinishReferenceIdeal.main_arg1) = m ((c.tc : Thread Cert.FinishIdeal.nD Cert.FinishIdeal.τ).loc Cert.FinishIdeal.main_arg1)
      ∧ m' ((c.tc : Thread Cert.FinishReferenceIdeal.nD Cert.FinishReferenceIdeal.τ).loc Cert.FinishReferenceIdeal.main_arg2) = m ((c.tc : Thread Cert.FinishIdeal.nD Cert.FinishIdeal.τ).loc Cert.FinishIdeal.main_arg2)
      ∧ m' ((c.tc : Thread Cert.FinishReferenceIdeal.nD Cert.FinishReferenceIdeal.τ).loc Cert.FinishReferenceIdeal.main_arg3) = m ((c.tc : Thread Cert.FinishIdeal.nD Cert.FinishIdeal.τ).loc Cert.FinishIdeal.main_arg3)
      ∧ m' ((c.tc : Thread Cert.FinishReferenceIdeal.nD Cert.FinishReferenceIdeal.τ).loc Cert.FinishReferenceIdeal.main_arg4) = m ((c.tc : Thread Cert.FinishIdeal.nD Cert.FinishIdeal.τ).loc Cert.FinishIdeal.main_arg4)
      ∧ m' ((c.tc : Thread Cert.FinishReferenceIdeal.nD Cert.FinishReferenceIdeal.τ).loc Cert.FinishReferenceIdeal.main_arg5) = m ((c.tc : Thread Cert.FinishIdeal.nD Cert.FinishIdeal.τ).loc Cert.FinishIdeal.main_arg5)) →
    ∃ (v0 : (c : Dev Cert.FinishIdeal.nD) → Buf (Elt Ideal) ((c.tc : Thread Cert.FinishIdeal.nD Cert.FinishIdeal.τ).loc Cert.FinishIdeal.main_v3)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v3) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5))
      ∧ θ_run (Cert.FinishReferenceIdeal.defs (F := Ideal)) (onTc (τ := Cert.FinishReferenceIdeal.τ) (Cert.FinishReferenceIdeal.main (F := Ideal))) ⟨m', fun _ => 0, g'⟩ (fun r => ∀ c : Dev Cert.FinishReferenceIdeal.nD,
          r.2.mem ((c.tc : Thread Cert.FinishReferenceIdeal.nD Cert.FinishReferenceIdeal.τ).loc Cert.FinishReferenceIdeal.main_v24) = v0 c
          ∧ r.2.mem ((c.tc : Thread Cert.FinishReferenceIdeal.nD Cert.FinishReferenceIdeal.τ).loc Cert.FinishReferenceIdeal.main_arg0) = m' ((c.tc : Thread Cert.FinishReferenceIdeal.nD Cert.FinishReferenceIdeal.τ).loc Cert.FinishReferenceIdeal.main_arg0)
          ∧ r.2.mem ((c.tc : Thread Cert.FinishReferenceIdeal.nD Cert.FinishReferenceIdeal.τ).loc Cert.FinishReferenceIdeal.main_arg1) = m' ((c.tc : Thread Cert.FinishReferenceIdeal.nD Cert.FinishReferenceIdeal.τ).loc Cert.FinishReferenceIdeal.main_arg1)
          ∧ r.2.mem ((c.tc : Thread Cert.FinishReferenceIdeal.nD Cert.FinishReferenceIdeal.τ).loc Cert.FinishReferenceIdeal.main_arg2) = m' ((c.tc : Thread Cert.FinishReferenceIdeal.nD Cert.FinishReferenceIdeal.τ).loc Cert.FinishReferenceIdeal.main_arg2)
          ∧ r.2.mem ((c.tc : Thread Cert.FinishReferenceIdeal.nD Cert.FinishReferenceIdeal.τ).loc Cert.FinishReferenceIdeal.main_arg3) = m' ((c.tc : Thread Cert.FinishReferenceIdeal.nD Cert.FinishReferenceIdeal.τ).loc Cert.FinishReferenceIdeal.main_arg3)
          ∧ r.2.mem ((c.tc : Thread Cert.FinishReferenceIdeal.nD Cert.FinishReferenceIdeal.τ).loc Cert.FinishReferenceIdeal.main_arg4) = m' ((c.tc : Thread Cert.FinishReferenceIdeal.nD Cert.FinishReferenceIdeal.τ).loc Cert.FinishReferenceIdeal.main_arg4)
          ∧ r.2.mem ((c.tc : Thread Cert.FinishReferenceIdeal.nD Cert.FinishReferenceIdeal.τ).loc Cert.FinishReferenceIdeal.main_arg5) = m' ((c.tc : Thread Cert.FinishReferenceIdeal.nD Cert.FinishReferenceIdeal.τ).loc Cert.FinishReferenceIdeal.main_arg5))

def preserves_Compact_CompactIdeal : Prop :=
  True

def algebraic_CompactIdeal_CompactReferenceIdeal [hCompactIdeal : Cert.CompactIdeal.Facts] [hCompactReferenceIdeal : Cert.CompactReferenceIdeal.Facts] [hPre_in_window : Cert.Pre_in_window.Facts] : Prop :=
  ∀ (m : (ℓ : Loc Cert.CompactIdeal.nD Cert.CompactIdeal.τ Cert.CompactIdeal.sig) → Buf (Elt Ideal) ℓ) (g : Dev Cert.CompactIdeal.nD → PrngReg)
    (m' : (ℓ : Loc Cert.CompactReferenceIdeal.nD Cert.CompactReferenceIdeal.τ Cert.CompactReferenceIdeal.sig) → Buf (Elt Ideal) ℓ) (g' : Dev Cert.CompactReferenceIdeal.nD → PrngReg), Pre_CompactIdeal m →
    (∀ c : Dev Cert.CompactIdeal.nD,
      m' ((c.tc : Thread Cert.CompactReferenceIdeal.nD Cert.CompactReferenceIdeal.τ).loc Cert.CompactReferenceIdeal.main_arg0) = m ((c.tc : Thread Cert.CompactIdeal.nD Cert.CompactIdeal.τ).loc Cert.CompactIdeal.main_arg0)
      ∧ m' ((c.tc : Thread Cert.CompactReferenceIdeal.nD Cert.CompactReferenceIdeal.τ).loc Cert.CompactReferenceIdeal.main_arg1) = m ((c.tc : Thread Cert.CompactIdeal.nD Cert.CompactIdeal.τ).loc Cert.CompactIdeal.main_arg1)) →
    ∃ (v0 : (c : Dev Cert.CompactIdeal.nD) → Buf (Elt Ideal) ((c.tc : Thread Cert.CompactIdeal.nD Cert.CompactIdeal.τ).loc Cert.CompactIdeal.main_v0_0)) (v1 : (c : Dev Cert.CompactIdeal.nD) → Buf (Elt Ideal) ((c.tc : Thread Cert.CompactIdeal.nD Cert.CompactIdeal.τ).loc Cert.CompactIdeal.main_v0_1)),
      θ_run (Cert.CompactIdeal.defs (F := Ideal)) (Cert.CompactIdeal.threads (F := Ideal)) ⟨m, fun _ => 0, g⟩ (fun r => ∀ c : Dev Cert.CompactIdeal.nD,
          r.2.mem ((c.tc : Thread Cert.CompactIdeal.nD Cert.CompactIdeal.τ).loc Cert.CompactIdeal.main_v0_0) = v0 c
          ∧ r.2.mem ((c.tc : Thread Cert.CompactIdeal.nD Cert.CompactIdeal.τ).loc Cert.CompactIdeal.main_v0_1) = v1 c
          ∧ r.2.mem ((c.tc : Thread Cert.CompactIdeal.nD Cert.CompactIdeal.τ).loc Cert.CompactIdeal.main_arg0) = m ((c.tc : Thread Cert.CompactIdeal.nD Cert.CompactIdeal.τ).loc Cert.CompactIdeal.main_arg0)
          ∧ r.2.mem ((c.tc : Thread Cert.CompactIdeal.nD Cert.CompactIdeal.τ).loc Cert.CompactIdeal.main_arg1) = m ((c.tc : Thread Cert.CompactIdeal.nD Cert.CompactIdeal.τ).loc Cert.CompactIdeal.main_arg1))
      ∧ θ_run (Cert.CompactReferenceIdeal.defs (F := Ideal)) (onTc (τ := Cert.CompactReferenceIdeal.τ) (Cert.CompactReferenceIdeal.main (F := Ideal))) ⟨m', fun _ => 0, g'⟩ (fun r => ∀ c : Dev Cert.CompactReferenceIdeal.nD,
          r.2.mem ((c.tc : Thread Cert.CompactReferenceIdeal.nD Cert.CompactReferenceIdeal.τ).loc Cert.CompactReferenceIdeal.main_v26) = v0 c
          ∧ r.2.mem ((c.tc : Thread Cert.CompactReferenceIdeal.nD Cert.CompactReferenceIdeal.τ).loc Cert.CompactReferenceIdeal.main_v42) = v1 c
          ∧ r.2.mem ((c.tc : Thread Cert.CompactReferenceIdeal.nD Cert.CompactReferenceIdeal.τ).loc Cert.CompactReferenceIdeal.main_arg0) = m' ((c.tc : Thread Cert.CompactReferenceIdeal.nD Cert.CompactReferenceIdeal.τ).loc Cert.CompactReferenceIdeal.main_arg0)
          ∧ r.2.mem ((c.tc : Thread Cert.CompactReferenceIdeal.nD Cert.CompactReferenceIdeal.τ).loc Cert.CompactReferenceIdeal.main_arg1) = m' ((c.tc : Thread Cert.CompactReferenceIdeal.nD Cert.CompactReferenceIdeal.τ).loc Cert.CompactReferenceIdeal.main_arg1))

def bitexact_Compact_CompactReference [hCompact : Cert.Compact.Facts] [hCompactReference : Cert.CompactReference.Facts] [hPre_in_window : Cert.Pre_in_window.Facts] : Prop :=
  ∀ (m : (ℓ : Loc Cert.Compact.nD Cert.Compact.τ Cert.Compact.sig) → Buf (Elt Bits) ℓ) (g : Dev Cert.Compact.nD → PrngReg)
    (m' : (ℓ : Loc Cert.CompactReference.nD Cert.CompactReference.τ Cert.CompactReference.sig) → Buf (Elt Bits) ℓ) (g' : Dev Cert.CompactReference.nD → PrngReg), Pre_Compact m →
    (∀ c : Dev Cert.Compact.nD,
      m' ((c.tc : Thread Cert.CompactReference.nD Cert.CompactReference.τ).loc Cert.CompactReference.main_arg0) = m ((c.tc : Thread Cert.Compact.nD Cert.Compact.τ).loc Cert.Compact.main_arg0)
      ∧ m' ((c.tc : Thread Cert.CompactReference.nD Cert.CompactReference.τ).loc Cert.CompactReference.main_arg1) = m ((c.tc : Thread Cert.Compact.nD Cert.Compact.τ).loc Cert.Compact.main_arg1)) →
    ∃ (v0 : (c : Dev Cert.Compact.nD) → Buf (Elt Bits) ((c.tc : Thread Cert.Compact.nD Cert.Compact.τ).loc Cert.Compact.main_v0_0)) (v1 : (c : Dev Cert.Compact.nD) → Buf (Elt Bits) ((c.tc : Thread Cert.Compact.nD Cert.Compact.τ).loc Cert.Compact.main_v0_1)),
      θ_run (Cert.Compact.defs (F := Bits)) (Cert.Compact.threads (F := Bits)) ⟨m, fun _ => 0, g⟩ (fun r => ∀ c : Dev Cert.Compact.nD,
          r.2.mem ((c.tc : Thread Cert.Compact.nD Cert.Compact.τ).loc Cert.Compact.main_v0_0) = v0 c
          ∧ r.2.mem ((c.tc : Thread Cert.Compact.nD Cert.Compact.τ).loc Cert.Compact.main_v0_1) = v1 c
          ∧ r.2.mem ((c.tc : Thread Cert.Compact.nD Cert.Compact.τ).loc Cert.Compact.main_arg0) = m ((c.tc : Thread Cert.Compact.nD Cert.Compact.τ).loc Cert.Compact.main_arg0)
          ∧ r.2.mem ((c.tc : Thread Cert.Compact.nD Cert.Compact.τ).loc Cert.Compact.main_arg1) = m ((c.tc : Thread Cert.Compact.nD Cert.Compact.τ).loc Cert.Compact.main_arg1))
      ∧ θ_run (Cert.CompactReference.defs (F := Bits)) (onTc (τ := Cert.CompactReference.τ) (Cert.CompactReference.main (F := Bits))) ⟨m', fun _ => 0, g'⟩ (fun r => ∀ c : Dev Cert.CompactReference.nD,
          r.2.mem ((c.tc : Thread Cert.CompactReference.nD Cert.CompactReference.τ).loc Cert.CompactReference.main_v26) = v0 c
          ∧ r.2.mem ((c.tc : Thread Cert.CompactReference.nD Cert.CompactReference.τ).loc Cert.CompactReference.main_v42) = v1 c
          ∧ r.2.mem ((c.tc : Thread Cert.CompactReference.nD Cert.CompactReference.τ).loc Cert.CompactReference.main_arg0) = m' ((c.tc : Thread Cert.CompactReference.nD Cert.CompactReference.τ).loc Cert.CompactReference.main_arg0)
          ∧ r.2.mem ((c.tc : Thread Cert.CompactReference.nD Cert.CompactReference.τ).loc Cert.CompactReference.main_arg1) = m' ((c.tc : Thread Cert.CompactReference.nD Cert.CompactReference.τ).loc Cert.CompactReference.main_arg1))

def preserves_Sort_SortIdeal : Prop :=
  True

def algebraic_SortIdeal_SortReferenceIdeal [hSortIdeal : Cert.SortIdeal.Facts] [hSortReferenceIdeal : Cert.SortReferenceIdeal.Facts] : Prop :=
  ∀ (m : (ℓ : Loc Cert.SortIdeal.nD Cert.SortIdeal.τ Cert.SortIdeal.sig) → Buf (Elt Ideal) ℓ) (g : Dev Cert.SortIdeal.nD → PrngReg)
    (m' : (ℓ : Loc Cert.SortReferenceIdeal.nD Cert.SortReferenceIdeal.τ Cert.SortReferenceIdeal.sig) → Buf (Elt Ideal) ℓ) (g' : Dev Cert.SortReferenceIdeal.nD → PrngReg), Pre_SortIdeal m →
    (∀ c : Dev Cert.SortIdeal.nD,
      m' ((c.tc : Thread Cert.SortReferenceIdeal.nD Cert.SortReferenceIdeal.τ).loc Cert.SortReferenceIdeal.main_arg0) = m ((c.tc : Thread Cert.SortIdeal.nD Cert.SortIdeal.τ).loc Cert.SortIdeal.main_arg0)
      ∧ m' ((c.tc : Thread Cert.SortReferenceIdeal.nD Cert.SortReferenceIdeal.τ).loc Cert.SortReferenceIdeal.main_arg1) = m ((c.tc : Thread Cert.SortIdeal.nD Cert.SortIdeal.τ).loc Cert.SortIdeal.main_arg1)) →
    ∃ (v0 : (c : Dev Cert.SortIdeal.nD) → Buf (Elt Ideal) ((c.tc : Thread Cert.SortIdeal.nD Cert.SortIdeal.τ).loc Cert.SortIdeal.main_v0_0)) (v1 : (c : Dev Cert.SortIdeal.nD) → Buf (Elt Ideal) ((c.tc : Thread Cert.SortIdeal.nD Cert.SortIdeal.τ).loc Cert.SortIdeal.main_v0_1)),
      θ_run (Cert.SortIdeal.defs (F := Ideal)) (onTc (τ := Cert.SortIdeal.τ) (Cert.SortIdeal.main (F := Ideal))) ⟨m, fun _ => 0, g⟩ (fun r => ∀ c : Dev Cert.SortIdeal.nD,
          r.2.mem ((c.tc : Thread Cert.SortIdeal.nD Cert.SortIdeal.τ).loc Cert.SortIdeal.main_v0_0) = v0 c
          ∧ r.2.mem ((c.tc : Thread Cert.SortIdeal.nD Cert.SortIdeal.τ).loc Cert.SortIdeal.main_v0_1) = v1 c
          ∧ r.2.mem ((c.tc : Thread Cert.SortIdeal.nD Cert.SortIdeal.τ).loc Cert.SortIdeal.main_arg0) = m ((c.tc : Thread Cert.SortIdeal.nD Cert.SortIdeal.τ).loc Cert.SortIdeal.main_arg0)
          ∧ r.2.mem ((c.tc : Thread Cert.SortIdeal.nD Cert.SortIdeal.τ).loc Cert.SortIdeal.main_arg1) = m ((c.tc : Thread Cert.SortIdeal.nD Cert.SortIdeal.τ).loc Cert.SortIdeal.main_arg1))
      ∧ θ_run (Cert.SortReferenceIdeal.defs (F := Ideal)) (onTc (τ := Cert.SortReferenceIdeal.τ) (Cert.SortReferenceIdeal.main (F := Ideal))) ⟨m', fun _ => 0, g'⟩ (fun r => ∀ c : Dev Cert.SortReferenceIdeal.nD,
          r.2.mem ((c.tc : Thread Cert.SortReferenceIdeal.nD Cert.SortReferenceIdeal.τ).loc Cert.SortReferenceIdeal.main_v0_1) = v0 c
          ∧ r.2.mem ((c.tc : Thread Cert.SortReferenceIdeal.nD Cert.SortReferenceIdeal.τ).loc Cert.SortReferenceIdeal.main_v2) = v1 c
          ∧ r.2.mem ((c.tc : Thread Cert.SortReferenceIdeal.nD Cert.SortReferenceIdeal.τ).loc Cert.SortReferenceIdeal.main_arg0) = m' ((c.tc : Thread Cert.SortReferenceIdeal.nD Cert.SortReferenceIdeal.τ).loc Cert.SortReferenceIdeal.main_arg0)
          ∧ r.2.mem ((c.tc : Thread Cert.SortReferenceIdeal.nD Cert.SortReferenceIdeal.τ).loc Cert.SortReferenceIdeal.main_arg1) = m' ((c.tc : Thread Cert.SortReferenceIdeal.nD Cert.SortReferenceIdeal.τ).loc Cert.SortReferenceIdeal.main_arg1))

def preserves_Dist_DistIdeal : Prop :=
  True

def algebraic_DistIdeal_DistReferenceIdeal [hDistIdeal : Cert.DistIdeal.Facts] [hDistReferenceIdeal : Cert.DistReferenceIdeal.Facts] : Prop :=
  ∀ (m : (ℓ : Loc Cert.DistIdeal.nD Cert.DistIdeal.τ Cert.DistIdeal.sig) → Buf (Elt Ideal) ℓ) (g : Dev Cert.DistIdeal.nD → PrngReg)
    (m' : (ℓ : Loc Cert.DistReferenceIdeal.nD Cert.DistReferenceIdeal.τ Cert.DistReferenceIdeal.sig) → Buf (Elt Ideal) ℓ) (g' : Dev Cert.DistReferenceIdeal.nD → PrngReg), Pre_DistIdeal m →
    (∀ c : Dev Cert.DistIdeal.nD,
      m' ((c.tc : Thread Cert.DistReferenceIdeal.nD Cert.DistReferenceIdeal.τ).loc Cert.DistReferenceIdeal.main_arg0) = m ((c.tc : Thread Cert.DistIdeal.nD Cert.DistIdeal.τ).loc Cert.DistIdeal.main_arg0)
      ∧ m' ((c.tc : Thread Cert.DistReferenceIdeal.nD Cert.DistReferenceIdeal.τ).loc Cert.DistReferenceIdeal.main_arg1) = m ((c.tc : Thread Cert.DistIdeal.nD Cert.DistIdeal.τ).loc Cert.DistIdeal.main_arg1)) →
    ∃ (v0 : (c : Dev Cert.DistIdeal.nD) → Buf (Elt Ideal) ((c.tc : Thread Cert.DistIdeal.nD Cert.DistIdeal.τ).loc Cert.DistIdeal.main_v0_0)),
      θ_run (Cert.DistIdeal.defs (F := Ideal)) (onTc (τ := Cert.DistIdeal.τ) (Cert.DistIdeal.main (F := Ideal))) ⟨m, fun _ => 0, g⟩ (fun r => ∀ c : Dev Cert.DistIdeal.nD,
          r.2.mem ((c.tc : Thread Cert.DistIdeal.nD Cert.DistIdeal.τ).loc Cert.DistIdeal.main_v0_0) = v0 c
          ∧ r.2.mem ((c.tc : Thread Cert.DistIdeal.nD Cert.DistIdeal.τ).loc Cert.DistIdeal.main_arg0) = m ((c.tc : Thread Cert.DistIdeal.nD Cert.DistIdeal.τ).loc Cert.DistIdeal.main_arg0)
          ∧ r.2.mem ((c.tc : Thread Cert.DistIdeal.nD Cert.DistIdeal.τ).loc Cert.DistIdeal.main_arg1) = m ((c.tc : Thread Cert.DistIdeal.nD Cert.DistIdeal.τ).loc Cert.DistIdeal.main_arg1))
      ∧ θ_run (Cert.DistReferenceIdeal.defs (F := Ideal)) (onTc (τ := Cert.DistReferenceIdeal.τ) (Cert.DistReferenceIdeal.main (F := Ideal))) ⟨m', fun _ => 0, g'⟩ (fun r => ∀ c : Dev Cert.DistReferenceIdeal.nD,
          r.2.mem ((c.tc : Thread Cert.DistReferenceIdeal.nD Cert.DistReferenceIdeal.τ).loc Cert.DistReferenceIdeal.main_v30) = v0 c
          ∧ r.2.mem ((c.tc : Thread Cert.DistReferenceIdeal.nD Cert.DistReferenceIdeal.τ).loc Cert.DistReferenceIdeal.main_arg0) = m' ((c.tc : Thread Cert.DistReferenceIdeal.nD Cert.DistReferenceIdeal.τ).loc Cert.DistReferenceIdeal.main_arg0)
          ∧ r.2.mem ((c.tc : Thread Cert.DistReferenceIdeal.nD Cert.DistReferenceIdeal.τ).loc Cert.DistReferenceIdeal.main_arg1) = m' ((c.tc : Thread Cert.DistReferenceIdeal.nD Cert.DistReferenceIdeal.τ).loc Cert.DistReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hPrep : Cert.Prep.Facts) (hPrepIdeal : Cert.PrepIdeal.Facts) (hPrepReferenceIdeal : Cert.PrepReferenceIdeal.Facts) (hFinish : Cert.Finish.Facts) (hFinishIdeal : Cert.FinishIdeal.Facts) (hFinishReferenceIdeal : Cert.FinishReferenceIdeal.Facts) (hCompact : Cert.Compact.Facts) (hCompactIdeal : Cert.CompactIdeal.Facts) (hCompactReferenceIdeal : Cert.CompactReferenceIdeal.Facts) (hCompactReference : Cert.CompactReference.Facts) (hSort : Cert.Sort.Facts) (hSortIdeal : Cert.SortIdeal.Facts) (hSortReferenceIdeal : Cert.SortReferenceIdeal.Facts) (hDist : Cert.Dist.Facts) (hDistIdeal : Cert.DistIdeal.Facts) (hDistReferenceIdeal : Cert.DistReferenceIdeal.Facts) (hPre_in_rows : Cert.Pre_in_rows.Facts) (hPre_in_window : Cert.Pre_in_window.Facts),
    quiescent_Kernel (hKernel := hKernel) (hPre_in_rows := hPre_in_rows)
    ∧ quiescent_KernelIdeal (hKernelIdeal := hKernelIdeal) (hPre_in_rows := hPre_in_rows)
    ∧ quiescent_ReferenceIdeal (hReferenceIdeal := hReferenceIdeal)
    ∧ quiescent_ReferenceIdeal_pre_in_rows (hReferenceIdeal := hReferenceIdeal) (hPre_in_rows := hPre_in_rows)
    ∧ quiescent_Reference (hReference := hReference) (hPre_in_rows := hPre_in_rows)
    ∧ quiescent_Prep (hPrep := hPrep)
    ∧ quiescent_PrepIdeal (hPrepIdeal := hPrepIdeal)
    ∧ quiescent_PrepReferenceIdeal (hPrepReferenceIdeal := hPrepReferenceIdeal)
    ∧ quiescent_Finish (hFinish := hFinish)
    ∧ quiescent_FinishIdeal (hFinishIdeal := hFinishIdeal)
    ∧ quiescent_FinishReferenceIdeal (hFinishReferenceIdeal := hFinishReferenceIdeal)
    ∧ quiescent_Compact (hCompact := hCompact) (hPre_in_window := hPre_in_window)
    ∧ quiescent_CompactIdeal (hCompactIdeal := hCompactIdeal) (hPre_in_window := hPre_in_window)
    ∧ quiescent_CompactReferenceIdeal (hCompactReferenceIdeal := hCompactReferenceIdeal)
    ∧ quiescent_CompactReferenceIdeal_pre_in_window (hCompactReferenceIdeal := hCompactReferenceIdeal) (hPre_in_window := hPre_in_window)
    ∧ quiescent_CompactReference (hCompactReference := hCompactReference) (hPre_in_window := hPre_in_window)
    ∧ quiescent_Sort (hSort := hSort)
    ∧ quiescent_SortIdeal (hSortIdeal := hSortIdeal)
    ∧ quiescent_SortReferenceIdeal (hSortReferenceIdeal := hSortReferenceIdeal)
    ∧ quiescent_Dist (hDist := hDist)
    ∧ quiescent_DistIdeal (hDistIdeal := hDistIdeal)
    ∧ quiescent_DistReferenceIdeal (hDistReferenceIdeal := hDistReferenceIdeal)
    ∧ preserves_Kernel_KernelIdeal
    ∧ algebraic_KernelIdeal_ReferenceIdeal (hKernelIdeal := hKernelIdeal) (hReferenceIdeal := hReferenceIdeal) (hPre_in_rows := hPre_in_rows)
    ∧ bitexact_Kernel_Reference (hKernel := hKernel) (hReference := hReference) (hPre_in_rows := hPre_in_rows)
    ∧ preserves_Prep_PrepIdeal
    ∧ algebraic_PrepIdeal_PrepReferenceIdeal (hPrepIdeal := hPrepIdeal) (hPrepReferenceIdeal := hPrepReferenceIdeal)
    ∧ preserves_Finish_FinishIdeal
    ∧ algebraic_FinishIdeal_FinishReferenceIdeal (hFinishIdeal := hFinishIdeal) (hFinishReferenceIdeal := hFinishReferenceIdeal)
    ∧ preserves_Compact_CompactIdeal
    ∧ algebraic_CompactIdeal_CompactReferenceIdeal (hCompactIdeal := hCompactIdeal) (hCompactReferenceIdeal := hCompactReferenceIdeal) (hPre_in_window := hPre_in_window)
    ∧ bitexact_Compact_CompactReference (hCompact := hCompact) (hCompactReference := hCompactReference) (hPre_in_window := hPre_in_window)
    ∧ preserves_Sort_SortIdeal
    ∧ algebraic_SortIdeal_SortReferenceIdeal (hSortIdeal := hSortIdeal) (hSortReferenceIdeal := hSortReferenceIdeal)
    ∧ preserves_Dist_DistIdeal
    ∧ algebraic_DistIdeal_DistReferenceIdeal (hDistIdeal := hDistIdeal) (hDistReferenceIdeal := hDistReferenceIdeal)
-- ==== Pre_in_rows.lean ====
abbrev S10000x128 : Shape := ⟨2, ![10000, 128]⟩
abbrev S1x640000 : Shape := ⟨2, ![1, 640000]⟩
abbrev S_ : Shape := ⟨0, ![]⟩

class Facts : Prop where
  bcast_S_S1x640000 : S_.BroadcastsInDim S1x640000 (![] : Fin 0 → Fin S1x640000.rank)

variable [Facts]

def fn {F : FTy → Type} [FloatOps F] (main_arg0 : FVec F S10000x128 .f32) (main_arg1 : IVec S1x640000 32) : IVec S1x640000 1 :=
  let main_c : IVec S_ 32 := constantI S_ 32 0#32
  let main_v0 : IVec S1x640000 32 := broadcastInDim S1x640000 ![] bcast_S_S1x640000 main_c
  let main_v1 : IVec S1x640000 1 := cmpi .sge main_arg1 main_v0
  let main_c_0 : IVec S_ 32 := constantI S_ 32 10000#32
  let main_v2 : IVec S1x640000 32 := broadcastInDim S1x640000 ![] bcast_S_S1x640000 main_c_0
  let main_v3 : IVec S1x640000 1 := cmpi .slt main_arg1 main_v2
  let main_v4 : IVec S1x640000 1 := andi main_v1 main_v3
  main_v4
-- ==== Pre_in_window.lean ====
abbrev S10000x5120 : Shape := ⟨2, ![10000, 5120]⟩
abbrev S_ : Shape := ⟨0, ![]⟩

class Facts : Prop where
  bcast_S_S10000x5120 : S_.BroadcastsInDim S10000x5120 (![] : Fin 0 → Fin S10000x5120.rank)
  reducesTo_S10000x5120_S_d0_1 : S10000x5120.ReducesTo [0, 1] S_
  h_S_ : 0 < S_.numel

variable [Facts]

def fn {F : FTy → Type} [FloatOps F] (main_arg0 : FVec F S10000x5120 .f32) (main_arg1 : IVec S10000x5120 32) : IVec S_ 1 :=
  let main_c : IVec S_ 32 := constantI S_ 32 0#32
  let main_v0 : IVec S10000x5120 32 := broadcastInDim S10000x5120 ![] bcast_S_S10000x5120 main_c
  let main_v1 : IVec S10000x5120 1 := cmpi .sge main_arg1 main_v0
  let main_c_0 : IVec S_ 32 := constantI S_ 32 144#32
  let main_v2 : IVec S10000x5120 32 := broadcastInDim S10000x5120 ![] bcast_S_S10000x5120 main_c_0
  let main_v3 : IVec S10000x5120 1 := cmpi .slt main_arg1 main_v2
  let main_v4 : IVec S10000x5120 1 := andi main_v1 main_v3
  let main_c_1 : IVec S_ 1 := constantI S_ 1 1#1
  let main_v5 : IVec S_ 1 := (fun x v => Host.reduce IntOp.andi x v reducesTo_S10000x5120_S_d0_1 h_S_) main_v4 main_c_1
  main_v5
-- ==== Kernel.lean ====
abbrev S10000x128 : Shape := ⟨2, ![10000, 128]⟩
abbrev S1x640000 : Shape := ⟨2, ![1, 640000]⟩
abbrev S640000x128 : Shape := ⟨2, ![640000, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S128 : Shape := ⟨1, ![128]⟩

abbrev nBuf : Table → Nat
  | .hbm => 3
  | .local .scVector .vmem => 2
  | _ => 0

abbrev bufTy : (tb : Table) → Fin (nBuf tb) → BufTy
  | .hbm, ⟨0, _⟩ => ⟨S10000x128, .f32⟩
  | .hbm, ⟨1, _⟩ => ⟨S1x640000, .i32⟩
  | .hbm, ⟨2, _⟩ => ⟨S640000x128, .f32⟩
  | .local .scVector .vmem, ⟨0, _⟩ => ⟨S2x1x128, .i32⟩
  | .local .scVector .vmem, ⟨1, _⟩ => ⟨S2x128x128, .f32⟩
  | _, _ => ⟨S10000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k0_cond2 (i : grid0.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k0_off1 : Fin 3 → Nat :=
  let c0_i32_24_r0 : BitVec 32 := 0#32
  let c2_i32_r0 : BitVec 32 := 2#32
  let v80_r0 : BitVec 32 := Scalar.remui c0_i32_24_r0 c2_i32_r0
  let c0_i32_57_r0 : BitVec 32 := 0#32
  let c0_i32_58_r0 : BitVec 32 := 0#32
  ![v80_r0.toNat, 0, 0]
def k0_off2 (i : grid0.Coords) : Fin 2 → Nat :=
  let c0_i32_59_r0 : BitVec 32 := 0#32
  let c128_i32_r0 : BitVec 32 := 128#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let v7 : BitVec 32 := Scalar.muli v3 v5
  let c156_i32_1 : BitVec 32 := 156#32
  let v8 : BitVec 32 := Scalar.muli v3 c156_i32_1
  let c8_i32_2 : BitVec 32 := 8#32
  let v9 : BitVec 32 := Scalar.addi v8 c8_i32_2
  let v10 : BitVec 32 := Scalar.select v6 v7 v9
  let v20_r0 : BitVec 32 := Scalar.addi c0_i32_10_r0 v10
  let v81_r0 : BitVec 32 := Scalar.muli c128_i32_r0 v20_r0
  ![0, v81_r0.toNat]
def k0_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k0_t1_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k0_off4 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let v7 : BitVec 32 := Scalar.muli v3 v5
  let c156_i32_1 : BitVec 32 := 156#32
  let v8 : BitVec 32 := Scalar.muli v3 c156_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off5 (i : grid0.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let v93_r0 : BitVec 1 := Scalar.cmpi .eq v92_r0 v5
  let c0_i32_66_r0 : BitVec 32 := 0#32
  let v94_r0 : BitVec 32 := Scalar.select v93_r0 c0_i32_66_r0 v92_r0
  let c8_i32_0 : BitVec 32 := 8#32
  let v6 : BitVec 1 := Scalar.cmpi .slt v3 c8_i32_0
  let v7 : BitVec 32 := Scalar.muli v3 v5
  let c156_i32_1 : BitVec 32 := 156#32
  let v8 : BitVec 32 := Scalar.muli v3 c156_i32_1
  let c8_i32_2 : BitVec 32 := 8#32
  let v9 : BitVec 32 := Scalar.addi v8 c8_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k0_off6 (arg6_r0 : BitVec 32) : Fin 1 → Nat :=
  let c2_i32_101_r0 : BitVec 32 := 2#32
  let v167_r0 : BitVec 32 := Scalar.remui arg6_r0 c2_i32_101_r0
  ![v167_r0.toNat]
def k0_off7 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let v7 : BitVec 32 := Scalar.muli v3 v5
  let c156_i32_1 : BitVec 32 := 156#32
  let v8 : BitVec 32 := Scalar.muli v3 c156_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off8 (i : grid0.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let v7 : BitVec 32 := Scalar.muli v3 v5
  let c156_i32_1 : BitVec 32 := 156#32
  let v8 : BitVec 32 := Scalar.muli v3 c156_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k0_off9 (arg7_r0 : BitVec 32) : Fin 1 → Nat :=
  let c2_i32_101_r0 : BitVec 32 := 2#32
  let v168_r0 : BitVec 32 := Scalar.remui arg7_r0 c2_i32_101_r0
  ![v168_r0.toNat]
def k0_off10 (arg8_r0 : BitVec 32) : Fin 3 → Nat :=
  let c2_i32_84_r0 : BitVec 32 := 2#32
  let v132_r0 : BitVec 32 := Scalar.remui arg8_r0 c2_i32_84_r0
  let c0_i32_101_r1 : BitVec 32 := 0#32
  let c0_i32_102_r1 : BitVec 32 := 0#32
  ![v132_r0.toNat, 0, 0]

def k0_chk2 (i : grid0.Coords) (arg8_r0 : BitVec 32) : Prop :=
  (∀ (k0_h1 : k0_cond1 i = 1#1), ∀ a, (k0_off10 arg8_r0) a + S1x128x128.size a ≤ S2x128x128.size a)
theorem k0_off10_inb : ∀ (i : grid0.Coords) (arg8_r0 : BitVec 32) (k0_hw2 : k0_chk2 i arg8_r0), ∀ (k0_h1 : k0_cond1 i = 1#1), ∀ a, (k0_off10 arg8_r0) a + S1x128x128.size a ≤ S2x128x128.size a := fun i arg8_r0 k0_hw2 k0_h1 => k0_hw2 k0_h1

def k0_off11 (arg7_r0 : BitVec 32) : Fin 3 → Nat :=
  let c2_i32_83_r0 : BitVec 32 := 2#32
  let v131_r0 : BitVec 32 := Scalar.remui arg7_r0 c2_i32_83_r0
  let c0_i32_103_r1 : BitVec 32 := 0#32
  let c0_i32_104_r1 : BitVec 32 := 0#32
  ![v131_r0.toNat, 0, 0]

def k0_chk3 (i : grid0.Coords) (arg7_r0 : BitVec 32) : Prop :=
  (∀ (k0_h1 : k0_cond1 i = 1#1), ∀ a, (k0_off11 arg7_r0) a + S1x1x128.size a ≤ S2x1x128.size a)
theorem k0_off11_inb : ∀ (i : grid0.Coords) (arg7_r0 : BitVec 32) (k0_hw3 : k0_chk3 i arg7_r0), ∀ (k0_h1 : k0_cond1 i = 1#1), ∀ a, (k0_off11 arg7_r0) a + S1x1x128.size a ≤ S2x1x128.size a := fun i arg7_r0 k0_hw3 k0_h1 => k0_hw3 k0_h1

def k0_off12 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let v7 : BitVec 32 := Scalar.muli v3 v5
  let c156_i32_1 : BitVec 32 := 156#32
  let v8 : BitVec 32 := Scalar.muli v3 c156_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k0_off13 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let v7 : BitVec 32 := Scalar.muli v3 v5
  let c156_i32_1 : BitVec 32 := 156#32
  let v8 : BitVec 32 := Scalar.muli v3 c156_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k0_off14 (arg8_r0 : BitVec 32) : Fin 1 → Nat :=
  let c2_i32_101_r0 : BitVec 32 := 2#32
  let v167_r0 : BitVec 32 := Scalar.remui arg8_r0 c2_i32_101_r0
  ![v167_r0.toNat]
def k0_off15 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let v7 : BitVec 32 := Scalar.muli v3 v5
  let c156_i32_1 : BitVec 32 := 156#32
  let v8 : BitVec 32 := Scalar.muli v3 c156_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k0_off16 (i : grid0.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let c1_i32_63_r0 : BitVec 32 := 1#32
  let v88_r0 : BitVec 32 := Scalar.subi v5 c1_i32_63_r0
  let v89_r0 : BitVec 32 := Scalar.select v87_r0 v88_r0 v86_r0
  let c8_i32_0 : BitVec 32 := 8#32
  let v6 : BitVec 1 := Scalar.cmpi .slt v3 c8_i32_0
  let v7 : BitVec 32 := Scalar.muli v3 v5
  let c156_i32_1 : BitVec 32 := 156#32
  let v8 : BitVec 32 := Scalar.muli v3 c156_i32_1
  let c8_i32_2 : BitVec 32 := 8#32
  let v9 : BitVec 32 := Scalar.addi v8 c8_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k0_off17 (arg9_r0 : BitVec 32) : Fin 1 → Nat :=
  let c2_i32_101_r0 : BitVec 32 := 2#32
  let v167_r0 : BitVec 32 := Scalar.remui arg9_r0 c2_i32_101_r0
  ![v167_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x128.size a ≤ S2x1x128.size a) ∧
  (∀ (k0_h1 : k0_cond1 i = 1#1), ∀ (k0_h3 : k0_cond3 i k0_t1 arg10_r0 = 1#1), ∀ a, (k0_off5 i arg10_r0) a + S1x128.size a ≤ S1x640000.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x128.size a ≤ S2x1x128.size a) ∧
  (∀ (k0_h1 : k0_cond1 i = 1#1), ∀ (k0_h4 : k0_cond4 i k0_t1 arg10_r0 = 1#1), ∀ a, (k0_off8 i arg10_r0) a + S1x128.size a ≤ S1x640000.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x128x128.size a ≤ S2x128x128.size a) ∧
  (∀ (k0_h1 : k0_cond1 i = 1#1), ∀ (k0_h7 : k0_cond7 i k0_t1 arg10_r0 = 1#1), ∀ a, (k0_off13 i arg10_r0) a + S128x128.size a ≤ S640000x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x128x128.size a ≤ S2x128x128.size a) ∧
  (∀ (k0_h1 : k0_cond1 i = 1#1), ∀ (k0_h9 : k0_cond9 i k0_t1 arg10_r0 = 1#1), ∀ a, (k0_off16 i arg10_r0) a + S128x128.size a ≤ S640000x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x128.size a ≤ S2x1x128.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x128.size a ≤ S1x640000.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x128.size a ≤ S2x1x128.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x128.size a ≤ S1x640000.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x128x128.size a ≤ S2x128x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S128x128.size a ≤ S640000x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x128x128.size a ≤ S2x128x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S128x128.size a ≤ S640000x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k0_off18 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let v7 : BitVec 32 := Scalar.muli v3 v5
  let c156_i32_1 : BitVec 32 := 156#32
  let v8 : BitVec 32 := Scalar.muli v3 c156_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off19 (i : grid0.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let v93_r0 : BitVec 1 := Scalar.cmpi .eq v92_r0 v5
  let c0_i32_66_r0 : BitVec 32 := 0#32
  let v94_r0 : BitVec 32 := Scalar.select v93_r0 c0_i32_66_r0 v92_r0
  let c8_i32_0 : BitVec 32 := 8#32
  let v6 : BitVec 1 := Scalar.cmpi .slt v3 c8_i32_0
  let v7 : BitVec 32 := Scalar.muli v3 v5
  let c156_i32_1 : BitVec 32 := 156#32
  let v8 : BitVec 32 := Scalar.muli v3 c156_i32_1
  let c8_i32_2 : BitVec 32 := 8#32
  let v9 : BitVec 32 := Scalar.addi v8 c8_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k0_off20 (arg6_r0 : BitVec 32) : Fin 1 → Nat :=
  let c2_i32_101_r0 : BitVec 32 := 2#32
  let v167_r0 : BitVec 32 := Scalar.remui arg6_r0 c2_i32_101_r0
  ![v167_r0.toNat]
def k0_off21 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let v7 : BitVec 32 := Scalar.muli v3 v5
  let c156_i32_1 : BitVec 32 := 156#32
  let v8 : BitVec 32 := Scalar.muli v3 c156_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off22 (i : grid0.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let v7 : BitVec 32 := Scalar.muli v3 v5
  let c156_i32_1 : BitVec 32 := 156#32
  let v8 : BitVec 32 := Scalar.muli v3 c156_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k0_off23 (arg7_r0 : BitVec 32) : Fin 1 → Nat :=
  let c2_i32_101_r0 : BitVec 32 := 2#32
  let v168_r0 : BitVec 32 := Scalar.remui arg7_r0 c2_i32_101_r0
  ![v168_r0.toNat]
def k0_off24 (arg8_r0 : BitVec 32) : Fin 3 → Nat :=
  let c2_i32_84_r0 : BitVec 32 := 2#32
  let v132_r0 : BitVec 32 := Scalar.remui arg8_r0 c2_i32_84_r0
  let c0_i32_101_r2 : BitVec 32 := 0#32
  let c0_i32_102_r2 : BitVec 32 := 0#32
  ![v132_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x128x128.size a ≤ S2x128x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x128x128.size a ≤ S2x128x128.size a := fun i k0_t2 arg8_r0 k0_hw5 k0_h1 => k0_hw5 k0_h1

def k0_off25 (arg7_r0 : BitVec 32) : Fin 3 → Nat :=
  let c2_i32_83_r0 : BitVec 32 := 2#32
  let v131_r0 : BitVec 32 := Scalar.remui arg7_r0 c2_i32_83_r0
  let c0_i32_103_r2 : BitVec 32 := 0#32
  let c0_i32_104_r2 : BitVec 32 := 0#32
  ![v131_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x128.size a ≤ S2x1x128.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x128.size a ≤ S2x1x128.size a := fun i k0_t2 arg7_r0 k0_hw6 k0_h1 => k0_hw6 k0_h1

def k0_off26 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let v7 : BitVec 32 := Scalar.muli v3 v5
  let c156_i32_1 : BitVec 32 := 156#32
  let v8 : BitVec 32 := Scalar.muli v3 c156_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k0_off27 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let v7 : BitVec 32 := Scalar.muli v3 v5
  let c156_i32_1 : BitVec 32 := 156#32
  let v8 : BitVec 32 := Scalar.muli v3 c156_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k0_off28 (arg8_r0 : BitVec 32) : Fin 1 → Nat :=
  let c2_i32_101_r0 : BitVec 32 := 2#32
  let v167_r0 : BitVec 32 := Scalar.remui arg8_r0 c2_i32_101_r0
  ![v167_r0.toNat]
def k0_off29 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let v7 : BitVec 32 := Scalar.muli v3 v5
  let c156_i32_1 : BitVec 32 := 156#32
  let v8 : BitVec 32 := Scalar.muli v3 c156_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k0_off30 (i : grid0.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let c1_i32_63_r0 : BitVec 32 := 1#32
  let v88_r0 : BitVec 32 := Scalar.subi v5 c1_i32_63_r0
  let v89_r0 : BitVec 32 := Scalar.select v87_r0 v88_r0 v86_r0
  let c8_i32_0 : BitVec 32 := 8#32
  let v6 : BitVec 1 := Scalar.cmpi .slt v3 c8_i32_0
  let v7 : BitVec 32 := Scalar.muli v3 v5
  let c156_i32_1 : BitVec 32 := 156#32
  let v8 : BitVec 32 := Scalar.muli v3 c156_i32_1
  let c8_i32_2 : BitVec 32 := 8#32
  let v9 : BitVec 32 := Scalar.addi v8 c8_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k0_off31 (arg9_r0 : BitVec 32) : Fin 1 → Nat :=
  let c2_i32_101_r0 : BitVec 32 := 2#32
  let v167_r0 : BitVec 32 := Scalar.remui arg9_r0 c2_i32_101_r0
  ![v167_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x128.size a ≤ S2x1x128.size a) ∧
  (∀ (k0_h1 : k0_cond1 i = 1#1), ∀ (k0_h10 : k0_cond10 i k0_t2 arg10_r0 = 1#1), ∀ a, (k0_off19 i arg10_r0) a + S1x128.size a ≤ S1x640000.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x128.size a ≤ S2x1x128.size a) ∧
  (∀ (k0_h1 : k0_cond1 i = 1#1), ∀ (k0_h11 : k0_cond11 i k0_t2 arg10_r0 = 1#1), ∀ a, (k0_off22 i arg10_r0) a + S1x128.size a ≤ S1x640000.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x128x128.size a ≤ S2x128x128.size a) ∧
  (∀ (k0_h1 : k0_cond1 i = 1#1), ∀ (k0_h14 : k0_cond14 i k0_t2 arg10_r0 = 1#1), ∀ a, (k0_off27 i arg10_r0) a + S128x128.size a ≤ S640000x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x128x128.size a ≤ S2x128x128.size a) ∧
  (∀ (k0_h1 : k0_cond1 i = 1#1), ∀ (k0_h16 : k0_cond16 i k0_t2 arg10_r0 = 1#1), ∀ a, (k0_off30 i arg10_r0) a + S128x128.size a ≤ S640000x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x128.size a ≤ S2x1x128.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x128.size a ≤ S1x640000.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x128.size a ≤ S2x1x128.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x128.size a ≤ S1x640000.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x128x128.size a ≤ S2x128x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S128x128.size a ≤ S640000x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x128x128.size a ≤ S2x128x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S128x128.size a ≤ S640000x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k0_off32 (v48_3_r0 : BitVec 32) : Fin 3 → Nat :=
  let c2_i32_r0 : BitVec 32 := 2#32
  let v80_r0 : BitVec 32 := Scalar.remui v48_3_r0 c2_i32_r0
  let c0_i32_57_r0 : BitVec 32 := 0#32
  let c0_i32_58_r0 : BitVec 32 := 0#32
  ![v80_r0.toNat, 0, 0]

def k0_off33 (i : grid0.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c157_i32 : BitVec 32 := 157#32
  let c156_i32 : BitVec 32 := 156#32
  let v5 : BitVec 32 := Scalar.select v4 c157_i32 c156_i32
  let c1_i32_40_r0 : BitVec 32 := 1#32
  let v52_r0 : BitVec 32 := Scalar.subi v5 c1_i32_40_r0
  let v53_r0 : BitVec 32 := Scalar.select v51_r0 v52_r0 v50_r0
  let c8_i32_0 : BitVec 32 := 8#32
  let v6 : BitVec 1 := Scalar.cmpi .slt v3 c8_i32_0
  let v7 : BitVec 32 := Scalar.muli v3 v5
  let c156_i32_1 : BitVec 32 := 156#32
  let v8 : BitVec 32 := Scalar.muli v3 c156_i32_1
  let c8_i32_2 : BitVec 32 := 8#32
  let v9 : BitVec 32 := Scalar.addi v8 c8_i32_2
  let v10 : BitVec 32 := Scalar.select v6 v7 v9
  let v59_r0 : BitVec 32 := Scalar.addi v53_r0 v10
  let v81_r0 : BitVec 32 := Scalar.muli c128_i32_r0 v59_r0
  let c0_i32_59_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S128x128.size a ≤ S640000x128.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S128x128.size a ≤ S640000x128.size a := fun i v48_4_r0 k0_hw8 k0_h1 k0_h18 => k0_hw8 k0_h1 k0_h18

def k0_off34 (v48_3_r0 : BitVec 32) : Fin 1 → Nat :=
  let c2_i32_r0 : BitVec 32 := 2#32
  let v80_r0 : BitVec 32 := Scalar.remui v48_3_r0 c2_i32_r0
  ![v80_r0.toNat]
def k0_off35 (v48_3_r0 : BitVec 32) : Fin 3 → Nat :=
  let c2_i32_r0 : BitVec 32 := 2#32
  let v80_r0 : BitVec 32 := Scalar.remui v48_3_r0 c2_i32_r0
  let c0_i32_61_r0 : BitVec 32 := 0#32
  let c0_i32_62_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x128x128.size a ≤ S2x128x128.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x128x128.size a ≤ S2x128x128.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x128x128.size a ≤ S2x128x128.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x128x128.size a ≤ S2x128x128.size a := fun i v48_3_r0 k0_hw7 k0_h1 k0_h18 => k0_hw7.2.2 k0_h1 k0_h18

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S10000x128 : Shape := ⟨2, ![10000, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S1x640000, .i32⟩
  | .hbm, ⟨2, _⟩ => ⟨S640000, .i32⟩
  | .hbm, ⟨3, _⟩ => ⟨S_, .i32⟩
  | .hbm, ⟨4, _⟩ => ⟨S640000, .i32⟩
  | .hbm, ⟨5, _⟩ => ⟨S640000, .i1⟩
  | .hbm, ⟨6, _⟩ => ⟨S_, .i32⟩
  | .hbm, ⟨7, _⟩ => ⟨S640000, .i32⟩
  | .hbm, ⟨8, _⟩ => ⟨S640000, .i32⟩
  | .hbm, ⟨9, _⟩ => ⟨S640000, .i32⟩
  | .hbm, ⟨10, _⟩ => ⟨S640000x1, .i32⟩
  | .hbm, ⟨11, _⟩ => ⟨S640000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Prep.lean ====
abbrev S10000x256 : Shape := ⟨2, ![10000, 256]⟩
abbrev S256x64 : Shape := ⟨2, ![256, 64]⟩
abbrev S64 : Shape := ⟨1, ![64]⟩
abbrev S256x4 : Shape := ⟨2, ![256, 4]⟩
abbrev S_ : Shape := ⟨0, ![]⟩
abbrev S256x128 : Shape := ⟨2, ![256, 128]⟩
abbrev S1 : Shape := ⟨1, ![1]⟩
abbrev S1x128 : Shape := ⟨2, ![1, 128]⟩
abbrev S2 : Shape := ⟨1, ![2]⟩
abbrev S10000x128 : Shape := ⟨2, ![10000, 128]⟩
abbrev S400x256 : Shape := ⟨2, ![400, 256]⟩
abbrev S400x128 : Shape := ⟨2, ![400, 128]⟩

abbrev nBuf : Space → Nat
  | .hbm => 23
  | .vmem => 6
  | .smem => 0
  | _ => 0

abbrev bufTy : (tb : Table) → Fin (tcTables nBuf tb) → BufTy
  | .hbm, ⟨0, _⟩ => ⟨S10000x256, .f32⟩
  | .hbm, ⟨1, _⟩ => ⟨S256x64, .f32⟩
  | .hbm, ⟨2, _⟩ => ⟨S64, .f32⟩
  | .hbm, ⟨3, _⟩ => ⟨S256x4, .f32⟩
  | .hbm, ⟨4, _⟩ => ⟨S10000x256, .bf16⟩
  | .hbm, ⟨5, _⟩ => ⟨S_, .f32⟩
  | .hbm, ⟨6, _⟩ => ⟨S256x128, .f32⟩
  | .hbm, ⟨7, _⟩ => ⟨S_, .i32⟩
  | .hbm, ⟨8, _⟩ => ⟨S1, .i32⟩
  | .hbm, ⟨9, _⟩ => ⟨S256x128, .f32⟩
  | .hbm, ⟨10, _⟩ => ⟨S_, .i32⟩
  | .hbm, ⟨11, _⟩ => ⟨S1, .i32⟩
  | .hbm, ⟨12, _⟩ => ⟨S256x128, .f32⟩
  | .hbm, ⟨13, _⟩ => ⟨S256x128, .bf16⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S10000x128, .f32⟩
  | .local _ .vmem, ⟨0, _⟩ => ⟨S400x256, .bf16⟩
  | .local _ .vmem, ⟨1, _⟩ => ⟨S400x256, .bf16⟩
  | .local _ .vmem, ⟨2, _⟩ => ⟨S256x128, .bf16⟩
  | .local _ .vmem, ⟨3, _⟩ => ⟨S1x128, .f32⟩
  | .local _ .vmem, ⟨4, _⟩ => ⟨S400x128, .f32⟩
  | .local _ .vmem, ⟨5, _⟩ => ⟨S400x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PrepReferenceIdeal.lean ====
abbrev S10000x256 : Shape := ⟨2, ![10000, 256]⟩
abbrev S256x64 : Shape := ⟨2, ![256, 64]⟩
abbrev S64 : Shape := ⟨1, ![64]⟩
abbrev S256x4 : Shape := ⟨2, ![256, 4]⟩
abbrev S10000x4 : Shape := ⟨2, ![10000, 4]⟩
abbrev S10000x64 : Shape := ⟨2, ![10000, 64]⟩
abbrev S1x64 : Shape := ⟨2, ![1, 64]⟩
abbrev S_ : Shape := ⟨0, ![]⟩
abbrev S10000x60 : Shape := ⟨2, ![10000, 60]⟩
abbrev S10000x128 : Shape := ⟨2, ![10000, 128]⟩

abbrev nBuf : Space → Nat
  | .hbm => 15
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S256x64, .f32⟩
  | .hbm, ⟨2, _⟩ => ⟨S64, .f32⟩
  | .hbm, ⟨3, _⟩ => ⟨S256x4, .f32⟩
  | .hbm, ⟨4, _⟩ => ⟨S10000x4, .f32⟩
  | .hbm, ⟨5, _⟩ => ⟨S10000x64, .f32⟩
  | .hbm, ⟨6, _⟩ => ⟨S1x64, .f32⟩
  | .hbm, ⟨7, _⟩ => ⟨S10000x64, .f32⟩
  | .hbm, ⟨8, _⟩ => ⟨S10000x64, .f32⟩
  | .hbm, ⟨9, _⟩ => ⟨S_, .f32⟩
  | .hbm, ⟨10, _⟩ => ⟨S10000x64, .f32⟩
  | .hbm, ⟨11, _⟩ => ⟨S10000x64, .f32⟩
  | .hbm, ⟨12, _⟩ => ⟨S_, .f32⟩
  | .hbm, ⟨13, _⟩ => ⟨S10000x60, .f32⟩
  | .hbm, ⟨14, _⟩ => ⟨S10000x128, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Finish.lean ====
abbrev S10000x128 : Shape := ⟨2, ![10000, 128]⟩
abbrev S640000x128 : Shape := ⟨2, ![640000, 128]⟩
abbrev S10000x256 : Shape := ⟨2, ![10000, 256]⟩
abbrev S384x128 : Shape := ⟨2, ![384, 128]⟩
abbrev S128 : Shape := ⟨1, ![128]⟩
abbrev S1x128 : Shape := ⟨2, ![1, 128]⟩
abbrev S200x128 : Shape := ⟨2, ![200, 128]⟩
abbrev S12800x128 : Shape := ⟨2, ![12800, 128]⟩
abbrev S200x256 : Shape := ⟨2, ![200, 256]⟩
abbrev S200x64 : Shape := ⟨2, ![200, 64]⟩
abbrev S200x64x128 : Shape := ⟨3, ![200, 64, 128]⟩
abbrev S200x64x64 : Shape := ⟨3, ![200, 64, 64]⟩
abbrev S200x64x1 : Shape := ⟨3, ![200, 64, 1]⟩
abbrev S200x384 : Shape := ⟨2, ![200, 384]⟩

abbrev nBuf : Space → Nat
  | .hbm => 10
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S640000x128, .f32⟩
  | .hbm, ⟨2, _⟩ => ⟨S10000x128, .f32⟩
  | .hbm, ⟨3, _⟩ => ⟨S10000x256, .f32⟩
  | .hbm, ⟨4, _⟩ => ⟨S384x128, .f32⟩
  | .hbm, ⟨5, _⟩ => ⟨S128, .f32⟩
  | .hbm, ⟨6, _⟩ => ⟨S10000x256, .bf16⟩
  | .hbm, ⟨7, _⟩ => ⟨S384x128, .bf16⟩
  | .hbm, ⟨8, _⟩ => ⟨S1x128, .f32⟩
  | .hbm, ⟨9, _⟩ => ⟨S10000x128, .f32⟩
  | .local _ .vmem, ⟨0, _⟩ => ⟨S200x128, .f32⟩
  | .local _ .vmem, ⟨1, _⟩ => ⟨S200x128, .f32⟩
  | .local _ .vmem, ⟨2, _⟩ => ⟨S12800x128, .f32⟩
  | .local _ .vmem, ⟨3, _⟩ => ⟨S12800x128, .f32⟩
  | .local _ .vmem, ⟨4, _⟩ => ⟨S200x128, .f32⟩
  | .local _ .vmem, ⟨5, _⟩ => ⟨S200x128, .f32⟩
  | .local _ .vmem, ⟨6, _⟩ => ⟨S200x256, .bf16⟩
  | .local _ .vmem, ⟨7, _⟩ => ⟨S200x256, .bf16⟩
  | .local _ .vmem, ⟨8, _⟩ => ⟨S384x128, .bf16⟩
  | .local _ .vmem, ⟨9, _⟩ => ⟨S1x128, .f32⟩
  | .local _ .vmem, ⟨10, _⟩ => ⟨S200x128, .f32⟩
  | .local _ .vmem, ⟨11, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FinishReferenceIdeal.lean ====
abbrev S10000x128 : Shape := ⟨2, ![10000, 128]⟩
abbrev S640000x128 : Shape := ⟨2, ![640000, 128]⟩
abbrev S10000x256 : Shape := ⟨2, ![10000, 256]⟩
abbrev S384x128 : Shape := ⟨2, ![384, 128]⟩
abbrev S128 : Shape := ⟨1, ![128]⟩
abbrev S10000x64 : Shape := ⟨2, ![10000, 64]⟩
abbrev S_ : Shape := ⟨0, ![]⟩
abbrev S10000x64x128 : Shape := ⟨3, ![10000, 64, 128]⟩
abbrev S10000x64x64 : Shape := ⟨3, ![10000, 64, 64]⟩
abbrev S10000x64x1 : Shape := ⟨3, ![10000, 64, 1]⟩
abbrev S1x10000x1x64 : Shape := ⟨4, ![1, 10000, 1, 64]⟩
abbrev S1x10000x2x64 : Shape := ⟨4, ![1, 10000, 2, 64]⟩
abbrev S10000x384 : Shape := ⟨2, ![10000, 384]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000x128, .f32⟩
  | .hbm, ⟨2, _⟩ => ⟨S10000x128, .f32⟩
  | .hbm, ⟨3, _⟩ => ⟨S10000x256, .f32⟩
  | .hbm, ⟨4, _⟩ => ⟨S384x128, .f32⟩
  | .hbm, ⟨5, _⟩ => ⟨S128, .f32⟩
  | .hbm, ⟨6, _⟩ => ⟨S10000x64, .f32⟩
  | .hbm, ⟨7, _⟩ => ⟨S10000x64, .f32⟩
  | .hbm, ⟨8, _⟩ => ⟨S_, .f32⟩
  | .hbm, ⟨9, _⟩ => ⟨S10000x64, .f32⟩
  | .hbm, ⟨10, _⟩ => ⟨S10000x64, .f32⟩
  | .hbm, ⟨11, _⟩ => ⟨S10000x64, .f32⟩
  | .hbm, ⟨12, _⟩ => ⟨S10000x64x128, .f32⟩
  | .hbm, ⟨13, _⟩ => ⟨S10000x64x64, .f32⟩
  | .hbm, ⟨14, _⟩ => ⟨S10000x64x1, .f32⟩
  | .hbm, ⟨15, _⟩ => ⟨S10000x64x64, .f32⟩
  | .hbm, ⟨16, _⟩ => ⟨S10000x64x64, .f32⟩
  | .hbm, ⟨17, _⟩ => ⟨S_, .f32⟩
  | .hbm, ⟨18, _⟩ => ⟨S10000x64, .f32⟩
  | .hbm, ⟨19, _⟩ => ⟨S_, .f32⟩
  | .hbm, ⟨20, _⟩ => ⟨S10000x64, .f32⟩
  | .hbm, ⟨21, _⟩ => ⟨S10000x64, .f32⟩
  | .hbm, ⟨22, _⟩ => ⟨S_, .f32⟩
  | .hbm, ⟨23, _⟩ => ⟨S10000x64, .f32⟩
  | .hbm, ⟨24, _⟩ => ⟨S10000x128, .f32⟩
  | .hbm, ⟨25, _⟩ => ⟨S1x10000x1x64, .f32⟩
  | .hbm, ⟨26, _⟩ => ⟨S1x10000x2x64, .f32⟩
  | .hbm, ⟨27, _⟩ => ⟨S10000x128, .f32⟩
  | .hbm, ⟨28, _⟩ => ⟨S10000x128, .f32⟩
  | .hbm, ⟨29, _⟩ => ⟨S10000x384, .f32⟩
  | .hbm, ⟨30, _⟩ => ⟨S10000x128, .f32⟩
  | .hbm, ⟨31, _⟩ => ⟨S1x128, .f32⟩
  | .hbm, ⟨32, _⟩ => ⟨S10000x128, .f32⟩
  | .hbm, ⟨33, _⟩ => ⟨S10000x128, .f32⟩
  | .hbm, ⟨34, _⟩ => ⟨S_, .f32⟩
  | .hbm, ⟨35, _⟩ => ⟨S10000x128, .f32⟩
  | .hbm, ⟨36, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Compact.lean ====
abbrev S10000x5120 : Shape := ⟨2, ![10000, 5120]⟩
abbrev S10000x128 : Shape := ⟨2, ![10000, 128]⟩
abbrev S5120 : Shape := ⟨1, ![5120]⟩
abbrev S144 : Shape := ⟨1, ![144]⟩
abbrev S_ : Shape := ⟨0, ![]⟩
abbrev S1x5120 : Shape := ⟨2, ![1, 5120]⟩
abbrev S16 : Shape := ⟨1, ![16]⟩
abbrev S128 : Shape := ⟨1, ![128]⟩
abbrev S1x128 : Shape := ⟨2, ![1, 128]⟩

abbrev nBuf : Table → Nat
  | .hbm => 4
  | .local .scVector .vmem => 16
  | _ => 0

abbrev bufTy : (tb : Table) → Fin (nBuf tb) → BufTy
  | .hbm, ⟨0, _⟩ => ⟨S10000x5120, .f32⟩
  | .hbm, ⟨1, _⟩ => ⟨S10000x5120, .i32⟩
  | .hbm, ⟨2, _⟩ => ⟨S10000x128, .f32⟩
  | .hbm, ⟨3, _⟩ => ⟨S10000x128, .i32⟩
  | .local .scVector .vmem, ⟨0, _⟩ => ⟨S5120, .f32⟩
  | .local .scVector .vmem, ⟨1, _⟩ => ⟨S5120, .f32⟩
  | .local .scVector .vmem, ⟨2, _⟩ => ⟨S5120, .f32⟩
  | .local .scVector .vmem, ⟨3, _⟩ => ⟨S5120, .f32⟩
  | .local .scVector .vmem, ⟨4, _⟩ => ⟨S5120, .i32⟩
  | .local .scVector .vmem, ⟨5, _⟩ => ⟨S5120, .i32⟩
  | .local .scVector .vmem, ⟨6, _⟩ => ⟨S5120, .i32⟩
  | .local .scVector .vmem, ⟨7, _⟩ => ⟨S5120, .i32⟩
  | .local .scVector .vmem, ⟨8, _⟩ => ⟨S144, .f32⟩
  | .local .scVector .vmem, ⟨9, _⟩ => ⟨S144, .i32⟩
  | .local .scVector .vmem, ⟨10, _⟩ => ⟨S144, .f32⟩
  | .local .scVector .vmem, ⟨11, _⟩ => ⟨S144, .i32⟩
  | .local .scVector .vmem, ⟨12, _⟩ => ⟨S144, .f32⟩
  | .local .scVector .vmem, ⟨13, _⟩ => ⟨S144, .i32⟩
  | .local .scVector .vmem, ⟨14, _⟩ => ⟨S144, .f32⟩
  | .local .scVector .vmem, ⟨15, _⟩ => ⟨S144, .i32⟩
  | _, _ => ⟨S10000x5120, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v3 : BitVec 32 := Scalar.addi v2 c0_i32
  let c0_i32_0 : BitVec 32 := 0#32
  ![v3.toNat, 0]
@[reducible] def k0_t1_loop : Scf.Loop 32 :=
  let c0_i32_21 : BitVec 32 := 0#32
  let c80_i32 : BitVec 32 := 80#32
  let v44 : BitVec 32 := Scalar.addi c0_i32_21 c80_i32
  let c1_i32_22 : BitVec 32 := 1#32
  ⟨c0_i32_21, v44, c1_i32_22⟩
def k0_cond1 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c0_i32_26 : BitVec 32 := 0#32
  let v50 : BitVec 32 := Scalar.addi v49 c0_i32_26
  let v51 : BitVec 32 := Scalar.addi v2 v50
  let c10000_i32_27 : BitVec 32 := 10000#32
  let v52 : BitVec 1 := Scalar.cmpi .slt v51 c10000_i32_27
  let v53 : BitVec 32 := Scalar.extui v52
  let c0_i32_28 : BitVec 32 := 0#32
  let v54 : BitVec 1 := Scalar.cmpi .ne v53 c0_i32_28
  v54

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c0_i32_26 : BitVec 32 := 0#32
  let v50 : BitVec 32 := Scalar.addi v49 c0_i32_26
  let v51 : BitVec 32 := Scalar.addi v2 v50
  let c0_i32_38 : BitVec 32 := 0#32
  ![v51.toNat, 0]
def k0_cond2 (k0_t1 : Fin k0_t1_loop.trips) : BitVec 1 :=
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c0_i32_26 : BitVec 32 := 0#32
  let v50 : BitVec 32 := Scalar.addi v49 c0_i32_26
  let c4_i32_42 : BitVec 32 := 4#32
  let v78 : BitVec 1 := Scalar.cmpi .sge v50 c4_i32_42
  let v79 : BitVec 32 := Scalar.extui v78
  let c0_i32_43 : BitVec 32 := 0#32
  let v80 : BitVec 1 := Scalar.cmpi .ne v79 c0_i32_43
  v80

def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c0_i32_26 : BitVec 32 := 0#32
  let v50 : BitVec 32 := Scalar.addi v49 c0_i32_26
  let v51 : BitVec 32 := Scalar.addi v2 v50
  let c4_i32_73 : BitVec 32 := 4#32
  let v123 : BitVec 32 := Scalar.subi v51 c4_i32_73
  let c0_i32_75 : BitVec 32 := 0#32
  ![v123.toNat, 0]
@[reducible] def k0_t2_loop : Scf.Loop 32 :=
  let c0_i32_56 : BitVec 32 := 0#32
  let c320_i32_57 : BitVec 32 := 320#32
  let v103 : BitVec 32 := Scalar.addi c0_i32_56 c320_i32_57
  let c1_i32_58 : BitVec 32 := 1#32
  ⟨c0_i32_56, v103, c1_i32_58⟩
def k0_off4 (k0_t2 : Fin k0_t2_loop.trips) : Fin 1 → Nat :=
  let c0_i32_56 : BitVec 32 := 0#32
  let c1_i32_58 : BitVec 32 := 1#32
  let arg31 : BitVec 32 := Scf.iv c0_i32_56 c1_i32_58 k0_t2
  let c16_i32 : BitVec 32 := 16#32
  let v123 : BitVec 32 := Scalar.muli arg31 c16_i32
  let v124 : Index := Scalar.indexCast v123
  ![v124.toNat]

def k0_chk1 (i : grid0.Coords) (k0_t1 : Fin k0_t1_loop.trips) (v128 : IVec S16 32) : Prop :=
  (∀ (k0_h1 : k0_cond1 i k0_t1 = 1#1), ∀ a x, ((![v128] : Fin 1 → IVec S16 32) a x).toNat < S144.size a) ∧
  (∀ (k0_h1 : k0_cond1 i k0_t1 = 1#1), ∀ a x, ((![v128] : Fin 1 → IVec S16 32) a x).toNat < S144.size a)
theorem k0_idx1_inb : ∀ (i : grid0.Coords) (k0_t1 : Fin k0_t1_loop.trips) (v128 : IVec S16 32) (k0_hw1 : k0_chk1 i k0_t1 v128), ∀ (k0_h1 : k0_cond1 i k0_t1 = 1#1), ∀ a x, ((![v128] : Fin 1 → IVec S16 32) a x).toNat < S144.size a := fun i k0_t1 v128 k0_hw1 k0_h1 => k0_hw1.1 k0_h1
theorem k0_idx2_inb : ∀ (i : grid0.Coords) (k0_t1 : Fin k0_t1_loop.trips) (v128 : IVec S16 32) (k0_hw1 : k0_chk1 i k0_t1 v128), ∀ (k0_h1 : k0_cond1 i k0_t1 = 1#1), ∀ a x, ((![v128] : Fin 1 → IVec S16 32) a x).toNat < S144.size a := fun i k0_t1 v128 k0_hw1 k0_h1 => k0_hw1.2 k0_h1
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c0_i32_26 : BitVec 32 := 0#32
  let v50 : BitVec 32 := Scalar.addi v49 c0_i32_26
  let v51 : BitVec 32 := Scalar.addi v2 v50
  let c0_i32_61 : BitVec 32 := 0#32
  ![v51.toNat, 0]
def k0_cond3 (i : grid0.Coords) (k0_t1 : Fin k0_t1_loop.trips) : BitVec 1 :=
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c0_i32_26 : BitVec 32 := 0#32
  let v50 : BitVec 32 := Scalar.addi v49 c0_i32_26
  let c4_i32_68 : BitVec 32 := 4#32
  let v116 : BitVec 32 := Scalar.addi v50 c4_i32_68
  let c320_i32_69 : BitVec 32 := 320#32
  let v117 : BitVec 1 := Scalar.cmpi .slt v116 c320_i32_69
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v51 : BitVec 32 := Scalar.addi v2 v50
  let c4_i32_70 : BitVec 32 := 4#32
  let v118 : BitVec 32 := Scalar.addi v51 c4_i32_70
  let c10000_i32_71 : BitVec 32 := 10000#32
  let v119 : BitVec 1 := Scalar.cmpi .slt v118 c10000_i32_71
  let v120 : BitVec 1 := Scalar.andi v117 v119
  let v121 : BitVec 32 := Scalar.extui v120
  let c0_i32_72 : BitVec 32 := 0#32
  let v122 : BitVec 1 := Scalar.cmpi .ne v121 c0_i32_72
  v122

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c0_i32_26 : BitVec 32 := 0#32
  let v50 : BitVec 32 := Scalar.addi v49 c0_i32_26
  let v51 : BitVec 32 := Scalar.addi v2 v50
  let c4_i32_73 : BitVec 32 := 4#32
  let v123 : BitVec 32 := Scalar.addi v51 c4_i32_73
  let c0_i32_74 : BitVec 32 := 0#32
  ![v123.toNat, 0]
def k0_cond4 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c1_i32_29 : BitVec 32 := 1#32
  let v55 : BitVec 32 := Scalar.addi v49 c1_i32_29
  let v56 : BitVec 32 := Scalar.addi v2 v55
  let c10000_i32_30 : BitVec 32 := 10000#32
  let v57 : BitVec 1 := Scalar.cmpi .slt v56 c10000_i32_30
  let v58 : BitVec 32 := Scalar.extui v57
  let c0_i32_31 : BitVec 32 := 0#32
  let v59 : BitVec 1 := Scalar.cmpi .ne v58 c0_i32_31
  v59

def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c1_i32_29 : BitVec 32 := 1#32
  let v55 : BitVec 32 := Scalar.addi v49 c1_i32_29
  let v56 : BitVec 32 := Scalar.addi v2 v55
  let c0_i32_38 : BitVec 32 := 0#32
  ![v56.toNat, 0]
def k0_cond5 (k0_t1 : Fin k0_t1_loop.trips) : BitVec 1 :=
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c1_i32_29 : BitVec 32 := 1#32
  let v55 : BitVec 32 := Scalar.addi v49 c1_i32_29
  let c4_i32_42 : BitVec 32 := 4#32
  let v78 : BitVec 1 := Scalar.cmpi .sge v55 c4_i32_42
  let v79 : BitVec 32 := Scalar.extui v78
  let c0_i32_43 : BitVec 32 := 0#32
  let v80 : BitVec 1 := Scalar.cmpi .ne v79 c0_i32_43
  v80

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c1_i32_29 : BitVec 32 := 1#32
  let v55 : BitVec 32 := Scalar.addi v49 c1_i32_29
  let v56 : BitVec 32 := Scalar.addi v2 v55
  let c4_i32_73 : BitVec 32 := 4#32
  let v123 : BitVec 32 := Scalar.subi v56 c4_i32_73
  let c0_i32_75 : BitVec 32 := 0#32
  ![v123.toNat, 0]
@[reducible] def k0_t3_loop : Scf.Loop 32 :=
  let c0_i32_56 : BitVec 32 := 0#32
  let c320_i32_57 : BitVec 32 := 320#32
  let v103 : BitVec 32 := Scalar.addi c0_i32_56 c320_i32_57
  let c1_i32_58 : BitVec 32 := 1#32
  ⟨c0_i32_56, v103, c1_i32_58⟩
def k0_off9 (k0_t3 : Fin k0_t3_loop.trips) : Fin 1 → Nat :=
  let c0_i32_56 : BitVec 32 := 0#32
  let c1_i32_58 : BitVec 32 := 1#32
  let arg31 : BitVec 32 := Scf.iv c0_i32_56 c1_i32_58 k0_t3
  let c16_i32 : BitVec 32 := 16#32
  let v123 : BitVec 32 := Scalar.muli arg31 c16_i32
  let v124 : Index := Scalar.indexCast v123
  ![v124.toNat]

def k0_chk2 (i : grid0.Coords) (k0_t1 : Fin k0_t1_loop.trips) (v128 : IVec S16 32) : Prop :=
  (∀ (k0_h4 : k0_cond4 i k0_t1 = 1#1), ∀ a x, ((![v128] : Fin 1 → IVec S16 32) a x).toNat < S144.size a) ∧
  (∀ (k0_h4 : k0_cond4 i k0_t1 = 1#1), ∀ a x, ((![v128] : Fin 1 → IVec S16 32) a x).toNat < S144.size a)
theorem k0_idx3_inb : ∀ (i : grid0.Coords) (k0_t1 : Fin k0_t1_loop.trips) (v128 : IVec S16 32) (k0_hw2 : k0_chk2 i k0_t1 v128), ∀ (k0_h4 : k0_cond4 i k0_t1 = 1#1), ∀ a x, ((![v128] : Fin 1 → IVec S16 32) a x).toNat < S144.size a := fun i k0_t1 v128 k0_hw2 k0_h4 => k0_hw2.1 k0_h4
theorem k0_idx4_inb : ∀ (i : grid0.Coords) (k0_t1 : Fin k0_t1_loop.trips) (v128 : IVec S16 32) (k0_hw2 : k0_chk2 i k0_t1 v128), ∀ (k0_h4 : k0_cond4 i k0_t1 = 1#1), ∀ a x, ((![v128] : Fin 1 → IVec S16 32) a x).toNat < S144.size a := fun i k0_t1 v128 k0_hw2 k0_h4 => k0_hw2.2 k0_h4
def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c1_i32_29 : BitVec 32 := 1#32
  let v55 : BitVec 32 := Scalar.addi v49 c1_i32_29
  let v56 : BitVec 32 := Scalar.addi v2 v55
  let c0_i32_61 : BitVec 32 := 0#32
  ![v56.toNat, 0]
def k0_cond6 (i : grid0.Coords) (k0_t1 : Fin k0_t1_loop.trips) : BitVec 1 :=
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c1_i32_29 : BitVec 32 := 1#32
  let v55 : BitVec 32 := Scalar.addi v49 c1_i32_29
  let c4_i32_68 : BitVec 32 := 4#32
  let v116 : BitVec 32 := Scalar.addi v55 c4_i32_68
  let c320_i32_69 : BitVec 32 := 320#32
  let v117 : BitVec 1 := Scalar.cmpi .slt v116 c320_i32_69
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v56 : BitVec 32 := Scalar.addi v2 v55
  let c4_i32_70 : BitVec 32 := 4#32
  let v118 : BitVec 32 := Scalar.addi v56 c4_i32_70
  let c10000_i32_71 : BitVec 32 := 10000#32
  let v119 : BitVec 1 := Scalar.cmpi .slt v118 c10000_i32_71
  let v120 : BitVec 1 := Scalar.andi v117 v119
  let v121 : BitVec 32 := Scalar.extui v120
  let c0_i32_72 : BitVec 32 := 0#32
  let v122 : BitVec 1 := Scalar.cmpi .ne v121 c0_i32_72
  v122

def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c1_i32_29 : BitVec 32 := 1#32
  let v55 : BitVec 32 := Scalar.addi v49 c1_i32_29
  let v56 : BitVec 32 := Scalar.addi v2 v55
  let c4_i32_73 : BitVec 32 := 4#32
  let v123 : BitVec 32 := Scalar.addi v56 c4_i32_73
  let c0_i32_74 : BitVec 32 := 0#32
  ![v123.toNat, 0]
def k0_cond7 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c2_i32_32 : BitVec 32 := 2#32
  let v60 : BitVec 32 := Scalar.addi v49 c2_i32_32
  let v61 : BitVec 32 := Scalar.addi v2 v60
  let c10000_i32_33 : BitVec 32 := 10000#32
  let v62 : BitVec 1 := Scalar.cmpi .slt v61 c10000_i32_33
  let v63 : BitVec 32 := Scalar.extui v62
  let c0_i32_34 : BitVec 32 := 0#32
  let v64 : BitVec 1 := Scalar.cmpi .ne v63 c0_i32_34
  v64

def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c2_i32_32 : BitVec 32 := 2#32
  let v60 : BitVec 32 := Scalar.addi v49 c2_i32_32
  let v61 : BitVec 32 := Scalar.addi v2 v60
  let c0_i32_38 : BitVec 32 := 0#32
  ![v61.toNat, 0]
def k0_cond8 (k0_t1 : Fin k0_t1_loop.trips) : BitVec 1 :=
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c2_i32_32 : BitVec 32 := 2#32
  let v60 : BitVec 32 := Scalar.addi v49 c2_i32_32
  let c4_i32_42 : BitVec 32 := 4#32
  let v78 : BitVec 1 := Scalar.cmpi .sge v60 c4_i32_42
  let v79 : BitVec 32 := Scalar.extui v78
  let c0_i32_43 : BitVec 32 := 0#32
  let v80 : BitVec 1 := Scalar.cmpi .ne v79 c0_i32_43
  v80

def k0_off13 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c2_i32_32 : BitVec 32 := 2#32
  let v60 : BitVec 32 := Scalar.addi v49 c2_i32_32
  let v61 : BitVec 32 := Scalar.addi v2 v60
  let c4_i32_73 : BitVec 32 := 4#32
  let v123 : BitVec 32 := Scalar.subi v61 c4_i32_73
  let c0_i32_75 : BitVec 32 := 0#32
  ![v123.toNat, 0]
@[reducible] def k0_t4_loop : Scf.Loop 32 :=
  let c0_i32_56 : BitVec 32 := 0#32
  let c320_i32_57 : BitVec 32 := 320#32
  let v103 : BitVec 32 := Scalar.addi c0_i32_56 c320_i32_57
  let c1_i32_58 : BitVec 32 := 1#32
  ⟨c0_i32_56, v103, c1_i32_58⟩
def k0_off14 (k0_t4 : Fin k0_t4_loop.trips) : Fin 1 → Nat :=
  let c0_i32_56 : BitVec 32 := 0#32
  let c1_i32_58 : BitVec 32 := 1#32
  let arg31 : BitVec 32 := Scf.iv c0_i32_56 c1_i32_58 k0_t4
  let c16_i32 : BitVec 32 := 16#32
  let v123 : BitVec 32 := Scalar.muli arg31 c16_i32
  let v124 : Index := Scalar.indexCast v123
  ![v124.toNat]

def k0_chk3 (i : grid0.Coords) (k0_t1 : Fin k0_t1_loop.trips) (v128 : IVec S16 32) : Prop :=
  (∀ (k0_h7 : k0_cond7 i k0_t1 = 1#1), ∀ a x, ((![v128] : Fin 1 → IVec S16 32) a x).toNat < S144.size a) ∧
  (∀ (k0_h7 : k0_cond7 i k0_t1 = 1#1), ∀ a x, ((![v128] : Fin 1 → IVec S16 32) a x).toNat < S144.size a)
theorem k0_idx5_inb : ∀ (i : grid0.Coords) (k0_t1 : Fin k0_t1_loop.trips) (v128 : IVec S16 32) (k0_hw3 : k0_chk3 i k0_t1 v128), ∀ (k0_h7 : k0_cond7 i k0_t1 = 1#1), ∀ a x, ((![v128] : Fin 1 → IVec S16 32) a x).toNat < S144.size a := fun i k0_t1 v128 k0_hw3 k0_h7 => k0_hw3.1 k0_h7
theorem k0_idx6_inb : ∀ (i : grid0.Coords) (k0_t1 : Fin k0_t1_loop.trips) (v128 : IVec S16 32) (k0_hw3 : k0_chk3 i k0_t1 v128), ∀ (k0_h7 : k0_cond7 i k0_t1 = 1#1), ∀ a x, ((![v128] : Fin 1 → IVec S16 32) a x).toNat < S144.size a := fun i k0_t1 v128 k0_hw3 k0_h7 => k0_hw3.2 k0_h7
def k0_off15 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c2_i32_32 : BitVec 32 := 2#32
  let v60 : BitVec 32 := Scalar.addi v49 c2_i32_32
  let v61 : BitVec 32 := Scalar.addi v2 v60
  let c0_i32_61 : BitVec 32 := 0#32
  ![v61.toNat, 0]
def k0_cond9 (i : grid0.Coords) (k0_t1 : Fin k0_t1_loop.trips) : BitVec 1 :=
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c2_i32_32 : BitVec 32 := 2#32
  let v60 : BitVec 32 := Scalar.addi v49 c2_i32_32
  let c4_i32_68 : BitVec 32 := 4#32
  let v116 : BitVec 32 := Scalar.addi v60 c4_i32_68
  let c320_i32_69 : BitVec 32 := 320#32
  let v117 : BitVec 1 := Scalar.cmpi .slt v116 c320_i32_69
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v61 : BitVec 32 := Scalar.addi v2 v60
  let c4_i32_70 : BitVec 32 := 4#32
  let v118 : BitVec 32 := Scalar.addi v61 c4_i32_70
  let c10000_i32_71 : BitVec 32 := 10000#32
  let v119 : BitVec 1 := Scalar.cmpi .slt v118 c10000_i32_71
  let v120 : BitVec 1 := Scalar.andi v117 v119
  let v121 : BitVec 32 := Scalar.extui v120
  let c0_i32_72 : BitVec 32 := 0#32
  let v122 : BitVec 1 := Scalar.cmpi .ne v121 c0_i32_72
  v122

def k0_off16 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c2_i32_32 : BitVec 32 := 2#32
  let v60 : BitVec 32 := Scalar.addi v49 c2_i32_32
  let v61 : BitVec 32 := Scalar.addi v2 v60
  let c4_i32_73 : BitVec 32 := 4#32
  let v123 : BitVec 32 := Scalar.addi v61 c4_i32_73
  let c0_i32_74 : BitVec 32 := 0#32
  ![v123.toNat, 0]
def k0_cond10 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c3_i32_35 : BitVec 32 := 3#32
  let v65 : BitVec 32 := Scalar.addi v49 c3_i32_35
  let v66 : BitVec 32 := Scalar.addi v2 v65
  let c10000_i32_36 : BitVec 32 := 10000#32
  let v67 : BitVec 1 := Scalar.cmpi .slt v66 c10000_i32_36
  let v68 : BitVec 32 := Scalar.extui v67
  let c0_i32_37 : BitVec 32 := 0#32
  let v69 : BitVec 1 := Scalar.cmpi .ne v68 c0_i32_37
  v69

def k0_off17 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c3_i32_35 : BitVec 32 := 3#32
  let v65 : BitVec 32 := Scalar.addi v49 c3_i32_35
  let v66 : BitVec 32 := Scalar.addi v2 v65
  let c0_i32_38 : BitVec 32 := 0#32
  ![v66.toNat, 0]
def k0_cond11 (k0_t1 : Fin k0_t1_loop.trips) : BitVec 1 :=
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c3_i32_35 : BitVec 32 := 3#32
  let v65 : BitVec 32 := Scalar.addi v49 c3_i32_35
  let c4_i32_42 : BitVec 32 := 4#32
  let v78 : BitVec 1 := Scalar.cmpi .sge v65 c4_i32_42
  let v79 : BitVec 32 := Scalar.extui v78
  let c0_i32_43 : BitVec 32 := 0#32
  let v80 : BitVec 1 := Scalar.cmpi .ne v79 c0_i32_43
  v80

def k0_off18 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c3_i32_35 : BitVec 32 := 3#32
  let v65 : BitVec 32 := Scalar.addi v49 c3_i32_35
  let v66 : BitVec 32 := Scalar.addi v2 v65
  let c4_i32_73 : BitVec 32 := 4#32
  let v123 : BitVec 32 := Scalar.subi v66 c4_i32_73
  let c0_i32_75 : BitVec 32 := 0#32
  ![v123.toNat, 0]
@[reducible] def k0_t5_loop : Scf.Loop 32 :=
  let c0_i32_56 : BitVec 32 := 0#32
  let c320_i32_57 : BitVec 32 := 320#32
  let v103 : BitVec 32 := Scalar.addi c0_i32_56 c320_i32_57
  let c1_i32_58 : BitVec 32 := 1#32
  ⟨c0_i32_56, v103, c1_i32_58⟩
def k0_off19 (k0_t5 : Fin k0_t5_loop.trips) : Fin 1 → Nat :=
  let c0_i32_56 : BitVec 32 := 0#32
  let c1_i32_58 : BitVec 32 := 1#32
  let arg31 : BitVec 32 := Scf.iv c0_i32_56 c1_i32_58 k0_t5
  let c16_i32 : BitVec 32 := 16#32
  let v123 : BitVec 32 := Scalar.muli arg31 c16_i32
  let v124 : Index := Scalar.indexCast v123
  ![v124.toNat]

def k0_chk4 (i : grid0.Coords) (k0_t1 : Fin k0_t1_loop.trips) (v128 : IVec S16 32) : Prop :=
  (∀ (k0_h10 : k0_cond10 i k0_t1 = 1#1), ∀ a x, ((![v128] : Fin 1 → IVec S16 32) a x).toNat < S144.size a) ∧
  (∀ (k0_h10 : k0_cond10 i k0_t1 = 1#1), ∀ a x, ((![v128] : Fin 1 → IVec S16 32) a x).toNat < S144.size a)
theorem k0_idx7_inb : ∀ (i : grid0.Coords) (k0_t1 : Fin k0_t1_loop.trips) (v128 : IVec S16 32) (k0_hw4 : k0_chk4 i k0_t1 v128), ∀ (k0_h10 : k0_cond10 i k0_t1 = 1#1), ∀ a x, ((![v128] : Fin 1 → IVec S16 32) a x).toNat < S144.size a := fun i k0_t1 v128 k0_hw4 k0_h10 => k0_hw4.1 k0_h10
theorem k0_idx8_inb : ∀ (i : grid0.Coords) (k0_t1 : Fin k0_t1_loop.trips) (v128 : IVec S16 32) (k0_hw4 : k0_chk4 i k0_t1 v128), ∀ (k0_h10 : k0_cond10 i k0_t1 = 1#1), ∀ a x, ((![v128] : Fin 1 → IVec S16 32) a x).toNat < S144.size a := fun i k0_t1 v128 k0_hw4 k0_h10 => k0_hw4.2 k0_h10
def k0_off20 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c3_i32_35 : BitVec 32 := 3#32
  let v65 : BitVec 32 := Scalar.addi v49 c3_i32_35
  let v66 : BitVec 32 := Scalar.addi v2 v65
  let c0_i32_61 : BitVec 32 := 0#32
  ![v66.toNat, 0]
def k0_cond12 (i : grid0.Coords) (k0_t1 : Fin k0_t1_loop.trips) : BitVec 1 :=
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c3_i32_35 : BitVec 32 := 3#32
  let v65 : BitVec 32 := Scalar.addi v49 c3_i32_35
  let c4_i32_68 : BitVec 32 := 4#32
  let v116 : BitVec 32 := Scalar.addi v65 c4_i32_68
  let c320_i32_69 : BitVec 32 := 320#32
  let v117 : BitVec 1 := Scalar.cmpi .slt v116 c320_i32_69
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v66 : BitVec 32 := Scalar.addi v2 v65
  let c4_i32_70 : BitVec 32 := 4#32
  let v118 : BitVec 32 := Scalar.addi v66 c4_i32_70
  let c10000_i32_71 : BitVec 32 := 10000#32
  let v119 : BitVec 1 := Scalar.cmpi .slt v118 c10000_i32_71
  let v120 : BitVec 1 := Scalar.andi v117 v119
  let v121 : BitVec 32 := Scalar.extui v120
  let c0_i32_72 : BitVec 32 := 0#32
  let v122 : BitVec 1 := Scalar.cmpi .ne v121 c0_i32_72
  v122

def k0_off21 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_25 : BitVec 32 := 0#32
  let c0_i32_21 : BitVec 32 := 0#32
  let c1_i32_22 : BitVec 32 := 1#32
  let arg30 : BitVec 32 := Scf.iv c0_i32_21 c1_i32_22 k0_t1
  let c4_i32 : BitVec 32 := 4#32
  let v48 : BitVec 32 := Scalar.muli arg30 c4_i32
  let v49 : BitVec 32 := Scalar.addi c0_i32_25 v48
  let c3_i32_35 : BitVec 32 := 3#32
  let v65 : BitVec 32 := Scalar.addi v49 c3_i32_35
  let v66 : BitVec 32 := Scalar.addi v2 v65
  let c4_i32_73 : BitVec 32 := 4#32
  let v123 : BitVec 32 := Scalar.addi v66 c4_i32_73
  let c0_i32_74 : BitVec 32 := 0#32
  ![v123.toNat, 0]
def k0_cond13 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c10000_i32 : BitVec 32 := 10000#32
  let v45 : BitVec 1 := Scalar.cmpi .slt v2 c10000_i32
  let v46 : BitVec 32 := Scalar.extui v45
  let c0_i32_24 : BitVec 32 := 0#32
  let v47 : BitVec 1 := Scalar.cmpi .ne v46 c0_i32_24
  v47

def k0_off22 (i : grid0.Coords) (c0_i32_27 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c320_i32_25 : BitVec 32 := 320#32
  let v48 : BitVec 32 := Scalar.addi v2 c320_i32_25
  let c10000_i32_26 : BitVec 32 := 10000#32
  let v49 : BitVec 32 := Scalar.minsi v48 c10000_i32_26
  let c4_i32 : BitVec 32 := 4#32
  let v50 : BitVec 32 := Scalar.subi v49 c4_i32
  let v51 : BitVec 32 := Scalar.addi v50 c0_i32_27
  let c0_i32_29 : BitVec 32 := 0#32
  ![v51.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== CompactReference.lean ====
abbrev S10000x5120 : Shape := ⟨2, ![10000, 5120]⟩
abbrev S10000 : Shape := ⟨1, ![10000]⟩
abbrev S10000x1 : Shape := ⟨2, ![10000, 1]⟩
abbrev S5120 : Shape := ⟨1, ![5120]⟩
abbrev S1x5120 : Shape := ⟨2, ![1, 5120]⟩
abbrev S_ : Shape := ⟨0, ![]⟩
abbrev S10000x128 : Shape := ⟨2, ![10000, 128]⟩
abbrev S10000x5120x1 : Shape := ⟨3, ![10000, 5120, 1]⟩
abbrev S10000x5120x2 : Shape := ⟨3, ![10000, 5120, 2]⟩

abbrev nBuf : Space → Nat
  | .hbm => 60
  | .vmem => 0
  | .smem => 0
  | _ => 0

abbrev bufTy : (tb : Table) → Fin (tcTables nBuf tb) → BufTy
  | .hbm, ⟨0, _⟩ => ⟨S10000x5120, .f32⟩
  | .hbm, ⟨1, _⟩ => ⟨S10000x5120, .i32⟩
  | .hbm, ⟨2, _⟩ => ⟨S10000, .i32⟩
  | .hbm, ⟨3, _⟩ => ⟨S10000x1, .i32⟩
  | .hbm, ⟨4, _⟩ => ⟨S5120, .i32⟩
  | .hbm, ⟨5, _⟩ => ⟨S1x5120, .i32⟩
  | .hbm, ⟨6, _⟩ => ⟨S_, .i32⟩
  | .hbm, ⟨7, _⟩ => ⟨S10000x1, .i32⟩
  | .hbm, ⟨8, _⟩ => ⟨S10000x1, .i1⟩
  | .hbm, ⟨9, _⟩ => ⟨S_, .i32⟩
  | .hbm, ⟨10, _⟩ => ⟨S_, .i32⟩
  | .hbm, ⟨11, _⟩ => ⟨S10000x1, .i32⟩
  | .hbm, ⟨12, _⟩ => ⟨S10000x1, .i32⟩
  | .hbm, ⟨13, _⟩ => ⟨S10000x1, .i32⟩
  | .hbm, ⟨14, _⟩ => ⟨S10000x1, .i32⟩
  | .hbm, ⟨15, _⟩ => ⟨S10000x5120, .i32⟩
  | .hbm, ⟨16, _⟩ => ⟨S10000x5120, .i32⟩
  | .hbm, ⟨17, _⟩ => ⟨S10000x5120, .i32⟩
  | .hbm, ⟨18, _⟩ => ⟨S_, .f32⟩
  | .hbm, ⟨19, _⟩ => ⟨S10000x128, .f32⟩
  | .hbm, ⟨20, _⟩ => ⟨S_, .i32⟩
  | .hbm, ⟨21, _⟩ => ⟨S10000x1, .i32⟩
  | .hbm, ⟨22, _⟩ => ⟨S10000x1, .i1⟩
  | .hbm, ⟨23, _⟩ => ⟨S_, .i32⟩
  | .hbm, ⟨24, _⟩ => ⟨S10000x1, .i32⟩
  | .hbm, ⟨25, _⟩ => ⟨S10000x1, .i32⟩
  | .hbm, ⟨26, _⟩ => ⟨S10000x1, .i32⟩
  | .hbm, ⟨27, _⟩ => ⟨S_, .i32⟩
  | .hbm, ⟨28, _⟩ => ⟨S10000x5120, .i32⟩
  | .hbm, ⟨29, _⟩ => ⟨S10000x5120, .i1⟩
  | .hbm, ⟨30, _⟩ => ⟨S_, .i32⟩
  | .hbm, ⟨31, _⟩ => ⟨S10000x5120, .i32⟩
  | .hbm, ⟨32, _⟩ => ⟨S10000x5120, .i32⟩
  | .hbm, ⟨33, _⟩ => ⟨S10000x5120, .i32⟩
  | .hbm, ⟨34, _⟩ => ⟨S10000x5120, .i32⟩
  | .hbm, ⟨35, _⟩ => ⟨S10000x5120x1, .i32⟩
  | .hbm, ⟨36, _⟩ => ⟨S10000x5120x1, .i32⟩
  | .hbm, ⟨37, _⟩ => ⟨S10000x5120x2, .i32⟩
  | .hbm, ⟨38, _⟩ => ⟨S10000x128, .f32⟩
  | .hbm, ⟨39, _⟩ => ⟨S_, .i32⟩
  | .hbm, ⟨40, _⟩ => ⟨S10000x128, .i32⟩
  | .hbm, ⟨41, _⟩ => ⟨S_, .i32⟩
  | .hbm, ⟨42, _⟩ => ⟨S10000x1, .i32⟩
  | .hbm, ⟨43, _⟩ => ⟨S10000x1, .i1⟩
  | .hbm, ⟨44, _⟩ => ⟨S_, .i32⟩
  | .hbm, ⟨45, _⟩ => ⟨S10000x1, .i32⟩
  | .hbm, ⟨46, _⟩ => ⟨S10000x1, .i32⟩
  | .hbm, ⟨47, _⟩ => ⟨S10000x1, .i32⟩
  | .hbm, ⟨48, _⟩ => ⟨S_, .i32⟩
  | .hbm, ⟨49, _⟩ => ⟨S10000x5120, .i32⟩
  | .hbm, ⟨50, _⟩ => ⟨S10000x5120, .i1⟩
  | .hbm, ⟨51, _⟩ => ⟨S_, .i32⟩
  | .hbm, ⟨52, _⟩ => ⟨S10000x5120, .i32⟩
  | .hbm, ⟨53, _⟩ => ⟨S10000x5120, .i32⟩
  | .hbm, ⟨54, _⟩ => ⟨S10000x5120, .i32⟩
  | .hbm, ⟨55, _⟩ => ⟨S10000x5120, .i32⟩
  | .hbm, ⟨56, _⟩ => ⟨S10000x5120x1, .i32⟩
  | .hbm, ⟨57, _⟩ => ⟨S10000x5120x1, .i32⟩
  | .hbm, ⟨58, _⟩ => ⟨S10000x5120x2, .i32⟩
  | .hbm, ⟨59, _⟩ => ⟨S10000x128, .i32⟩
  | _, _ => ⟨S10000x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_c_7 : Ref sig .tc := ⟨.hbm, 41, rfl⟩
abbrev main_v28 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_c_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Sort.lean ====
abbrev S10000x128 : Shape := ⟨2, ![10000, 128]⟩
abbrev S200x128 : Shape := ⟨2, ![200, 128]⟩
abbrev S8x128 : Shape := ⟨2, ![8, 128]⟩
abbrev S200x127 : Shape := ⟨2, ![200, 127]⟩
abbrev S200x1 : Shape := ⟨2, ![200, 1]⟩
abbrev S200x126 : Shape := ⟨2, ![200, 126]⟩
abbrev S200x2 : Shape := ⟨2, ![200, 2]⟩
abbrev S200x124 : Shape := ⟨2, ![200, 124]⟩
abbrev S200x4 : Shape := ⟨2, ![200, 4]⟩
abbrev S200x120 : Shape := ⟨2, ![200, 120]⟩
abbrev S200x8 : Shape := ⟨2, ![200, 8]⟩
abbrev S200x112 : Shape := ⟨2, ![200, 112]⟩
abbrev S200x16 : Shape := ⟨2, ![200, 16]⟩
abbrev S200x96 : Shape := ⟨2, ![200, 96]⟩
abbrev S200x32 : Shape := ⟨2, ![200, 32]⟩
abbrev S200x64 : Shape := ⟨2, ![200, 64]⟩

abbrev nBuf : Space → Nat
  | .hbm => 4
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x128, .i32⟩
  | .hbm, ⟨2, _⟩ => ⟨S10000x128, .i32⟩
  | .hbm, ⟨3, _⟩ => ⟨S10000x128, .f32⟩
  | .local _ .vmem, ⟨0, _⟩ => ⟨S200x128, .f32⟩
  | .local _ .vmem, ⟨1, _⟩ => ⟨S200x128, .f32⟩
  | .local _ .vmem, ⟨2, _⟩ => ⟨S200x128, .i32⟩
  | .local _ .vmem, ⟨3, _⟩ => ⟨S200x128, .i32⟩
  | .local _ .vmem, ⟨4, _⟩ => ⟨S200x128, .i32⟩
  | .local _ .vmem, ⟨5, _⟩ => ⟨S200x128, .i32⟩
  | .local _ .vmem, ⟨6, _⟩ => ⟨S200x128, .f32⟩
  | .local _ .vmem, ⟨7, _⟩ => ⟨S200x128, .f32⟩
  | .local _ .vmem, ⟨8, _⟩ => ⟨S8x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SortReferenceIdeal.lean ====
abbrev S10000x128 : Shape := ⟨2, ![10000, 128]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .i32⟩
  | .hbm, ⟨2, _⟩ => ⟨S10000x128, .f32⟩
  | .hbm, ⟨3, _⟩ => ⟨S10000x128, .i32⟩
  | .hbm, ⟨4, _⟩ => ⟨S_, .f32⟩
  | .hbm, ⟨5, _⟩ => ⟨S10000x128, .f32⟩
  | .hbm, ⟨6, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Dist.lean ====
abbrev S10000x4 : Shape := ⟨2, ![10000, 4]⟩
abbrev S4x10240 : Shape := ⟨2, ![4, 10240]⟩
abbrev S10000x5120 : Shape := ⟨2, ![10000, 5120]⟩
abbrev S200x4 : Shape := ⟨2, ![200, 4]⟩
abbrev S4x5120 : Shape := ⟨2, ![4, 5120]⟩
abbrev S200x5120 : Shape := ⟨2, ![200, 5120]⟩
abbrev S8x128 : Shape := ⟨2, ![8, 128]⟩
abbrev S200x1 : Shape := ⟨2, ![200, 1]⟩
abbrev S1x5120 : Shape := ⟨2, ![1, 5120]⟩
abbrev S200 : Shape := ⟨1, ![200]⟩
abbrev S5120 : Shape := ⟨1, ![5120]⟩
abbrev S200x40x128 : Shape := ⟨3, ![200, 40, 128]⟩
abbrev S200x128 : Shape := ⟨2, ![200, 128]⟩
abbrev S200x127 : Shape := ⟨2, ![200, 127]⟩
abbrev S200x126 : Shape := ⟨2, ![200, 126]⟩
abbrev S200x2 : Shape := ⟨2, ![200, 2]⟩
abbrev S200x124 : Shape := ⟨2, ![200, 124]⟩
abbrev S200x120 : Shape := ⟨2, ![200, 120]⟩
abbrev S200x8 : Shape := ⟨2, ![200, 8]⟩
abbrev S200x112 : Shape := ⟨2, ![200, 112]⟩
abbrev S200x16 : Shape := ⟨2, ![200, 16]⟩
abbrev S200x96 : Shape := ⟨2, ![200, 96]⟩
abbrev S200x32 : Shape := ⟨2, ![200, 32]⟩
abbrev S200x64 : Shape := ⟨2, ![200, 64]⟩
abbrev S200x40x1 : Shape := ⟨3, ![200, 40, 1]⟩
abbrev S200x40x127 : Shape := ⟨3, ![200, 40, 127]⟩
abbrev S200x40x2 : Shape := ⟨3, ![200, 40, 2]⟩
abbrev S200x40x126 : Shape := ⟨3, ![200, 40, 126]⟩
abbrev S200x40x4 : Shape := ⟨3, ![200, 40, 4]⟩
abbrev S200x40x124 : Shape := ⟨3, ![200, 40, 124]⟩
abbrev S200x40x8 : Shape := ⟨3, ![200, 40, 8]⟩
abbrev S200x40x120 : Shape := ⟨3, ![200, 40, 120]⟩
abbrev S200x40x16 : Shape := ⟨3, ![200, 40, 16]⟩
abbrev S200x40x112 : Shape := ⟨3, ![200, 40, 112]⟩
abbrev S200x40x32 : Shape := ⟨3, ![200, 40, 32]⟩
abbrev S200x40x96 : Shape := ⟨3, ![200, 40, 96]⟩
abbrev S200x40x64 : Shape := ⟨3, ![200, 40, 64]⟩
abbrev S200x40 : Shape := ⟨2, ![200, 40]⟩
abbrev S200x39 : Shape := ⟨2, ![200, 39]⟩
abbrev S200x38 : Shape := ⟨2, ![200, 38]⟩
abbrev S200x36 : Shape := ⟨2, ![200, 36]⟩
abbrev S200x24 : Shape := ⟨2, ![200, 24]⟩

abbrev nBuf : Space → Nat
  | .hbm => 4
  | .vmem => 9
  | .smem => 0
  | _ => 0

abbrev bufTy : (tb : Table) → Fin (tcTables nBuf tb) → BufTy
  | .hbm, ⟨0, _⟩ => ⟨S10000x4, .f32⟩
  | .hbm, ⟨1, _⟩ => ⟨S4x10240, .f32⟩
  | .hbm, ⟨2, _⟩ => ⟨S10000x5120, .f32⟩
  | .hbm, ⟨3, _⟩ => ⟨S10000x5120, .i32⟩
  | .local _ .vmem, ⟨0, _⟩ => ⟨S200x4, .f32⟩
  | .local _ .vmem, ⟨1, _⟩ => ⟨S200x4, .f32⟩
  | .local _ .vmem, ⟨2, _⟩ => ⟨S4x5120, .f32⟩
  | .local _ .vmem, ⟨3, _⟩ => ⟨S4x5120, .f32⟩
  | .local _ .vmem, ⟨4, _⟩ => ⟨S200x5120, .f32⟩
  | .local _ .vmem, ⟨5, _⟩ => ⟨S200x5120, .f32⟩
  | .local _ .vmem, ⟨6, _⟩ => ⟨S200x5120, .i32⟩
  | .local _ .vmem, ⟨7, _⟩ => ⟨S200x5120, .i32⟩
  | .local _ .vmem, ⟨8, _⟩ => ⟨S8x128, .f32⟩
  | _, _ => ⟨S10000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 25], ![false, false]⟩

@[reducible] def k0_t1_loop : Scf.Loop 32 :=
  let c0_i32_250 : BitVec 32 := 0#32
  let c12_i32 : BitVec 32 := 12#32
  let v806 : BitVec 32 := Scalar.addi c0_i32_250 c12_i32
  let c1_i32_251 : BitVec 32 := 1#32
  ⟨c0_i32_250, v806, c1_i32_251⟩
def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S200x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S200x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S200x5120 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DistReferenceIdeal.lean ====
abbrev S10000x4 : Shape := ⟨2, ![10000, 4]⟩
abbrev S4x10240 : Shape := ⟨2, ![4, 10240]⟩
abbrev S5000x4 : Shape := ⟨2, ![5000, 4]⟩
abbrev S4x5120 : Shape := ⟨2, ![4, 5120]⟩
abbrev S_ : Shape := ⟨0, ![]⟩
abbrev S5000 : Shape := ⟨1, ![5000]⟩
abbrev S5000x1 : Shape := ⟨2, ![5000, 1]⟩
abbrev S5120 : Shape := ⟨1, ![5120]⟩
abbrev S1x5120 : Shape := ⟨2, ![1, 5120]⟩
abbrev S5000x5120 : Shape := ⟨2, ![5000, 5120]⟩
abbrev S10000x5120 : Shape := ⟨2, ![10000, 5120]⟩

abbrev nBuf : Space → Nat
  | .hbm => 39
  | .vmem => 0
  | .smem => 0
  | _ => 0

abbrev bufTy : (tb : Table) → Fin (tcTables nBuf tb) → BufTy
  | .hbm, ⟨0, _⟩ => ⟨S10000x4, .f32⟩
  | .hbm, ⟨1, _⟩ => ⟨S4x10240, .f32⟩
  | .hbm, ⟨2, _⟩ => ⟨S5000x4, .f32⟩
  | .hbm, ⟨3, _⟩ => ⟨S4x5120, .f32⟩
  | .hbm, ⟨4, _⟩ => ⟨S5000x4, .f32⟩
  | .hbm, ⟨5, _⟩ => ⟨S_, .f32⟩
  | .hbm, ⟨6, _⟩ => ⟨S5000, .f32⟩
  | .hbm, ⟨7, _⟩ => ⟨S5000x1, .f32⟩
  | .hbm, ⟨8, _⟩ => ⟨S4x5120, .f32⟩
  | .hbm, ⟨9, _⟩ => ⟨S_, .f32⟩
  | .hbm, ⟨10, _⟩ => ⟨S5120, .f32⟩
  | .hbm, ⟨11, _⟩ => ⟨S1x5120, .f32⟩
  | .hbm, ⟨12, _⟩ => ⟨S5000x5120, .f32⟩
  | .hbm, ⟨13, _⟩ => ⟨S5000x5120, .f32⟩
  | .hbm, ⟨14, _⟩ => ⟨S5000x5120, .f32⟩
  | .hbm, ⟨15, _⟩ => ⟨S5000x5120, .f32⟩
  | .hbm, ⟨16, _⟩ => ⟨S_, .f32⟩
  | .hbm, ⟨17, _⟩ => ⟨S5000x5120, .f32⟩
  | .hbm, ⟨18, _⟩ => ⟨S5000x5120, .f32⟩
  | .hbm, ⟨19, _⟩ => ⟨S5000x5120, .f32⟩
  | .hbm, ⟨20, _⟩ => ⟨S5000x4, .f32⟩
  | .hbm, ⟨21, _⟩ => ⟨S4x5120, .f32⟩
  | .hbm, ⟨22, _⟩ => ⟨S5000x4, .f32⟩
  | .hbm, ⟨23, _⟩ => ⟨S_, .f32⟩
  | .hbm, ⟨24, _⟩ => ⟨S5000, .f32⟩
  | .hbm, ⟨25, _⟩ => ⟨S5000x1, .f32⟩
  | .hbm, ⟨26, _⟩ => ⟨S4x5120, .f32⟩
  | .hbm, ⟨27, _⟩ => ⟨S_, .f32⟩
  | .hbm, ⟨28, _⟩ => ⟨S5120, .f32⟩
  | .hbm, ⟨29, _⟩ => ⟨S1x5120, .f32⟩
  | .hbm, ⟨30, _⟩ => ⟨S5000x5120, .f32⟩
  | .hbm, ⟨31, _⟩ => ⟨S5000x5120, .f32⟩
  | .hbm, ⟨32, _⟩ => ⟨S5000x5120, .f32⟩
  | .hbm, ⟨33, _⟩ => ⟨S5000x5120, .f32⟩
  | .hbm, ⟨34, _⟩ => ⟨S_, .f32⟩
  | .hbm, ⟨35, _⟩ => ⟨S5000x5120, .f32⟩
  | .hbm, ⟨36, _⟩ => ⟨S5000x5120, .f32⟩
  | .hbm, ⟨37, _⟩ => ⟨S5000x5120, .f32⟩
  | .hbm, ⟨38, _⟩ => ⟨S10000x5120, .f32⟩
  | _, _ => ⟨S10000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Proof.Words.lean ====
/- The integer words of the pipeline, in closed form: how many blocks a tile takes and from which one, the five
   counters its loop carries, and what each offset and each condition of a trip comes to. Each is decided once for
   all thirty-two tiles and all their trips. -/
module

public import proofs.«01_k».proof.Proof.Gen.KernelIdeal
public import proofs.«01_k».proof.Proof.Gen.KernelIdeal.Skeleton

@[expose] public section

set_option maxRecDepth 16384

noncomputable section

namespace Cert.Proof.Words

open Cert.KernelIdeal Cert.KernelIdeal.Gen Idealize.ShloMosaic

/-- The number of tile `i`: its subcore, sixteen to a core. -/
abbrev wid (i : grid0.Coords) : ℕ := (i 1).val + 16 * (i 0).val
/-- How many of the 5000 blocks of 128 indices tile `i` takes. -/
abbrev nb (i : grid0.Coords) : ℕ := if wid i < 8 then 157 else 156
/-- The first of them. -/
abbrev bb (i : grid0.Coords) : ℕ := if wid i < 8 then 157 * wid i else 156 * wid i + 8

/-- The counters the loop carries, before trip `t`: fetches started, fetches waited for, write-backs started,
    write-backs waited for, and the block. -/
abbrev c6 (i : grid0.Coords) (t : ℕ) : BitVec 32 := BitVec.ofNat 32 (min (t + 1) (nb i))
abbrev c7 (t : ℕ) : BitVec 32 := BitVec.ofNat 32 t
abbrev c9 (t : ℕ) : BitVec 32 := BitVec.ofNat 32 (t - 1)
abbrev c10 (i : grid0.Coords) (t : ℕ) : BitVec 32 := BitVec.ofNat 32 (if t = nb i then 0 else t)

theorem trips_eq : ∀ i : grid0.Coords, (k0_t1_loop i).trips = nb i := by decide +kernel
theorem trips2_eq : ∀ i : grid0.Coords, (k0_t2_loop i).trips = 0 := by decide +kernel
theorem cond1 : ∀ i : grid0.Coords, k0_cond1 i = 1#1 := by decide +kernel
theorem cond2 : ∀ i : grid0.Coords, k0_cond2 i = 1#1 := by decide +kernel
theorem cond18 : ∀ i : grid0.Coords, k0_cond18 i = 1#1 := by decide +kernel
theorem off2 : ∀ i : grid0.Coords, k0_off2 i = ![0, 128 * bb i] := by decide +kernel

theorem chk1 : ∀ i : grid0.Coords, ∀ t : Fin (k0_t1_loop i).trips,
    k0_chk1 i t (c6 i t) (c7 t) (c7 t) (c9 t) (c10 i t) := by decide +kernel
theorem chk2 : ∀ i : grid0.Coords, ∀ t : Fin (k0_t1_loop i).trips, k0_chk2 i (c7 t) := by decide +kernel
theorem chk3 : ∀ i : grid0.Coords, ∀ t : Fin (k0_t1_loop i).trips, k0_chk3 i (c7 t) := by decide +kernel
theorem chk8 : ∀ i : grid0.Coords, k0_chk8 i (c10 i (nb i)) := by decide +kernel
theorem chk7 : ∀ i : grid0.Coords, k0_chk7 i (c9 (nb i)) := by decide +kernel

theorem cond3 : ∀ i : grid0.Coords, ∀ t : Fin (k0_t1_loop i).trips,
    k0_cond3 i t (c10 i t) = if t.val + 1 < nb i then 1#1 else 0#1 := by decide +kernel
theorem cond4 : ∀ i : grid0.Coords, ∀ t : Fin (k0_t1_loop i).trips, k0_cond4 i t (c10 i t) = 1#1 := by decide +kernel
theorem cond7 : ∀ i : grid0.Coords, ∀ t : Fin (k0_t1_loop i).trips, k0_cond7 i t (c10 i t) = 1#1 := by decide +kernel
theorem cond9 : ∀ i : grid0.Coords, ∀ t : Fin (k0_t1_loop i).trips,
    k0_cond9 i t (c10 i t) = if 0 < t.val then 1#1 else 0#1 := by decide +kernel

theorem off5 : ∀ i : grid0.Coords, ∀ t : Fin (k0_t1_loop i).trips, t.val + 1 < nb i →
    k0_off5 i (c10 i t) = ![0, 128 * (bb i + (t.val + 1))] := by decide +kernel
theorem off8 : ∀ i : grid0.Coords, ∀ t : Fin (k0_t1_loop i).trips,
    k0_off8 i (c10 i t) = ![0, 128 * (bb i + t.val)] := by decide +kernel
theorem off13 : ∀ i : grid0.Coords, ∀ t : Fin (k0_t1_loop i).trips,
    k0_off13 i (c10 i t) = ![128 * (bb i + t.val), 0] := by decide +kernel
theorem off16 : ∀ i : grid0.Coords, ∀ t : Fin (k0_t1_loop i).trips, 0 < t.val →
    k0_off16 i (c10 i t) = ![128 * (bb i + (t.val - 1)), 0] := by decide +kernel
theorem off33 : ∀ i : grid0.Coords, k0_off33 i (c10 i (nb i)) = ![128 * (bb i + (nb i - 1)), 0] := by decide +kernel

theorem rem_two (p : ℕ) (hp : p < 2 ^ 32) : (Scalar.remui (BitVec.ofNat 32 p) 2#32).toNat = p % 2 := by
  simp only [Scalar.remui, IntOp.remui]
  simp [BitVec.toNat_umod, Nat.mod_eq_of_lt hp]

end Cert.Proof.Words

end
-- ==== Proof.Slots.lean ====
/- The pieces of memory the pipeline moves, by number: the two slots its index blocks land in, the two slots its rows
   are gathered into, block `k` of the indices and block `k` of the rows; and the values they are to hold. -/
module

public import proofs.«01_k».proof.Defs
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic

@[expose] public section

noncomputable section

namespace Cert.Proof.Slots

open Cert.KernelIdeal Cert.KernelIdeal.Gen Idealize.ShloMosaic

variable {F : FTy → Type}

abbrev tblV : Memref sig .scVector .hbm S10000x128 .f32 := Memref.whole main_arg0_scv
abbrev idxV : Memref sig .scVector .hbm S1x640000 .i32 := Memref.whole main_arg1_scv
abbrev outV : Memref sig .scVector .hbm S640000x128 .f32 := Memref.whole main_v0_scv
abbrev iV : Memref sig .scVector .vmem S2x1x128 .i32 := Memref.whole cc0_scoped0
abbrev rV : Memref sig .scVector .vmem S2x128x128 .f32 := Memref.whole cc0_scoped2

theorem slotI_inb (s : Fin 2) : ∀ a, (![s.val, 0, 0] : Fin 3 → ℕ) a + S1x1x128.size a ≤ S2x1x128.size a := by revert s; decide
theorem slotR_inb (s : Fin 2) : ∀ a, (![s.val, 0, 0] : Fin 3 → ℕ) a + S1x128x128.size a ≤ S2x128x128.size a := by revert s; decide
theorem sem_inb (s : Fin 2) : ∀ a, (![s.val] : Fin 1 → ℕ) a + S1.size a ≤ S2.size a := by revert s; decide
theorem idxB_inb (k : Fin 5000) : ∀ a, (![0, 128 * k.val] : Fin 2 → ℕ) a + S1x128.size a ≤ S1x640000.size a := by
  intro a; have := k.isLt
  match a with
  | 0 => show 0 + 1 ≤ 1; omega
  | 1 => show 128 * k.val + 128 ≤ 640000; omega
theorem outB_inb (k : Fin 5000) : ∀ a, (![128 * k.val, 0] : Fin 2 → ℕ) a + S128x128.size a ≤ S640000x128.size a := by
  intro a; have := k.isLt
  match a with
  | 0 => show 128 * k.val + 128 ≤ 640000; omega
  | 1 => show 0 + 128 ≤ 128; omega

/-- Slot `s` of the index blocks, slot `s` of the gathered rows, block `k` of the indices and of the result. -/
abbrev slotI (s : Fin 2) : Memref sig .scVector .vmem S1x128 .i32 :=
  (iV.slice (Rect.unit (s := S2x1x128) ![s.val, 0, 0] S1x1x128.size (slotI_inb s)) (fun _ => rfl)).squeeze S1x128 squeezes_S1x1x128_S1x128
abbrev slotR (s : Fin 2) : Memref sig .scVector .vmem S128x128 .f32 :=
  (rV.slice (Rect.unit (s := S2x128x128) ![s.val, 0, 0] S1x128x128.size (slotR_inb s)) (fun _ => rfl)).squeeze S128x128 squeezes_S1x128x128_S128x128
abbrev idxB (k : Fin 5000) : Memref sig .scVector .hbm S1x128 .i32 :=
  idxV.slice (Rect.unit (s := S1x640000) ![0, 128 * k.val] S1x128.size (idxB_inb k)) (fun _ => rfl)
abbrev outB (k : Fin 5000) : Memref sig .scVector .hbm S128x128 .f32 :=
  outV.slice (Rect.unit (s := S640000x128) ![128 * k.val, 0] S128x128.size (outB_inb k)) (fun _ => rfl)
/-- The whole table, and slot `s` of the index blocks as a list, as the gather names them. -/
abbrev tblA : Memref sig .scVector .hbm S10000x128 .f32 :=
  tblV.slice (Rect.unit (s := S10000x128) ![0, 0] S10000x128.size inb_S10000x128_S10000x128_0_0) (fun _ => rfl)
abbrev listOf (s : Fin 2) : Memref sig .scVector .vmem S128 .i32 :=
  ((slotI s).slice (Rect.unit (s := S1x128) ![0, 0] S1x128.size inb_S1x128_S1x128_0_0) (fun _ => rfl)).squeeze S128 squeezes_S1x128_S128
/-- The semaphores of the two pairs of slots. -/
abbrev semI (s : Fin 2) : DmaSem sig :=
  ((cc0_scoped1.slice (Rect.unit (s := S2) ![s.val] S1.size (sem_inb s))).squeeze S_ squeezes_S1_S_).sem
abbrev semO (s : Fin 2) : DmaSem sig :=
  ((cc0_scoped3.slice (Rect.unit (s := S2) ![s.val] S1.size (sem_inb s))).squeeze S_ squeezes_S1_S_).sem

/-! ## The program's own names for them -/

theorem slotI_of {off : Fin 3 → ℕ} {s : Fin 2} (h : off = ![s.val, 0, 0]) (p : ∀ a, off a + S1x1x128.size a ≤ S2x1x128.size a) :
    (iV.slice (Rect.unit (s := S2x1x128) off S1x1x128.size p) (fun _ => rfl)).squeeze S1x128 squeezes_S1x1x128_S1x128 = slotI s := by
  subst h; rfl
theorem slotR_of {off : Fin 3 → ℕ} {s : Fin 2} (h : off = ![s.val, 0, 0]) (p : ∀ a, off a + S1x128x128.size a ≤ S2x128x128.size a) :
    (rV.slice (Rect.unit (s := S2x128x128) off S1x128x128.size p) (fun _ => rfl)).squeeze S128x128 squeezes_S1x128x128_S128x128 = slotR s := by
  subst h; rfl
theorem listOf_of {off : Fin 3 → ℕ} {s : Fin 2} (h : off = ![s.val, 0, 0]) (p : ∀ a, off a + S1x1x128.size a ≤ S2x1x128.size a) :
    (((iV.slice (Rect.unit (s := S2x1x128) off S1x1x128.size p) (fun _ => rfl)).squeeze S1x128 squeezes_S1x1x128_S1x128).slice
      (Rect.unit (s := S1x128) ![0, 0] S1x128.size inb_S1x128_S1x128_0_0) (fun _ => rfl)).squeeze S128 squeezes_S1x128_S128 = listOf s := by
  subst h; rfl
theorem idxB_of {off : Fin 2 → ℕ} {k : Fin 5000} (h : off = ![0, 128 * k.val]) (p : ∀ a, off a + S1x128.size a ≤ S1x640000.size a) :
    idxV.slice (Rect.unit (s := S1x640000) off S1x128.size p) (fun _ => rfl) = idxB k := by subst h; rfl
theorem outB_of {off : Fin 2 → ℕ} {k : Fin 5000} (h : off = ![128 * k.val, 0]) (p : ∀ a, off a + S128x128.size a ≤ S640000x128.size a) :
    outV.slice (Rect.unit (s := S640000x128) off S128x128.size p) (fun _ => rfl) = outB k := by subst h; rfl
theorem semI_of {off : Fin 1 → ℕ} {s : Fin 2} (h : off = ![s.val]) (p : ∀ a, off a + S1.size a ≤ S2.size a) :
    ((cc0_scoped1.slice (Rect.unit (s := S2) off S1.size p)).squeeze S_ squeezes_S1_S_).sem = semI s := by subst h; rfl
theorem semO_of {off : Fin 1 → ℕ} {s : Fin 2} (h : off = ![s.val]) (p : ∀ a, off a + S1.size a ≤ S2.size a) :
    ((cc0_scoped3.slice (Rect.unit (s := S2) off S1.size p)).squeeze S_ squeezes_S1_S_).sem = semO s := by subst h; rfl

/-! ## Their elements -/

/-- Rows `lo` to `hi` of the result. -/
def rowsSet (lo hi : ℕ) : Finset S640000x128.Idx := Finset.univ.filter fun j => lo ≤ (j 0).val ∧ (j 0).val < hi
theorem mem_rowsSet {lo hi : ℕ} {j : S640000x128.Idx} : j ∈ rowsSet lo hi ↔ lo ≤ (j 0).val ∧ (j 0).val < hi := by
  simp [rowsSet]
theorem rowsSet_union {a b c : ℕ} (h : a ≤ b) (h' : b ≤ c) : rowsSet a c = rowsSet a b ∪ rowsSet b c := by
  ext j; simp only [Finset.mem_union, mem_rowsSet]; omega
theorem rowsSet_disjoint {a b c d : ℕ} (h : b ≤ c) : Disjoint (rowsSet a b) (rowsSet c d) := by
  rw [Finset.disjoint_left]; intro j; simp only [mem_rowsSet]; omega
theorem rowsSet_all : rowsSet 0 640000 = Finset.univ := by
  ext j; simp only [mem_rowsSet, Finset.mem_univ, iff_true]; exact ⟨Nat.zero_le _, (j 0).isLt⟩
theorem rowsSet_self (a : ℕ) : rowsSet a a = ∅ := by
  ext j; simp only [mem_rowsSet, Finset.notMem_empty, iff_false]; omega

theorem set_outB (k : Fin 5000) : (outB k).view.set = rowsSet (128 * k.val) (128 * k.val + 128) := by
  show ((View.whole main_v0_scv).slice _).set = _
  rw [View.set_slice_whole]
  ext j
  rw [Rect.mem_set_unit, mem_rowsSet]
  have h1 : (j 1).val < 128 := (j 1).isLt
  constructor
  · intro h; exact h 0
  · intro h a
    match a with
    | 0 => exact h
    | 1 => exact ⟨Nat.zero_le _, by show (j 1).val < 0 + 128; omega⟩

theorem set_full {κ : Kind} {sp : Space} {s : Shape} {e : EltTy} (v : View sig κ sp s e) {off : Fin s.rank → ℕ} (h : off = fun _ => 0)
    (p : ∀ a, off a + s.size a ≤ s.size a) : (v.slice (Rect.unit off s.size p)).set = v.set := by
  subst h
  rw [View.set_slice, show (Rect.unit (fun _ => 0) s.size p).set = Finset.univ from Rect.set_whole s]; rfl

theorem zero2 : (![0, 0] : Fin 2 → ℕ) = fun _ => 0 := by funext a; match a with | 0 => rfl | 1 => rfl

theorem set_tblA : tblA.view.set = Finset.univ := (set_full tblV.view zero2 _).trans (View.set_whole _)
theorem set_listOf (s : Fin 2) : (listOf s).view.set = (slotI s).view.set := by
  show (View.reshape _ _ _).set = _
  rw [View.set_reshape]; exact set_full (slotI s).view zero2 _

theorem set_slotI (s : Fin 2) : (slotI s).view.set = (Rect.unit (s := S2x1x128) ![s.val, 0, 0] S1x1x128.size (slotI_inb s)).set := by
  show (View.reshape _ _ _).set = _
  rw [View.set_reshape]; exact View.set_slice_whole cc0_scoped0 _
theorem set_slotR (s : Fin 2) : (slotR s).view.set = (Rect.unit (s := S2x128x128) ![s.val, 0, 0] S1x128x128.size (slotR_inb s)).set := by
  show (View.reshape _ _ _).set = _
  rw [View.set_reshape]; exact View.set_slice_whole cc0_scoped2 _

theorem mem_slotI {s : Fin 2} {j : S2x1x128.Idx} : j ∈ (slotI s).view.set ↔ (j 0).val = s.val := by
  rw [set_slotI, Rect.mem_set_unit]
  have h1 : (j 1).val < 1 := (j 1).isLt
  have h2 : (j 2).val < 128 := (j 2).isLt
  constructor
  · intro h; have := h 0; simp at this; omega
  · intro h a
    match a with
    | 0 => exact ⟨by show s.val ≤ _; omega, by show _ < s.val + 1; omega⟩
    | 1 => exact ⟨Nat.zero_le _, by show _ < 0 + 1; omega⟩
    | 2 => exact ⟨Nat.zero_le _, by show _ < 0 + 128; omega⟩
theorem mem_slotR {s : Fin 2} {j : S2x128x128.Idx} : j ∈ (slotR s).view.set ↔ (j 0).val = s.val := by
  rw [set_slotR, Rect.mem_set_unit]
  have h1 : (j 1).val < 128 := (j 1).isLt
  have h2 : (j 2).val < 128 := (j 2).isLt
  constructor
  · intro h; have := h 0; simp at this; omega
  · intro h a
    match a with
    | 0 => exact ⟨by show s.val ≤ _; omega, by show _ < s.val + 1; omega⟩
    | 1 => exact ⟨Nat.zero_le _, by show _ < 0 + 128; omega⟩
    | 2 => exact ⟨Nat.zero_le _, by show _ < 0 + 128; omega⟩

theorem slotI_union : (slotI 0).view.set ∪ (slotI 1).view.set = (Finset.univ : Finset S2x1x128.Idx) := by
  refine Finset.eq_univ_of_forall fun j => Finset.mem_union.2 ?_
  have h0 : (j 0).val < 2 := (j 0).isLt
  by_cases h : (j 0).val = 0
  · exact Or.inl (mem_slotI.2 h)
  · exact Or.inr (mem_slotI.2 (by show (j 0).val = 1; omega))
theorem slotI_disjoint : Disjoint (slotI 0).view.set (slotI 1).view.set := by
  rw [Finset.disjoint_left]; intro j h h'
  have a := mem_slotI.1 h; have b := mem_slotI.1 h'
  rw [a] at b; exact absurd b (by decide)
theorem slotR_union : (slotR 0).view.set ∪ (slotR 1).view.set = (Finset.univ : Finset S2x128x128.Idx) := by
  refine Finset.eq_univ_of_forall fun j => Finset.mem_union.2 ?_
  have h0 : (j 0).val < 2 := (j 0).isLt
  by_cases h : (j 0).val = 0
  · exact Or.inl (mem_slotR.2 h)
  · exact Or.inr (mem_slotR.2 (by show (j 0).val = 1; omega))
theorem slotR_disjoint : Disjoint (slotR 0).view.set (slotR 1).view.set := by
  rw [Finset.disjoint_left]; intro j h h'
  have a := mem_slotR.1 h; have b := mem_slotR.1 h'
  rw [a] at b; exact absurd b (by decide)

/-! ## The values -/

/-- What the pipeline computes: row `r` of the result is the row of the table that index `r` names. -/
def G (tbl : S10000x128.Idx → Elt F .f32) (idx : S1x640000.Idx → Elt F .i32) : S640000x128.Idx → Elt F .f32 := fun j =>
  tbl (Shape.pair (d := ![10000, 128])
    ⟨BitVec.toNat (idx (Shape.pair (d := ![1, 640000]) (0 : Fin 1) (j 0))) % 10000, Nat.mod_lt _ (by decide)⟩ (j 1))

theorem idxB_emb (k : Fin 5000) (y : S1x128.Idx) :
    (idxB k).view.emb y = Shape.pair (d := ![1, 640000]) (0 : Fin 1) ⟨128 * k.val + (y 1).val, by have := k.isLt; have h : (y 1).val < 128 := (y 1).isLt; show _ < 640000; omega⟩ := by
  have h0 : (y 0).val < 1 := (y 0).isLt
  funext a
  apply Fin.ext
  match a with
  | 0 => show 0 + 1 * (y 0).val = 0; omega
  | 1 => show 128 * k.val + 1 * (y 1).val = 128 * k.val + (y 1).val; omega
theorem outB_emb (k : Fin 5000) (y : S128x128.Idx) :
    (outB k).view.emb y = Shape.pair (d := ![640000, 128]) ⟨128 * k.val + (y 0).val, by have := k.isLt; have h : (y 0).val < 128 := (y 0).isLt; show _ < 640000; omega⟩ (y 1) := by
  funext a
  apply Fin.ext
  match a with
  | 0 => show 128 * k.val + 1 * (y 0).val = 128 * k.val + (y 0).val; omega
  | 1 => show 0 + 1 * (y 1).val = (y 1).val; omega

/-- Slot `s` holds block `k` of the indices; slot `s` holds block `k` of the result. -/
def ListHolds (idx : S1x640000.Idx → Elt F .i32) (k : Fin 5000) (s : Fin 2) (f : S2x1x128.Idx → Elt F .i32) : Prop :=
  ∀ y : S1x128.Idx, f ((slotI s).view.emb y) = idx ((idxB k).view.emb y)
def RowsHold (tbl : S10000x128.Idx → Elt F .f32) (idx : S1x640000.Idx → Elt F .i32) (k : Fin 5000) (s : Fin 2)
    (f : S2x128x128.Idx → Elt F .f32) : Prop :=
  ∀ y : S128x128.Idx, f ((slotR s).view.emb y) = G tbl idx ((outB k).view.emb y)

theorem listOf_emb (s : Fin 2) (x : S128.Idx) : (listOf s).view.emb x = (slotI s).view.emb (Shape.pair (d := ![1, 128]) (0 : Fin 1) (x 0)) := by
  show (slotI s).view.emb ((Rect.unit (s := S1x128) ![0, 0] S1x128.size inb_S1x128_S1x128_0_0).emb (Shape.reshapeEquiv squeezes_S1x128_S128.numel_eq x)) = _
  congr 1
  have e : Shape.reshapeEquiv squeezes_S1x128_S128.numel_eq x = Fin.cons ⟨0, Nat.one_pos⟩ x := Shape.reshapeEquiv_cons_one (d := ![128]) _ x
  rw [e]
  funext a
  apply Fin.ext
  match a with
  | 0 => rfl
  | 1 => show 0 + 1 * (x 0).val = (x 0).val; omega

theorem list_read {idx : S1x640000.Idx → Elt F .i32} {k : Fin 5000} {s : Fin 2} {f : S2x1x128.Idx → Elt F .i32} (h : ListHolds idx k s f)
    (x : S128.Idx) : (listOf s).view.read (Elt F) f x = idx ((idxB k).view.emb (Shape.pair (d := ![1, 128]) (0 : Fin 1) (x 0))) := by
  rw [← h, ← listOf_emb]; rfl

theorem list_in {idx : S1x640000.Idx → Elt F .i32} (hin : ∀ j, BitVec.toNat (idx j) < 10000) {k : Fin 5000} {s : Fin 2}
    {f : S2x1x128.Idx → Elt F .i32} (h : ListHolds idx k s f) (x : S128.Idx) :
    BitVec.toNat ((listOf s).view.read (Elt F) f x) < S10000x128.size gathers_S10000x128_S128x128.axis := by
  rw [list_read h]; exact hin _

/-- The rows a full list names are block `k` of the result. -/
theorem payload_eq {tbl : S10000x128.Idx → Elt F .f32} {idx : S1x640000.Idx → Elt F .i32} (hin : ∀ j, BitVec.toNat (idx j) < 10000)
    {k : Fin 5000} {s : Fin 2} {f : S2x1x128.Idx → Elt F .i32} (h : ListHolds idx k s f) (hn : S128.numel = S128x128.size gathers_S10000x128_S128x128.axis')
    (y : S128x128.Idx) :
    SparseCore.gatherPayload gathers_S10000x128_S128x128 (tblA.view.read (Elt F) tbl)
      (SparseCore.rows ((listOf s).view.read (Elt F) f) hn (list_in hin h)) y = G tbl idx ((outB k).view.emb y) := by
  rw [outB_emb]
  show tbl (tblA.view.emb _) = tbl _
  congr 1
  funext a
  apply Fin.ext
  match a with
  | 0 =>
    show 0 + 1 * _ = _
    rw [Nat.zero_add, Nat.one_mul]
    refine (congrArg Fin.val (Shape.Gathers.idx_axis gathers_S10000x128_S128x128 _ y)).trans ?_
    show BitVec.toNat ((listOf s).view.read (Elt F) f _) = BitVec.toNat _ % 10000
    rw [Nat.mod_eq_of_lt (hin _), list_read h, idxB_emb]
    congr 2
    apply congrArg (Shape.pair (d := ![1, 640000]) (0 : Fin 1))
    apply Fin.ext
    show 128 * k.val + _ = 128 * k.val + _
    congr 1
    have := Shape.rowMajor_val_one (d := ![128]) ((S128.rowMajor).symm ((y 0).cast hn.symm))
    rw [Equiv.apply_symm_apply] at this
    exact this.symm
  | 1 =>
    show 0 + 1 * _ = (y 1).val
    rw [Nat.zero_add, Nat.one_mul]
    exact Shape.Gathers.idx_of_ne gathers_S10000x128_S128x128 _ y 1 (by decide)

end Cert.Proof.Slots

end
-- ==== Proof.Steps.lean ====
/- The five steps of the pipeline's trip — an index block's fetch and its wait, the gather of the rows it names, a row
   block's write-back and its wait — each with the values it moves, of any memrefs and semaphore equal to the slots and
   blocks of `Slots.lean`. -/
module

public import proofs.«01_k».proof.Proof.Slots

@[expose] public section

noncomputable section

namespace Cert.Proof.Steps

open Cert.KernelIdeal Cert.KernelIdeal.Gen Cert.Proof.Slots

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev tLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

/-! ## What the slots and the transfers hold -/

section

variable (d : Dev nD) (c : Fin τ.nSC) (w : Fin τ.nSub)

/-- A slot at some contents; holding a block. -/
def FreeI (s : Fin 2) : sProp 𝕄 := iprop(∃ f, (slotI s).view.loc (V d c w) ↦[(slotI s).view.set]{fullShare} f)
def FreeR (s : Fin 2) : sProp 𝕄 := iprop(∃ f, (slotR s).view.loc (V d c w) ↦[(slotR s).view.set]{fullShare} f)
def FullI (idx : S1x640000.Idx → Elt F .i32) (k : Fin 5000) (s : Fin 2) : sProp 𝕄 :=
  iprop(∃ f, ⌜ListHolds idx k s f⌝ ∗ (slotI s).view.loc (V d c w) ↦[(slotI s).view.set]{fullShare} f)
def FullR (tbl : S10000x128.Idx → Elt F .f32) (idx : S1x640000.Idx → Elt F .i32) (k : Fin 5000) (s : Fin 2) : sProp 𝕄 :=
  iprop(∃ f, ⌜RowsHold tbl idx k s f⌝ ∗ (slotR s).view.loc (V d c w) ↦[(slotR s).view.set]{fullShare} f)

abbrev NI (s : Fin 2) : ℕ := (slotI s).view.dmaCredit
abbrev NR (s : Fin 2) : ℕ := (slotR s).view.dmaCredit
abbrev NO (k : Fin 5000) : ℕ := (outB k).view.dmaCredit
abbrev gS : DmaSem sig := cc0_scoped4.sem

/-- Block `k` of the indices on its way into slot `s`, the rest of the lent share of the indices kept beside. -/
def InFlI (idx : S1x640000.Idx → Elt F .i32) (k : Fin 5000) (q : PosShare TreeShare) (s : Fin 2) : sProp 𝕄 :=
  iprop(Transfers.Flight countersEmb (V d c w) (.dma (semI s)) (default : HIx 1) (NI s)
      iprop(FullI d c w idx k s ∗ (iLoc d ↦[(idxB k).view.set]{q} idx))
    ∗ (iLoc d ↦[Finset.univ \ (idxB k).view.set]{q} idx))
/-- Slot `s` on its way into block `k` of the result. -/
def InFlO (tbl : S10000x128.Idx → Elt F .f32) (idx : S1x640000.Idx → Elt F .i32) (k : Fin 5000) (s : Fin 2) : sProp 𝕄 :=
  Transfers.Flight countersEmb (V d c w) (.dma (semO s)) (default : HIx 1) (NO k)
      iprop((oLoc d ↦[rowsSet (128 * k.val) (128 * k.val + 128)]{fullShare} G tbl idx) ∗ FreeR d c w s)

variable [FloatOps F] {α : Type}

theorem fetch {s : Fin 2} {k : Fin 5000} {q : PosShare TreeShare} {idx : S1x640000.Idx → Elt F .i32}
    {src : Memref sig .scVector .hbm S1x128 .i32} {dst : Memref sig .scVector .vmem S1x128 .i32} {sm : DmaSem sig}
    (hs : src = idxB k) (hd : dst = slotI s) (hm : sm = semI s)
    {hsrc : src.view.WordExact} {hdst : (DmaTarget.here (nD := nD) (τ := τ) (p := .scVector c w) dst).view.WordExact}
    {hsem : DmaTarget.Typed (nD := nD) (τ := τ) (p := .scVector c w) Space.hbm (.dma sm) (.here dst)}
    {kont : PUnit → Prog (TpuEff nD τ sig (Elt F) Λ₀ (.scVector c w)) α} {Q : α → sProp 𝕄} :
    iprop(FreeI d c w s ∗ (iLoc d ↦{q} idx) ∗ semVal (V d c w, .dma (semI s)) 0)
      ⊢ iprop((InFlI d c w idx k q s -∗ wp frame (wpE (defs₀ (F := F)) 𝒱₀ (V d c w) none) Set.univ (kont ⟨⟩) Q)
          -∗ wp frame (wpE (defs₀ (F := F)) 𝒱₀ (V d c w) none) Set.univ (.op (.enqueueDmaAs src (.here dst) .same (.dma sm) hsrc hdst hsem) kont) Q) := by
  subst hs hd hm
  unfold FreeI
  iintro ⟨⟨%f, Hf⟩, Hi, Hv⟩ Hk
  ihave Hi' := (pointsTo_split_subset (q := q) (f := idx) (S := Finset.univ) (Finset.subset_univ (idxB k).view.set)).1 $$ Hi
  icases Hi' with ⟨Hib, Hir⟩
  iapply (Transfers.wp_dmaLocal countersEmb 𝒱₀ (V d c w) none (src := idxB k) (dst := slotI s) (fs := idx) (default : HIx 1) (NI s) rfl (View.dmaCredit_pos _ (by decide)) (Finset.Subset.refl _)) $$ [Hf Hib Hv]
  · isplitl [Hib]; · iexact Hib
    isplitl [Hf]; · iexact Hf
    iexact Hv
  iintro Hfl
  iapply Hk
  unfold InFlI
  isplitl [Hfl]
  · iapply (Transfers.Flight_mono countersEmb ?_) $$ Hfl
    iintro ⟨Hd, Hs⟩
    isplitl [Hd]
    · unfold FullI
      iexists _
      isplitr
      swap; · iexact Hd
      ipureintro
      intro y
      exact (View.write_emb_of_mem _ _ (Finset.mem_univ y)).trans rfl
    · iexact Hs
  · iexact Hir

theorem fetchWait {s : Fin 2} {k : Fin 5000} {q : PosShare TreeShare} {idx : S1x640000.Idx → Elt F .i32}
    {src : Memref sig .scVector .hbm S1x128 .i32} {dst : Memref sig .scVector .vmem S1x128 .i32} {sm : DmaSem sig}
    (hd : dst = slotI s) (hm : sm = semI s)
    {hsrc : src.view.WordExact} {hdst : dst.view.WordExact} {O : CellTallies nD τ sig (HIx 1)} {W : Waits sig (HIx 1)}
    {kont : PUnit → Prog (TpuEff nD τ sig (Elt F) Λ₀ (.scVector c w)) α} {Q : α → sProp 𝕄} :
    iprop(InFlI d c w idx k q s ∗ owes (V d c w) O W ∗ Transfers.MayWaits (V d c w) (default : HIx 1) O)
      ⊢ iprop((iprop(FullI d c w idx k s ∗ (iLoc d ↦{q} idx) ∗ semVal (V d c w, .dma (semI s)) 0
            ∗ owes (V d c w) O (insert (SemLoc.dma (semI s), default) W)) -∗ wp frame (wpE (defs₀ (F := F)) 𝒱₀ (V d c w) none) Set.univ (kont ⟨⟩) Q)
          -∗ wp frame (wpE (defs₀ (F := F)) 𝒱₀ (V d c w) none) Set.univ (.op (.waitDma2 sm src dst hsrc hdst) kont) Q) := by
  subst hd hm
  unfold InFlI
  iintro ⟨⟨Hfl, Hr⟩, HO, Hmw⟩ Hk
  iapply (Transfers.wp_waitLocalO countersEmb 𝒱₀ (V d c w) none (default : HIx 1) (rfl : (slotI s).view.dmaCredit = NI s)) $$ [Hfl HO Hmw]
  · isplitl [Hfl]; · iexact Hfl
    isplitl [HO]; · iexact HO
    iapply (Transfers.MayWaits.elim (SemLoc.dma (semI s))) $$ Hmw
  iintro ⟨⟨Hf, Hb⟩, Hv, HO⟩
  iapply Hk
  isplitl [Hf]; · iexact Hf
  isplitl [Hb Hr]
  · iapply (pointsTo_split_subset (q := q) (f := idx) (S := Finset.univ) (Finset.subset_univ (idxB k).view.set)).2 $$ [Hb Hr]
    isplitl [Hb] <;> iassumption
  isplitl [Hv] <;> iassumption

/-- The gather of the rows the list of slot `s` names into slot `s'`, on its way. -/
def InFlG (tbl : S10000x128.Idx → Elt F .f32) (idx : S1x640000.Idx → Elt F .i32) (k : Fin 5000) (q : PosShare TreeShare) (s s' : Fin 2) : sProp 𝕄 :=
  Transfers.Flight countersEmb (V d c w) (.dma gS) (default : HIx 1) (NR s')
      iprop(FullR d c w tbl idx k s' ∗ (tLoc d ↦{q} tbl) ∗ FreeI d c w s)

theorem credit_rows (s : Fin 2) (h : S10000x128.Gathers 0 S128x128) :
    ∑ j, ((slotR s).slice (S128x128.rowRect h.axis' j) (S128x128.stride_rowRect h.axis' j)).view.dmaCredit = NR s := by
  have key : ∀ s : Fin 2, ∑ j, ((slotR s).slice (S128x128.rowRect gathers_S10000x128_S128x128.axis' j)
      (S128x128.stride_rowRect gathers_S10000x128_S128x128.axis' j)).view.dmaCredit = NR s := by decide
  exact key s

theorem gather {s s' : Fin 2} {k : Fin 5000} {q : PosShare TreeShare} {tbl : S10000x128.Idx → Elt F .f32} {idx : S1x640000.Idx → Elt F .i32}
    (hin : ∀ j, BitVec.toNat (idx j) < 10000)
    {src : Memref sig .scVector .hbm S10000x128 .f32} {dst : Memref sig .scVector .vmem S128x128 .f32} {offs : Memref sig .scVector .vmem S128 .i32}
    {sm : DmaSem sig} (hs : src = tblA) (hd : dst = slotR s') (ho : offs = listOf s) (hm : sm = gS)
    {hp : (Proc.scVector c w : Proc τ).kind = .scVector} {hn : S128.numel = S128x128.size gathers_S10000x128_S128x128.axis'}
    {hsrc : src.view.WordExact} {he : EltTy.f32.bits = 32} {hsp : Space.hbm = .hbm ∨ Space.hbm = .shared} {hr : S10000x128.StreamRows 0}
    {kont : PUnit → Prog (TpuEff nD τ sig (Elt F) Λ₀ (.scVector c w)) α} {Q : α → sProp 𝕄} :
    iprop(FullI d c w idx k s ∗ (tLoc d ↦{q} tbl) ∗ FreeR d c w s' ∗ semVal (V d c w, .dma gS) 0)
      ⊢ iprop((InFlG d c w tbl idx k q s s' -∗ wp frame (wpE (defs₀ (F := F)) 𝒱₀ (V d c w) none) Set.univ (kont ⟨⟩) Q)
          -∗ wp frame (wpE (defs₀ (F := F)) 𝒱₀ (V d c w) none) Set.univ
            (SparseCore.enqueueIndirectGather hp src dst gathers_S10000x128_S128x128 offs hn sm hsrc he hsp hr >>= kont) Q) := by
  subst hs hd ho hm
  unfold FullI FreeR
  iintro ⟨⟨%f, %hf, Hf⟩, Ht, ⟨%g, Hg⟩, Hv⟩ Hk
  iapply (SparseCore.wp_indirectGatherLocal countersEmb 𝒱₀ (V d c w) none (src := tblA) (dst := slotR s') (offs := listOf s) (fs := tbl) (fd := g) (fo := f)
    (hg := gathers_S10000x128_S128x128) (hn := hn) (q := q) (qo := fullShare) (default : HIx 1)
    (NR s') (credit_rows s' _) (by decide) (list_in hin hf)) $$ [Hf Ht Hg Hv]
  · isplitl [Ht]; · rw [set_tblA]; iexact Ht
    isplitl [Hg]; · iexact Hg
    isplitl [Hf]; · rw [set_listOf]; iexact Hf
    iexact Hv
  iintro Hfl
  iapply Hk
  unfold InFlG
  iapply (Transfers.Flight_mono countersEmb ?_) $$ Hfl
  iintro ⟨Hd, Hs, Ho⟩
  isplitl [Hd]
  · unfold FullR
    iexists _
    isplitr
    swap; · iexact Hd
    ipureintro
    intro y
    exact ((View.write_emb_of_mem _ _ (Finset.mem_univ y)).trans rfl).trans (payload_eq hin hf hn y)
  isplitl [Hs]
  · rw [set_tblA]; iexact Hs
  · unfold FreeI
    iexists f
    rw [set_listOf]; iexact Ho

theorem gatherWait {s s' : Fin 2} {k : Fin 5000} {q : PosShare TreeShare} {tbl : S10000x128.Idx → Elt F .f32} {idx : S1x640000.Idx → Elt F .i32}
    {src : Memref sig .scVector .hbm S10000x128 .f32} {dst : Memref sig .scVector .vmem S128x128 .f32} {sm : DmaSem sig}
    (hd : dst = slotR s') (hm : sm = gS)
    {hsrc : src.view.WordExact} {hdst : dst.view.WordExact} {O : CellTallies nD τ sig (HIx 1)} {W : Waits sig (HIx 1)}
    {kont : PUnit → Prog (TpuEff nD τ sig (Elt F) Λ₀ (.scVector c w)) α} {Q : α → sProp 𝕄} :
    iprop(InFlG d c w tbl idx k q s s' ∗ owes (V d c w) O W ∗ Transfers.MayWaits (V d c w) (default : HIx 1) O)
      ⊢ iprop((iprop(FullR d c w tbl idx k s' ∗ (tLoc d ↦{q} tbl) ∗ FreeI d c w s ∗ semVal (V d c w, .dma gS) 0
            ∗ owes (V d c w) O (insert (SemLoc.dma gS, default) W)) -∗ wp frame (wpE (defs₀ (F := F)) 𝒱₀ (V d c w) none) Set.univ (kont ⟨⟩) Q)
          -∗ wp frame (wpE (defs₀ (F := F)) 𝒱₀ (V d c w) none) Set.univ (.op (.waitDma2 sm src dst hsrc hdst) kont) Q) := by
  subst hd hm
  unfold InFlG
  iintro ⟨Hfl, HO, Hmw⟩ Hk
  iapply (Transfers.wp_waitLocalO countersEmb 𝒱₀ (V d c w) none (default : HIx 1) (rfl : (slotR s').view.dmaCredit = NR s')) $$ [Hfl HO Hmw]
  · isplitl [Hfl]; · iexact Hfl
    isplitl [HO]; · iexact HO
    iapply (Transfers.MayWaits.elim (SemLoc.dma gS)) $$ Hmw
  iintro ⟨⟨Hf, Ht, Hi⟩, Hv, HO⟩
  iapply Hk
  isplitl [Hf]; · iexact Hf
  isplitl [Ht]; · iexact Ht
  isplitl [Hi]; · iexact Hi
  isplitl [Hv] <;> iassumption

theorem store {s : Fin 2} {k : Fin 5000} {tbl : S10000x128.Idx → Elt F .f32} {idx : S1x640000.Idx → Elt F .i32} {f₀ : S640000x128.Idx → Elt F .f32}
    {src : Memref sig .scVector .vmem S128x128 .f32} {dst : Memref sig .scVector .hbm S128x128 .f32} {sm : DmaSem sig}
    (hs : src = slotR s) (hd : dst = outB k) (hm : sm = semO s)
    {hsrc : src.view.WordExact} {hdst : (DmaTarget.here (nD := nD) (τ := τ) (p := .scVector c w) dst).view.WordExact}
    {hsem : DmaTarget.Typed (nD := nD) (τ := τ) (p := .scVector c w) Space.vmem (.dma sm) (.here dst)}
    {kont : PUnit → Prog (TpuEff nD τ sig (Elt F) Λ₀ (.scVector c w)) α} {Q : α → sProp 𝕄} :
    iprop(FullR d c w tbl idx k s ∗ (oLoc d ↦[rowsSet (128 * k.val) (128 * k.val + 128)]{fullShare} f₀) ∗ semVal (V d c w, .dma (semO s)) 0)
      ⊢ iprop((InFlO d c w tbl idx k s -∗ wp frame (wpE (defs₀ (F := F)) 𝒱₀ (V d c w) none) Set.univ (kont ⟨⟩) Q)
          -∗ wp frame (wpE (defs₀ (F := F)) 𝒱₀ (V d c w) none) Set.univ (.op (.enqueueDmaAs src (.here dst) .same (.dma sm) hsrc hdst hsem) kont) Q) := by
  subst hs hd hm
  unfold FullR
  iintro ⟨⟨%f, %hf, Hf⟩, Ho, Hv⟩ Hk
  iapply (Transfers.wp_dmaLocal countersEmb 𝒱₀ (V d c w) none (src := slotR s) (dst := outB k) (fs := f) (fd := f₀) (default : HIx 1) (NO k) rfl
    (View.dmaCredit_pos _ (by decide)) (Finset.Subset.refl _)) $$ [Hf Ho Hv]
  · isplitl [Hf]; · iexact Hf
    isplitl [Ho]; · rw [set_outB]; iexact Ho
    iexact Hv
  iintro Hfl
  iapply Hk
  unfold InFlO
  iapply (Transfers.Flight_mono countersEmb ?_) $$ Hfl
  iintro ⟨Hd, Hs⟩
  isplitl [Hd]
  · rw [← set_outB]
    iapply (Entails.of_eq (pointsTo_congr (ℓ := oLoc d) (I := (outB k).view.set) (q := fullShare) ?_)) $$ Hd
    intro i hi
    obtain ⟨y, -, rfl⟩ := Finset.mem_map.1 hi
    exact ((View.write_emb_of_mem _ _ (Finset.mem_univ y)).trans rfl).trans (hf y)
  · unfold FreeR
    iexists _; iexact Hs

theorem storeWait {s : Fin 2} {k : Fin 5000} {tbl : S10000x128.Idx → Elt F .f32} {idx : S1x640000.Idx → Elt F .i32}
    {src : Memref sig .scVector .vmem S128x128 .f32} {dst : Memref sig .scVector .hbm S128x128 .f32} {sm : DmaSem sig}
    (hd : dst = outB k) (hm : sm = semO s)
    {hsrc : src.view.WordExact} {hdst : dst.view.WordExact} {O : CellTallies nD τ sig (HIx 1)} {W : Waits sig (HIx 1)}
    {kont : PUnit → Prog (TpuEff nD τ sig (Elt F) Λ₀ (.scVector c w)) α} {Q : α → sProp 𝕄} :
    iprop(InFlO d c w tbl idx k s ∗ owes (V d c w) O W ∗ Transfers.MayWaits (V d c w) (default : HIx 1) O)
      ⊢ iprop((iprop((oLoc d ↦[rowsSet (128 * k.val) (128 * k.val + 128)]{fullShare} G tbl idx) ∗ FreeR d c w s ∗ semVal (V d c w, .dma (semO s)) 0
            ∗ owes (V d c w) O (insert (SemLoc.dma (semO s), default) W)) -∗ wp frame (wpE (defs₀ (F := F)) 𝒱₀ (V d c w) none) Set.univ (kont ⟨⟩) Q)
          -∗ wp frame (wpE (defs₀ (F := F)) 𝒱₀ (V d c w) none) Set.univ (.op (.waitDma2 sm src dst hsrc hdst) kont) Q) := by
  subst hd hm
  unfold InFlO
  iintro ⟨Hfl, HO, Hmw⟩ Hk
  iapply (Transfers.wp_waitLocalO countersEmb 𝒱₀ (V d c w) none (default : HIx 1) (rfl : (outB k).view.dmaCredit = NO k)) $$ [Hfl HO Hmw]
  · isplitl [Hfl]; · iexact Hfl
    isplitl [HO]; · iexact HO
    iapply (Transfers.MayWaits.elim (SemLoc.dma (semO s))) $$ Hmw
  iintro ⟨⟨Ho, Hr⟩, Hv, HO⟩
  iapply Hk
  isplitl [Ho]; · iexact Ho
  isplitl [Hr]; · iexact Hr
  isplitl [Hv] <;> iassumption

end

end Cert.Proof.Steps

end
-- ==== Proof.Carries.lean ====
/- One trip's change of the five counters the pipeline's loop carries, and the offsets that are a counter modulo two. -/
module

public import proofs.«01_k».proof.Proof.Words

@[expose] public section

set_option maxRecDepth 16384

noncomputable section

namespace Cert.Proof.Words

open Cert.KernelIdeal Cert.KernelIdeal.Gen Idealize.ShloMosaic

/-- The loop's counter, and the three block numbers a trip compares, as the program computes them. -/
abbrev ivT (i : grid0.Coords) (t : Fin (k0_t1_loop i).trips) : BitVec 32 := Scf.iv 0#32 1#32 t
abbrev nbW (i : grid0.Coords) : BitVec 32 := BitVec.ofNat 32 (nb i)
abbrev bbW (i : grid0.Coords) : BitVec 32 := BitVec.ofNat 32 (bb i)
abbrev curW (i : grid0.Coords) (t : ℕ) : BitVec 32 := Scalar.addi (c10 i t) (bbW i)
abbrev prevW (i : grid0.Coords) (t : ℕ) : BitVec 32 :=
  Scalar.addi (Scalar.select (Scalar.cmpi .eq (Scalar.select 1#1 (Scalar.subi (c10 i t) 1#32) (c10 i t)) 4294967295#32)
    (Scalar.subi (nbW i) 1#32) (Scalar.select 1#1 (Scalar.subi (c10 i t) 1#32) (c10 i t))) (bbW i)
abbrev nextW (i : grid0.Coords) (t : ℕ) : BitVec 32 :=
  Scalar.addi (Scalar.select (Scalar.cmpi .eq (Scalar.select 1#1 (Scalar.addi (c10 i t) 1#32) (c10 i t)) (nbW i)) 0#32
    (Scalar.select 1#1 (Scalar.addi (c10 i t) 1#32) (c10 i t))) (bbW i)
abbrev lastW (i : grid0.Coords) (t : Fin (k0_t1_loop i).trips) : BitVec 1 :=
  Scalar.cmpi .eq (ivT i t) (Scalar.subi (Scalar.muli 1#32 (nbW i)) 1#32)

theorem step6 : ∀ i : grid0.Coords, ∀ t : Fin (k0_t1_loop i).trips,
    Scalar.select (Scalar.andi (Scalar.andi (Scalar.cmpi .ne (curW i t) (nextW i t))
      (Scalar.xori (Scalar.cmpi .sge (ivT i t) (Scalar.addi (Scalar.subi (Scalar.muli 1#32 (nbW i)) 2#32) 1#32)) 1#1)) 1#1)
      (Scalar.addi (c6 i t) 1#32) (c6 i t) = c6 i (t.val + 1) := by decide +kernel
theorem step7 : ∀ i : grid0.Coords, ∀ t : Fin (k0_t1_loop i).trips,
    Scalar.select (Scalar.ori (Scalar.cmpi .ne (curW i t) (nextW i t)) (lastW i t)) (Scalar.addi (c7 t) 1#32) (c7 t) = c7 (t.val + 1) := by
  decide +kernel
theorem step8 : ∀ i : grid0.Coords, ∀ t : Fin (k0_t1_loop i).trips,
    Scalar.select (Scalar.andi (Scalar.ori (Scalar.cmpi .ne (curW i t) (nextW i t)) (lastW i t)) 1#1) (Scalar.addi (c7 t) 1#32) (c7 t)
      = c7 (t.val + 1) := by decide +kernel
theorem step9 : ∀ i : grid0.Coords, ∀ t : Fin (k0_t1_loop i).trips,
    Scalar.select (Scalar.andi (Scalar.andi (Scalar.cmpi .ne (curW i t) (prevW i t)) (Scalar.xori (Scalar.cmpi .eq (ivT i t) 0#32) 1#1)) 1#1)
      (Scalar.addi (c9 t) 1#32) (c9 t) = c9 (t.val + 1) := by decide +kernel
theorem step10 : ∀ i : grid0.Coords, ∀ t : Fin (k0_t1_loop i).trips,
    Scalar.select (Scalar.cmpi .eq (Scalar.select 1#1 (Scalar.addi (c10 i t) 1#32) (c10 i t)) (nbW i)) 0#32
      (Scalar.select 1#1 (Scalar.addi (c10 i t) 1#32) (c10 i t)) = c10 i (t.val + 1) := by decide +kernel

end Cert.Proof.Words

end
-- ==== Proof.Trip.lean ====
/- One trip of the pipeline's loop: what the loop holds before a trip, and that a trip keeps it. -/
module

public import proofs.«01_k».proof.Proof.Steps
public import proofs.«01_k».proof.Proof.Carries
public import Idealize.ShloMosaic.Lib.Ring.Trips

@[expose] public section

noncomputable section

namespace Cert.Proof.Trip

open Cert.KernelIdeal Cert.KernelIdeal.Gen Cert.Proof.Slots Cert.Proof.Steps Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The offsets that are a counter modulo two -/

theorem off4 {p : ℕ} (hp : p < 2 ^ 32) : k0_off4 (BitVec.ofNat 32 p) = ![(Ring.sl 2 p).val, 0, 0] := by
  unfold k0_off4; simp only [rem_two p hp, Ring.sl_val]
theorem off6 {p : ℕ} (hp : p < 2 ^ 32) : k0_off6 (BitVec.ofNat 32 p) = ![(Ring.sl 2 p).val] := by
  unfold k0_off6; simp only [rem_two p hp, Ring.sl_val]
theorem off7 {p : ℕ} (hp : p < 2 ^ 32) : k0_off7 (BitVec.ofNat 32 p) = ![(Ring.sl 2 p).val, 0, 0] := by
  unfold k0_off7; simp only [rem_two p hp, Ring.sl_val]
theorem off9 {p : ℕ} (hp : p < 2 ^ 32) : k0_off9 (BitVec.ofNat 32 p) = ![(Ring.sl 2 p).val] := by
  unfold k0_off9; simp only [rem_two p hp, Ring.sl_val]
theorem off10 {p : ℕ} (hp : p < 2 ^ 32) : k0_off10 (BitVec.ofNat 32 p) = ![(Ring.sl 2 p).val, 0, 0] := by
  unfold k0_off10; simp only [rem_two p hp, Ring.sl_val]
theorem off11 {p : ℕ} (hp : p < 2 ^ 32) : k0_off11 (BitVec.ofNat 32 p) = ![(Ring.sl 2 p).val, 0, 0] := by
  unfold k0_off11; simp only [rem_two p hp, Ring.sl_val]
theorem off12 {p : ℕ} (hp : p < 2 ^ 32) : k0_off12 (BitVec.ofNat 32 p) = ![(Ring.sl 2 p).val, 0, 0] := by
  unfold k0_off12; simp only [rem_two p hp, Ring.sl_val]
theorem off14 {p : ℕ} (hp : p < 2 ^ 32) : k0_off14 (BitVec.ofNat 32 p) = ![(Ring.sl 2 p).val] := by
  unfold k0_off14; simp only [rem_two p hp, Ring.sl_val]
theorem off17 {p : ℕ} (hp : p < 2 ^ 32) : k0_off17 (BitVec.ofNat 32 p) = ![(Ring.sl 2 p).val] := by
  unfold k0_off17; simp only [rem_two p hp, Ring.sl_val]
theorem off34 {p : ℕ} (hp : p < 2 ^ 32) : k0_off34 (BitVec.ofNat 32 p) = ![(Ring.sl 2 p).val] := by
  unfold k0_off34; simp only [rem_two p hp, Ring.sl_val]
theorem off1 : k0_off1 = ![(Ring.sl 2 0).val, 0, 0] := by decide
theorem off3 : k0_off3 = ![(Ring.sl 2 0).val] := by decide

/-! ## What the loop holds before trip `t` -/

section

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)
/-- Block `t` of tile `L`'s. -/
abbrev blk (L : grid0.Coords) (t : ℕ) : Fin 5000 := Ring.bk 5000 (bb L + t)

theorem nb_le : ∀ L : grid0.Coords, bb L + nb L ≤ 5000 := by decide +kernel
theorem nb_pos : ∀ L : grid0.Coords, 0 < nb L := by decide +kernel
theorem blk_val {L : grid0.Coords} {t : ℕ} (h : t < nb L) : (blk L t).val = bb L + t := Ring.bk_val (by have := nb_le L; omega)

variable (tbl : S10000x128.Idx → Elt F .f32) (idx : S1x640000.Idx → Elt F .i32) (f₀ : S640000x128.Idx → Elt F .f32)
  (qT : PosShare TreeShare) (q : Fin 2 → PosShare TreeShare)

/-- Slot `s` free: at some contents, its share of the indices beside it, its semaphore at zero. -/
def IdleI (s : Fin 2) : sProp 𝕄 := iprop(FreeI d (cV L) (jV L) s ∗ (iLoc d ↦{q s} idx) ∗ semVal (thr d L, .dma (semI s)) 0)
def IdleO (s : Fin 2) : sProp 𝕄 := iprop(FreeR d (cV L) (jV L) s ∗ semVal (thr d L, .dma (semO s)) 0)
/-- The slot block `t` lands in, and the slot block `t` leaves from one trip later. -/
def curI (t : ℕ) : sProp 𝕄 :=
  if t < nb L then InFlI d (cV L) (jV L) idx (blk L t) (q (Ring.sl 2 t)) (Ring.sl 2 t) else IdleI d L idx q (Ring.sl 2 t)
def preO (t : ℕ) : sProp 𝕄 :=
  if 0 < t then InFlO d (cV L) (jV L) tbl idx (blk L (t - 1)) (Ring.sl 2 (t + 1)) else IdleO d L (Ring.sl 2 (t + 1))
theorem preO_pos {t : ℕ} (h : 0 < t) : preO d L tbl idx t = InFlO d (cV L) (jV L) tbl idx (blk L (t - 1)) (Ring.sl 2 (t + 1)) := if_pos h
theorem preO_zero {t : ℕ} (h : ¬ 0 < t) : preO d L tbl idx t = IdleO d L (Ring.sl 2 (t + 1)) := if_neg h
theorem preO_succ (t : ℕ) : preO d L tbl idx (t + 1) = InFlO d (cV L) (jV L) tbl idx (blk L t) (Ring.sl 2 t) := by
  rw [preO_pos d L tbl idx (Nat.succ_pos t)]
  show InFlO d (cV L) (jV L) tbl idx (blk L t) (Ring.sl 2 (t + 1 + 1)) = _
  rw [show Ring.sl 2 (t + 1 + 1) = Ring.sl 2 t from Ring.sl_add 2 t]
def owing (O : CellTallies nD τ sig (HIx 1)) (W : Waits sig (HIx 1)) : sProp 𝕄 :=
  iprop(∃ W', ⌜∀ p ∈ W', p ∈ W ∨ p.2 = none⌝ ∗ owes (thr d L) O W')

theorem owing_intro {O : CellTallies nD τ sig (HIx 1)} {W W' : Waits sig (HIx 1)} (h : ∀ p ∈ W', p ∈ W ∨ p.2 = none) {sm : SemLoc sig} :
    (owes (thr d L) O (insert (sm, (default : HIx 1)) W') : sProp 𝕄) ⊢ owing (F := F) d L O W := by
  unfold owing
  iintro H
  iexists _
  isplitr
  swap; · iexact H
  ipureintro
  intro p hp
  rcases Finset.mem_insert.mp hp with hp | hp
  · exact .inr (hp ▸ rfl)
  · exact h p hp

theorem rows_split {a b e : ℕ} (h : a ≤ b) (h' : b ≤ e) (f : S640000x128.Idx → Elt F .f32) :
    (oLoc d ↦[rowsSet a e]{fullShare} f : sProp 𝕄) ⊣⊢ iprop((oLoc d ↦[rowsSet a b]{fullShare} f) ∗ oLoc d ↦[rowsSet b e]{fullShare} f) := by
  rw [rowsSet_union h h']
  exact pointsTo_union (rowsSet_disjoint (le_refl _))

abbrev Carry : Type := BitVec 32 × BitVec 32 × BitVec 32 × BitVec 32 × BitVec 32
abbrev carry (L : grid0.Coords) (t : ℕ) : Carry := (c6 L t, c7 t, c7 t, c9 t, c10 L t)

def inv (O : CellTallies nD τ sig (HIx 1)) (W : Waits sig (HIx 1)) (t : ℕ) : sProp 𝕄 :=
  iprop(curI d L idx q t ∗ IdleI d L idx q (Ring.sl 2 (t + 1)) ∗ IdleO d L (Ring.sl 2 t) ∗ preO d L tbl idx t
    ∗ (oLoc d ↦[rowsSet (128 * bb L) (128 * (bb L + (t - 1)))]{fullShare} G tbl idx)
    ∗ (oLoc d ↦[rowsSet (128 * (bb L + t)) (128 * (bb L + nb L))]{fullShare} f₀)
    ∗ (tLoc d ↦{qT} tbl) ∗ semVal (thr d L, .dma gS) 0 ∗ owing d L O W)

variable [FloatOps F]

set_option maxHeartbeats 4000000 in
/-- The first part of a trip: block `t + 1` of the indices set on its way, if there is one. -/
theorem part1_wp (h1 : k0_cond1 L = 1#1) (t : Fin (k0_t1_loop L).trips)
    {Q : _ → sProp 𝕄} :
    iprop(IdleI d L idx q (Ring.sl 2 (t.val + 1)))
      ⊢ iprop((∀ r, ⌜r = ⟨chk3 L t, chk2 L t, chk1 L t, ivT L t, Scalar.muli 1#32 (nbW L), Scalar.cmpi .eq (ivT L t) 0#32, lastW L t,
            curW L t, prevW L t, nextW L t, c6 L (t.val + 1), Scalar.cmpi .ne (curW L t) (nextW L t), 2#32⟩⌝ -∗ curI d L idx q (t.val + 1) -∗ Q r)
        -∗ wp frame (wpE (defs₀ (F := F)) 𝒱₀ (thr d L) none) Set.univ
        (k0_part1 L tblV (Memref.isWhole_whole _) idxV (Memref.isWhole_whole _) outV (Memref.isWhole_whole _) iV (Memref.isWhole_whole _) cc0_scoped1
          rV (Memref.isWhole_whole _) cc0_scoped3 cc0_scoped4 cc0_scoped5 (nbW L) (bbW L) h1 0#32 1#32 t (c6 L t) (c7 t) (c7 t) (c9 t) (c10 L t)) Q) := by
  have ht : t.val < nb L := (trips_eq L) ▸ t.isLt
  have hk1 := chk1 L t
  have hk2 := chk2 L t
  have hk3 := chk3 L t
  rw [← step6 L t]
  simp only [k0_part1_eq_skeleton]
  unfold k0_part1_skel
  iintro HI HQ
  by_cases hn : t.val + 1 < nb L
  · have hc : k0_cond3 L t (c10 L t) = 1#1 := (cond3 L t).trans (if_pos hn)
    have h32 : t.val + 1 < 2 ^ 32 := by have := nb_le L; omega
    have e6 : c6 L t.val = BitVec.ofNat 32 (t.val + 1) := by show BitVec.ofNat 32 (min _ _) = _; rw [Nat.min_eq_left (by omega)]
    sl_exec
    unfold IdleI
    iapply (fetch d (cV L) (jV L) (s := Ring.sl 2 (t.val + 1)) (k := blk L (t.val + 1)) (idx := idx) (q := q (Ring.sl 2 (t.val + 1)))
      (idxB_of (by rw [off5 L t hn, blk_val hn]) _) (slotI_of (by rw [e6, off4 h32]) _) (semI_of (by rw [e6, off6 h32]) _)) $$ HI
    iintro HF
    sl_exec
    sl_step
    unfold curI
    rw [if_pos hn]
    iapply HQ $$ %_ [] HF
    ipureintro
    rfl
  · have hc : ¬ k0_cond3 L t (c10 L t) = 1#1 := by rw [cond3 L t, if_neg hn]; decide
    sl_exec
    sl_step
    unfold curI
    rw [if_neg hn]
    iapply HQ $$ %_ [] HI
    ipureintro
    rfl

set_option maxHeartbeats 4000000 in
/-- The second part: block `t` of the indices waited for, and the rows it names gathered. -/
theorem part2_wp (hin : ∀ j, BitVec.toNat (idx j) < 10000) (O : CellTallies nD τ sig (HIx 1)) (W : Waits sig (HIx 1))
    (h1 : k0_cond1 L = 1#1) (t : Fin (k0_t1_loop L).trips) (a5 v80 : BitVec 32) (v81 : BitVec 1) (v84 v90 : BitVec 32) (v113 : BitVec 1) (z : BitVec 32)
    {Q : PUnit → sProp 𝕄} :
    iprop(curI d L idx q t ∗ IdleO d L (Ring.sl 2 t) ∗ (tLoc d ↦{qT} tbl) ∗ semVal (thr d L, .dma gS) 0 ∗ owing d L O W
        ∗ Transfers.MayWaits (thr d L) (default : HIx 1) O)
      ⊢ iprop((iprop(IdleI d L idx q (Ring.sl 2 t) ∗ FullR d (cV L) (jV L) tbl idx (blk L t) (Ring.sl 2 t) ∗ semVal (thr d L, .dma (semO (Ring.sl 2 t))) 0
            ∗ (tLoc d ↦{qT} tbl) ∗ semVal (thr d L, .dma gS) 0 ∗ owing d L O W) -∗ Q ⟨⟩)
        -∗ wp frame (wpE (defs₀ (F := F)) 𝒱₀ (thr d L) none) Set.univ
        (k0_part2 L tblV (Memref.isWhole_whole _) idxV (Memref.isWhole_whole _) outV (Memref.isWhole_whole _) iV (Memref.isWhole_whole _) cc0_scoped1
          rV (Memref.isWhole_whole _) cc0_scoped3 cc0_scoped4 cc0_scoped5 h1 t (c6 L t) (c7 t) (c7 t) (c9 t) (c10 L t) (chk3 L t) (chk2 L t) (chk1 L t)
          a5 v80 v81 v84 v90 v113 z) Q) := by
  have ht : t.val < nb L := (trips_eq L) ▸ t.isLt
  have h32 : t.val < 2 ^ 32 := by have := nb_le L; omega
  have hc4 := cond4 L t
  simp only [k0_part2_eq_skeleton]
  unfold k0_part2_skel
  unfold curI IdleO
  rw [if_pos ht]
  iintro ⟨HI, ⟨HR, HsO⟩, Ht, Hg, HO, #Hmw⟩ HQ
  sl_exec
  unfold owing
  icases HO with ⟨%W₁, %hW₁, HO⟩
  iapply (fetchWait d (cV L) (jV L) (s := Ring.sl 2 t) (k := blk L t) (slotI_of (off7 h32) _) (semI_of (off9 h32) _)) $$ [HI HO]
  · isplitl [HI]; · iexact HI
    isplitl [HO]; · iexact HO
    iexact Hmw
  iintro ⟨HI, Hi, HsI, HO⟩
  ihave HO := (owing_intro (F := F) d L hW₁) $$ HO
  by_cases hx : Scalar.cmpi .ne (Scalar.extui (Scalar.andi (Scalar.ori (Scalar.cmpi .ne v84 v90) v81) (Scalar.cmpi .sge a5 0#32)) : BitVec 32) 0#32 = 1#1 <;>
  · sl_exec
    iapply (gather d (cV L) (jV L) (s := Ring.sl 2 t) (s' := Ring.sl 2 t) (k := blk L t) (q := qT) (tbl := tbl) hin rfl (slotR_of (off10 h32) _)
      (listOf_of (off11 h32) _) rfl) $$ [HI Ht HR Hg]
    · isplitl [HI]; · iexact HI
      isplitl [Ht]; · iexact Ht
      isplitl [HR] <;> iassumption
    iintro HG
    sl_exec
    unfold owing
    icases HO with ⟨%W₂, %hW₂, HO⟩
    iapply (gatherWait d (cV L) (jV L) (s := Ring.sl 2 t) (s' := Ring.sl 2 t) (k := blk L t) (q := qT) (tbl := tbl) (slotR_of (off10 h32) _) rfl) $$ [HG HO]
    · isplitl [HG]; · iexact HG
      isplitl [HO]; · iexact HO
      iexact Hmw
    iintro ⟨HR, Ht, HI, Hg, HO⟩
    ihave HO := (owing_intro (F := F) d L hW₂) $$ HO
    sl_exec
    sl_step
    iapply HQ
    unfold IdleI
    isplitl [HI Hi HsI]
    · isplitl [HI]; · iexact HI
      isplitl [Hi] <;> iassumption
    isplitl [HR]; · iexact HR
    isplitl [HsO]; · iexact HsO
    isplitl [Ht]; · iexact Ht
    isplitl [Hg]; · iexact Hg
    unfold owing
    iexact HO

set_option maxHeartbeats 4000000 in
/-- A trip of the pipeline: `inv` carried from trip `t` to trip `t + 1`. -/
theorem trip (hin : ∀ j, BitVec.toNat (idx j) < 10000) (O : CellTallies nD τ sig (HIx 1)) (W : Waits sig (HIx 1))
    (h1 : k0_cond1 L = 1#1) (v11 v41 z2 z3 z4 z5 v45 : BitVec 32) (t : Fin (k0_t1_loop L).trips) :
    iprop(inv d L tbl idx f₀ qT q O W t.val ∗ Transfers.MayWaits (thr d L) (default : HIx 1) O)
      ⊢ wp frame (wpE (defs₀ (F := F)) 𝒱₀ (thr d L) none) Set.univ
        (k0_t1_body L tblV (Memref.isWhole_whole _) idxV (Memref.isWhole_whole _) outV (Memref.isWhole_whole _) iV (Memref.isWhole_whole _) cc0_scoped1
          rV (Memref.isWhole_whole _) cc0_scoped3 cc0_scoped4 cc0_scoped5 (nbW L) (bbW L) v11 h1 v41 0#32 z2 z3 z4 z5 v45 t (carry L t.val))
        fun r => iprop(⌜r = carry L (t.val + 1)⌝ ∗ inv d L tbl idx f₀ qT q O W (t.val + 1)) := by
  have ht : t.val < nb L := (trips_eq L) ▸ t.isLt
  have h32 : t.val < 2 ^ 32 := by have := nb_le L; omega
  have hc7 := cond7 L t
  unfold k0_t1_body inv
  iintro ⟨⟨HcI, HiI, HiO, HpO, Hdone, Hrest, Ht, Hg, HO⟩, #Hmw⟩
  dsimp only
  sl_exec
  iapply (part1_wp d L idx q h1 t) $$ HiI
  iintro %r %hr HnI
  subst hr
  dsimp only
  sl_exec
  iapply (part2_wp d L tbl idx qT q hin O W h1 t (ivT L t) (Scalar.muli 1#32 (nbW L)) (Scalar.cmpi .eq (ivT L t) 0#32) (curW L t) (prevW L t)
    (Scalar.cmpi .ne (curW L t) (nextW L t)) 2#32) $$ [HcI HiO Ht Hg HO]
  · isplitl [HcI]; · iexact HcI
    isplitl [HiO]; · iexact HiO
    isplitl [Ht]; · iexact Ht
    isplitl [Hg]; · iexact Hg
    isplitl [HO]; · iexact HO
    iexact Hmw
  iintro ⟨HiI, HR, HsO, Ht, Hg, HO⟩
  ihave Hrest := (rows_split d (a := 128 * (bb L + t)) (b := 128 * (bb L + t) + 128) (e := 128 * (bb L + nb L)) (by omega) (by omega) f₀).1 $$ Hrest
  icases Hrest with ⟨Hrow, Hrest⟩
  have eb : rowsSet (128 * (bb L + t)) (128 * (bb L + t) + 128) = rowsSet (128 * (blk L t).val) (128 * (blk L t).val + 128) := by rw [blk_val ht]
  have er : 128 * (bb L + (t.val + 1)) = 128 * (bb L + t) + 128 := by omega
  have e2 : Ring.sl 2 (t.val + 1 + 1) = Ring.sl 2 t := Ring.sl_add 2 t
  by_cases hx : Scalar.cmpi .ne (Scalar.extui (Scalar.ori (Scalar.cmpi .ne (curW L t) (nextW L t)) (lastW L t)) : BitVec 32) 0#32 = 1#1 <;>
  · sl_exec
    iapply (store d (cV L) (jV L) (s := Ring.sl 2 t) (k := blk L t) (tbl := tbl) (idx := idx) (f₀ := f₀) (slotR_of (off12 h32) _)
      (outB_of (by rw [off13 L t, blk_val ht]) _) (semO_of (off14 h32) _)) $$ [HR HsO Hrow]
    · isplitl [HR]; · iexact HR
      isplitl [Hrow]; · rw [← eb]; iexact Hrow
      iexact HsO
    iintro HnO
    by_cases hy : Scalar.cmpi .ne (Scalar.extui (Scalar.andi (Scalar.cmpi .ne (curW L t) (prevW L t)) (Scalar.xori (Scalar.cmpi .eq (ivT L t) 0#32) 1#1)) : BitVec 32) 0#32 = 1#1 <;>
    · sl_exec
      by_cases h0 : 0 < t.val
      · have e1 : Ring.sl 2 (t.val - 1) = Ring.sl 2 (t.val + 1) := by
          have := Ring.sl_add 2 (t.val - 1); rw [← this]; congr 1; omega
        have hb : (blk L (t.val - 1)).val = bb L + (t.val - 1) := blk_val (by omega)
        have hc9 : k0_cond9 L t (c10 L t) = 1#1 := (cond9 L t).trans (if_pos h0)
        ihave HpO := (Entails.of_eq (preO_pos d L tbl idx h0)) $$ HpO
        sl_exec
        unfold owing
        icases HO with ⟨%W₂, %hW₂, HO⟩
        iapply (storeWait d (cV L) (jV L) (s := Ring.sl 2 (t.val + 1)) (k := blk L (t.val - 1)) (tbl := tbl) (idx := idx)
          (outB_of (by rw [off16 L t h0, hb]) _) (semO_of ((off17 (by omega)).trans (by rw [e1])) _)) $$ [HpO HO]
        · isplitl [HpO]; · iexact HpO
          isplitl [HO]; · iexact HO
          iexact Hmw
        iintro ⟨Hrow, HR, HsO, HO⟩
        ihave HO := (owing_intro (F := F) d L hW₂) $$ HO
        sl_exec
        sl_step
        rw [preO_succ, Nat.add_sub_cancel, e2, er]
        isplitr
        · ipureintro
          exact Prod.ext rfl (Prod.ext (step7 L t) (Prod.ext (step8 L t) (Prod.ext (step9 L t) (step10 L t))))
        isplitl [HnI]; · iexact HnI
        isplitl [HiI]; · iexact HiI
        isplitl [HR HsO]
        · unfold IdleO
          isplitl [HR] <;> iassumption
        isplitl [HnO]; · iexact HnO
        isplitl [Hdone Hrow]
        · iapply (rows_split d (a := 128 * bb L) (b := 128 * (bb L + (t.val - 1))) (e := 128 * (bb L + t)) (by omega) (by omega) (G tbl idx)).2
          isplitl [Hdone]; · iexact Hdone
          have eh : rowsSet (128 * (bb L + (t.val - 1))) (128 * (bb L + t)) = rowsSet (128 * (blk L (t.val - 1)).val) (128 * (blk L (t.val - 1)).val + 128) := by
            rw [hb]; congr 1; omega
          rw [eh]
          iexact Hrow
        isplitl [Hrest]; · iexact Hrest
        isplitl [Ht]; · iexact Ht
        isplitl [Hg]; · iexact Hg
        unfold owing
        iexact HO
      · have hc9 : ¬ k0_cond9 L t (c10 L t) = 1#1 := by rw [cond9 L t, if_neg h0]; decide
        have h00 : t.val = 0 := by omega
        ihave HpO := (Entails.of_eq (preO_zero d L tbl idx h0)) $$ HpO
        sl_exec
        sl_step
        rw [preO_succ, Nat.add_sub_cancel, e2, er]
        isplitr
        · ipureintro
          exact Prod.ext rfl (Prod.ext (step7 L t) (Prod.ext (step8 L t) (Prod.ext (step9 L t) (step10 L t))))
        isplitl [HnI]; · iexact HnI
        isplitl [HiI]; · iexact HiI
        isplitl [HpO]; · iexact HpO
        isplitl [HnO]; · iexact HnO
        isplitl [Hdone]
        · have ez : bb L + (t.val - 1) = bb L + t := by omega
          rw [← ez]
          iexact Hdone
        isplitl [Hrest]; · iexact Hrest
        isplitl [Ht]; · iexact Ht
        isplitl [Hg] <;> iassumption

end

end Cert.Proof.Trip

end
-- ==== Proof.Tile.lean ====
/- One tile's run of the gather kernel: the first fetch, the loop, the last write-back's wait; from its shares of the
   table and of the indices and its rows of the result, to the rows holding what the indices name. -/
module

public import proofs.«01_k».proof.Proof.Trip

@[expose] public section

noncomputable section

namespace Cert.Proof.Tile

open Cert.KernelIdeal Cert.KernelIdeal.Gen Cert.Proof.Slots Cert.Proof.Steps Cert.Proof.Words Cert.Proof.Trip

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The words the kernel computes before the loop -/

theorem nbW_eq : ∀ i : grid0.Coords,
    Scalar.select (Scalar.cmpi .slt (Scalar.addi (Scalar.addi 0#32 (Scalar.muli (BitVec.ofNat 32 (i 1).val) 1#32)) (Scalar.muli (BitVec.ofNat 32 (i 0).val) 16#32)) 8#32)
      157#32 156#32 = nbW i := by decide +kernel
theorem bbW_eq : ∀ i : grid0.Coords,
    Scalar.select (Scalar.cmpi .slt (Scalar.addi (Scalar.addi 0#32 (Scalar.muli (BitVec.ofNat 32 (i 1).val) 1#32)) (Scalar.muli (BitVec.ofNat 32 (i 0).val) 16#32)) 8#32)
      (Scalar.muli (Scalar.addi (Scalar.addi 0#32 (Scalar.muli (BitVec.ofNat 32 (i 1).val) 1#32)) (Scalar.muli (BitVec.ofNat 32 (i 0).val) 16#32)) (nbW i))
      (Scalar.addi (Scalar.muli (Scalar.addi (Scalar.addi 0#32 (Scalar.muli (BitVec.ofNat 32 (i 1).val) 1#32)) (Scalar.muli (BitVec.ofNat 32 (i 0).val) 16#32)) 156#32) 8#32)
      = bbW i := by decide +kernel
theorem c6_zero : ∀ i : grid0.Coords,
    Scalar.select (Scalar.andi 1#1 (Scalar.cmpi .sgt (Scalar.muli 1#32 (nbW i)) 0#32)) (Scalar.addi 0#32 1#32) 0#32 = c6 i 0 := by decide +kernel
theorem c10_zero : ∀ i : grid0.Coords, c10 i 0 = 0#32 := by decide +kernel

variable (d : Dev nD) (L : grid0.Coords)
variable (tbl : S10000x128.Idx → Elt F .f32) (idx : S1x640000.Idx → Elt F .i32) (f₀ : S640000x128.Idx → Elt F .f32)
  (qT : PosShare TreeShare) (q : Fin 2 → PosShare TreeShare)

theorem curI_pos {t : ℕ} (h : t < nb L) : curI d L idx q t = InFlI d (cV L) (jV L) idx (blk L t) (q (Ring.sl 2 t)) (Ring.sl 2 t) := if_pos h
theorem curI_neg {t : ℕ} (h : ¬ t < nb L) : curI d L idx q t = IdleI d L idx q (Ring.sl 2 t) := if_neg h

/-- Both slots, from the slot of `t` and the slot of `t + 1`. -/
theorem pair_slots (Φ : Fin 2 → sProp 𝕄) (t : ℕ) : iprop(Φ (Ring.sl 2 t) ∗ Φ (Ring.sl 2 (t + 1))) ⊢ iprop(Φ 0 ∗ Φ 1) := by
  rcases Nat.mod_two_eq_zero_or_one t with h | h
  · have e : Ring.sl 2 t = 0 := Fin.ext (by rw [Ring.sl_val, h]; rfl)
    have e' : Ring.sl 2 (t + 1) = 1 := Fin.ext (by rw [Ring.sl_val, Nat.add_mod, h]; rfl)
    rw [e, e']
  · have e : Ring.sl 2 t = 1 := Fin.ext (by rw [Ring.sl_val, h]; rfl)
    have e' : Ring.sl 2 (t + 1) = 0 := Fin.ext (by rw [Ring.sl_val, Nat.add_mod, h]; rfl)
    rw [e, e']
    iintro ⟨H1, H0⟩
    isplitl [H0] <;> iassumption

variable [FloatOps F]

/-- The first fetch. -/
theorem part5_wp (h1 : k0_cond1 L = 1#1) (v11 : BitVec 32) {Q : _ → sProp 𝕄} :
    iprop(IdleI d L idx q (Ring.sl 2 0))
      ⊢ iprop((∀ r, ⌜r = ⟨c6 L 0, 0#32, 0#32, 0#32, 0#32, 0#32, Scalar.muli (Scalar.divsi (Scalar.subi v11 0#32) 1#32) 1#32⟩⌝ -∗ curI d L idx q 0 -∗ Q r)
        -∗ wp frame (wpE (defs₀ (F := F)) 𝒱₀ (thr d L) none) Set.univ
        (k0_part5 L tblV (Memref.isWhole_whole _) idxV (Memref.isWhole_whole _) outV (Memref.isWhole_whole _) iV (Memref.isWhole_whole _) cc0_scoped1
          rV (Memref.isWhole_whole _) cc0_scoped3 cc0_scoped4 cc0_scoped5 (nbW L) (bbW L) v11 h1) Q) := by
  have hc := cond2 L
  have hp : 0 < nb L := nb_pos L
  rw [← c6_zero L]
  simp only [k0_part5_eq_skeleton]
  unfold k0_part5_skel
  iintro HI HQ
  sl_exec
  unfold IdleI
  iapply (fetch d (cV L) (jV L) (s := Ring.sl 2 0) (k := blk L 0) (idx := idx) (q := q (Ring.sl 2 0))
    (idxB_of (by rw [off2 L, blk_val hp, Nat.add_zero]) _) (slotI_of off1 _) (semI_of off3 _)) $$ HI
  iintro HF
  sl_exec
  sl_step
  rw [curI_pos d L idx q hp]
  iapply HQ $$ %_ [] HF
  ipureintro
  rfl

/-- What the kernel's end holds: every slot free, every row of the tile's written. -/
def done (O : CellTallies nD τ sig (HIx 1)) (W : Waits sig (HIx 1)) : sProp 𝕄 :=
  iprop((IdleI d L idx q 0 ∗ IdleI d L idx q 1) ∗ (IdleO d L 0 ∗ IdleO d L 1)
    ∗ (oLoc d ↦[rowsSet (128 * bb L) (128 * (bb L + nb L))]{fullShare} G tbl idx)
    ∗ (tLoc d ↦{qT} tbl) ∗ semVal (thr d L, .dma gS) 0 ∗ owing d L O W)

set_option maxHeartbeats 4000000 in
/-- The loop, and the last write-back's wait. -/
theorem part6_wp (hin : ∀ j, BitVec.toNat (idx j) < 10000) (O : CellTallies nD τ sig (HIx 1)) (W : Waits sig (HIx 1))
    (h1 : k0_cond1 L = 1#1) (v11 v45 : BitVec 32) {Q : PUnit → sProp 𝕄} :
    iprop(Trip.inv d L tbl idx f₀ qT q O W 0 ∗ Transfers.MayWaits (thr d L) (default : HIx 1) O)
      ⊢ iprop((done d L tbl idx qT q O W -∗ Q ⟨⟩)
        -∗ wp frame (wpE (defs₀ (F := F)) 𝒱₀ (thr d L) none) Set.univ
        (k0_part6 L tblV (Memref.isWhole_whole _) idxV (Memref.isWhole_whole _) outV (Memref.isWhole_whole _) iV (Memref.isWhole_whole _) cc0_scoped1
          rV (Memref.isWhole_whole _) cc0_scoped3 cc0_scoped4 cc0_scoped5 (nbW L) (bbW L) v11 h1 (c6 L 0) 0#32 0#32 0#32 0#32 0#32 v45) Q) := by
  have hp : 0 < nb L := nb_pos L
  have hc := cond18 L
  have hk7 := chk7 L
  have hk8 := chk8 L
  simp only [k0_part6_eq_skeleton]
  unfold k0_part6_skel
  iintro ⟨HI, #Hmw⟩ HQ
  sl_exec
  sl_for (fun t r => iprop(⌜r = carry L t⌝ ∗ Transfers.MayWaits (thr d L) (default : HIx 1) O ∗ Trip.inv d L tbl idx f₀ qT q O W t)) $$ [HI]
  case region =>
    intro k r
    iintro ⟨%hr, #Hmw, HI⟩
    subst hr
    ihave H := (trip d L tbl idx f₀ qT q hin O W h1 v11 (c6 L 0) 0#32 0#32 0#32 0#32 v45 k) $$ [HI]
    · isplitl [HI]; · iexact HI
      iexact Hmw
    iapply (wp_wand Idealize.ShloMosaic.frame _ _) $$ H
    iintro %r ⟨%hr, HI⟩
    isplitr; · ipureintro; exact hr
    isplitr; · iexact Hmw
    iexact HI
  · isplitr
    · ipureintro
      show _ = (c6 L 0, c7 0, c7 0, c9 0, c10 L 0)
      rw [c10_zero L]
    isplitr; · iexact Hmw
    iexact HI
  iintro %r ⟨%hr, -, HI⟩
  rw [show Scf.trips (k0_t1_loop L).lb (k0_t1_loop L).ub (k0_t1_loop L).st = nb L from trips_eq L] at hr
  rw [show Scf.trips (k0_t1_loop L).lb (k0_t1_loop L).ub (k0_t1_loop L).st = nb L from trips_eq L]
  subst hr
  sl_exec
  sl_for (fun _ r => iprop(⌜r = carry L (nb L)⌝)) $$ []
  case region =>
    intro k r
    exact (k.cast (trips2_eq L)).elim0
  · ipureintro; rfl
  iintro %r %hr
  subst hr
  sl_exec
  unfold Trip.inv
  icases HI with ⟨HcI, HiI, HiO, HpO, Hdone, -, Ht, Hg, HO⟩
  have e1 : Ring.sl 2 (nb L - 1) = Ring.sl 2 (nb L + 1) := by
    have := Ring.sl_add 2 (nb L - 1); rw [← this]; congr 1; omega
  have hb : (blk L (nb L - 1)).val = bb L + (nb L - 1) := blk_val (by omega)
  ihave HcI := (Entails.of_eq (curI_neg d L idx q (lt_irrefl _))) $$ HcI
  ihave HpO := (Entails.of_eq (preO_pos d L tbl idx hp)) $$ HpO
  unfold owing
  icases HO with ⟨%W₂, %hW₂, HO⟩
  iapply (storeWait d (cV L) (jV L) (s := Ring.sl 2 (nb L + 1)) (k := blk L (nb L - 1)) (tbl := tbl) (idx := idx)
    (outB_of (by rw [off33 L, hb]) _) (semO_of ((off34 (by have := nb_le L; omega)).trans (by rw [e1])) _)) $$ [HpO HO]
  · isplitl [HpO]; · iexact HpO
    isplitl [HO]; · iexact HO
    iexact Hmw
  iintro ⟨Hrow, HR, HsO, HO⟩
  ihave HO := (owing_intro (F := F) d L hW₂) $$ HO
  sl_exec
  sl_step
  iapply HQ
  unfold done
  isplitl [HcI HiI]
  · iapply (pair_slots (fun s => IdleI d L idx q s) (nb L))
    isplitl [HcI] <;> iassumption
  isplitl [HiO HR HsO]
  · iapply (pair_slots (fun s => IdleO (F := F) d L s) (nb L))
    isplitl [HiO]; · iexact HiO
    unfold IdleO
    isplitl [HR] <;> iassumption
  isplitl [Hdone Hrow]
  · iapply (rows_split d (a := 128 * bb L) (b := 128 * (bb L + (nb L - 1))) (e := 128 * (bb L + nb L)) (by omega) (by omega) (G tbl idx)).2
    isplitl [Hdone]; · iexact Hdone
    have eh : rowsSet (128 * (bb L + (nb L - 1))) (128 * (bb L + nb L)) = rowsSet (128 * (blk L (nb L - 1)).val) (128 * (blk L (nb L - 1)).val + 128) := by
      rw [hb]; congr 1; omega
    rw [eh]
    iexact Hrow
  isplitl [Ht]; · iexact Ht
  isplitl [Hg]; · iexact Hg
  iexact HO

/-! ## The tile's scratch -/

abbrev cI (s : Fin 2) : GSem nD τ sig := (thr d L, .dma (semI s))
abbrev cO (s : Fin 2) : GSem nD τ sig := (thr d L, .dma (semO s))
abbrev cG : GSem nD τ sig := (thr d L, .dma gS)

omit [FloatOps F] in
theorem semVal_out (A : Finset (GSem nD τ sig)) {g : GSem nD τ sig} (h : g ∈ A) :
    (bigSep A fun g => semVal g 0 : sProp 𝕄) = iprop(semVal g 0 ∗ bigSep (A.erase g) fun g => semVal g 0) := SparseCore.bigSep_erase' h

omit [FloatOps F] in
theorem ownSems0_V :
    (ownSems0 (thr d L) : sProp 𝕄)
      = iprop(semVal (cI d L 0) 0 ∗ semVal (cI d L 1) 0 ∗ semVal (cO d L 0) 0 ∗ semVal (cO d L 1) 0 ∗ semVal (cG d L) 0
          ∗ bigSep ((((((ownCells (thr d L)).erase (cI d L 0)).erase (cI d L 1)).erase (cO d L 0)).erase (cO d L 1)).erase (cG d L)) fun g => semVal g 0) := by
  have own : ∀ sm : DmaSem sig, (SemLoc.dma sm : SemLoc sig).isScoped .scVector = true → ((thr d L, SemLoc.dma sm) : GSem nD τ sig) ∈ ownCells (thr d L) :=
    fun sm h => mem_ownCells.mpr ⟨rfl, h⟩
  have ne : ∀ a b : DmaSem sig, a ≠ b → ((thr d L, SemLoc.dma a) : GSem nD τ sig) ≠ (thr d L, SemLoc.dma b) := fun a b h e => h (by
    have := congrArg Prod.snd e; exact SemLoc.dma.inj this)
  unfold SparseCore.Cfg.ownSems0
  rw [semVal_out _ (own (semI 0) (by decide)),
    semVal_out _ (Finset.mem_erase.mpr ⟨ne _ _ (by decide), own (semI 1) (by decide)⟩),
    semVal_out _ (Finset.mem_erase.mpr ⟨ne _ _ (by decide), Finset.mem_erase.mpr ⟨ne _ _ (by decide), own (semO 0) (by decide)⟩⟩),
    semVal_out _ (Finset.mem_erase.mpr ⟨ne _ _ (by decide), Finset.mem_erase.mpr ⟨ne _ _ (by decide), Finset.mem_erase.mpr ⟨ne _ _ (by decide), own (semO 1) (by decide)⟩⟩⟩),
    semVal_out _ (Finset.mem_erase.mpr ⟨ne _ _ (by decide), Finset.mem_erase.mpr ⟨ne _ _ (by decide), Finset.mem_erase.mpr ⟨ne _ _ (by decide),
      Finset.mem_erase.mpr ⟨ne _ _ (by decide), own gS (by decide)⟩⟩⟩⟩)]

omit [FloatOps F] in
theorem ownBufs_V :
    (ownBufs (thr d L) : sProp 𝕄)
      = iprop((∃ f, (thr d L).loc cc0_scoped0 ↦{fullShare} f) ∗ (∃ f, (thr d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

omit [FloatOps F] in
/-- A pair of slots at some contents is the buffer at some contents. -/
theorem slotsI_split : (iprop(∃ f, (thr d L).loc cc0_scoped0 ↦{fullShare} f) : sProp 𝕄) ⊢ iprop(FreeI d (cV L) (jV L) 0 ∗ FreeI d (cV L) (jV L) 1) := by
  unfold FreeI
  iintro ⟨%f, Hf⟩
  ihave Hf := (Entails.of_eq (show ((thr d L).loc cc0_scoped0 ↦{fullShare} f : sProp 𝕄)
    = (thr d L).loc cc0_scoped0 ↦[(slotI 0).view.set ∪ (slotI 1).view.set]{fullShare} f by rw [slotI_union])) $$ Hf
  ihave Hf := (pointsTo_union slotI_disjoint).1 $$ Hf
  icases Hf with ⟨H0, H1⟩
  isplitl [H0]
  · iexists f; iexact H0
  · iexists f; iexact H1
omit [FloatOps F] in
theorem slotsI_join : iprop(FreeI d (cV L) (jV L) 0 ∗ FreeI d (cV L) (jV L) 1) ⊢ (iprop(∃ f, (thr d L).loc cc0_scoped0 ↦{fullShare} f) : sProp 𝕄) := by
  unfold FreeI
  iintro ⟨⟨%f, H0⟩, ⟨%g, H1⟩⟩
  ihave H := (pointsTo_join (ℓ := (thr d L).loc cc0_scoped0) (q := fullShare) slotI_disjoint) $$ [H0 H1]
  · isplitl [H0]; · iexact H0
    iexact H1
  rw [slotI_union]
  iexists _; iexact H
omit [FloatOps F] in
theorem slotsR_split : (iprop(∃ f, (thr d L).loc cc0_scoped2 ↦{fullShare} f) : sProp 𝕄) ⊢ iprop(FreeR d (cV L) (jV L) 0 ∗ FreeR d (cV L) (jV L) 1) := by
  unfold FreeR
  iintro ⟨%f, Hf⟩
  ihave Hf := (Entails.of_eq (show ((thr d L).loc cc0_scoped2 ↦{fullShare} f : sProp 𝕄)
    = (thr d L).loc cc0_scoped2 ↦[(slotR 0).view.set ∪ (slotR 1).view.set]{fullShare} f by rw [slotR_union])) $$ Hf
  ihave Hf := (pointsTo_union slotR_disjoint).1 $$ Hf
  icases Hf with ⟨H0, H1⟩
  isplitl [H0]
  · iexists f; iexact H0
  · iexists f; iexact H1
omit [FloatOps F] in
theorem slotsR_join : iprop(FreeR d (cV L) (jV L) 0 ∗ FreeR d (cV L) (jV L) 1) ⊢ (iprop(∃ f, (thr d L).loc cc0_scoped2 ↦{fullShare} f) : sProp 𝕄) := by
  unfold FreeR
  iintro ⟨⟨%f, H0⟩, ⟨%g, H1⟩⟩
  ihave H := (pointsTo_join (ℓ := (thr d L).loc cc0_scoped2) (q := fullShare) slotR_disjoint) $$ [H0 H1]
  · isplitl [H0]; · iexact H0
    iexact H1
  rw [slotR_union]
  iexists _; iexact H

/-- The two slots' shares of the tile's share of the indices. -/
def qI (qi : PosShare TreeShare) (s : Fin 2) : PosShare TreeShare := if s = 0 then qi.left else qi.right

set_option maxHeartbeats 4000000 in
/-- The tile's run. -/
theorem tile_body (qi : PosShare TreeShare) (hF : (K (F := F)).Facts) (hin : ∀ j, BitVec.toNat (idx j) < 10000)
    (O : CellTallies nD τ sig (HIx 1)) (W : Waits sig (HIx 1)) (hO : ∀ g, O g none = 0) :
    iprop((levAts (K (F := F)).L (K (F := F)).lev : sProp 𝕄) ∗ emp
        ∗ ((tLoc d ↦{qT} tbl) ∗ (iLoc d ↦{qi} idx) ∗ oLoc d ↦[rowsSet (128 * bb L) (128 * (bb L + nb L))]{fullShare} f₀)
        ∗ scopedBufs (thr d L) ∗ scopedSems0 (thr d L) ∗ owes (thr d L) O W)
      ⊢ wp frame (wpE (defs₀ (F := F)) 𝒱₀ (thr d L) none) Set.univ
          (cc0_kern L tblV (Memref.isWhole_whole _) idxV (Memref.isWhole_whole _) outV (Memref.isWhole_whole _) iV (Memref.isWhole_whole _) cc0_scoped1
            rV (Memref.isWhole_whole _) cc0_scoped3 cc0_scoped4 cc0_scoped5)
          fun _ => iprop(((tLoc d ↦{qT} tbl) ∗ (iLoc d ↦{qi} idx) ∗ oLoc d ↦[rowsSet (128 * bb L) (128 * (bb L + nb L))]{fullShare} G tbl idx)
            ∗ scopedBufs (thr d L) ∗ scopedSems0 (thr d L)
            ∗ ∃ W', ⌜∀ p ∈ W', p ∈ W ∨ p.2 = none⌝ ∗ owes (thr d L) O W') := by
  have h1 := cond1 L
  simp only [cc0_kern_eq_skeleton]
  unfold cc0_kern_skel
  simp only [nbW_eq L, bbW_eq L, dif_pos h1, wp_bind]
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨HbI, HbR, Hbufs⟩, ⟨HsI0, HsI1, HsO0, HsO1, HsG, Hsems⟩, HO⟩
  ihave #Hmw := (show (levAts (K (F := F)).L (K (F := F)).lev : sProp 𝕄) ⊢ Transfers.MayWaits (thr d L) (default : HIx 1) O from
    (K (F := F)).mayWaits_none (thr := thr d L) hO) $$ Hlv
  ihave Hi := (pointsTo_share (PosShare.mem_left_op_right qi)).1 $$ Hi
  icases Hi with ⟨Hi0, Hi1⟩
  ihave HbI := (slotsI_split (F := F) d L) $$ HbI
  icases HbI with ⟨HI0, HI1⟩
  ihave HbR := (slotsR_split (F := F) d L) $$ HbR
  icases HbR with ⟨HR0, HR1⟩
  ihave HIa := (show iprop(FreeI d (cV L) (jV L) 0 ∗ (iLoc d ↦{qi.left} idx) ∗ semVal (cI d L 0) 0) ⊢ IdleI (F := F) d L idx (qI qi) (Ring.sl 2 0) from .rfl) $$ [HI0 Hi0 HsI0]
  · isplitl [HI0]; · iexact HI0
    isplitl [Hi0] <;> iassumption
  ihave HIb := (show iprop(FreeI d (cV L) (jV L) 1 ∗ (iLoc d ↦{qi.right} idx) ∗ semVal (cI d L 1) 0) ⊢ IdleI (F := F) d L idx (qI qi) (Ring.sl 2 (0 + 1)) from .rfl) $$ [HI1 Hi1 HsI1]
  · isplitl [HI1]; · iexact HI1
    isplitl [Hi1] <;> iassumption
  ihave HOa := (show iprop(FreeR (F := F) d (cV L) (jV L) 0 ∗ semVal (cO d L 0) 0) ⊢ IdleO (F := F) d L (Ring.sl 2 0) from .rfl) $$ [HR0 HsO0]
  · isplitl [HR0] <;> iassumption
  ihave HOb := (show iprop(FreeR (F := F) d (cV L) (jV L) 1 ∗ semVal (cO d L 1) 0) ⊢ IdleO (F := F) d L (Ring.sl 2 (0 + 1)) from .rfl) $$ [HR1 HsO1]
  · isplitl [HR1] <;> iassumption
  ihave HO := (show (owes (thr d L) O W : sProp 𝕄) ⊢ owing (F := F) d L O W by
    unfold owing; iintro H; iexists W; isplitr; · ipureintro; exact fun p hp => .inl hp
    iexact H) $$ HO
  iapply (part5_wp d L idx (qI qi) h1 (Scalar.muli 1#32 (nbW L))) $$ HIa
  iintro %r %hr HcI
  subst hr
  dsimp only
  iapply (part6_wp d L tbl idx f₀ qT (qI qi) hin O W h1 (Scalar.muli 1#32 (nbW L)) _) $$ [HcI HIb HOa HOb Ho Ht HsG HO]
  · isplitl
    · unfold Trip.inv
      isplitl [HcI]; · iexact HcI
      isplitl [HIb]; · iexact HIb
      isplitl [HOa]; · iexact HOa
      isplitl [HOb]; · rw [preO_zero d L tbl idx (lt_irrefl 0)]; iexact HOb
      isplitr; · rw [show 128 * (bb L + (0 - 1)) = 128 * bb L by omega, rowsSet_self, pointsTo_empty]; iempintro
      isplitl [Ho]; · iexact Ho
      isplitl [Ht]; · iexact Ht
      isplitl [HsG] <;> iassumption
    iexact Hmw
  unfold done
  iintro ⟨⟨HI0, HI1⟩, ⟨HO0, HO1⟩, Ho, Ht, HsG, HO⟩
  sl_exec
  unfold IdleI IdleO owing
  icases HI0 with ⟨HI0, Hi0, HsI0⟩
  icases HI1 with ⟨HI1, Hi1, HsI1⟩
  icases HO0 with ⟨HR0, HsO0⟩
  icases HO1 with ⟨HR1, HsO1⟩
  sl_step
  isplitl [Ht Hi0 Hi1 Ho]
  · isplitl [Ht]; · iexact Ht
    isplitl [Hi0 Hi1]
    · iapply (pointsTo_share (PosShare.mem_left_op_right qi)).2
      isplitl [Hi0]
      · iexact Hi0
      · iexact Hi1
    iexact Ho
  isplitl [HI0 HI1 HR0 HR1 Hbufs]
  · isplitl [HI0 HI1]
    · iapply (slotsI_join (F := F) d L)
      isplitl [HI0] <;> iassumption
    isplitl [HR0 HR1]
    · iapply (slotsR_join (F := F) d L)
      isplitl [HR0] <;> iassumption
    iexact Hbufs
  isplitl [HsI0 HsI1 HsO0 HsO1 HsG Hsems]
  · isplitl [HsI0]; · iexact HsI0
    isplitl [HsI1]; · iexact HsI1
    isplitl [HsO0]; · iexact HsO0
    isplitl [HsO1]; · iexact HsO1
    isplitl [HsG] <;> iassumption
  iexact HO

end Cert.Proof.Tile

end
-- ==== Proof.Launch.lean ====
/- The launch of the gather kernel: the table and the indices lent by shares to the thirty-two tiles, the result's rows
   dealt to them, and the result joined again; the program's run, with the value its result holds. -/
module

public import proofs.«01_k».proof.Proof.Tile
public import Idealize.ShloMosaic.Lib.ShareLeaves

@[expose] public section

noncomputable section

namespace Cert.Proof.Launch

open Cert.KernelIdeal Cert.KernelIdeal.Gen Cert.Proof.Slots Cert.Proof.Steps Cert.Proof.Words Cert.Proof.Trip Cert.Proof.Tile

open Idealize.ShloMosaic Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

/-! ## The tiles' rows -/

/-- The tile's place on the grid. -/
def coordsV (c : Fin (grid0.bound 0)) (s : Fin (grid0.bound 1)) : grid0.Coords :=
  fun | 0 => c | 1 => s | ⟨_ + 2, h⟩ => absurd h (Nat.not_lt.2 (Nat.le_add_left _ _))

/-- The rows of tile `(c, i)`, of core `c`. -/
def tRows (c : Fin 2) (i : Fin 16) : Finset S640000x128.Idx := rowsSet (128 * bb (coordsV c i)) (128 * (bb (coordsV c i) + nb (coordsV c i)))
def cRows (c : Fin 2) : Finset S640000x128.Idx := Finset.univ.biUnion (tRows c)

/-- The tile whose row `r` is. -/
def tileOf (r : ℕ) : ℕ := if r / 128 < 1256 then r / 128 / 157 else (r / 128 - 8) / 156

theorem mem_tRows {c : Fin 2} {i : Fin 16} {j : S640000x128.Idx} : j ∈ tRows c i ↔ i.val + 16 * c.val = tileOf (j 0).val := by
  have hj : (j 0).val < 640000 := (j 0).isLt
  have hi := i.isLt
  have hc := c.isLt
  have hw : wid (coordsV c i) = i.val + 16 * c.val := rfl
  unfold tRows tileOf
  rw [mem_rowsSet]
  show (128 * (if wid (coordsV c i) < 8 then 157 * wid (coordsV c i) else 156 * wid (coordsV c i) + 8) ≤ _ ∧
    _ < 128 * ((if wid (coordsV c i) < 8 then 157 * wid (coordsV c i) else 156 * wid (coordsV c i) + 8) + if wid (coordsV c i) < 8 then 157 else 156)) ↔ _
  rw [hw]
  split_ifs <;> omega

theorem tRows_disjoint (c : Fin 2) : ∀ i ∈ (Finset.univ : Finset (Fin 16)), ∀ j ∈ (Finset.univ : Finset (Fin 16)), i ≠ j → Disjoint (tRows c i) (tRows c j) := by
  intro i _ j _ h
  rw [Finset.disjoint_left]
  intro x hx hx'
  have a := mem_tRows.1 hx; have b := mem_tRows.1 hx'
  exact h (Fin.ext (by omega))
theorem cRows_disjoint : ∀ c ∈ (Finset.univ : Finset (Fin 2)), ∀ c' ∈ (Finset.univ : Finset (Fin 2)), c ≠ c' → Disjoint (cRows c) (cRows c') := by
  intro c _ c' _ h
  rw [Finset.disjoint_left]
  intro x hx hx'
  obtain ⟨i, -, hi⟩ := Finset.mem_biUnion.1 hx
  obtain ⟨i', -, hi'⟩ := Finset.mem_biUnion.1 hx'
  have a := mem_tRows.1 hi; have b := mem_tRows.1 hi'
  have := i.isLt; have := i'.isLt
  exact h (Fin.ext (by omega))
theorem cRows_cover : (Finset.univ : Finset (Fin 2)).biUnion cRows = Finset.univ := by
  refine Finset.eq_univ_of_forall fun j => ?_
  have hj : (j 0).val < 640000 := (j 0).isLt
  have ht : tileOf (j 0).val < 32 := by unfold tileOf; split_ifs <;> omega
  refine Finset.mem_biUnion.2 ⟨⟨tileOf (j 0).val / 16, by omega⟩, Finset.mem_univ _, Finset.mem_biUnion.2 ⟨⟨tileOf (j 0).val % 16, by omega⟩, Finset.mem_univ _, mem_tRows.2 ?_⟩⟩
  show tileOf (j 0).val % 16 + 16 * (tileOf (j 0).val / 16) = _
  omega

/-! ## What the handshakes carry -/

/-- Core `c`'s share of what all read, and tile `(c, i)`'s. -/
abbrev qC (c : Fin 2) : PosShare TreeShare := leaf 1 fullShare c
abbrev qW (c : Fin 2) (i : Fin 16) : PosShare TreeShare := leaf 4 (qC c) i

variable (tbl : Dev nD → S10000x128.Idx → Elt F .f32) (idx : Dev nD → S1x640000.Idx → Elt F .i32) (f₀ : Dev nD → S640000x128.Idx → Elt F .f32)

/-- Core `c`'s part, and tile `(c, i)`'s: its shares of the table and of the indices, its rows of the result at `f`. -/
abbrev coreP (d : Dev nD) (f : S640000x128.Idx → Elt F .f32) (c : Fin 2) : sProp 𝕄 :=
  iprop((tLoc d ↦{qC c} tbl d) ∗ (iLoc d ↦{qC c} idx d) ∗ oLoc d ↦[cRows c]{fullShare} f)
abbrev tileP (d : Dev nD) (f : S640000x128.Idx → Elt F .f32) (c : Fin 2) (i : Fin 16) : sProp 𝕄 :=
  iprop((tLoc d ↦{qW c i} tbl d) ∗ (iLoc d ↦{qW c i} idx d) ∗ oLoc d ↦[tRows c i]{fullShare} f)

/-- The call takes the table, the indices and the result, and brings them back, the result gathered. -/
def P : (K (F := F)).Pay (nD := nD) (Val := Elt F) (Name := ℕ) (U := UU) where
  st := fun q d c => match q with | 0 => coreP tbl idx d (f₀ d) (Fin.cast nCore_zero c)
  dn := fun q d c => match q with | 0 => coreP tbl idx d (G (tbl d) (idx d)) (Fin.cast nCore_zero c)
  go := fun q d c i => match q with | 0 => tileP tbl idx d (f₀ d) (Fin.cast nCore_zero c) (Fin.cast nSub_zero i)
  td := fun q d c i => match q with | 0 => tileP tbl idx d (G (tbl d) (idx d)) (Fin.cast nCore_zero c) (Fin.cast nSub_zero i)
  x := fun _ _ => iprop(emp)

instance P_storable : (P (F := F) tbl idx f₀).IsStorable where
  st q d c := match q with
    | 0 => (inferInstance : BI.Storable (upEmb : UEmb _ 𝕄) (coreP tbl idx d (f₀ d) (Fin.cast nCore_zero c)))
  dn q d c := match q with
    | 0 => (inferInstance : BI.Storable (upEmb : UEmb _ 𝕄) (coreP tbl idx d (G (tbl d) (idx d)) (Fin.cast nCore_zero c)))
  go q d c i := match q with
    | 0 => (inferInstance : BI.Storable (upEmb : UEmb _ 𝕄) (tileP tbl idx d (f₀ d) (Fin.cast nCore_zero c) (Fin.cast nSub_zero i)))
  td q d c i := match q with
    | 0 => (inferInstance : BI.Storable (upEmb : UEmb _ 𝕄) (tileP tbl idx d (G (tbl d) (idx d)) (Fin.cast nCore_zero c) (Fin.cast nSub_zero i)))

/-! ## The splits -/

theorem cores_eq (d : Dev nD) (f : S640000x128.Idx → Elt F .f32) :
    (iprop((tLoc d ↦{fullShare} tbl d) ∗ (iLoc d ↦{fullShare} idx d) ∗ oLoc d ↦{fullShare} f) : sProp 𝕄)
      = bigSep Finset.univ fun c : Fin 2 => coreP tbl idx d f c := by
  unfold coreP
  rw [bigSep_sep', bigSep_sep', ← pointsTo_biUnion Finset.univ (ℓ := oLoc d) cRows cRows_disjoint, cRows_cover,
    pointsTo_leaves (ℓ := tLoc d) Finset.univ (tbl d) 1 fullShare, pointsTo_leaves (ℓ := iLoc d) Finset.univ (idx d) 1 fullShare]
  rfl
theorem tiles_eq (d : Dev nD) (f : S640000x128.Idx → Elt F .f32) (c : Fin 2) :
    coreP tbl idx d f c = bigSep Finset.univ fun i : Fin 16 => tileP tbl idx d f c i := by
  unfold coreP tileP
  rw [bigSep_sep', bigSep_sep', ← pointsTo_biUnion Finset.univ (ℓ := oLoc d) (tRows c) (tRows_disjoint c),
    pointsTo_leaves (ℓ := tLoc d) Finset.univ (tbl d) 4 (qC c), pointsTo_leaves (ℓ := iLoc d) Finset.univ (idx d) 4 (qC c)]
  rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P tbl idx f₀) 0 := by
  intro d c
  show coreP tbl idx d (f₀ d) (Fin.cast nCore_zero c) ⊢ |={Set.univ}=> iprop(
      (bigSep Finset.univ fun i : Fin ((K (F := F)).nSub 0) => tileP tbl idx d (f₀ d) (Fin.cast nCore_zero c) (Fin.cast nSub_zero i))
      ∗ ((bigSep Finset.univ fun i : Fin ((K (F := F)).nSub 0) => tileP tbl idx d (G (tbl d) (idx d)) (Fin.cast nCore_zero c) (Fin.cast nSub_zero i))
          -∗ coreP tbl idx d (G (tbl d) (idx d)) (Fin.cast nCore_zero c)))
  rw [bigSep_tasks (F := F) (fun i => tileP tbl idx d (f₀ d) (Fin.cast nCore_zero c) i),
    bigSep_tasks (F := F) (fun i => tileP tbl idx d (G (tbl d) (idx d)) (Fin.cast nCore_zero c) i), tiles_eq, tiles_eq]
  iintro H; imodintro
  isplitl [H]; · iexact H
  iintro H
  iexact H

/-! ## The tiles' obligation -/

variable [FloatOps F]

theorem defs₀_vector (c : Fin τ.nSC) (s : Fin τ.nSub) :
    defs₀ (F := F) (.scVector c s) 0 ()
      = SparseCore.onTile hcore0 hsub0 (fun c s => cc0_kern (coordsV c s)
          tblV (Memref.isWhole_whole _) idxV (Memref.isWhole_whole _) outV (Memref.isWhole_whole _) iV (Memref.isWhole_whole _) cc0_scoped1
          rV (Memref.isWhole_whole _) cc0_scoped3 cc0_scoped4 cc0_scoped5) ⟨⟩ c s := rfl

/-- Every index names a row of the table. -/
def InRows : Prop := ∀ (d : Dev nD) (j : S1x640000.Idx), BitVec.toNat (idx d j) < 10000

omit [FloatOps F] in
theorem tRows_eq (c : Fin 2) (i : Fin 16) (L : grid0.Coords) (h0 : (L 0).val = c.val) (h1 : (L 1).val = i.val) :
    tRows c i = rowsSet (128 * bb L) (128 * (bb L + nb L)) := by
  have e : L = coordsV c i := by
    funext k
    match k with
    | 0 => exact Fin.ext h0
    | 1 => exact Fin.ext h1
  rw [e]; rfl

/-- Tile `(c, i)`'s part is what its body takes and leaves. -/
theorem tileP_eq (d : Dev nD) (f : S640000x128.Idx → Elt F .f32) (c : Fin 2) (i : Fin 16) (L : grid0.Coords) (h0 : (L 0).val = c.val) (h1 : (L 1).val = i.val) :
    tileP tbl idx d f c i = iprop((tLoc d ↦{qW c i} tbl d) ∗ (iLoc d ↦{qW c i} idx d) ∗ oLoc d ↦[rowsSet (128 * bb L) (128 * (bb L + nb L))]{fullShare} f) := by
  unfold tileP
  rw [tRows_eq c i L h0 h1]

set_option maxRecDepth 16384 in
theorem tileObl (hin : InRows (F := F) idx) : (K (F := F)).TileObl (D (F := F)) 𝒱 (P tbl idx f₀) v₀ 0 := by
  intro d c i O W hO _ _
  simp only [show (P tbl idx f₀).ox = fun _ _ => 0 from rfl, add_zero]
  have hci : ((K (F := F)).core 0 c).val < grid0.bound 0 ∧ ((K (F := F)).sub 0 i).val < grid0.bound 1 := ⟨c.isLt, i.isLt⟩
  rw [show (P tbl idx f₀).go 0 d c i = _ from tileP_eq tbl idx d (f₀ d) (Fin.cast nCore_zero c) (Fin.cast nSub_zero i) (coordsV ⟨_, hci.1⟩ ⟨_, hci.2⟩) rfl rfl,
    show (P tbl idx f₀).td 0 d c i = _ from tileP_eq tbl idx d (G (tbl d) (idx d)) (Fin.cast nCore_zero c) (Fin.cast nSub_zero i) (coordsV ⟨_, hci.1⟩ ⟨_, hci.2⟩) rfl rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have key := @tile_body F d (coordsV ⟨_, hci.1⟩ ⟨_, hci.2⟩) (tbl d) (idx d) (f₀ d) (qW (Fin.cast nCore_zero c) (Fin.cast nSub_zero i)) _
    (qW (Fin.cast nCore_zero c) (Fin.cast nSub_zero i)) facts (hin d) O W hO
  show (_ : sProp 𝕄) ⊢ _
  refine key.trans ?_
  iintro H
  iapply wp_wand frame _ _ $$ H
  iintro %_ ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P tbl idx f₀).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) tbl idx f₀).x q thr) = bigSep Finset.univ fun _ => iprop(emp) from
    bigSep_congr fun _ _ => bigSep_univ_of_subsingleton (0 : Fin 1), bigSep_emp']
  iempintro

/-! ## @main -/

variable (m : (ℓ : Loc nD τ sig) → Buf (Elt F) ℓ) (ρ : Dev nD → PrngReg)

abbrev tblOf (d : Dev nD) : S10000x128.Idx → Elt F .f32 := m (tLoc d)
abbrev idxOf (d : Dev nD) : S1x640000.Idx → Elt F .i32 := m (iLoc d)
abbrev outOf (d : Dev nD) : S640000x128.Idx → Elt F .f32 := m (oLoc d)
abbrev PM : (K (F := F)).Pay (nD := nD) (Val := Elt F) (Name := ℕ) (U := UU) := P (tblOf m) (idxOf m) (outOf m)

omit [FloatOps F] in
theorem unscopedBufs_eq (d : Dev nD) (W : (b : Ref sig .tc) → Buf (Elt F) ((d.tc : Thread nD τ).loc b)) :
    (unscopedBufs d W : sProp 𝕄) = iprop((tLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

abbrev FIN (d : Dev nD) : sProp 𝕄 :=
  iprop((tLoc d ↦{fullShare} tblOf m d) ∗ (iLoc d ↦{fullShare} idxOf m d) ∗ oLoc d ↦{fullShare} G (tblOf m d) (idxOf m d))

omit [FloatOps F] in
theorem st0_eq (d : Dev nD) : (bigSep Finset.univ fun c : Fin ((K (F := F)).nCore 0) => (PM m).st 0 d c)
    = (iprop((tLoc d ↦{fullShare} tblOf m d) ∗ (iLoc d ↦{fullShare} idxOf m d) ∗ oLoc d ↦{fullShare} outOf m d) : sProp 𝕄) :=
  (bigSep_cores (F := F) (fun c => coreP (tblOf m) (idxOf m) d (outOf m d) c)).trans (cores_eq (tblOf m) (idxOf m) d (outOf m d)).symm
omit [FloatOps F] in
theorem dn0_eq (d : Dev nD) : (bigSep Finset.univ fun c : Fin ((K (F := F)).nCore 0) => (PM m).dn 0 d c) = FIN m d :=
  (bigSep_cores (F := F) (fun c => coreP (tblOf m) (idxOf m) d (G (tblOf m d) (idxOf m d)) c)).trans (cores_eq (tblOf m) (idxOf m) d (G (tblOf m d) (idxOf m d))).symm

theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hops, Hts, -⟩, -⟩
  iapply ((K (F := F)).wp_run (D (F := F)) 𝒱 (EH := EH) (P := PM m) κ d 0) $$ [Hst Hops Hb Hts]
  isplitr; · iexact Hctx
  isplitl [Hst]; · iexact Hst
  isplitl [Hops]
  · rw [st0_eq]; iexact Hops
  iintro ⟨Hst, Hdn⟩
  ihave Hdn' := (Entails.of_eq (dn0_eq m d)) $$ Hdn
  imodintro
  isplitl [Hst]; · iexact Hst
  isplitl [Hdn']; · iexact Hdn'
  isplitl [Hb] <;> iassumption

def fq (d : Dev nD) (s' : Phys nD τ sig (Elt F)) : Prop :=
  s'.mem.mem (tLoc d) = m (tLoc d) ∧ s'.mem.mem (iLoc d) = m (iLoc d) ∧ s'.mem.mem (oLoc d) = G (tblOf m d) (idxOf m d)

set_option maxRecDepth 16384 in
omit [FloatOps F] in
theorem hfin (d : Dev nD) (s' : Phys nD τ sig (Elt F)) : iprop(FIN m d ∗ SI s') ⊢ (⌜fq m d s'⌝ : sProp 𝕄) := by
  iintro ⟨⟨Ht, Hi, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := G (tblOf m d) (idxOf m d))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (tLoc c) = m (tLoc c) ∧ r.2.mem (iLoc c) = m (iLoc c) ∧ r.2.mem (oLoc c) = G (tblOf m c) (idxOf m c)) ∧ r.2.sem = fun _ => 0

theorem run_main [∀ e, Nonempty (Elt F e)] (hin : InRows (F := F) (idxOf m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (tblOf m) (idxOf m) (outOf m) hin)
    (fun q _ => match q with | 0 => SparseCore.Cfg.VecSplit.of_plain (vecSplit (tblOf m) (idxOf m) (outOf m)))
    m ρ main (fun _ => iprop(emp)) (FIN m) (u₀ (F := F)) (sep_elim_left.trans (hu₀ (tblOf m) (idxOf m) (outOf m))) (hmain m ρ) (fq m) (hfin m) (QC m) (fun _ h hz => ⟨h, hz⟩)

end Cert.Proof.Launch

end
-- ==== Proof.Rows.lean ====
/- The reference read at an index: a row of the table at the index's word, the reference's bounds on a negative index and on
   one past the table doing nothing when every index names a row; and the precondition read back as that. -/
module

public import proofs.«01_k».proof.Proof.Launch
public import proofs.«01_k».proof.Pre_in_rows
public import Idealize.ShloMosaic.Lib.Pipeline.Value

@[expose] public section

noncomputable section

namespace Cert.Proof.Rows

open Idealize.ShloMosaic Cert.Proof.Slots

/-! ## A gather of whole rows -/

section Gather
variable {α : Type}

/-- The gather of rows: from a table `[N, C]`, at row numbers `[B, 1]`, to `[B, C]`. -/
abbrev rowsDims (N C B : ℕ) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- Row `y 0` of the result is the row of the table its number names, read signed and clamped into the table. -/
theorem gather_rows_apply {N C B w : ℕ} (hN : 0 < N) (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (y : (⟨2, ![B, C]⟩ : Shape).Idx) :
    Host.gather (rowsDims N C B wf) x idx y
      = x (Shape.pair (d := ![N, C]) ⟨min (idx (Shape.pair (d := ![B, 1]) (y 0) (0 : Fin 1))).toInt.toNat (N - 1), by show _ < N; omega⟩ (y 1)) := by
  unfold Host.gather
  congr 1
  funext a
  refine Fin.ext ?_
  show (rowsDims N C B wf).start y idx a + (rowsDims N C B wf).batchCoord y a + (rowsDims N C B wf).offCoord y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C B wf).startIndexMap from List.mem_singleton.mpr rfl)]
    have hsi : (rowsDims N C B wf).siIdx y ⟨List.idxOf (0 : Fin 2) (rowsDims N C B wf).startIndexMap,
        List.idxOf_lt_length_iff.2 (List.mem_singleton.mpr rfl)⟩ = Shape.pair (d := ![B, 1]) (y 0) (0 : Fin 1) := by
      funext b; refine Fin.ext ?_
      match b with
      | ⟨0, _⟩ => rfl
      | ⟨1, _⟩ => rfl
    rw [hsi]
    rfl
  · unfold GatherDims.start
    rw [dif_neg (show (1 : Fin 2) ∉ (rowsDims N C B wf).startIndexMap from (by decide : (1 : Fin 2) ∉ [(0 : Fin 2)]))]
    unfold GatherDims.offCoord
    rw [dif_pos ((GatherDims.mem_sKept _ _).mpr ⟨(by decide : (1 : Fin 2) ∉ [(0 : Fin 2)]), List.not_mem_nil⟩)]
    simp only [Nat.zero_add]
    rfl

end Gather

/-! ## The reference's term -/

variable {F : FTy → Type}

/-- A word that names a row is not negative. -/
theorem not_neg {v : BitVec 32} (h : v.toNat < 10000) : IntOp.cmpi .slt v 0#32 = 0#1 := by
  have h1 : ¬ v.toInt < 0 := by
    rw [BitVec.toInt_eq_toNat_cond]; split <;> omega
  simp only [IntOp.cmpi, BitVec.slt_eq_decide]
  rw [decide_eq_false (by simpa using h1)]
  rfl

theorem toInt_of {v : BitVec 32} (h : v.toNat < 10000) : v.toInt.toNat = v.toNat := by
  rw [BitVec.toInt_eq_toNat_cond, if_pos (by omega)]
  simp

theorem ref_eq (tbl : (⟨2, ![10000, 128]⟩ : Shape).Idx → Elt F .f32) (idx : (⟨2, ![1, 640000]⟩ : Shape).Idx → BitVec 32)
    (hin : ∀ j, BitVec.toNat (idx j) < 10000)
    (wf : GatherDims.WF ⟨2, ![10000, 128]⟩ ⟨2, ![640000, 1]⟩ ⟨2, ![640000, 128]⟩ [1] [0] [] [0] [] 1 ![1, 128])
    (hs : (⟨2, ![1, 640000]⟩ : Shape).ShapeCasts ⟨1, ![640000]⟩)
    (hb : (⟨1, ![640000]⟩ : Shape).BroadcastsInDim ⟨2, ![640000, 1]⟩ ![0]) (h0 : (⟨0, ![]⟩ : Shape).BroadcastsInDim ⟨1, ![640000]⟩ ![]) :
    Host.gather (rowsDims 10000 128 640000 wf) tbl
      (broadcastInDim ⟨2, ![640000, 1]⟩ ![0] hb
        (select (cmpi .slt (shapeCast ⟨1, ![640000]⟩ idx hs) (broadcastInDim ⟨1, ![640000]⟩ ![] h0 (constantI ⟨0, ![]⟩ 32 0#32)))
          (addi (shapeCast ⟨1, ![640000]⟩ idx hs) (broadcastInDim ⟨1, ![640000]⟩ ![] h0 (constantI ⟨0, ![]⟩ 32 10000#32)))
          (shapeCast ⟨1, ![640000]⟩ idx hs)))
      = G (F := F) tbl idx := by
  funext j
  rw [gather_rows_apply (by decide)]
  have e : (broadcastInDim ⟨2, ![640000, 1]⟩ ![0] hb
        (select (cmpi .slt (shapeCast ⟨1, ![640000]⟩ idx hs) (broadcastInDim ⟨1, ![640000]⟩ ![] h0 (constantI ⟨0, ![]⟩ 32 0#32)))
          (addi (shapeCast ⟨1, ![640000]⟩ idx hs) (broadcastInDim ⟨1, ![640000]⟩ ![] h0 (constantI ⟨0, ![]⟩ 32 10000#32)))
          (shapeCast ⟨1, ![640000]⟩ idx hs))) (Shape.pair (d := ![640000, 1]) (j 0) (0 : Fin 1))
      = idx (Shape.pair (d := ![1, 640000]) (0 : Fin 1) (j 0)) := by
    have hsc : ∀ k : (⟨1, ![640000]⟩ : Shape).Idx, shapeCast ⟨1, ![640000]⟩ idx hs k = idx (Shape.pair (d := ![1, 640000]) (0 : Fin 1) (k 0)) := by
      intro k
      refine (shapeCast_dropUnit_apply ![640000] idx hs k).trans (congrArg idx (funext fun b => ?_))
      match b with
      | ⟨0, _⟩ => rfl
      | ⟨1, _⟩ => rfl
    show Scalar.select (IntOp.cmpi .slt (shapeCast ⟨1, ![640000]⟩ idx hs _) 0#32) _ (shapeCast ⟨1, ![640000]⟩ idx hs _) = _
    rw [hsc, not_neg (hin _)]
    rfl
  have hv := hin (Shape.pair (d := ![1, 640000]) (0 : Fin 1) (j 0))
  unfold G
  refine congrArg tbl (congrArg (fun r : Fin 10000 => Shape.pair (d := ![10000, 128]) r (j 1)) (Fin.ext ?_))
  show min _ (10000 - 1) = _ % 10000
  rw [e, toInt_of hv, Nat.mod_eq_of_lt hv]
  exact Nat.min_eq_left (by omega)

/-! ## The precondition -/

instance : Cert.Pre_in_rows.Facts where
  bcast_S_S1x640000 := by decide

/-- The precondition says that every index names a row. -/
theorem in_rows_of [FloatOps F] (a0 : FVec F Cert.Pre_in_rows.S10000x128 .f32) (a1 : IVec Cert.Pre_in_rows.S1x640000 32)
    (h : Cert.Pre_in_rows.fn (F := F) a0 a1 = fun _ => 1#1) (j : Cert.Pre_in_rows.S1x640000.Idx) : (a1 j).toNat < 10000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 10000#32) = 1#1 → v.toNat < 10000 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h j
  simp only [Pre_in_rows.fn, andi, cmpi, broadcastInDim, constantI] at e
  exact key _ e

end Cert.Proof.Rows

end
-- ==== Proof.PrepValue.lean ====
/-
  The dense layers at the head of the kernel: `x` times the two weight matrices set side by side, plus the bias row, cut
  below at zero on the first 64 lanes. Here: the joined weights and the joined bias read at an entry, one block of the
  result against the reference's term, and the whole result array.
-/
module

public import proofs.«01_k».proof.Proof.Gen.PrepIdeal.Value
public import proofs.«01_k».proof.Proof.Gen.PrepReferenceIdeal.Run
public import Idealize.ShloMosaic.Lib.Pipeline.ValueKit
public import Idealize.ShloMosaic.Lib.Pointwise
public import Idealize.ShloMosaic.Lib.Routing.OpsOne

@[expose] public section

set_option maxRecDepth 16384

noncomputable section

namespace Cert.PrepIdeal.Dense

section Scatter

open Idealize.ShloMosaic hiding ix0 ix1 ix2 eq_ix1 eq_ix2
open Idealize.ShloMosaic.ValueIdx Idealize.ShloMosaic.Routing

/-! ## Blocks of columns set into a matrix -/

/-- The dimension numbers of a block of `U` columns set into an `R × C` matrix at one column word. -/
def colsDims (R C U : Nat) (h : ScatterDims.WF (shape2 R C) (shape1 1) (shape2 R U) [0, 1] [] [1] 0) :
    ScatterDims (shape2 R C) (shape1 1) (shape2 R U) where
  updateWindowDims := [0, 1]
  insertedWindowDims := []
  scatterDimsToOperandDims := [1]
  indexVectorDim := 0
  wf := h

/-- Entry `(r', j)` of the block lands at `(r, c)` exactly when the rows agree and `c` is `j` past the column word. -/
theorem lands_cols {R C U : Nat} (h) (idx : IVec (shape1 1) 32) (o : Nat) (ho : (idx (ix1 0)).toInt = (o : Int))
    (r' r : Fin R) (j : Fin U) (c : Fin C) :
    (colsDims R C U h).resultIdx? (ix2 r' j) idx = some (ix2 r c) ↔ r'.val = r.val ∧ o + j.val = c.val := by
  have hm : (1 : Fin 2) ∈ (colsDims R C U h).scatterDimsToOperandDims := List.mem_singleton.2 rfl
  have w0 : (colsDims R C U h).window (ix2 r' j) 0 = r'.val := rfl
  have w1 : (colsDims R C U h).window (ix2 r' j) 1 = j.val := rfl
  have s0 : (colsDims R C U h).start (ix2 r' j) idx 0 = 0 := rfl
  have s1 : (colsDims R C U h).start (ix2 r' j) idx 1 = (o : Int) := by
    unfold ScatterDims.start
    rw [dif_pos hm]
    have hsi : (colsDims R C U h).siIdx (ix2 r' j) ⟨(colsDims R C U h).scatterDimsToOperandDims.idxOf 1, List.idxOf_lt_length_iff.2 hm⟩ = ix1 (0 : Fin 1) := by
      funext b'
      match b' with
      | ⟨0, _⟩ => exact Subsingleton.elim (α := Fin 1) _ _
    rw [hsi, ho]
  rw [resultIdx?_ix2, s0, s1, w0, w1]
  omega

/-- The matrix with the block set in, read at an entry: the block's entry inside its columns, else the matrix's own. -/
theorem cols_apply {α : Type} {R C U : Nat} (h) (x0 : (shape2 R C).Idx → α) (idx : IVec (shape1 1) 32) (u : (shape2 R U).Idx → α)
    (o : Nat) (ho : (idx (ix1 0)).toInt = (o : Int)) (r : Fin R) (c : Fin C) :
    Host.scatter (colsDims R C U h) (fun _ b => b) x0 idx u (ix2 r c)
      = if q : o ≤ c.val ∧ c.val - o < U then u (ix2 r ⟨c.val - o, q.2⟩) else x0 (ix2 r c) := by
  have lands : ∀ k : (shape2 R U).Idx, (colsDims R C U h).resultIdx? k idx = some (ix2 r c) → (k 0).val = r.val ∧ o + (k 1).val = c.val :=
    fun k hk => (lands_cols h idx o ho (k 0) r (k 1) c).1 ((congrArg (fun t => (colsDims R C U h).resultIdx? t idx) (eq_ix2 k).symm).trans hk)
  by_cases q : o ≤ c.val ∧ c.val - o < U
  · rw [dif_pos q]
    refine scatter_set_hit _ x0 idx u _ _ (fun k hk => ?_) (ix2 r ⟨c.val - o, q.2⟩) ((lands_cols h idx o ho r r _ c).2 ⟨rfl, ?_⟩)
    · obtain ⟨a, b⟩ := lands k hk
      rw [eq_ix2 k]
      exact congrArg u (congrArg₂ ix2 (Fin.ext a) (Fin.ext (show (k 1).val = c.val - o by omega)))
    · show o + (c.val - o) = c.val
      omega
  · rw [dif_neg q]
    refine scatter_set_miss _ x0 idx u _ fun k hk => q ?_
    obtain ⟨a, b⟩ := lands k hk
    have hlt : (k 1).val < U := (k 1).isLt
    exact ⟨by omega, by omega⟩

/-- The dimension numbers of `U` entries set into one row of an `R × C` matrix at a pair of words. -/
def rowDims (R C U : Nat) (h : ScatterDims.WF (shape2 R C) (shape1 2) (shape1 U) [0] [0] [0, 1] 0) :
    ScatterDims (shape2 R C) (shape1 2) (shape1 U) where
  updateWindowDims := [0]
  insertedWindowDims := [0]
  scatterDimsToOperandDims := [0, 1]
  indexVectorDim := 0
  wf := h

/-- `U` entries set at the head of the one row of a `1 × C` matrix, read at an entry. -/
theorem row_apply {α : Type} {C U : Nat} (h) (x0 : (shape2 1 C).Idx → α) (idx : IVec (shape1 2) 32) (u : (shape1 U).Idx → α)
    (h0 : (idx (ix1 (0 : Fin 2))).toInt = 0) (h1 : (idx (ix1 (1 : Fin 2))).toInt = 0) (c : Fin C) :
    Host.scatter (rowDims 1 C U h) (fun _ b => b) x0 idx u (ix2 0 c)
      = if q : c.val < U then u (ix1 ⟨c.val, q⟩) else x0 (ix2 0 c) := by
  have key : ∀ k : Fin U, (rowDims 1 C U h).resultIdx? (ix1 k) idx = some (ix2 0 c) ↔ k.val = c.val := fun k => by
    have w0 : (rowDims 1 C U h).window (ix1 k) 0 = 0 := rfl
    have w1 : (rowDims 1 C U h).window (ix1 k) 1 = k.val := rfl
    rw [resultIdx?_ix2, start_pair _ rfl rfl, start_pair _ rfl rfl, h0, h1, w0, w1]
    have : ((0 : Fin 1) : Nat) = 0 := rfl
    omega
  have lands : ∀ k : (shape1 U).Idx, (rowDims 1 C U h).resultIdx? k idx = some (ix2 0 c) → (k 0).val = c.val :=
    fun k hk => (key (k 0)).1 ((congrArg (fun t => (rowDims 1 C U h).resultIdx? t idx) (eq_ix1 k).symm).trans hk)
  by_cases q : c.val < U
  · rw [dif_pos q]
    refine scatter_set_hit _ x0 idx u _ _ (fun k hk => ?_) (ix1 ⟨c.val, q⟩) ((key _).2 rfl)
    rw [eq_ix1 k]
    exact congrArg (fun e => u (ix1 e)) (Fin.ext (lands k hk))
  · rw [dif_neg q]
    refine scatter_set_miss _ x0 idx u _ fun k hk => q ?_
    have hlt : (k 0).val < U := (k 0).isLt
    exact (lands k hk) ▸ hlt

end Scatter

end Cert.PrepIdeal.Dense

open Idealize.ShloMosaic Idealize.ShloMosaic.TcCoe Idealize.SL.Sem

/-! ## The reference's term -/

namespace Cert.PrepReferenceIdeal.Dense

open Cert.PrepReferenceIdeal Cert.PrepReferenceIdeal.Gen

/-- The reference's result over its four arguments. -/
def REF (X : FVec Ideal S10000x256 .f32) (Wf : FVec Ideal S256x64 .f32) (bf : FVec Ideal S64 .f32) (Ws : FVec Ideal S256x4 .f32) :
    FVec Ideal S10000x128 .f32 :=
  concatenate S10000x128 1 [⟨S10000x64, (maximumf (addf (Host.dotGeneral dot_S10000x256_S256x64_S10000x64_1_0_0_1_n_n none X Wf) (broadcastInDim S10000x64 ![0, 1] bcast_S1x64_S10000x64_0_1 (broadcastInDim S1x64 ![1] bcast_S64_S1x64_1 bf))) (broadcastInDim S10000x64 ![] bcast_S_S10000x64 (constant S_ .f32 0x00000000#32)) : FVec Ideal S10000x64 .f32)⟩, ⟨S10000x4, (Host.dotGeneral dot_S10000x256_S256x4_S10000x4_1_0_0_1_n_n none X Ws : FVec Ideal S10000x4 .f32)⟩, ⟨S10000x60, (broadcastInDim S10000x60 ![] bcast_S_S10000x60 (constant S_ .f32 0x00000000#32) : FVec Ideal S10000x60 .f32)⟩] concatenates_S10000x64_S10000x4_S10000x60_S10000x128_d1

end Cert.PrepReferenceIdeal.Dense

/-! ## The kernel's joined weights and one block -/

namespace Cert.PrepIdeal.Dense

open Cert.PrepIdeal Cert.PrepIdeal.Gen
open Cert.PrepReferenceIdeal.Dense (REF)

/-- The two weight matrices side by side, zero on the 60 lanes past them. -/
def wcat (Wf : FVec Ideal S256x64 .f32) (Ws : FVec Ideal S256x4 .f32) : FVec Ideal S256x128 .f32 :=
  Host.scatter scatter_S256x128_S1_S256x4_01_n_1_0 (fun _ b => b)
    (Host.scatter scatter_S256x128_S1_S256x64_01_n_1_0 (fun _ b => b) (broadcastInDim S256x128 ![] bcast_S_S256x128 (constant S_ .f32 0x00000000#32))
      (broadcastInDim S1 ![] bcast_S_S1 (constantI S_ 32 0#32)) Wf)
    (broadcastInDim S1 ![] bcast_S_S1 (constantI S_ 32 64#32)) Ws

/-- The bias in the first 64 lanes of a row of zeros. -/
def bcat (bf : FVec Ideal S64 .f32) : FVec Ideal S1x128 .f32 :=
  Host.scatter scatter_S1x128_S2_S64_0_0_01_0 (fun _ b => b) (broadcastInDim S1x128 ![] bcast_S_S1x128 (constant S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) bf

theorem wcat_apply (Wf : FVec Ideal S256x64 .f32) (Ws : FVec Ideal S256x4 .f32) (k : Fin 256) (j : Fin 128) :
    wcat Wf Ws (ix2 k j) = if q : 64 ≤ j.val ∧ j.val - 64 < 4 then Ws (ix2 k ⟨j.val - 64, q.2⟩)
      else if q : 0 ≤ j.val ∧ j.val - 0 < 64 then Wf (ix2 k ⟨j.val - 0, q.2⟩) else (0 : EReal) := by
  refine (cols_apply (R := 256) (C := 128) (U := 4) _ _ _ Ws 64 (by rfl) k j).trans ?_
  refine dite_congr rfl (fun _ => rfl) fun _ => ?_
  refine (cols_apply (R := 256) (C := 128) (U := 64) _ _ _ Wf 0 (by rfl) k j).trans ?_
  refine dite_congr rfl (fun _ => rfl) fun _ => ?_
  pointwise

theorem bcat_apply (bf : FVec Ideal S64 .f32) (j : Fin 128) :
    bcat bf (ix2 0 j) = if q : j.val < 64 then bf (ix1 ⟨j.val, q⟩) else (0 : EReal) := by
  refine (row_apply (C := 128) (U := 64) _ _ _ bf (by rfl) (by rfl) j).trans ?_
  refine dite_congr rfl (fun _ => rfl) fun _ => ?_
  pointwise

/-- The body's comparison of a lane with 64. -/
theorem lane_lt : ∀ j : Fin 128, IntOp.cmpi CmpIPredicate.slt (BitVec.ofNat 32 j.val) 64#32 = if j.val < 64 then 1#1 else 0#1 := by
  decide

/-- One entry of a block: where the block's row `r` of `x` is row `i` of the array, the body's entry is the reference's. -/
theorem pay_eq (X : FVec Ideal S10000x256 .f32) (Wf : FVec Ideal S256x64 .f32) (bf : FVec Ideal S64 .f32) (Ws : FVec Ideal S256x4 .f32)
    (x0 : FVec Ideal S400x256 .bf16) (w : FVec Ideal S256x128 .bf16) (b : FVec Ideal S1x128 .f32) (r : Fin 400) (i : Fin 10000)
    (hx : ∀ k : Fin 256, x0 (ix2 r k) = X (ix2 i k)) (hw : ∀ (k : Fin 256) (j : Fin 128), w (ix2 k j) = wcat Wf Ws (ix2 k j))
    (hb : ∀ j : Fin 128, b (ix2 0 j) = bcat bf (ix2 0 j)) (j : Fin 128) :
    k0_pay1 (F := Ideal) x0 w b (ix2 r j) = REF X Wf bf Ws (ix2 i j) := by
  pointwise [k0_pay1, REF]
  simp only [hx, hw, hb, wcat_apply, bcat_apply]
  rw [lane_lt j]
  by_cases h : j.val < 64
  · have h' : ¬(64 ≤ j.val ∧ j.val - 64 < 4) := by omega
    have h'' : 0 ≤ j.val ∧ j.val - 0 < 64 := by omega
    simp only [dif_pos h, dif_neg h', dif_pos h'', if_pos h]
    rfl
  · have h' : ¬(0 ≤ j.val ∧ j.val - 0 < 64) := by omega
    simp only [dif_neg h, dif_neg h', if_neg h]
    by_cases q : 64 ≤ j.val ∧ j.val - 64 < 4
    · simp only [dif_pos q, dif_pos q.2]
      exact add_zero _
    · have q' : ¬(j.val - 64 < 4) := by omega
      simp only [dif_neg q, dif_neg q', mul_zero, Finset.sum_const_zero, add_zero]
      rfl

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem entry_x (c : Dev nD) : V m c main_v0
    = (truncf .bf16 (m ((c : Thread nD τ).loc main_arg0) : FVec Ideal S10000x256 .f32) bitsLt_bf16_f32 : FVec Ideal S10000x256 .bf16) := by
  entry_read
  rfl

theorem entry_w (c : Dev nD) : V m c main_v6
    = (truncf .bf16 (wcat (m ((c : Thread nD τ).loc main_arg1)) (m ((c : Thread nD τ).loc main_arg3))) bitsLt_bf16_f32 : FVec Ideal S256x128 .bf16) := by
  entry_read
  rfl

theorem entry_b (c : Dev nD) : V m c main_v11 = bcat (m ((c : Thread nD τ).loc main_arg2)) := by
  entry_read
  rfl

/-- The result array after the run is the reference's term of the arguments. -/
theorem final (c : Dev nD) : (dats m 0 c).arrAt 3 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3]; frame_out
  idx_vars y
  have ht : t.val < 25 := lt_of_lt_of_eq t.isLt N_0
  refine (pay_eq _ _ _ _ _ _ _ y0 ⟨t.val * 400 + y0.val, by omega⟩ (fun k => ?_) (fun k j => ?_) (fun j => ?_) y1).trans (congrArg _ ?_)
  · show V m c main_v0 (((cfg0.win 0).blk t).view.emb (ix2 y0 k)) = _
    rw [entry_x]
    show m ((c : Thread nD τ).loc main_arg0) _ = m ((c : Thread nD τ).loc main_arg0) _
    blk_ext [idx t]
  · show V m c main_v6 (((cfg0.win 1).blk t).view.emb (ix2 k j)) = _
    have e : ((cfg0.win 1).blk t).view.emb (ix2 k j) = (ix2 k j : S256x128.Idx) := by blk_ext [idx t]
    rw [entry_w, e]
    rfl
  · show V m c main_v11 (((cfg0.win 2).blk t).view.emb (ix2 0 j)) = _
    have e : ((cfg0.win 2).blk t).view.emb (ix2 0 j) = (ix2 0 j : S1x128.Idx) := by blk_ext [idx t]
    rw [entry_b, e]
  · blk_ext [idx t]

/-- The run with its value: the result is the reference's term of the arguments, which are unchanged. -/
theorem run : θ_run defs (onTc (τ := τ) (main (F := Ideal))) ⟨m, fun _ => 0, ρ⟩ fun r => ∀ c : Dev nD,
      r.2.mem ((c : Thread nD τ).loc main_v12)
        = REF (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.PrepIdeal.Dense

end
-- ==== Proof.FinishValue.lean ====
/-
  The aggregation at the end of the kernel: the neighbours' features weighted by `exp (-10 d)`, their mean and maximum
  less the vertex's own features, joined with `x` and taken through the last dense layer. Here: one block of the result
  against the reference's term, and the whole result array.
-/
module

public import proofs.«01_k».proof.Proof.Gen.FinishIdeal.Value
public import proofs.«01_k».proof.Proof.Gen.FinishReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FinishReferenceIdeal.Aggregate

open Cert.FinishReferenceIdeal Cert.FinishReferenceIdeal.Gen

/-- The neighbours' features times their weights. -/
def weighted (D : FVec Ideal S10000x128 .f32) (G : FVec Ideal S640000x128 .f32) : FVec Ideal S10000x64x64 .f32 :=
  mulf (extractStridedSlice S10000x64x64 ![0, 0, 0] (shapeCast _ G shapeCasts_S640000x128_S10000x64x128) slices_S10000x64x128_S10000x64x64_0_0_0) (broadcastInDim S10000x64x64 ![0, 1, 2] bcast_S10000x64x1_S10000x64x64_0_1_2 (broadcastInDim S10000x64x1 ![0, 1] bcast_S10000x64_S10000x64x1_0_1 (Host.exp (mulf (broadcastInDim S10000x64 ![] bcast_S_S10000x64 (constant S_ .f32 0xC1200000#32)) (extractStridedSlice S10000x64 ![0, 1] D slices_S10000x128_S10000x64_0_1)))))

/-- Their mean and maximum over the neighbours, side by side. -/
def pooled (D : FVec Ideal S10000x128 .f32) (G : FVec Ideal S640000x128 .f32) : FVec Ideal S10000x128 .f32 :=
  concatenate S10000x128 1 [⟨S10000x64, (Host.divf (Host.reduceAdd (weighted D G) (constant S_ .f32 0x00000000#32) reducesTo_S10000x64x64_S10000x64_d1 h_S_) (broadcastInDim S10000x64 ![] bcast_S_S10000x64 (constant S_ .f32 0x42800000#32)) : FVec Ideal S10000x64 .f32)⟩, ⟨S10000x64, (Host.reduce FloatOps.maximumf (weighted D G) (constant S_ .f32 0xFF800000#32) reducesTo_S10000x64x64_S10000x64_d1 h_S_ : FVec Ideal S10000x64 .f32)⟩] concatenates_S10000x64_S10000x64_S10000x128_d1

/-- The vertex's own features, twice. -/
def own (Y : FVec Ideal S10000x128 .f32) : FVec Ideal S10000x128 .f32 :=
  shapeCast _ (broadcastInDim S1x10000x2x64 ![0, 1, 2, 3] bcast_S1x10000x1x64_S1x10000x2x64_0_1_2_3 (shapeCast S1x10000x1x64 (extractStridedSlice S10000x64 ![0, 0] Y slices_S10000x128_S10000x64_0_0) shapeCasts_S10000x64_S1x10000x1x64)) shapeCasts_S1x10000x2x64_S10000x128

/-- The reference's result over its six arguments. -/
def REF (D : FVec Ideal S10000x128 .f32) (G : FVec Ideal S640000x128 .f32) (Y : FVec Ideal S10000x128 .f32) (X : FVec Ideal S10000x256 .f32)
    (W : FVec Ideal S384x128 .f32) (b : FVec Ideal S128 .f32) : FVec Ideal S10000x128 .f32 :=
  maximumf (addf (Host.dotGeneral dot_S10000x384_S384x128_S10000x128_1_0_0_1_n_n none (concatenate S10000x384 1 [⟨S10000x128, (subf (pooled D G) (own Y) : FVec Ideal S10000x128 .f32)⟩, ⟨S10000x256, X⟩] concatenates_S10000x128_S10000x256_S10000x384_d1) W) (broadcastInDim S10000x128 ![0, 1] bcast_S1x128_S10000x128_0_1 (broadcastInDim S1x128 ![1] bcast_S128_S1x128_1 b))) (broadcastInDim S10000x128 ![] bcast_S_S10000x128 (constant S_ .f32 0x00000000#32))

end Cert.FinishReferenceIdeal.Aggregate

namespace Cert.FinishIdeal.Aggregate

open Cert.FinishIdeal Cert.FinishIdeal.Gen
open Cert.FinishReferenceIdeal.Aggregate (REF pooled own weighted)

/-- A sum over 384 terms, cut at 64 and at 128. -/
theorem sum_cut (f : Fin 384 → EReal) :
    ∑ x, f x = ∑ x : Fin 64, f ⟨x.val, by omega⟩ + ∑ x : Fin 64, f ⟨64 + x.val, by omega⟩ + ∑ x : Fin 256, f ⟨128 + x.val, by omega⟩ := by
  refine (Fin.sum_univ_add (a := 128) (b := 256) f).trans (congrArg₂ (· + ·) ?_ rfl)
  exact Fin.sum_univ_add (a := 64) (b := 64) fun x => f (Fin.castAdd 256 x)

theorem ofBits_64 : Ideal.ofBits .f32 0x42800000#32 = (((64 : ℝ) : ℝ) : EReal) := by
  simp [Ideal.ofBits, Ideal.ieee, -EReal.coe_mul]; norm_num

theorem ofBits_inv_64 : Ideal.ofBits .f32 0x3C800000#32 = (((1 : ℝ) / 64 : ℝ) : EReal) := by
  simp [Ideal.ofBits, Ideal.ieee, -EReal.coe_mul]; norm_num

/-- A product with one sixty-fourth is the quotient by 64. -/
theorem mean_eq (s : EReal) : s * Ideal.ofBits .f32 0x3C800000#32 = Ideal.div s (Ideal.ofBits .f32 0x42800000#32) := by
  rw [ofBits_64, ofBits_inv_64]
  unfold Ideal.div
  rw [one_div, if_neg (by norm_num), EReal.coe_inv]

set_option maxHeartbeats 1600000 in
/-- One entry of a block: where row `r` of the blocks is row `i` of the arrays, the body's entry is the reference's. -/
theorem pay_eq (D : FVec Ideal S10000x128 .f32) (G : FVec Ideal S640000x128 .f32) (Y : FVec Ideal S10000x128 .f32) (X : FVec Ideal S10000x256 .f32)
    (W : FVec Ideal S384x128 .f32) (b : FVec Ideal S128 .f32)
    (d0 : FVec Ideal S200x64 .f32) (g0 : FVec Ideal S12800x128 .f32) (y0 : FVec Ideal S200x64 .f32) (x0 : FVec Ideal S200x256 .bf16)
    (w0 : FVec Ideal S384x128 .bf16) (b0 : FVec Ideal S1x128 .f32) (r : Fin 200) (i : Fin 10000)
    (hd : ∀ k : Fin 64, d0 (ix2 r k) = D (ix2 i ⟨1 + k.val, by omega⟩))
    (hg : ∀ (k : Fin 64) (l : Fin 128), g0 (ix2 ⟨r.val * 64 + k.val, by omega⟩ l) = G (ix2 ⟨i.val * 64 + k.val, by omega⟩ l))
    (hy : ∀ l : Fin 64, y0 (ix2 r l) = Y (ix2 i ⟨l.val, by omega⟩))
    (hx : ∀ l : Fin 256, x0 (ix2 r l) = X (ix2 i l))
    (hw : ∀ (k : Fin 384) (j : Fin 128), w0 (ix2 k j) = W (ix2 k j))
    (hb : ∀ j : Fin 128, b0 (ix2 0 j) = b (ix1 j)) (j : Fin 128) :
    k0_pay1 (F := Ideal) d0 g0 y0 x0 w0 b0 (ix2 r j) = REF D G Y X W b (ix2 i j) := by
  pointwise [k0_pay1, REF, pooled, own, weighted]
  refine (congrArg (fun s : EReal => max (s + b0 (ix2 0 j)) 0) (sum_cut _)).trans ?_
  refine congrArg₂ max (congrArg₂ (· + ·) (congrArg₂ (· + ·) (congrArg₂ (· + ·) ?_ ?_) ?_) (hb j)) rfl
  · refine Finset.sum_congr rfl fun x _ => ?_
    have h : x.val < 64 := x.isLt
    simp only [dif_pos h, hg, hd, hy, hw, mean_eq, Nat.mod_eq_of_lt h]
  · refine Finset.sum_congr rfl fun x _ => ?_
    have h : x.val < 64 := x.isLt
    have h1 : ¬(64 + x.val < 64) := by omega
    have e : 64 + x.val - 64 = x.val := by omega
    have e' : (64 + x.val) % 64 = x.val := by omega
    simp only [dif_neg h1, e, e', dif_pos h, hg, hd, hy, hw]
  · refine Finset.sum_congr rfl fun x _ => ?_
    have h1 : ¬(128 + x.val < 64) := by omega
    have h2 : ¬(128 + x.val - 64 < 64) := by omega
    have e : 128 + x.val - 64 - 64 = x.val := by omega
    simp only [dif_neg h1, dif_neg h2, e, hx, hw]

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![t.val, 0] :=
  (by decide +kernel : ∀ t : Fin grid0.N, _)

theorem entry_x (c : Dev nD) : V m c main_v0
    = (truncf .bf16 (m ((c : Thread nD τ).loc main_arg3) : FVec Ideal S10000x256 .f32) bitsLt_bf16_f32 : FVec Ideal S10000x256 .bf16) := by
  entry_read
  rfl

theorem entry_w (c : Dev nD) : V m c main_v1
    = (truncf .bf16 (m ((c : Thread nD τ).loc main_arg4) : FVec Ideal S384x128 .f32) bitsLt_bf16_f32 : FVec Ideal S384x128 .bf16) := by
  entry_read
  rfl

theorem entry_b (c : Dev nD) : V m c main_v2
    = (shapeCast S1x128 (m ((c : Thread nD τ).loc main_arg5) : FVec Ideal S128 .f32) shapeCasts_S128_S1x128 : FVec Ideal S1x128 .f32) := by
  entry_read
  rfl

/-- The result array after the run is the reference's term of the arguments. -/
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) := by
  refine (dats m 0 c).arrAt_eq_of_covers 6 _ (by decide +kernel) fun t _ y => ?_
  blk_simp
  rw [after0_6]; frame_out
  idx_vars y
  have ht : t.val < 50 := lt_of_lt_of_eq t.isLt N_0
  refine (pay_eq _ _ _ _ _ _ _ _ _ _ _ _ y0 ⟨t.val * 200 + y0.val, by omega⟩ (fun k => ?_) (fun k l => ?_) (fun l => ?_) (fun l => ?_) (fun k j => ?_) (fun j => ?_) y1).trans (congrArg _ ?_)
  · pointwise
    show V m c main_arg0 (((cfg0.win 0).blk t).view.emb _) = _
    rw [V_main_arg0]
    blk_ext [idx t]
  · show V m c main_arg1 (((cfg0.win 1).blk t).view.emb _) = _
    rw [V_main_arg1]
    blk_ext [idx t]
  · pointwise
    show V m c main_arg2 (((cfg0.win 2).blk t).view.emb _) = _
    rw [V_main_arg2]
    blk_ext [idx t]
  · show V m c main_v0 (((cfg0.win 3).blk t).view.emb _) = _
    rw [entry_x]
    show m ((c : Thread nD τ).loc main_arg3) _ = m ((c : Thread nD τ).loc main_arg3) _
    blk_ext [idx t]
  · show V m c main_v1 (((cfg0.win 4).blk t).view.emb _) = _
    rw [entry_w]
    show m ((c : Thread nD τ).loc main_arg4) _ = m ((c : Thread nD τ).loc main_arg4) _
    blk_ext [idx t]
  · show V m c main_v2 (((cfg0.win 5).blk t).view.emb (ix2 0 j)) = _
    rw [entry_b]
    have e : ((cfg0.win 5).blk t).view.emb (ix2 0 j) = (ix2 0 j : S1x128.Idx) := by blk_ext [idx t]
    rw [e]
    pointwise
  · blk_ext [idx t]

/-- The run with its value: the result is the reference's term of the arguments, which are unchanged. -/
theorem run : θ_run defs (onTc (τ := τ) (main (F := Ideal))) ⟨m, fun _ => 0, ρ⟩ fun r => ∀ c : Dev nD,
      r.2.mem ((c : Thread nD τ).loc main_v3)
        = REF (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.FinishIdeal.Aggregate

end
-- ==== Proof.CompactWords.lean ====
/- The integer words of the compaction, in closed form: which rows a tile takes, and what each offset and each condition of
   a trip comes to. A trip takes four rows, one per slot. Each fact is decided once for all thirty-two tiles and all
   their trips. -/
module

public import proofs.«01_k».proof.Proof.Gen.CompactIdeal
public import proofs.«01_k».proof.Proof.Gen.CompactIdeal.Skeleton

@[expose] public section

set_option maxRecDepth 16384

noncomputable section

namespace Cert.Proof.CompactWords

open Cert.CompactIdeal Cert.CompactIdeal.Gen Idealize.ShloMosaic

/-- The first of tile `L`'s rows. -/
abbrev base (L : grid0.Coords) : ℕ := 640 * (L 1).val + 320 * (L 0).val
/-- How many trips of four rows it takes: eighty, the last tile twenty. -/
abbrev nt (L : grid0.Coords) : ℕ := min 80 ((10000 - base L) / 4)

theorem base_le : ∀ L : grid0.Coords, base L + 4 * nt L ≤ 10000 := by decide +kernel
theorem nt_pos : ∀ L : grid0.Coords, 0 < nt L := by decide +kernel
theorem nt_le (L : grid0.Coords) : nt L ≤ 80 := Nat.min_le_left _ _
theorem trips1 : k0_t1_loop.trips = 80 := by decide
theorem trips2 : k0_t2_loop.trips = 320 := by decide
theorem trips3 : k0_t3_loop.trips = 320 := by decide
theorem trips4 : k0_t4_loop.trips = 320 := by decide
theorem trips5 : k0_t5_loop.trips = 320 := by decide

/-- Slot `k`'s part of a trip runs exactly on the tile's own trips. -/
theorem cond1 : ∀ (L : grid0.Coords) (t : Fin k0_t1_loop.trips), k0_cond1 L t = 1#1 ↔ t.val < nt L := by decide +kernel
theorem cond4 : ∀ (L : grid0.Coords) (t : Fin k0_t1_loop.trips), k0_cond4 L t = 1#1 ↔ t.val < nt L := by decide +kernel
theorem cond7 : ∀ (L : grid0.Coords) (t : Fin k0_t1_loop.trips), k0_cond7 L t = 1#1 ↔ t.val < nt L := by decide +kernel
theorem cond10 : ∀ (L : grid0.Coords) (t : Fin k0_t1_loop.trips), k0_cond10 L t = 1#1 ↔ t.val < nt L := by decide +kernel
/-- It waits for the rows of the trip before from the second trip on. -/
theorem cond2 : ∀ t : Fin k0_t1_loop.trips, k0_cond2 t = 1#1 ↔ 0 < t.val := by decide +kernel
theorem cond5 : ∀ t : Fin k0_t1_loop.trips, k0_cond5 t = 1#1 ↔ 0 < t.val := by decide +kernel
theorem cond8 : ∀ t : Fin k0_t1_loop.trips, k0_cond8 t = 1#1 ↔ 0 < t.val := by decide +kernel
theorem cond11 : ∀ t : Fin k0_t1_loop.trips, k0_cond11 t = 1#1 ↔ 0 < t.val := by decide +kernel
/-- It fetches the next trip's row if there is a next trip. -/
theorem cond3 : ∀ (L : grid0.Coords) (t : Fin k0_t1_loop.trips), k0_cond3 L t = 1#1 ↔ t.val + 1 < nt L := by decide +kernel
theorem cond6 : ∀ (L : grid0.Coords) (t : Fin k0_t1_loop.trips), k0_cond6 L t = 1#1 ↔ t.val + 1 < nt L := by decide +kernel
theorem cond9 : ∀ (L : grid0.Coords) (t : Fin k0_t1_loop.trips), k0_cond9 L t = 1#1 ↔ t.val + 1 < nt L := by decide +kernel
theorem cond12 : ∀ (L : grid0.Coords) (t : Fin k0_t1_loop.trips), k0_cond12 L t = 1#1 ↔ t.val + 1 < nt L := by decide +kernel
theorem cond13 : ∀ L : grid0.Coords, k0_cond13 L = 1#1 := by decide +kernel

/-- The row each slot waits for is the one of the trip before. -/
theorem off3 : ∀ (L : grid0.Coords) (t : Fin k0_t1_loop.trips), 0 < t.val → k0_off3 L t = ![base L + 4 * (t.val - 1) + 0, 0] := by decide +kernel
theorem off8 : ∀ (L : grid0.Coords) (t : Fin k0_t1_loop.trips), 0 < t.val → k0_off8 L t = ![base L + 4 * (t.val - 1) + 1, 0] := by decide +kernel
theorem off13 : ∀ (L : grid0.Coords) (t : Fin k0_t1_loop.trips), 0 < t.val → k0_off13 L t = ![base L + 4 * (t.val - 1) + 2, 0] := by decide +kernel
theorem off18 : ∀ (L : grid0.Coords) (t : Fin k0_t1_loop.trips), 0 < t.val → k0_off18 L t = ![base L + 4 * (t.val - 1) + 3, 0] := by decide +kernel
/-- After the loop, the rows of the last trip. -/
theorem off22 : ∀ (L : grid0.Coords) (k : Fin 4), k0_off22 L (BitVec.ofNat 32 k.val) = ![base L + 4 * (nt L - 1) + k.val, 0] := by decide +kernel

/-- What is added to a column's number: rows from 5000 on belong to the second cloud, whose columns start at 5000. -/
def offW (r : ℕ) : BitVec 32 := if r < 5000 then 0#32 else 5000#32

/-- The word of a tile's first row. -/
abbrev baseW (L : grid0.Coords) : BitVec 32 := Scalar.muli (Scalar.addi (Scalar.muli (BitVec.ofNat 32 (L 1).val) 2#32) (BitVec.ofNat 32 (L 0).val)) 320#32
/-- The word of slot `k`'s row of trip `t`, counted from the tile's first. -/
abbrev rowW (t : Fin k0_t1_loop.trips) (k : BitVec 32) : BitVec 32 := Scalar.addi (Scalar.addi 0#32 (Scalar.muli (Scf.iv 0#32 1#32 t) 4#32)) k
theorem sel_eq : ∀ (k : Fin 4) (L : grid0.Coords) (t : Fin k0_t1_loop.trips), t.val < nt L →
    Scalar.select (Scalar.cmpi .sge (Scalar.addi (baseW L) (rowW t (BitVec.ofNat 32 k.val))) 5000#32) 5000#32 0#32 = offW (base L + 4 * t.val + k.val) := by decide +kernel

end Cert.Proof.CompactWords

end
-- ==== Proof.CompactSlots.lean ====
/- The pieces of memory the compaction moves, by number: the four slots' buffers, row `r` of each array; and the values they
   are to hold. The kernel's results are the arrays of `ScatterToDense`: in row `r`, the value of the last candidate whose
   position is the column. -/
module

public import proofs.«01_k».proof.Proof.CompactWords
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ShareLeaves
public import Idealize.ShloMosaic.Lib.Batch
public import Idealize.ShloMosaic.Lib.Ring
public import Idealize.ShloMosaic.Lib.ScatterToDense.RefScatter
public import Idealize.ShloMosaic.Lib.Routing.OpsSet
public import Idealize.ShloMosaic.Lib.Tactic

@[expose] public section

noncomputable section

namespace Cert.Proof.CompactSlots

open Cert.CompactIdeal Cert.CompactIdeal.Gen Idealize.ShloMosaic Cert.Proof.CompactWords
open Idealize.ShloMosaic.ValueIdx (ix2)
open Idealize.ShloMosaic.ScatterToDense

variable {F : FTy → Type}

abbrev d2V : Memref sig .scVector .hbm S10000x5120 .f32 := Memref.whole main_arg0_scv
abbrev psV : Memref sig .scVector .hbm S10000x5120 .i32 := Memref.whole main_arg1_scv
abbrev ovV : Memref sig .scVector .hbm S10000x128 .f32 := Memref.whole main_v0_0_scv
abbrev oiV : Memref sig .scVector .hbm S10000x128 .i32 := Memref.whole main_v0_1_scv

/-- Slot `k`'s buffers: a row of distances, a row of positions, and the two result rows. -/
def dB : Fin 4 → Memref sig .scVector .vmem S5120 .f32
  | 0 => Memref.whole cc0_scratch0 | 1 => Memref.whole cc0_scratch1 | 2 => Memref.whole cc0_scratch2 | 3 => Memref.whole cc0_scratch3
def pB : Fin 4 → Memref sig .scVector .vmem S5120 .i32
  | 0 => Memref.whole cc0_scratch4 | 1 => Memref.whole cc0_scratch5 | 2 => Memref.whole cc0_scratch6 | 3 => Memref.whole cc0_scratch7
def vB : Fin 4 → Memref sig .scVector .vmem S144 .f32
  | 0 => Memref.whole cc0_scratch8 | 1 => Memref.whole cc0_scratch10 | 2 => Memref.whole cc0_scratch12 | 3 => Memref.whole cc0_scratch14
def iB : Fin 4 → Memref sig .scVector .vmem S144 .i32
  | 0 => Memref.whole cc0_scratch9 | 1 => Memref.whole cc0_scratch11 | 2 => Memref.whole cc0_scratch13 | 3 => Memref.whole cc0_scratch15
/-- Its two semaphores. -/
def sI : Fin 4 → DmaSem sig
  | 0 => cc0_scratch16.sem | 1 => cc0_scratch17.sem | 2 => cc0_scratch18.sem | 3 => cc0_scratch19.sem
def sO : Fin 4 → DmaSem sig
  | 0 => cc0_scratch20.sem | 1 => cc0_scratch21.sem | 2 => cc0_scratch22.sem | 3 => cc0_scratch23.sem

theorem in_inb (r : Fin 10000) : ∀ a, (![r.val, 0] : Fin 2 → ℕ) a + S1x5120.size a ≤ S10000x5120.size a := by
  intro a; have := r.isLt
  match a with
  | 0 => show r.val + 1 ≤ 10000; omega
  | 1 => show 0 + 5120 ≤ 5120; omega
theorem out_inb (r : Fin 10000) : ∀ a, (![r.val, 0] : Fin 2 → ℕ) a + S1x128.size a ≤ S10000x128.size a := by
  intro a; have := r.isLt
  match a with
  | 0 => show r.val + 1 ≤ 10000; omega
  | 1 => show 0 + 128 ≤ 128; omega

/-- Row `r` of the distances, of the positions, of the two results. -/
abbrev inD (r : Fin 10000) : Memref sig .scVector .hbm S5120 .f32 :=
  (d2V.slice (Rect.unit (s := S10000x5120) ![r.val, 0] S1x5120.size (in_inb r)) (fun _ => rfl)).squeeze S5120 squeezes_S1x5120_S5120
abbrev inP (r : Fin 10000) : Memref sig .scVector .hbm S5120 .i32 :=
  (psV.slice (Rect.unit (s := S10000x5120) ![r.val, 0] S1x5120.size (in_inb r)) (fun _ => rfl)).squeeze S5120 squeezes_S1x5120_S5120
abbrev outV (r : Fin 10000) : Memref sig .scVector .hbm S128 .f32 :=
  (ovV.slice (Rect.unit (s := S10000x128) ![r.val, 0] S1x128.size (out_inb r)) (fun _ => rfl)).squeeze S128 squeezes_S1x128_S128
abbrev outI (r : Fin 10000) : Memref sig .scVector .hbm S128 .i32 :=
  (oiV.slice (Rect.unit (s := S10000x128) ![r.val, 0] S1x128.size (out_inb r)) (fun _ => rfl)).squeeze S128 squeezes_S1x128_S128
/-- The part of a result row that is copied out: its first 128 entries. -/
abbrev headV (k : Fin 4) : Memref sig .scVector .vmem S128 .f32 := (vB k).slice (Rect.unit (s := S144) ![0] S128.size inb_S144_S128_0) (fun _ => rfl)
abbrev headI (k : Fin 4) : Memref sig .scVector .vmem S128 .i32 := (iB k).slice (Rect.unit (s := S144) ![0] S128.size inb_S144_S128_0) (fun _ => rfl)

/-! ## The program's own names for them -/

theorem inD_of {off : Fin 2 → ℕ} {r : Fin 10000} (h : off = ![r.val, 0]) (p : ∀ a, off a + S1x5120.size a ≤ S10000x5120.size a) :
    (d2V.slice (Rect.unit (s := S10000x5120) off S1x5120.size p) (fun _ => rfl)).squeeze S5120 squeezes_S1x5120_S5120 = inD r := by subst h; rfl
theorem inP_of {off : Fin 2 → ℕ} {r : Fin 10000} (h : off = ![r.val, 0]) (p : ∀ a, off a + S1x5120.size a ≤ S10000x5120.size a) :
    (psV.slice (Rect.unit (s := S10000x5120) off S1x5120.size p) (fun _ => rfl)).squeeze S5120 squeezes_S1x5120_S5120 = inP r := by subst h; rfl
theorem outV_of {off : Fin 2 → ℕ} {r : Fin 10000} (h : off = ![r.val, 0]) (p : ∀ a, off a + S1x128.size a ≤ S10000x128.size a) :
    (ovV.slice (Rect.unit (s := S10000x128) off S1x128.size p) (fun _ => rfl)).squeeze S128 squeezes_S1x128_S128 = outV r := by subst h; rfl
theorem outI_of {off : Fin 2 → ℕ} {r : Fin 10000} (h : off = ![r.val, 0]) (p : ∀ a, off a + S1x128.size a ≤ S10000x128.size a) :
    (oiV.slice (Rect.unit (s := S10000x128) off S1x128.size p) (fun _ => rfl)).squeeze S128 squeezes_S1x128_S128 = outI r := by subst h; rfl

/-! ## Their elements -/

/-- Rows `lo` to `hi` of the results. -/
def rowsSet (lo hi : ℕ) : Finset S10000x128.Idx := Finset.univ.filter fun j => lo ≤ (j 0).val ∧ (j 0).val < hi
theorem mem_rowsSet {lo hi : ℕ} {j : S10000x128.Idx} : j ∈ rowsSet lo hi ↔ lo ≤ (j 0).val ∧ (j 0).val < hi := by
  simp [rowsSet]
theorem rowsSet_union {a b c : ℕ} (h : a ≤ b) (h' : b ≤ c) : rowsSet a c = rowsSet a b ∪ rowsSet b c := by
  ext j; simp only [Finset.mem_union, mem_rowsSet]; omega
theorem rowsSet_disjoint {a b c d : ℕ} (h : b ≤ c) : Disjoint (rowsSet a b) (rowsSet c d) := by
  rw [Finset.disjoint_left]; intro j; simp only [mem_rowsSet]; omega
theorem rowsSet_all : rowsSet 0 10000 = Finset.univ := by
  ext j; simp only [mem_rowsSet, Finset.mem_univ, iff_true]; exact ⟨Nat.zero_le _, (j 0).isLt⟩
theorem rowsSet_self (a : ℕ) : rowsSet a a = ∅ := by
  ext j; simp only [mem_rowsSet, Finset.notMem_empty, iff_false]; omega

theorem row_rect (r : Fin 10000) : (Rect.unit (s := S10000x128) ![r.val, 0] S1x128.size (out_inb r)).set = rowsSet r.val (r.val + 1) := by
  ext j
  rw [Rect.mem_set_unit, mem_rowsSet]
  have h1 : (j 1).val < 128 := (j 1).isLt
  constructor
  · intro h; exact h 0
  · intro h a
    match a with
    | 0 => exact h
    | 1 => exact ⟨Nat.zero_le _, by show (j 1).val < 0 + 128; omega⟩
theorem set_outV (r : Fin 10000) : (outV r).view.set = rowsSet r.val (r.val + 1) := by
  show (View.reshape _ _ _).set = _
  rw [View.set_reshape]; exact (View.set_slice_whole main_v0_0_scv _).trans (row_rect r)
theorem set_outI (r : Fin 10000) : (outI r).view.set = rowsSet r.val (r.val + 1) := by
  show (View.reshape _ _ _).set = _
  rw [View.set_reshape]; exact (View.set_slice_whole main_v0_1_scv _).trans (row_rect r)

theorem row_emb (r : Fin 10000) (y : S5120.Idx) :
    (Rect.unit (s := S10000x5120) ![r.val, 0] S1x5120.size (in_inb r)).emb (Shape.reshapeEquiv squeezes_S1x5120_S5120.numel_eq y) = ix2 r (y 0 : Fin 5120) := by
  have e : Shape.reshapeEquiv squeezes_S1x5120_S5120.numel_eq y = Fin.cons ⟨0, Nat.one_pos⟩ y := Shape.reshapeEquiv_cons_one (d := ![5120]) _ y
  rw [e]
  funext a
  apply Fin.ext
  match a with
  | 0 => show r.val + 1 * 0 = r.val; omega
  | 1 => show 0 + 1 * (y 0).val = (y 0).val; omega
theorem outRow_emb (r : Fin 10000) (y : S128.Idx) :
    (Rect.unit (s := S10000x128) ![r.val, 0] S1x128.size (out_inb r)).emb (Shape.reshapeEquiv squeezes_S1x128_S128.numel_eq y) = ix2 r (y 0 : Fin 128) := by
  have e : Shape.reshapeEquiv squeezes_S1x128_S128.numel_eq y = Fin.cons ⟨0, Nat.one_pos⟩ y := Shape.reshapeEquiv_cons_one (d := ![128]) _ y
  rw [e]
  funext a
  apply Fin.ext
  match a with
  | 0 => show r.val + 1 * 0 = r.val; omega
  | 1 => show 0 + 1 * (y 0).val = (y 0).val; omega

/-! ## The values -/

/-- Row `r` of the inputs. -/
abbrev rowD (d2 : S10000x5120.Idx → Elt F .f32) (r : Fin 10000) : S5120.Idx → Elt F .f32 := fun y => d2 (ix2 r (y 0 : Fin 5120))
abbrev rowP (ps : S10000x5120.Idx → Elt F .i32) (r : Fin 10000) : S5120.Idx → Elt F .i32 := fun y => ps (ix2 r (y 0 : Fin 5120))

theorem read_inD (d2 : S10000x5120.Idx → Elt F .f32) (r : Fin 10000) : (inD r).view.read (Elt F) d2 = rowD d2 r := by
  funext y
  exact congrArg d2 (row_emb r y)
theorem read_inP (ps : S10000x5120.Idx → Elt F .i32) (r : Fin 10000) : (inP r).view.read (Elt F) ps = rowP ps r := by
  funext y
  exact congrArg ps (row_emb r y)

/-- The number a column of row `r` goes by. -/
def colW (j : S10000x5120.Idx) : BitVec 32 := BitVec.ofNat 32 (j 1).val + offW (j 0).val

theorem pos5120 : 0 < 5120 := by omega

/-- The row of positions as a list of words. -/
abbrev word (ps : S10000x5120.Idx → BitVec 32) (r : Fin 10000) : ℕ → BitVec 32 := candAt (T := 10000) (K := 5120) ps pos5120 r

/-- A result row after the first `n` candidates. -/
def tab {α : Type} (ps : S10000x5120.Idx → BitVec 32) (x : S10000x5120.Idx → α) (fill : α) (r : Fin 10000) (n : ℕ) : S144.Idx → α :=
  fun y => GS (word ps r) (candAt (T := 10000) (K := 5120) x pos5120 r) fill (y 0).val n
/-- The result: every row after all its candidates. -/
def G {α : Type} (ps : S10000x5120.Idx → BitVec 32) (x : S10000x5120.Idx → α) (fill : α) : S10000x128.Idx → α :=
  dense (T := 10000) (K := 5120) (C := 128) pos5120 ps x fill

theorem tab_zero {α : Type} (ps : S10000x5120.Idx → BitVec 32) (x : S10000x5120.Idx → α) (fill : α) (r : Fin 10000) :
    tab ps x fill r 0 = fun _ => fill := rfl
theorem G_row {α : Type} (ps : S10000x5120.Idx → BitVec 32) (x : S10000x5120.Idx → α) (fill : α) (r : Fin 10000) (y : S128.Idx) :
    G ps x fill (ix2 r (y 0 : Fin 128)) = tab ps x fill r 5120 ((Rect.unit (s := S144) ![0] S128.size inb_S144_S128_0).emb y) := by
  show GS _ _ fill (y 0).val 5120 = GS _ _ fill (0 + 1 * (y 0).val) 5120
  rw [Nat.zero_add, Nat.one_mul]

/-- A store through a vector of sixteen indices takes a row sixteen candidates on. -/
theorem storeIdx_tab {e : EltTy} (ps : S10000x5120.Idx → BitVec 32) (x : S10000x5120.Idx → Elt F e) (fill : Elt F e) (r : Fin 10000) (n : ℕ) (hn : n + 16 ≤ 5120)
    [FloatOps F] (idx : IVec S16 32) (v : Vec F S16 e) (h : ∀ a z, ((![idx] : Fin 1 → IVec S16 32) a z).toNat < S144.size a)
    (hidx : ∀ k : Fin 16, idx (Shape.ofLane (d := ![16]) k) = ps (ix2 r ⟨n + k.val, by omega⟩))
    (hv : ∀ k : Fin 16, v (Shape.ofLane (d := ![16]) k) = x (ix2 r ⟨n + k.val, by omega⟩)) :
    storeIdx (tab ps x fill r n) ![idx] v (fun _ => 1#1) false h = tab ps x fill r (n + 16) := by
  funext y
  unfold tab
  rw [GS_add]
  unfold GS
  rw [← Routing.foldl_finRange_lastHit]
  unfold storeIdx
  refine foldl_pointwise _ (fun a (k : Fin 16) => if (y 0).val = (word ps r (n + k.val)).toNat then candAt (T := 10000) (K := 5120) x pos5120 r (n + k.val) else a) y ?_ _ _
  intro g k
  have hk : k.val < 16 := k.isLt
  have hw : word ps r (n + k.val) = idx (Shape.ofLane (d := ![16]) k) := (candAt_of_lt _ _ r (by omega)).trans (hidx k).symm
  have hx : candAt (T := 10000) (K := 5120) x pos5120 r (n + k.val) = v (Shape.ofLane (d := ![16]) k) := (candAt_of_lt _ _ r (by omega)).trans (hv k).symm
  rw [hw, hx]
  refine (congrFun (if_pos rfl) y).trans ?_
  by_cases q : (y 0).val = (idx (Shape.ofLane (d := ![16]) k)).toNat
  · refine (if_pos (fun a => ?_)).trans (if_pos q).symm
    match a with
    | 0 => exact q
  · exact (if_neg (fun z => q (z 0))).trans (if_neg q).symm

/-- The lanes of the column numbers. -/
theorem col_lane (r : Fin 10000) (j : ℕ) (hj : j < 320) (k : Fin 16) :
    BitVec.ofNat 32 k.val + (BitVec.ofNat 32 (16 * j) + offW r.val) = colW (ix2 r (⟨16 * j + k.val, by omega⟩ : Fin 5120)) := by
  show _ = BitVec.ofNat 32 (16 * j + k.val) + offW r.val
  rw [Nat.add_comm (16 * j) k.val, BitVec.ofNat_add, BitVec.add_assoc]

end Cert.Proof.CompactSlots

end
-- ==== Proof.CompactSteps.lean ====
/- The steps of the compaction: a row of distances and of positions fetched together and waited for, a result row's entries
   filled and stored, and the two result rows written back together and waited for — of any memrefs and semaphore equal
   to those of `CompactSlots.lean`. Two copies share a semaphore, so neither is known to have landed before both waits
   are over. -/
module

public import proofs.«01_k».proof.Proof.CompactSlots
public import Idealize.ShloMosaic.Lib.MemrefSat

@[expose] public section

noncomputable section

namespace Cert.Proof.CompactSteps

open Cert.CompactIdeal Cert.CompactIdeal.Gen Cert.Proof.CompactSlots Cert.Proof.CompactWords

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)
open Idealize.ShloMosaic.Transfers (Batch)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev dLoc (d : Dev nD) : Loc nD τ sig := (SparseCore.T d).loc main_arg0
abbrev pLoc (d : Dev nD) : Loc nD τ sig := (SparseCore.T d).loc main_arg1
abbrev vLoc (d : Dev nD) : Loc nD τ sig := (SparseCore.T d).loc main_v0_0
abbrev iLoc (d : Dev nD) : Loc nD τ sig := (SparseCore.T d).loc main_v0_1

/-- What an unused entry holds: infinity, and a number no column goes by. -/
abbrev infF [FloatOps F] : Elt F .f32 := (Scalar.ofBits .f32 0x7F800000#32 : F .f32)
abbrev bigI : Elt F .i32 := (1073741824#32 : BitVec 32)

section

variable (d : Dev nD) (c : Fin τ.nSC) (w : Fin τ.nSub)

/-! ## What the slots and the transfers hold -/

/-- A buffer at some contents. -/
def Free {s : Shape} {e : EltTy} (M : Memref sig .scVector .vmem s e) : sProp 𝕄 := iprop(∃ x : s.Idx → Elt F e, owns (V d c w) M fullShare x)

theorem free_intro {s : Shape} {e : EltTy} (M : Memref sig .scVector .vmem s e) (x : s.Idx → Elt F e) :
    (owns (V d c w) M fullShare x : sProp 𝕄) ⊢ Free (F := F) d c w M := by
  unfold Free; iintro H; iexists x; iexact H

theorem raw_free {s : Shape} {e : EltTy} (M : Memref sig .scVector .vmem s e) (f : M.view.ty.Contents (Elt F)) :
    (M.view.loc (V d c w) ↦[M.view.set]{fullShare} f : sProp 𝕄) ⊢ Free (F := F) d c w M := by
  unfold Free owns; iintro H; iexists (M.view.read (Elt F) f); iexists f
  isplitr; · ipureintro; rfl
  iexact H

/-- What the two copies of a fetch deliver: the row's words in the slot, and the lent share of the row. -/
def DIn (d2 : S10000x5120.Idx → Elt F .f32) (ps : S10000x5120.Idx → Elt F .i32) (k : Fin 4) (r : Fin 10000) (q : PosShare TreeShare) : Fin 2 → sProp 𝕄
  | 0 => iprop(owns (V d c w) (dB k) fullShare (rowD d2 r) ∗ (dLoc d ↦[(inD r).view.set]{q} d2))
  | 1 => iprop(owns (V d c w) (pB k) fullShare (rowP ps r) ∗ (pLoc d ↦[(inP r).view.set]{q} ps))
/-- What the two copies of a write-back deliver: the result's row, and the slot's entries that were copied. -/
def DOut [FloatOps F] (d2 : S10000x5120.Idx → Elt F .f32) (ps : S10000x5120.Idx → Elt F .i32) (k : Fin 4) (r : Fin 10000) : Fin 2 → sProp 𝕄
  | 0 => iprop((vLoc d ↦[rowsSet r.val (r.val + 1)]{fullShare} G ps d2 infF)
      ∗ ∃ f, (vB k).view.loc (V d c w) ↦[(headV k).view.set]{fullShare} f)
  | 1 => iprop((iLoc d ↦[rowsSet r.val (r.val + 1)]{fullShare} (G ps colW (bigI (F := F)) : S10000x128.Idx → Elt F .i32))
      ∗ ∃ f, (iB k).view.loc (V d c w) ↦[(headI k).view.set]{fullShare} f)

instance (d2 : S10000x5120.Idx → Elt F .f32) (ps : S10000x5120.Idx → Elt F .i32) (k : Fin 4) (r : Fin 10000) (q : PosShare TreeShare) (t : Fin 2) :
    Storable (upEmb : UEmb _ 𝕄) (DIn d c w d2 ps k r q t) := by
  match t with
  | 0 => unfold DIn; infer_instance
  | 1 => unfold DIn; infer_instance
instance [FloatOps F] (d2 : S10000x5120.Idx → Elt F .f32) (ps : S10000x5120.Idx → Elt F .i32) (k : Fin 4) (r : Fin 10000) (t : Fin 2) :
    Storable (upEmb : UEmb _ 𝕄) (DOut d c w d2 ps k r t) := by
  match t with
  | 0 => unfold DOut; infer_instance
  | 1 => unfold DOut; infer_instance

theorem two {Φ : Fin 2 → sProp 𝕄} : bigSep Finset.univ Φ = iprop(Φ 0 ∗ Φ 1) := by
  rw [Transfers.bigSep_pending_zero, Transfers.bigSep_pending_step Φ 0 (by omega), Transfers.bigSep_pending_last Φ 1 (by omega) rfl]
  rfl

/-- The bytes of a fetched row, of a result row. -/
abbrev NI : ℕ := (dB 0).view.dmaCredit
abbrev NO : ℕ := (outV 0).view.dmaCredit
theorem NI_pos : 0 < NI := View.dmaCredit_pos _ (by decide)
theorem NO_pos : 0 < NO := View.dmaCredit_pos _ (by decide)
theorem cr_d : ∀ k, (dB k).view.dmaCredit = NI := by decide
theorem cr_p : ∀ k, (pB k).view.dmaCredit = NI := by decide
theorem am_d (k : Fin 4) (s : DmaSem sig) : (dB k).view.amount (.dma s) = NI := cr_d k
theorem am_p (k : Fin 4) (s : DmaSem sig) : (pB k).view.amount (.dma s) = NI := cr_p k
theorem cr_v (r : Fin 10000) : (outV r).view.dmaCredit = NO := rfl
theorem cr_i0 : (outI 0).view.dmaCredit = NO := by decide
theorem cr_i (r : Fin 10000) : (outI r).view.dmaCredit = NO := cr_i0
theorem am_v (r : Fin 10000) (s : DmaSem sig) : (outV r).view.amount (.dma s) = NO := cr_v r
theorem am_i (r : Fin 10000) (s : DmaSem sig) : (outI r).view.amount (.dma s) = NO := cr_i r

variable (d2 : S10000x5120.Idx → Elt F .f32) (ps : S10000x5120.Idx → Elt F .i32) (k : Fin 4) (r : Fin 10000) (q : PosShare TreeShare)

abbrev BIn (j u : ℕ) : sProp 𝕄 := Batch countersEmb (V d c w) (.dma (sI k)) (default : HIx 1) NI (DIn d c w d2 ps k r q) j u
abbrev dRest : sProp 𝕄 := dLoc d ↦[Finset.univ \ (inD r).view.set]{q} d2
abbrev pRest : sProp 𝕄 := pLoc d ↦[Finset.univ \ (inP r).view.set]{q} ps
/-- A fetch of row `r` into slot `k` half issued; under way; half waited for. -/
def InHalf : sProp 𝕄 := iprop(BIn d c w d2 ps k r q 1 0 ∗ dRest d d2 r q)
def InFl : sProp 𝕄 := iprop(BIn d c w d2 ps k r q 2 0 ∗ dRest d d2 r q ∗ pRest d ps r q)
def InFl1 : sProp 𝕄 := iprop(BIn d c w d2 ps k r q 2 NI ∗ dRest d d2 r q ∗ pRest d ps r q)

variable [FloatOps F] {α : Type}

abbrev BOut (j u : ℕ) : sProp 𝕄 := Batch countersEmb (V d c w) (.dma (sO k)) (default : HIx 1) NO (DOut d c w d2 ps k r) j u
def vRest : sProp 𝕄 := iprop(∃ f, (vB k).view.loc (V d c w) ↦[(vB k).view.set \ (headV k).view.set]{fullShare} f)
def iRest : sProp 𝕄 := iprop(∃ f, (iB k).view.loc (V d c w) ↦[(iB k).view.set \ (headI k).view.set]{fullShare} f)
/-- The same of the write-back of row `r` from slot `k`. -/
def OutHalf : sProp 𝕄 := iprop(BOut d c w d2 ps k r 1 0 ∗ vRest (F := F) d c w k)
def OutFl : sProp 𝕄 := iprop(BOut d c w d2 ps k r 2 0 ∗ vRest (F := F) d c w k ∗ iRest (F := F) d c w k)
def OutFl1 : sProp 𝕄 := iprop(BOut d c w d2 ps k r 2 NO ∗ vRest (F := F) d c w k ∗ iRest (F := F) d c w k)

/-- The waits recorded are those of before and the tile's own. -/
def owing (O : CellTallies nD τ sig (HIx 1)) (W : Waits sig (HIx 1)) : sProp 𝕄 :=
  iprop(∃ W', ⌜∀ p ∈ W', p ∈ W ∨ p.2 = none⌝ ∗ owes (V d c w) O W')

theorem owing_intro {O : CellTallies nD τ sig (HIx 1)} {W W' : Waits sig (HIx 1)} (h : ∀ p ∈ W', p ∈ W ∨ p.2 = none) {sm : SemLoc sig} :
    (owes (V d c w) O (insert (sm, (default : HIx 1)) W') : sProp 𝕄)
      ⊢ iprop(∃ W', ⌜∀ p ∈ W', p ∈ W ∨ p.2 = none⌝ ∗ owes (V d c w) O W') := by
  iintro H
  iexists _
  isplitr
  swap; · iexact H
  ipureintro
  intro p hp
  rcases Finset.mem_insert.mp hp with hp | hp
  · exact .inr (hp ▸ rfl)
  · exact h p hp

/-! ## A fetch -/

theorem fetchD {src : Memref sig .scVector .hbm S5120 .f32} {dst : Memref sig .scVector .vmem S5120 .f32} {sm : DmaSem sig}
    (hs : src = inD r) (hd : dst = dB k) (hm : sm = sI k)
    {hsrc : src.view.WordExact} {hdst : (DmaTarget.here (nD := nD) (τ := τ) (p := .scVector c w) dst).view.WordExact}
    {hsem : DmaTarget.Typed (nD := nD) (τ := τ) (p := .scVector c w) Space.hbm (.dma sm) (.here dst)}
    {kont : PUnit → Prog (TpuEff nD τ sig (Elt F) Λ₀ (.scVector c w)) α} {Q : α → sProp 𝕄} :
    iprop(Free (F := F) d c w (dB k) ∗ (dLoc d ↦{q} d2) ∗ semVal (V d c w, .dma (sI k)) 0)
      ⊢ iprop((InHalf d c w d2 ps k r q -∗ wp frame (wpE (defs₀ (F := F)) 𝒱₀ (V d c w) none) Set.univ (kont ⟨⟩) Q)
          -∗ wp frame (wpE (defs₀ (F := F)) 𝒱₀ (V d c w) none) Set.univ (.op (.enqueueDmaAs src (.here dst) .same (.dma sm) hsrc hdst hsem) kont) Q) := by
  subst hs hd hm
  unfold Free owns
  iintro ⟨⟨%x, %f, -, Hf⟩, Hi, Hv⟩ Hk
  ihave Hi' := (pointsTo_split_subset (q := q) (f := d2) (S := Finset.univ) (Finset.subset_univ (inD r).view.set)).1 $$ Hi
  icases Hi' with ⟨Hib, Hir⟩
  imod (Transfers.batch_alloc' countersEmb (V d c w) (default : HIx 1) NI (DIn d c w d2 ps k r q)) $$ Hv with HB
  iapply (Transfers.wp_dmaBatch countersEmb 𝒱₀ (V d c w) none (src := inD r) (dst := dB k) (sm := .dma (sI k)) (fs := d2) (fd := f) (Sd := (dB k).view.set) (q := q) (D := DIn d c w d2 ps k r q) (default : HIx 1) NI
    (am_d k _) (Finset.Subset.refl _) (j := 0) (by omega) (Nat.zero_le _) ?_) $$ [Hf Hib HB]
  · show _ ⊢ iprop(owns (V d c w) (dB k) fullShare (rowD d2 r) ∗ (dLoc d ↦[(inD r).view.set]{q} d2))
    iintro ⟨Hd, Hs⟩
    isplitl [Hd]
    · unfold owns
      iexists _
      isplitr
      swap; · iexact Hd
      ipureintro
      exact (View.read_write_univ _ _).trans (read_inD d2 r)
    · iexact Hs
  · isplitl [Hib]; · iexact Hib
    isplitl [Hf]; · iexact Hf
    iexact HB
  iintro HB
  iapply Hk
  unfold InHalf
  isplitl [HB] <;> iassumption

theorem fetchP {src : Memref sig .scVector .hbm S5120 .i32} {dst : Memref sig .scVector .vmem S5120 .i32} {sm : DmaSem sig}
    (hs : src = inP r) (hd : dst = pB k) (hm : sm = sI k)
    {hsrc : src.view.WordExact} {hdst : (DmaTarget.here (nD := nD) (τ := τ) (p := .scVector c w) dst).view.WordExact}
    {hsem : DmaTarget.Typed (nD := nD) (τ := τ) (p := .scVector c w) Space.hbm (.dma sm) (.here dst)}
    {kont : PUnit → Prog (TpuEff nD τ sig (Elt F) Λ₀ (.scVector c w)) α} {Q : α → sProp 𝕄} :
    iprop(InHalf d c w d2 ps k r q ∗ Free (F := F) d c w (pB k) ∗ (pLoc d ↦{q} ps))
      ⊢ iprop((InFl d c w d2 ps k r q -∗ wp frame (wpE (defs₀ (F := F)) 𝒱₀ (V d c w) none) Set.univ (kont ⟨⟩) Q)
          -∗ wp frame (wpE (defs₀ (F := F)) 𝒱₀ (V d c w) none) Set.univ (.op (.enqueueDmaAs src (.here dst) .same (.dma sm) hsrc hdst hsem) kont) Q) := by
  subst hs hd hm
  unfold Free owns InHalf
  iintro ⟨⟨HB, Hdr⟩, ⟨%x, %f, -, Hf⟩, Hi⟩ Hk
  ihave Hi' := (pointsTo_split_subset (q := q) (f := ps) (S := Finset.univ) (Finset.subset_univ (inP r).view.set)).1 $$ Hi
  icases Hi' with ⟨Hib, Hir⟩
  iapply (Transfers.wp_dmaBatch countersEmb 𝒱₀ (V d c w) none (src := inP r) (dst := pB k) (sm := .dma (sI k)) (fs := ps) (fd := f) (Sd := (pB k).view.set) (q := q) (D := DIn d c w d2 ps k r q) (default : HIx 1) NI
    (am_p k _) (Finset.Subset.refl _) (j := 1) (by omega) (Nat.zero_le _) ?_) $$ [Hf Hib HB]
  · show _ ⊢ iprop(owns (V d c w) (pB k) fullShare (rowP ps r) ∗ (pLoc d ↦[(inP r).view.set]{q} ps))
    iintro ⟨Hd, Hs⟩
    isplitl [Hd]
    · unfold owns
      iexists _
      isplitr
      swap; · iexact Hd
      ipureintro
      exact (View.read_write_univ _ _).trans (read_inP ps r)
    · iexact Hs
  · isplitl [Hib]; · iexact Hib
    isplitl [Hf]; · iexact Hf
    iexact HB
  iintro HB
  iapply Hk
  unfold InFl
  isplitl [HB]; · iexact HB
  isplitl [Hdr] <;> iassumption

theorem waitD {src : Memref sig .scVector .hbm S5120 .f32} {dst : Memref sig .scVector .vmem S5120 .f32} {sm : DmaSem sig}
    (hd : dst = dB k) (hm : sm = sI k)
    {hsrc : src.view.WordExact} {hdst : dst.view.WordExact} {O : CellTallies nD τ sig (HIx 1)} {W : Waits sig (HIx 1)}
    {kont : PUnit → Prog (TpuEff nD τ sig (Elt F) Λ₀ (.scVector c w)) α} {Q : α → sProp 𝕄} :
    iprop(InFl d c w d2 ps k r q ∗ owing (F := F) d c w O W ∗ Transfers.MayWaits (V d c w) (default : HIx 1) O)
      ⊢ iprop((iprop(InFl1 d c w d2 ps k r q ∗ owing (F := F) d c w O W) -∗ wp frame (wpE (defs₀ (F := F)) 𝒱₀ (V d c w) none) Set.univ (kont ⟨⟩) Q)
          -∗ wp frame (wpE (defs₀ (F := F)) 𝒱₀ (V d c w) none) Set.univ (.op (.waitDma2 sm src dst hsrc hdst) kont) Q) := by
  subst hd hm
  unfold InFl owing
  iintro ⟨⟨HB, Hdr, Hpr⟩, ⟨%W', %hW, HO⟩, Hmw⟩ Hk
  iapply (Transfers.wp_waitBatchO countersEmb 𝒱₀ (V d c w) none (default : HIx 1) (cr_d k) (D := DIn d c w d2 ps k r q) (u := 0)
    (by have := NI_pos; omega)) $$ [HB HO Hmw]
  · isplitl [HB]; · iexact HB
    isplitl [HO]; · iexact HO
    iapply (Transfers.MayWaits.elim (SemLoc.dma (sI k))) $$ Hmw
  iintro ⟨HB, HO⟩
  iapply Hk
  isplitl [HB Hdr Hpr]
  · unfold InFl1
    isplitl [HB]; · rw [Nat.zero_add]; iexact HB
    isplitl [Hdr] <;> iassumption
  · iapply (owing_intro d c w hW) $$ HO

theorem waitP {src : Memref sig .scVector .hbm S5120 .i32} {dst : Memref sig .scVector .vmem S5120 .i32} {sm : DmaSem sig}
    (hd : dst = pB k) (hm : sm = sI k)
    {hsrc : src.view.WordExact} {hdst : dst.view.WordExact} {O : CellTallies nD τ sig (HIx 1)} {W : Waits sig (HIx 1)}
    {kont : PUnit → Prog (TpuEff nD τ sig (Elt F) Λ₀ (.scVector c w)) α} {Q : α → sProp 𝕄} :
    iprop(InFl1 d c w d2 ps k r q ∗ owing (F := F) d c w O W ∗ Transfers.MayWaits (V d c w) (default : HIx 1) O)
      ⊢ iprop((iprop(owns (V d c w) (dB k) fullShare (rowD d2 r) ∗ owns (V d c w) (pB k) fullShare (rowP ps r) ∗ (dLoc d ↦{q} d2) ∗ (pLoc d ↦{q} ps)
            ∗ semVal (V d c w, .dma (sI k)) 0 ∗ owing (F := F) d c w O W) -∗ wp frame (wpE (defs₀ (F := F)) 𝒱₀ (V d c w) none) Set.univ (kont ⟨⟩) Q)
          -∗ wp frame (wpE (defs₀ (F := F)) 𝒱₀ (V d c w) none) Set.univ (.op (.waitDma2 sm src dst hsrc hdst) kont) Q) := by
  subst hd hm
  unfold InFl1 owing
  iintro ⟨⟨HB, Hdr, Hpr⟩, ⟨%W', %hW, HO⟩, Hmw⟩ Hk
  iapply (Transfers.wp_waitBatchLastO countersEmb 𝒱₀ (V d c w) none (default : HIx 1) (cr_p k) NI_pos (D := DIn d c w d2 ps k r q) (u := NI)
    (by omega)) $$ [HB HO Hmw]
  · isplitl [HB]; · iexact HB
    isplitl [HO]; · iexact HO
    iapply (Transfers.MayWaits.elim (SemLoc.dma (sI k))) $$ Hmw
  iintro ⟨HD, Hv, HO⟩
  ihave HD' := (Entails.of_eq two) $$ HD
  unfold DIn
  icases HD' with ⟨⟨Hx, Hd⟩, ⟨Hy, Hp⟩⟩
  iapply Hk
  isplitl [Hx]; · iexact Hx
  isplitl [Hy]; · iexact Hy
  isplitl [Hd Hdr]
  · iapply (pointsTo_split_subset (q := q) (f := d2) (S := Finset.univ) (Finset.subset_univ (inD r).view.set)).2 $$ [Hd Hdr]
    isplitl [Hd] <;> iassumption
  isplitl [Hp Hpr]
  · iapply (pointsTo_split_subset (q := q) (f := ps) (S := Finset.univ) (Finset.subset_univ (inP r).view.set)).2 $$ [Hp Hpr]
    isplitl [Hp] <;> iassumption
  isplitl [Hv]; · iexact Hv
  iapply (owing_intro d c w hW) $$ HO

/-! ## A write-back -/

theorem headV_sub : (headV k).view.set ⊆ (vB k).view.set := by
  show ((vB k).view.slice _).set ⊆ _
  rw [View.set_slice]; exact Finset.map_subset_map.2 (Finset.subset_univ _)
theorem headI_sub : (headI k).view.set ⊆ (iB k).view.set := by
  show ((iB k).view.slice _).set ⊆ _
  rw [View.set_slice]; exact Finset.map_subset_map.2 (Finset.subset_univ _)

theorem putV {src : Memref sig .scVector .vmem S128 .f32} {dst : Memref sig .scVector .hbm S128 .f32} {sm : DmaSem sig}
    (hs : src = headV k) (hd : dst = outV r) (hm : sm = sO k)
    {hsrc : src.view.WordExact} {hdst : (DmaTarget.here (nD := nD) (τ := τ) (p := .scVector c w) dst).view.WordExact}
    {hsem : DmaTarget.Typed (nD := nD) (τ := τ) (p := .scVector c w) Space.vmem (.dma sm) (.here dst)}
    {f₀ : S10000x128.Idx → Elt F .f32}
    {kont : PUnit → Prog (TpuEff nD τ sig (Elt F) Λ₀ (.scVector c w)) α} {Q : α → sProp 𝕄} :
    iprop(owns (V d c w) (vB k) fullShare (tab ps d2 infF r 5120) ∗ (vLoc d ↦[rowsSet r.val (r.val + 1)]{fullShare} f₀) ∗ semVal (V d c w, .dma (sO k)) 0)
      ⊢ iprop((OutHalf d c w d2 ps k r -∗ wp frame (wpE (defs₀ (F := F)) 𝒱₀ (V d c w) none) Set.univ (kont ⟨⟩) Q)
          -∗ wp frame (wpE (defs₀ (F := F)) 𝒱₀ (V d c w) none) Set.univ (.op (.enqueueDmaAs src (.here dst) .same (.dma sm) hsrc hdst hsem) kont) Q) := by
  subst hs hd hm
  unfold owns
  iintro ⟨⟨%f, %hf, Hf⟩, Ho, Hv⟩ Hk
  ihave Hf' := (pointsTo_split_subset (q := fullShare) (f := f) (headV_sub k)).1 $$ Hf
  icases Hf' with ⟨Hfh, Hfr⟩
  imod (Transfers.batch_alloc' countersEmb (V d c w) (default : HIx 1) NO (DOut d c w d2 ps k r)) $$ Hv with HB
  iapply (Transfers.wp_dmaBatch countersEmb 𝒱₀ (V d c w) none (src := headV k) (dst := outV r) (sm := .dma (sO k)) (fs := f) (fd := f₀) (Sd := (outV r).view.set) (q := fullShare) (D := DOut d c w d2 ps k r) (default : HIx 1) NO
    (am_v r _) (Finset.Subset.refl _) (j := 0) (by omega) (Nat.zero_le _) ?_) $$ [Hfh Ho HB]
  · show _ ⊢ iprop((vLoc d ↦[rowsSet r.val (r.val + 1)]{fullShare} G ps d2 infF) ∗ ∃ f, (vB k).view.loc (V d c w) ↦[(headV k).view.set]{fullShare} f)
    iintro ⟨Hd, Hs⟩
    isplitl [Hd]
    · rw [set_outV]
      iapply (Entails.of_eq (pointsTo_congr ?_)) $$ Hd
      intro j hj
      rw [← set_outV] at hj
      obtain ⟨y, -, rfl⟩ := Finset.mem_map.1 hj
      refine (View.write_emb_of_mem _ _ (Finset.mem_univ y)).trans ?_
      show (vB k).view.read (Elt F) f ((Rect.unit (s := S144) ![0] S128.size inb_S144_S128_0).emb y) = _
      rw [hf, ← G_row]
      exact congrArg (G ps d2 infF) (outRow_emb r y).symm
    · iexists f; iexact Hs
  · isplitl [Hfh]; · iexact Hfh
    isplitl [Ho]; · rw [set_outV]; iexact Ho
    iexact HB
  iintro HB
  iapply Hk
  unfold OutHalf vRest
  isplitl [HB]; · iexact HB
  iexists f; iexact Hfr

theorem putI {src : Memref sig .scVector .vmem S128 .i32} {dst : Memref sig .scVector .hbm S128 .i32} {sm : DmaSem sig}
    (hs : src = headI k) (hd : dst = outI r) (hm : sm = sO k)
    {hsrc : src.view.WordExact} {hdst : (DmaTarget.here (nD := nD) (τ := τ) (p := .scVector c w) dst).view.WordExact}
    {hsem : DmaTarget.Typed (nD := nD) (τ := τ) (p := .scVector c w) Space.vmem (.dma sm) (.here dst)}
    {f₀ : S10000x128.Idx → Elt F .i32}
    {kont : PUnit → Prog (TpuEff nD τ sig (Elt F) Λ₀ (.scVector c w)) α} {Q : α → sProp 𝕄} :
    iprop(OutHalf d c w d2 ps k r ∗ owns (V d c w) (iB k) fullShare (tab ps colW (bigI (F := F)) r 5120 : S144.Idx → Elt F .i32) ∗ (iLoc d ↦[rowsSet r.val (r.val + 1)]{fullShare} f₀))
      ⊢ iprop((OutFl d c w d2 ps k r -∗ wp frame (wpE (defs₀ (F := F)) 𝒱₀ (V d c w) none) Set.univ (kont ⟨⟩) Q)
          -∗ wp frame (wpE (defs₀ (F := F)) 𝒱₀ (V d c w) none) Set.univ (.op (.enqueueDmaAs src (.here dst) .same (.dma sm) hsrc hdst hsem) kont) Q) := by
  subst hs hd hm
  unfold owns OutHalf
  iintro ⟨⟨HB, Hvr⟩, ⟨%f, %hf, Hf⟩, Ho⟩ Hk
  ihave Hf' := (pointsTo_split_subset (q := fullShare) (f := f) (headI_sub k)).1 $$ Hf
  icases Hf' with ⟨Hfh, Hfr⟩
  iapply (Transfers.wp_dmaBatch countersEmb 𝒱₀ (V d c w) none (src := headI k) (dst := outI r) (sm := .dma (sO k)) (fs := f) (fd := f₀) (Sd := (outI r).view.set) (q := fullShare) (D := DOut d c w d2 ps k r) (default : HIx 1) NO
    (am_i r _) (Finset.Subset.refl _) (j := 1) (by omega) (Nat.zero_le _) ?_) $$ [Hfh Ho HB]
  · show _ ⊢ iprop((iLoc d ↦[rowsSet r.val (r.val + 1)]{fullShare} (G ps colW (bigI (F := F)) : S10000x128.Idx → Elt F .i32)) ∗ ∃ f, (iB k).view.loc (V d c w) ↦[(headI k).view.set]{fullShare} f)
    iintro ⟨Hd, Hs⟩
    isplitl [Hd]
    · rw [set_outI]
      iapply (Entails.of_eq (pointsTo_congr ?_)) $$ Hd
      intro j hj
      rw [← set_outI] at hj
      obtain ⟨y, -, rfl⟩ := Finset.mem_map.1 hj
      refine (View.write_emb_of_mem _ _ (Finset.mem_univ y)).trans ?_
      show (iB k).view.read (Elt F) f ((Rect.unit (s := S144) ![0] S128.size inb_S144_S128_0).emb y) = _
      rw [hf, ← G_row]
      exact congrArg (G ps colW (bigI (F := F))) (outRow_emb r y).symm
    · iexists f; iexact Hs
  · isplitl [Hfh]; · iexact Hfh
    isplitl [Ho]; · rw [set_outI]; iexact Ho
    iexact HB
  iintro HB
  iapply Hk
  unfold OutFl iRest
  isplitl [HB]; · iexact HB
  isplitl [Hvr]; · iexact Hvr
  iexists f; iexact Hfr

theorem drainV {src : Memref sig .scVector .vmem S128 .f32} {dst : Memref sig .scVector .hbm S128 .f32} {sm : DmaSem sig}
    (hd : dst = outV r) (hm : sm = sO k)
    {hsrc : src.view.WordExact} {hdst : dst.view.WordExact} {O : CellTallies nD τ sig (HIx 1)} {W : Waits sig (HIx 1)}
    {kont : PUnit → Prog (TpuEff nD τ sig (Elt F) Λ₀ (.scVector c w)) α} {Q : α → sProp 𝕄} :
    iprop(OutFl d c w d2 ps k r ∗ owing (F := F) d c w O W ∗ Transfers.MayWaits (V d c w) (default : HIx 1) O)
      ⊢ iprop((iprop(OutFl1 d c w d2 ps k r ∗ owing (F := F) d c w O W) -∗ wp frame (wpE (defs₀ (F := F)) 𝒱₀ (V d c w) none) Set.univ (kont ⟨⟩) Q)
          -∗ wp frame (wpE (defs₀ (F := F)) 𝒱₀ (V d c w) none) Set.univ (.op (.waitDma2 sm src dst hsrc hdst) kont) Q) := by
  subst hd hm
  unfold OutFl owing
  iintro ⟨⟨HB, Hdr, Hpr⟩, ⟨%W', %hW, HO⟩, Hmw⟩ Hk
  iapply (Transfers.wp_waitBatchO countersEmb 𝒱₀ (V d c w) none (srcw := src) (dstw := outV r) (hsrc := hsrc) (hdst := hdst) (default : HIx 1) (cr_v r) (D := DOut d c w d2 ps k r) (u := 0)
    (by have := NO_pos; omega)) $$ [HB HO Hmw]
  · isplitl [HB]; · iexact HB
    isplitl [HO]; · iexact HO
    iapply (Transfers.MayWaits.elim (SemLoc.dma (sO k))) $$ Hmw
  iintro ⟨HB, HO⟩
  iapply Hk
  isplitl [HB Hdr Hpr]
  · unfold OutFl1
    isplitl [HB]; · rw [Nat.zero_add]; iexact HB
    isplitl [Hdr] <;> iassumption
  · iapply (owing_intro d c w hW) $$ HO

theorem drainI {src : Memref sig .scVector .vmem S128 .i32} {dst : Memref sig .scVector .hbm S128 .i32} {sm : DmaSem sig}
    (hd : dst = outI r) (hm : sm = sO k)
    {hsrc : src.view.WordExact} {hdst : dst.view.WordExact} {O : CellTallies nD τ sig (HIx 1)} {W : Waits sig (HIx 1)}
    {kont : PUnit → Prog (TpuEff nD τ sig (Elt F) Λ₀ (.scVector c w)) α} {Q : α → sProp 𝕄} :
    iprop(OutFl1 d c w d2 ps k r ∗ owing (F := F) d c w O W ∗ Transfers.MayWaits (V d c w) (default : HIx 1) O)
      ⊢ iprop((iprop((vLoc d ↦[rowsSet r.val (r.val + 1)]{fullShare} G ps d2 infF)
            ∗ (iLoc d ↦[rowsSet r.val (r.val + 1)]{fullShare} (G ps colW (bigI (F := F)) : S10000x128.Idx → Elt F .i32))
            ∗ Free (F := F) d c w (vB k) ∗ Free (F := F) d c w (iB k)
            ∗ semVal (V d c w, .dma (sO k)) 0 ∗ owing (F := F) d c w O W) -∗ wp frame (wpE (defs₀ (F := F)) 𝒱₀ (V d c w) none) Set.univ (kont ⟨⟩) Q)
          -∗ wp frame (wpE (defs₀ (F := F)) 𝒱₀ (V d c w) none) Set.univ (.op (.waitDma2 sm src dst hsrc hdst) kont) Q) := by
  subst hd hm
  unfold OutFl1 owing vRest iRest
  iintro ⟨⟨HB, ⟨%f1, Hdr⟩, ⟨%f2, Hpr⟩⟩, ⟨%W', %hW, HO⟩, Hmw⟩ Hk
  iapply (Transfers.wp_waitBatchLastO countersEmb 𝒱₀ (V d c w) none (srcw := src) (dstw := outI r) (hsrc := hsrc) (hdst := hdst) (default : HIx 1) (cr_i r) NO_pos (D := DOut d c w d2 ps k r) (u := NO)
    (by omega)) $$ [HB HO Hmw]
  · isplitl [HB]; · iexact HB
    isplitl [HO]; · iexact HO
    iapply (Transfers.MayWaits.elim (SemLoc.dma (sO k))) $$ Hmw
  iintro ⟨HD, Hv, HO⟩
  ihave HD' := (Entails.of_eq two) $$ HD
  unfold DOut
  icases HD' with ⟨⟨Hx, ⟨%g1, Hd⟩⟩, ⟨Hy, ⟨%g2, Hp⟩⟩⟩
  iapply Hk
  isplitl [Hx]; · iexact Hx
  isplitl [Hy]; · iexact Hy
  isplitl [Hd Hdr]
  · iapply (raw_free d c w (vB k) _)
    iapply (pointsTo_join_subset (headV_sub k)) $$ [Hd Hdr]
    isplitl [Hd] <;> iassumption
  isplitl [Hp Hpr]
  · iapply (raw_free d c w (iB k) _)
    iapply (pointsTo_join_subset (headI_sub k)) $$ [Hp Hpr]
    isplitl [Hp] <;> iassumption
  isplitl [Hv]; · iexact Hv
  iapply (owing_intro d c w hW) $$ HO

end

/-! ## Loads and stores of a buffer owned whole -/

section

variable (d : Dev nD) (c : Fin τ.nSC) (w : Fin τ.nSub) [FloatOps F] {α : Type}

theorem ld {s : Shape} {e : EltTy} {M : Memref sig .scVector .vmem s e} {r : Rect s} {hl : M.view.LoadsAt r.toLoadRect} {x : s.Idx → Elt F e}
    {kont : (r.shape.Idx → Elt F e) → Prog (TpuEff nD τ sig (Elt F) Λ₀ (.scVector c w)) α} {Q : α → sProp 𝕄} :
    owns (V d c w) M fullShare x
      ⊢ iprop((owns (V d c w) M fullShare x -∗ wp frame (wpE (defs₀ (F := F)) 𝒱₀ (V d c w) none) Set.univ (kont (fun y => x (r.emb y))) Q)
          -∗ wp frame (wpE (defs₀ (F := F)) 𝒱₀ (V d c w) none) Set.univ (.op (.load M r.toLoadRect hl) kont) Q) := by
  unfold owns
  iintro ⟨%f, %hf, H⟩ Hk
  iapply (wp_load_rect 𝒱₀ (V d c w) none Set.univ (m := M) (r := r) (f := f) (q := fullShare) (S := M.view.set)
    (by show (M.view.slice r).set ⊆ _; rw [View.set_slice]; exact Finset.map_subset_map.2 (Finset.subset_univ _))) $$ H
  iintro H
  have e1 : (M.access r).read (Elt F) f = fun y => x (r.emb y) := by
    funext y; rw [← hf]; rfl
  rw [e1]
  iapply Hk
  iexists f
  isplitr; · ipureintro; exact hf
  iexact H

/-- A result row's buffer with its first `16 * m` entries at `fill`. -/
def FillTo {e : EltTy} (M : Memref sig .scVector .vmem S144 e) (fill : Elt F e) (m : ℕ) : sProp 𝕄 :=
  iprop(∃ x : S144.Idx → Elt F e, ⌜∀ y, (y 0).val < 16 * m → x y = fill⌝ ∗ owns (V d c w) M fullShare x)

theorem fill_start {e : EltTy} {M : Memref sig .scVector .vmem S144 e} {fill : Elt F e} : Free (F := F) d c w M ⊢ FillTo d c w M fill 0 := by
  unfold Free FillTo
  iintro ⟨%x, H⟩
  iexists x
  isplitr; · ipureintro; intro y hy; omega
  iexact H
theorem fill_done {e : EltTy} {M : Memref sig .scVector .vmem S144 e} {fill : Elt F e} :
    FillTo d c w M fill 9 ⊢ (owns (V d c w) M fullShare (fun _ => fill) : sProp 𝕄) := by
  unfold FillTo
  iintro ⟨%x, %hx, H⟩
  have e1 : x = fun _ => fill := funext fun y => hx y (y 0).isLt
  rw [← e1]
  iexact H

theorem fillLd {e : EltTy} {M : Memref sig .scVector .vmem S144 e} {fill : Elt F e} {m : ℕ} {r : Rect S144} {hl : M.view.LoadsAt r.toLoadRect}
    {kont : (r.shape.Idx → Elt F e) → Prog (TpuEff nD τ sig (Elt F) Λ₀ (.scVector c w)) α} {Q : α → sProp 𝕄} :
    FillTo d c w M fill m
      ⊢ iprop((∀ x, FillTo d c w M fill m -∗ wp frame (wpE (defs₀ (F := F)) 𝒱₀ (V d c w) none) Set.univ (kont x) Q)
          -∗ wp frame (wpE (defs₀ (F := F)) 𝒱₀ (V d c w) none) Set.univ (.op (.load M r.toLoadRect hl) kont) Q) := by
  unfold FillTo
  iintro ⟨%x, %hx, H⟩ Hk
  iapply (ld d c w) $$ H
  iintro H
  iapply Hk
  iexists x
  isplitr; · ipureintro; exact hx
  iexact H

theorem fillSt {e : EltTy} {M : Memref sig .scVector .vmem S144 e} {fill : Elt F e} (m : ℕ) {off : Fin 1 → ℕ} (ho : off = ![16 * m])
    {p : ∀ a, off a + S16.size a ≤ S144.size a} {v : S16.Idx → Elt F e} (hv : v = fun _ => fill)
    {hx : (M.access (Rect.unit (s := S144) off S16.size p)).Stores Finset.univ} {hm : (Finset.univ : Finset (Rect.unit (s := S144) off S16.size p).shape.Idx) = Finset.univ ∨ ∀ a, (Rect.unit (s := S144) off S16.size p).stride a = 1}
    {kont : PUnit → Prog (TpuEff nD τ sig (Elt F) Λ₀ (.scVector c w)) α} {Q : α → sProp 𝕄} :
    FillTo d c w M fill m
      ⊢ iprop((FillTo d c w M fill (m + 1) -∗ wp frame (wpE (defs₀ (F := F)) 𝒱₀ (V d c w) none) Set.univ (kont ⟨⟩) Q)
          -∗ wp frame (wpE (defs₀ (F := F)) 𝒱₀ (V d c w) none) Set.univ (.op (.store M (Rect.unit (s := S144) off S16.size p) v Finset.univ hx hm) kont) Q) := by
  subst ho hv
  unfold FillTo owns
  iintro ⟨%x, %hx0, %f, %hf, H⟩ Hk
  iapply (wp_store 𝒱₀ (V d c w) none Set.univ (m := M) (r := Rect.unit (s := S144) ![16 * m] S16.size p) (f := f) (S := M.view.set)
    (by rw [View.setOn_univ]; show (M.view.slice _).set ⊆ _; rw [View.set_slice]; exact Finset.map_subset_map.2 (Finset.subset_univ _))) $$ H
  iintro H
  iapply Hk
  iexists (M.view.read (Elt F) ((M.access (Rect.unit (s := S144) ![16 * m] S16.size p)).write (Elt F) f (fun _ => fill) Finset.univ))
  isplitr
  · ipureintro
    intro y hy
    by_cases hin : y ∈ (Finset.univ : Finset (Rect.unit (s := S144) ![16 * m] S16.size p).shape.Idx).map (Rect.unit (s := S144) ![16 * m] S16.size p).emb
    · obtain ⟨z, -, rfl⟩ := Finset.mem_map.1 hin
      exact View.read_slice_write_emb _ _ _ (Finset.mem_univ z)
    · refine (View.read_slice_write_of_not_mem _ _ _ _ hin).trans ?_
      have e1 : M.view.read (Elt F) f y = x y := by rw [hf]
      refine e1.trans (hx0 y ?_)
      by_contra hc
      have hz : (y 0).val - 16 * m < 16 := by omega
      refine hin (Finset.mem_map.2 ⟨fun a => ⟨(y 0).val - 16 * m, by match a with | 0 => exact hz⟩, Finset.mem_univ _, funext fun a => Fin.ext ?_⟩)
      match a with
      | 0 => show 16 * m + 1 * ((y 0).val - 16 * m) = (y 0).val; omega
  iexists _
  isplitr
  swap; · iexact H
  ipureintro; rfl

theorem scat {e : EltTy} {M : Memref sig .scVector .vmem S144 e} {x : S144.Idx → Elt F e} {idxs : Fin S144.rank → IVec S16 32} {v : Vec F S16 e}
    {mask : IVec S16 1} {h : ∀ a z, (idxs a z).toNat < S144.size a} {hs : (M.access (.whole S144)).Stores Finset.univ}
    {kont : PUnit → Prog (TpuEff nD τ sig (Elt F) Λ₀ (.scVector c w)) α} {Q : α → sProp 𝕄} :
    owns (V d c w) M fullShare x
      ⊢ iprop((owns (V d c w) M fullShare (storeIdx x idxs v mask false h) -∗ wp frame (wpE (defs₀ (F := F)) 𝒱₀ (V d c w) none) Set.univ (kont ⟨⟩) Q)
          -∗ wp frame (wpE (defs₀ (F := F)) 𝒱₀ (V d c w) none) Set.univ (SparseCore.vectorStoreIdx M idxs v mask false h hs >>= kont) Q) := by
  unfold owns
  iintro ⟨%f, %hf, H⟩ Hk
  have es : (M.access (.whole S144)).set = M.view.set := by
    show (M.view.slice _).set = _; rw [View.set_slice, Rect.set_whole]; rfl
  have er : (M.access (.whole S144)).read (Elt F) f = x := by
    rw [← hf]; funext y; show M.view.read (Elt F) f ((Rect.whole S144).emb y) = _; rw [Rect.emb_whole_apply]
  iapply (SparseCore.wp_vectorStoreIdx 𝒱₀ (V d c w) none (base := M) (f := f)) $$ [H]
  · rw [es]; iexact H
  iintro H
  iapply Hk
  iexists _
  isplitr
  swap; · rw [es]; iexact H
  ipureintro
  rw [er]
  funext y
  have := View.read_slice_write_emb (v := M.view) (r := Rect.whole S144) f (storeIdx x idxs v mask false h) (M := Finset.univ) (Finset.mem_univ y)
  rw [Rect.emb_whole_apply] at this
  exact this

end

end Cert.Proof.CompactSteps

end
-- ==== Proof.CompactState.lean ====
/- What a tile of the compaction holds between the slots' turns, and the facts of rows and lanes the turns use. -/
module

public import proofs.«01_k».proof.Proof.CompactSteps

@[expose] public section

noncomputable section

namespace Cert.Proof.CompactState

open Cert.CompactIdeal Cert.CompactIdeal.Gen Cert.Proof.CompactSlots Cert.Proof.CompactSteps Cert.Proof.CompactWords

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx (ix2)

variable {F : FTy → Type}

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## Rows and lanes -/

/-- The row slot `k` takes on trip `t`. -/
abbrev row (L : grid0.Coords) (t : ℕ) (k : ℕ) : Fin 10000 := Ring.bk 10000 (base L + 4 * t + k)
theorem row_val {L : grid0.Coords} {t k : ℕ} (h : t < nt L) (hk : k < 4) : (row L t k).val = base L + 4 * t + k :=
  Ring.bk_val (by have := base_le L; omega)

theorem off_row {off : Fin 2 → ℕ} {a : ℕ} {r : Fin 10000} (e : off = ![a, 0]) (h : a = r.val) : off = ![r.val, 0] := h ▸ e

theorem emb_lane {off : Fin 1 → ℕ} {j : ℕ} (h : off = ![16 * j]) (p : ∀ a, off a + S16.size a ≤ S5120.size a) (k : Fin 16) (hj : 16 * j + k.val < 5120) :
    (Rect.unit (s := S5120) off S16.size p).emb (Shape.ofLane (d := ![16]) k) 0 = (⟨16 * j + k.val, hj⟩ : Fin 5120) := by
  subst h
  apply Fin.ext
  show 16 * j + 1 * k.val = 16 * j + k.val
  omega

theorem iota_lane : ∀ k : Fin 16, iota .scVector S16 32 [0] iota_S16_d0_w32_scVector (Shape.ofLane (d := ![16]) k) = BitVec.ofNat 32 k.val := by decide +kernel
theorem iv_mul : ∀ j : Fin 320, Scalar.muli (Scf.iv 0#32 1#32 j) 16#32 = BitVec.ofNat 32 (16 * j.val) := by decide +kernel

/-- The lanes of the stored column numbers. -/
theorem pay_lane {v : IVec S16 32} {v43 : IVec S16 32} (h43 : v43 = iota .scVector S16 32 [0] iota_S16_d0_w32_scVector) {b : BitVec 32} {r : Fin 10000} {j : ℕ}
    (hv : v = addi v43 (broadcast S16 (Scalar.addi (BitVec.ofNat 32 (16 * j)) b))) (hb : b = offW r.val) (hj : j < 320) (k : Fin 16) :
    v (Shape.ofLane (d := ![16]) k) = colW (ix2 r (⟨16 * j + k.val, by omega⟩ : Fin 5120)) := by
  subst hv h43 hb
  show iota .scVector S16 32 [0] iota_S16_d0_w32_scVector (Shape.ofLane (d := ![16]) k) + (BitVec.ofNat 32 (16 * j) + offW r.val) = _
  rw [iota_lane]
  exact col_lane r j hj k

/-! ## Between the slots' turns -/

section

variable (d : Dev nD) (L : grid0.Coords)
variable (d2 : S10000x5120.Idx → Elt F .f32) (ps : S10000x5120.Idx → Elt F .i32) (f₀ : S10000x128.Idx → Elt F .f32) (g₀ : S10000x128.Idx → Elt F .i32)
  (q : PosShare TreeShare) (k : Fin 4)

/-- Slot `k` before trip `t`: the row of the trip under way into it, or nothing when there are no more trips. -/
def IdleIn : sProp 𝕄 :=
  iprop(Free (F := F) d (cV L) (jV L) (dB k) ∗ Free (F := F) d (cV L) (jV L) (pB k) ∗ (dLoc d ↦{q} d2) ∗ (pLoc d ↦{q} ps) ∗ semVal (thr d L, .dma (sI k)) 0)
def InSt (t : ℕ) : sProp 𝕄 := if t < nt L then InFl d (cV L) (jV L) d2 ps k (row L t k.val) q else IdleIn d L d2 ps q k
theorem InSt_pos {t : ℕ} (h : t < nt L) : InSt d L d2 ps q k t = InFl d (cV L) (jV L) d2 ps k (row L t k.val) q := if_pos h
theorem InSt_neg {t : ℕ} (h : ¬ t < nt L) : InSt d L d2 ps q k t = IdleIn d L d2 ps q k := if_neg h

variable [FloatOps F]

/-- Its result rows: those of the trip before on their way out, or free on the first. -/
def IdleOut : sProp 𝕄 := iprop(Free (F := F) d (cV L) (jV L) (vB k) ∗ Free (F := F) d (cV L) (jV L) (iB k) ∗ semVal (thr d L, .dma (sO k)) 0)
def OutSt (t : ℕ) : sProp 𝕄 := if 0 < t then OutFl d (cV L) (jV L) d2 ps k (row L (t - 1) k.val) else IdleOut (F := F) d L k
theorem OutSt_pos {t : ℕ} (h : 0 < t) : OutSt d L d2 ps k t = OutFl d (cV L) (jV L) d2 ps k (row L (t - 1) k.val) := if_pos h
theorem OutSt_neg {t : ℕ} (h : ¬ 0 < t) : OutSt d L d2 ps k t = IdleOut (F := F) d L k := if_neg h

abbrev vRows (a b : ℕ) (f : S10000x128.Idx → Elt F .f32) : sProp 𝕄 := vLoc d ↦[rowsSet a b]{fullShare} f
abbrev iRows (a b : ℕ) (f : S10000x128.Idx → Elt F .i32) : sProp 𝕄 := iLoc d ↦[rowsSet a b]{fullShare} f
abbrev GV : S10000x128.Idx → Elt F .f32 := G ps d2 infF
abbrev GI : S10000x128.Idx → Elt F .i32 := (G ps colW (bigI (F := F)) : S10000x128.Idx → Elt F .i32)

/-- After `n` turns: all rows but the last four taken hold the result; those not yet taken hold what they held. -/
def Done (n : ℕ) : sProp 𝕄 := iprop(vRows d (base L) (base L + (n - 4)) (GV d2 ps) ∗ iRows d (base L) (base L + (n - 4)) (GI ps))
def Todo (n : ℕ) : sProp 𝕄 := iprop(vRows d (base L + n) (base L + 4 * nt L) f₀ ∗ iRows d (base L + n) (base L + 4 * nt L) g₀)

omit [FloatOps F] in
theorem vRows_split {a b e : ℕ} (h : a ≤ b) (h' : b ≤ e) (f : S10000x128.Idx → Elt F .f32) :
    (vRows d a e f : sProp 𝕄) ⊣⊢ iprop(vRows d a b f ∗ vRows d b e f) := by
  unfold vRows; rw [rowsSet_union h h']; exact pointsTo_union (rowsSet_disjoint (le_refl _))
omit [FloatOps F] in
theorem iRows_split {a b e : ℕ} (h : a ≤ b) (h' : b ≤ e) (f : S10000x128.Idx → Elt F .i32) :
    (iRows d a e f : sProp 𝕄) ⊣⊢ iprop(iRows d a b f ∗ iRows d b e f) := by
  unfold iRows; rw [rowsSet_union h h']; exact pointsTo_union (rowsSet_disjoint (le_refl _))

/-- A row that came back joins those before it. -/
theorem done_step {n : ℕ} (hn : 4 ≤ n) {r : Fin 10000} (hr : r.val = base L + (n - 4)) :
    iprop(Done d L d2 ps n ∗ vRows d r.val (r.val + 1) (GV d2 ps) ∗ iRows d r.val (r.val + 1) (GI ps)) ⊢ (Done d L d2 ps (n + 1) : sProp 𝕄) := by
  unfold Done
  rw [hr, show base L + (n + 1 - 4) = base L + (n - 4) + 1 by omega]
  iintro ⟨⟨Hv, Hi⟩, Hv', Hi'⟩
  isplitl [Hv Hv']
  · iapply (vRows_split d (a := base L) (b := base L + (n - 4)) (e := base L + (n - 4) + 1) (by omega) (by omega) (GV d2 ps)).2
    isplitl [Hv] <;> iassumption
  · iapply (iRows_split d (a := base L) (b := base L + (n - 4)) (e := base L + (n - 4) + 1) (by omega) (by omega) (GI ps)).2
    isplitl [Hi] <;> iassumption
theorem done_small {n : ℕ} (hn : n < 4) : (Done d L d2 ps n : sProp 𝕄) ⊢ Done d L d2 ps (n + 1) := by
  unfold Done
  rw [show n + 1 - 4 = n - 4 by omega]

omit [FloatOps F] in
/-- The next row taken. -/
theorem todo_step {n : ℕ} (hn : n < 4 * nt L) {r : Fin 10000} (hr : r.val = base L + n) :
    (Todo d L f₀ g₀ n : sProp 𝕄) ⊢ iprop((vRows d r.val (r.val + 1) f₀ ∗ iRows d r.val (r.val + 1) g₀) ∗ Todo d L f₀ g₀ (n + 1)) := by
  unfold Todo
  rw [hr, show base L + (n + 1) = base L + n + 1 by omega]
  iintro ⟨Hv, Hi⟩
  ihave Hv := (vRows_split d (b := base L + n + 1) (by omega) (by omega) f₀).1 $$ Hv
  ihave Hi := (iRows_split d (b := base L + n + 1) (by omega) (by omega) g₀).1 $$ Hi
  icases Hv with ⟨Hv, Hv'⟩
  icases Hi with ⟨Hi, Hi'⟩
  isplitl [Hv Hi]
  · isplitl [Hv] <;> iassumption
  · isplitl [Hv'] <;> iassumption

abbrev owed (O : CellTallies nD τ sig (HIx 1)) (W : Waits sig (HIx 1)) : sProp 𝕄 := owing (F := F) d (cV L) (jV L) O W

/-- In the middle of slot `k`'s turn of trip `t`: the row there, the result rows filled up to entry `16 * m`. -/
def Mid (t m : ℕ) (O : CellTallies nD τ sig (HIx 1)) (W : Waits sig (HIx 1)) : sProp 𝕄 :=
  iprop(owns (thr d L) (dB k) fullShare (rowD d2 (row L t k.val)) ∗ owns (thr d L) (pB k) fullShare (rowP ps (row L t k.val))
    ∗ ((dLoc d ↦{q} d2) ∗ (pLoc d ↦{q} ps) ∗ semVal (thr d L, .dma (sI k)) 0)
    ∗ FillTo d (cV L) (jV L) (vB k) (infF (F := F)) m ∗ FillTo d (cV L) (jV L) (iB k) (bigI (F := F)) m ∗ semVal (thr d L, .dma (sO k)) 0
    ∗ owed (F := F) d L O W)

end

end Cert.Proof.CompactState

end
-- ==== Proof.CompactSlot0.lean ====
/- The first slot's turn of a trip of the compaction: the row waited for, the result rows of the trip before waited for,
   the result rows filled, the row's candidates stored one group of sixteen after another, and the result rows sent off. -/
module

public import proofs.«01_k».proof.Proof.CompactState

@[expose] public section

noncomputable section

namespace Cert.Proof.CompactSlot0

open Cert.CompactIdeal Cert.CompactIdeal.Gen Cert.Proof.CompactSlots Cert.Proof.CompactSteps Cert.Proof.CompactWords Cert.Proof.CompactState

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix2)

variable {F : FTy → Type}

local notation "𝕄" => MT nD τ sig (HIx 1) (Elt F) ℕ UU ℕ

section

variable (d : Dev nD) (L : grid0.Coords)
variable (d2 : S10000x5120.Idx → Elt F .f32) (ps : S10000x5120.Idx → Elt F .i32) (f₀ : S10000x128.Idx → Elt F .f32) (g₀ : S10000x128.Idx → Elt F .i32)
  (q : PosShare TreeShare) [FloatOps F]

set_option maxHeartbeats 4000000 in
/-- The waits, and the first five groups of sixteen entries filled. -/
theorem start (O : CellTallies nD τ sig (HIx 1)) (W : Waits sig (HIx 1)) (t : Fin k0_t1_loop.trips) (h1 : k0_cond1 L t = 1#1) (v50 v51 : BitVec 32)
    {Q : _ → sProp 𝕄} :
    iprop(InFl d (cV L) (jV L) d2 ps 0 (row L t.val 0) q ∗ OutSt d L d2 ps 0 t.val ∗ Done d L d2 ps (4 * t.val + 0) ∗ owed (F := F) d L O W
        ∗ Transfers.MayWaits (thr d L) (default : HIx 1) O)
      ⊢ iprop((∀ r, ⌜r = ⟨Scalar.select (Scalar.cmpi .sge v51 5000#32) 5000#32 0#32, k0_pay1 (F := F), k0_pay2⟩⌝
            -∗ iprop(Mid d L d2 ps q 0 t.val 5 O W ∗ Done d L d2 ps (4 * t.val + 0 + 1)) -∗ Q r)
        -∗ wp frame (wpE (defs₀ (F := F)) 𝒱₀ (thr d L) none) Set.univ
        (k0_part1 L d2V (Memref.isWhole_whole _) psV (Memref.isWhole_whole _) ovV (Memref.isWhole_whole _) oiV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _)
          (Memref.whole cc0_scratch8) (Memref.isWhole_whole _) (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _) (Memref.whole cc0_scratch15) (Memref.isWhole_whole _)
          cc0_scratch16 cc0_scratch17 cc0_scratch18 cc0_scratch19 cc0_scratch20 cc0_scratch21 cc0_scratch22 cc0_scratch23 t v50 v51 h1) Q) := by
  have ht : t.val < nt L := (cond1 L t).1 h1
  simp only [k0_part1_eq_skeleton]
  unfold k0_part1_skel
  iintro ⟨HF, HS, HD, HO, #Hmw⟩ HQ
  sl_exec
  iapply (waitD d (cV L) (jV L) d2 ps 0 (row L t.val 0) q rfl rfl) $$ [HF HO]
  · isplitl [HF]; · iexact HF
    isplitl [HO]; · iexact HO
    iexact Hmw
  iintro ⟨HF, HO⟩
  sl_exec
  iapply (waitP d (cV L) (jV L) d2 ps 0 (row L t.val 0) q rfl rfl) $$ [HF HO]
  · isplitl [HF]; · iexact HF
    isplitl [HO]; · iexact HO
    iexact Hmw
  iintro ⟨Hx, Hy, Hd, Hp, Hs, HO⟩
  by_cases h0 : 0 < t.val
  case' pos =>
    have hc : k0_cond2 t = 1#1 := (cond2 t).2 h0
    have er := row_val (L := L) (t := t.val - 1) (k := 0) (by omega) (by omega)
    ihave HS := (Entails.of_eq (OutSt_pos d L d2 ps 0 h0)) $$ HS
    sl_exec
    iapply (drainV d (cV L) (jV L) d2 ps 0 (row L (t.val - 1) 0) (outV_of (off_row (off3 L t h0) er.symm) _) rfl) $$ [HS HO]
    · isplitl [HS]; · iexact HS
      isplitl [HO]; · iexact HO
      iexact Hmw
    iintro ⟨HS, HO⟩
    sl_exec
    iapply (drainI d (cV L) (jV L) d2 ps 0 (row L (t.val - 1) 0) (outI_of (off_row (off3 L t h0) er.symm) _) rfl) $$ [HS HO]
    · isplitl [HS]; · iexact HS
      isplitl [HO]; · iexact HO
      iexact Hmw
    iintro ⟨Hrv, Hri, HV, HI, HsO, HO⟩
    ihave HD := (done_step d L d2 ps (n := 4 * t.val + 0) (by omega) (r := row L (t.val - 1) 0) (by omega)) $$ [HD Hrv Hri]
    · isplitl [HD]; · iexact HD
      isplitl [Hrv] <;> iassumption
  case' neg =>
    have hc : ¬ k0_cond2 t = 1#1 := fun h => h0 ((cond2 t).1 h)
    ihave HS := (Entails.of_eq (OutSt_neg d L d2 ps 0 h0)) $$ HS
    unfold IdleOut
    icases HS with ⟨HV, HI, HsO⟩
    ihave HD := (done_small d L d2 ps (n := 4 * t.val + 0) (by omega)) $$ HD
    sl_exec
  all_goals
  ihave HV := (fill_start d (cV L) (jV L) (fill := infF (F := F))) $$ HV
  ihave HI := (fill_start d (cV L) (jV L) (fill := bigI (F := F))) $$ HI
  iapply (fillLd d (cV L) (jV L)) $$ HV
  iintro %x HV
  iapply (fillSt d (cV L) (jV L) 0 rfl rfl) $$ HV
  iintro HV
  iapply (fillLd d (cV L) (jV L)) $$ HI
  iintro %x HI
  iapply (fillSt d (cV L) (jV L) 0 rfl rfl) $$ HI
  iintro HI
  iapply (fillLd d (cV L) (jV L)) $$ HV
  iintro %x HV
  iapply (fillSt d (cV L) (jV L) 1 rfl rfl) $$ HV
  iintro HV
  iapply (fillLd d (cV L) (jV L)) $$ HI
  iintro %x HI
  iapply (fillSt d (cV L) (jV L) 1 rfl rfl) $$ HI
  iintro HI
  iapply (fillLd d (cV L) (jV L)) $$ HV
  iintro %x HV
  iapply (fillSt d (cV L) (jV L) 2 rfl rfl) $$ HV
  iintro HV
  iapply (fillLd d (cV L) (jV L)) $$ HI
  iintro %x HI
  iapply (fillSt d (cV L) (jV L) 2 rfl rfl) $$ HI
  iintro HI
  iapply (fillLd d (cV L) (jV L)) $$ HV
  iintro %x HV
  iapply (fillSt d (cV L) (jV L) 3 rfl rfl) $$ HV
  iintro HV
  iapply (fillLd d (cV L) (jV L)) $$ HI
  iintro %x HI
  iapply (fillSt d (cV L) (jV L) 3 rfl rfl) $$ HI
  iintro HI
  iapply (fillLd d (cV L) (jV L)) $$ HV
  iintro %x HV
  iapply (fillSt d (cV L) (jV L) 4 rfl rfl) $$ HV
  iintro HV
  iapply (fillLd d (cV L) (jV L)) $$ HI
  iintro %x HI
  iapply (fillSt d (cV L) (jV L) 4 rfl rfl) $$ HI
  iintro HI
  dsimp only [Prog.bind]
  sl_step
  iapply HQ $$ %_ []
  · ipureintro; rfl
  isplitr [HD]
  · unfold Mid
    isplitl [Hx]; · iexact Hx
    isplitl [Hy]; · iexact Hy
    isplitl [Hd Hp Hs]
    · isplitl [Hd]; · iexact Hd
      isplitl [Hp] <;> iassumption
    isplitl [HV]; · iexact HV
    isplitl [HI]; · iexact HI
    isplitl [HsO] <;> iassumption
  · iexact HD

set_option maxHeartbeats 4000000 in
/-- The other four groups filled, the candidates stored, the write-back started. -/
theorem finish (hps : ∀ j, BitVec.toNat (ps j) < 144) (O : CellTallies nD τ sig (HIx 1)) (W : Waits sig (HIx 1)) (t : Fin k0_t1_loop.trips) (h1 : k0_cond1 L t = 1#1)
    (v43 : IVec S16 32) (h43 : v43 = iota .scVector S16 32 [0] iota_S16_d0_w32_scVector) (v50 v51 v82 : BitVec 32) (h82 : v82 = offW (row L t.val 0).val)
    {Q : _ → sProp 𝕄} :
    iprop(Mid d L d2 ps q 0 t.val 5 O W ∗ Todo d L f₀ g₀ (4 * t.val + 0))
      ⊢ iprop((∀ r, iprop(IdleIn d L d2 ps q 0 ∗ OutFl d (cV L) (jV L) d2 ps 0 (row L t.val 0) ∗ Todo d L f₀ g₀ (4 * t.val + 0 + 1) ∗ owed (F := F) d L O W) -∗ Q r)
        -∗ wp frame (wpE (defs₀ (F := F)) 𝒱₀ (thr d L) none) Set.univ
        (k0_part2 L d2V (Memref.isWhole_whole _) psV (Memref.isWhole_whole _) ovV (Memref.isWhole_whole _) oiV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _)
          (Memref.whole cc0_scratch8) (Memref.isWhole_whole _) (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _) (Memref.whole cc0_scratch15) (Memref.isWhole_whole _)
          cc0_scratch16 cc0_scratch17 cc0_scratch18 cc0_scratch19 cc0_scratch20 cc0_scratch21 cc0_scratch22 cc0_scratch23 v43 t v50 v51 h1 v82 (k0_pay1 (F := F)) k0_pay2) Q) := by
  have ht : t.val < nt L := (cond1 L t).1 h1
  have er := row_val (L := L) (t := t.val) (k := 0) ht (by omega)
  have hchk : ∀ j, k0_chk1 L t (fun y => rowP ps (row L t.val 0) ((Rect.unit (s := S5120) (k0_off4 j) S16.size (k0_off4_inb L t j h1)).emb y)) := by
    intro j
    have hb : ∀ a z, ((![fun y => rowP ps (row L t.val 0) ((Rect.unit (s := S5120) (k0_off4 j) S16.size (k0_off4_inb L t j h1)).emb y)] : Fin 1 → IVec S16 32) a z).toNat
        < S144.size a := fun a z => by
      match a with
      | 0 => exact hps _
    unfold k0_chk1
    exact ⟨fun _ => hb, fun _ => hb⟩
  simp only [k0_part2_eq_skeleton]
  unfold k0_part2_skel Mid
  iintro ⟨⟨Hx, Hy, Hin, HV, HI, HsO, HO⟩, HT⟩ HQ
  iapply (fillLd d (cV L) (jV L)) $$ HV
  iintro %x HV
  iapply (fillSt d (cV L) (jV L) 5 rfl rfl) $$ HV
  iintro HV
  iapply (fillLd d (cV L) (jV L)) $$ HI
  iintro %x HI
  iapply (fillSt d (cV L) (jV L) 5 rfl rfl) $$ HI
  iintro HI
  iapply (fillLd d (cV L) (jV L)) $$ HV
  iintro %x HV
  iapply (fillSt d (cV L) (jV L) 6 rfl rfl) $$ HV
  iintro HV
  iapply (fillLd d (cV L) (jV L)) $$ HI
  iintro %x HI
  iapply (fillSt d (cV L) (jV L) 6 rfl rfl) $$ HI
  iintro HI
  iapply (fillLd d (cV L) (jV L)) $$ HV
  iintro %x HV
  iapply (fillSt d (cV L) (jV L) 7 rfl rfl) $$ HV
  iintro HV
  iapply (fillLd d (cV L) (jV L)) $$ HI
  iintro %x HI
  iapply (fillSt d (cV L) (jV L) 7 rfl rfl) $$ HI
  iintro HI
  iapply (fillLd d (cV L) (jV L)) $$ HV
  iintro %x HV
  iapply (fillSt d (cV L) (jV L) 8 rfl rfl) $$ HV
  iintro HV
  iapply (fillLd d (cV L) (jV L)) $$ HI
  iintro %x HI
  iapply (fillSt d (cV L) (jV L) 8 rfl rfl) $$ HI
  iintro HI
  ihave HV := (fill_done d (cV L) (jV L)) $$ HV
  ihave HI := (fill_done d (cV L) (jV L)) $$ HI
  dsimp only [Prog.bind]
  sl_for (fun j _ => iprop(owns (thr d L) (dB 0) fullShare (rowD d2 (row L t.val 0)) ∗ owns (thr d L) (pB 0) fullShare (rowP ps (row L t.val 0))
      ∗ owns (thr d L) (vB 0) fullShare (tab ps d2 (infF (F := F)) (row L t.val 0) (16 * j))
      ∗ owns (thr d L) (iB 0) fullShare (tab ps colW (bigI (F := F)) (row L t.val 0) (16 * j) : S144.Idx → Elt F .i32))) $$ [Hx Hy HV HI]
  case region =>
    intro j _
    have hj : j.val < 320 := trips2 ▸ j.isLt
    have hcj := hchk j
    have eo := k0_off4_eq j
    iintro ⟨Hx, Hy, HV, HI⟩
    iapply (ld d (cV L) (jV L)) $$ Hx
    iintro Hx
    iapply (ld d (cV L) (jV L)) $$ Hy
    iintro Hy
    dsimp only [Prog.bind]
    sl_exec
    iapply (scat d (cV L) (jV L)) $$ HV
    iintro HV
    iapply (scat d (cV L) (jV L)) $$ HI
    iintro HI
    dsimp only [Prog.bind]
    sl_step
    isplitl [Hx]; · iexact Hx
    isplitl [Hy]; · iexact Hy
    isplitl [HV]
    · rw [storeIdx_tab ps d2 (infF (F := F)) (row L t.val 0) (16 * j.val) (by omega) _ _ _
        (fun l => congrArg (fun c => ps (ix2 (row L t.val 0) c)) (emb_lane eo _ l (by omega)))
        (fun l => congrArg (fun c => d2 (ix2 (row L t.val 0) c)) (emb_lane eo _ l (by omega)))]
      iexact HV
    · rw [storeIdx_tab (F := F) (e := .i32) ps colW (bigI (F := F)) (row L t.val 0) (16 * j.val) (by omega) _ _ _
        (fun l => congrArg (fun c => ps (ix2 (row L t.val 0) c)) (emb_lane eo _ l (by omega)))
        (fun l => pay_lane h43 (by unfold k0_pay3; rw [← iv_mul ⟨j.val, hj⟩]) h82 hj l)]
      iexact HI
  · isplitl [Hx]; · iexact Hx
    isplitl [Hy]; · iexact Hy
    rw [Nat.mul_zero, tab_zero, tab_zero]
    isplitl [HV] <;> iassumption
  iintro %_ ⟨Hx, Hy, HV, HI⟩
  rw [show Scf.trips k0_t2_loop.lb k0_t2_loop.ub k0_t2_loop.st = 320 from trips2]
  ihave HT := (todo_step d L f₀ g₀ (n := 4 * t.val + 0) (by omega) (r := row L t.val 0) (by omega)) $$ HT
  icases HT with ⟨⟨Hrv, Hri⟩, HT⟩
  have eout : 640 * (L 1).val + 320 * (L 0).val + 4 * t.val = (row L t.val 0).val := by unfold base at er; omega
  iapply (putV d (cV L) (jV L) d2 ps 0 (row L t.val 0) rfl (outV_of (off_row (k0_off5_eq L t) eout) _) rfl (f₀ := f₀)) $$ [HV Hrv HsO]
  · isplitl [HV]; · iexact HV
    isplitl [Hrv] <;> iassumption
  iintro HH
  iapply (putI d (cV L) (jV L) d2 ps 0 (row L t.val 0) rfl (outI_of (off_row (k0_off5_eq L t) eout) _) rfl (f₀ := g₀)) $$ [HI Hri HH]
  · isplitl [HH]; · iexact HH
    isplitl [HI] <;> iassumption
  iintro HH
  dsimp only [Prog.bind]
  sl_step
  iapply HQ
  isplitl [Hx Hy Hin]
  · unfold IdleIn
    ihave Hx := (free_intro d (cV L) (jV L) (dB 0) _) $$ Hx
    ihave Hy := (free_intro d (cV L) (jV L) (pB 0) _) $$ Hy
    isplitl [Hx]; · iexact Hx
    isplitl [Hy] <;> iassumption
  isplitl [HH]; · iexact HH
  isplitl [HT] <;> iassumption

end

end Cert.Proof.CompactSlot0

end
-- ==== Proof.CompactSlot1.lean ====
/- The second slot's turn of a trip of the compaction: the row waited for, the result rows of the trip before waited for,
   the result rows filled, the row's candidates stored one group of sixteen after another, and the result rows sent off. -/
module

public import proofs.«01_k».proof.Proof.CompactState

@[expose] public section

noncomputable section

namespace Cert.Proof.CompactSlot1

open Cert.CompactIdeal Cert.CompactIdeal.Gen Cert.Proof.CompactSlots Cert.Proof.CompactSteps Cert.Proof.CompactWords Cert.Proof.CompactState

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix2)

variable {F : FTy → Type}

local notation "𝕄" => MT nD τ sig (HIx 1) (Elt F) ℕ UU ℕ

section

variable (d : Dev nD) (L : grid0.Coords)
variable (d2 : S10000x5120.Idx → Elt F .f32) (ps : S10000x5120.Idx → Elt F .i32) (f₀ : S10000x128.Idx → Elt F .f32) (g₀ : S10000x128.Idx → Elt F .i32)
  (q : PosShare TreeShare) [FloatOps F]

set_option maxHeartbeats 4000000 in
/-- The waits, and the first five groups of sixteen entries filled. -/
theorem start (O : CellTallies nD τ sig (HIx 1)) (W : Waits sig (HIx 1)) (t : Fin k0_t1_loop.trips) (h1 : k0_cond4 L t = 1#1) (v50 v51 : BitVec 32)
    {Q : _ → sProp 𝕄} :
    iprop(InFl d (cV L) (jV L) d2 ps 1 (row L t.val 1) q ∗ OutSt d L d2 ps 1 t.val ∗ Done d L d2 ps (4 * t.val + 1) ∗ owed (F := F) d L O W
        ∗ Transfers.MayWaits (thr d L) (default : HIx 1) O)
      ⊢ iprop((∀ r, ⌜r = ⟨Scalar.select (Scalar.cmpi .sge v51 5000#32) 5000#32 0#32, k0_pay4 (F := F), k0_pay5⟩⌝
            -∗ iprop(Mid d L d2 ps q 1 t.val 5 O W ∗ Done d L d2 ps (4 * t.val + 1 + 1)) -∗ Q r)
        -∗ wp frame (wpE (defs₀ (F := F)) 𝒱₀ (thr d L) none) Set.univ
        (k0_part3 L d2V (Memref.isWhole_whole _) psV (Memref.isWhole_whole _) ovV (Memref.isWhole_whole _) oiV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _)
          (Memref.whole cc0_scratch8) (Memref.isWhole_whole _) (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _) (Memref.whole cc0_scratch15) (Memref.isWhole_whole _)
          cc0_scratch16 cc0_scratch17 cc0_scratch18 cc0_scratch19 cc0_scratch20 cc0_scratch21 cc0_scratch22 cc0_scratch23 t v50 v51 h1) Q) := by
  have ht : t.val < nt L := (cond4 L t).1 h1
  simp only [k0_part3_eq_skeleton]
  unfold k0_part3_skel
  iintro ⟨HF, HS, HD, HO, #Hmw⟩ HQ
  sl_exec
  iapply (waitD d (cV L) (jV L) d2 ps 1 (row L t.val 1) q rfl rfl) $$ [HF HO]
  · isplitl [HF]; · iexact HF
    isplitl [HO]; · iexact HO
    iexact Hmw
  iintro ⟨HF, HO⟩
  sl_exec
  iapply (waitP d (cV L) (jV L) d2 ps 1 (row L t.val 1) q rfl rfl) $$ [HF HO]
  · isplitl [HF]; · iexact HF
    isplitl [HO]; · iexact HO
    iexact Hmw
  iintro ⟨Hx, Hy, Hd, Hp, Hs, HO⟩
  by_cases h0 : 0 < t.val
  case' pos =>
    have hc : k0_cond5 t = 1#1 := (cond5 t).2 h0
    have er := row_val (L := L) (t := t.val - 1) (k := 1) (by omega) (by omega)
    ihave HS := (Entails.of_eq (OutSt_pos d L d2 ps 1 h0)) $$ HS
    sl_exec
    iapply (drainV d (cV L) (jV L) d2 ps 1 (row L (t.val - 1) 1) (outV_of (off_row (off8 L t h0) er.symm) _) rfl) $$ [HS HO]
    · isplitl [HS]; · iexact HS
      isplitl [HO]; · iexact HO
      iexact Hmw
    iintro ⟨HS, HO⟩
    sl_exec
    iapply (drainI d (cV L) (jV L) d2 ps 1 (row L (t.val - 1) 1) (outI_of (off_row (off8 L t h0) er.symm) _) rfl) $$ [HS HO]
    · isplitl [HS]; · iexact HS
      isplitl [HO]; · iexact HO
      iexact Hmw
    iintro ⟨Hrv, Hri, HV, HI, HsO, HO⟩
    ihave HD := (done_step d L d2 ps (n := 4 * t.val + 1) (by omega) (r := row L (t.val - 1) 1) (by omega)) $$ [HD Hrv Hri]
    · isplitl [HD]; · iexact HD
      isplitl [Hrv] <;> iassumption
  case' neg =>
    have hc : ¬ k0_cond5 t = 1#1 := fun h => h0 ((cond5 t).1 h)
    ihave HS := (Entails.of_eq (OutSt_neg d L d2 ps 1 h0)) $$ HS
    unfold IdleOut
    icases HS with ⟨HV, HI, HsO⟩
    ihave HD := (done_small d L d2 ps (n := 4 * t.val + 1) (by omega)) $$ HD
    sl_exec
  all_goals
  ihave HV := (fill_start d (cV L) (jV L) (fill := infF (F := F))) $$ HV
  ihave HI := (fill_start d (cV L) (jV L) (fill := bigI (F := F))) $$ HI
  iapply (fillLd d (cV L) (jV L)) $$ HV
  iintro %x HV
  iapply (fillSt d (cV L) (jV L) 0 rfl rfl) $$ HV
  iintro HV
  iapply (fillLd d (cV L) (jV L)) $$ HI
  iintro %x HI
  iapply (fillSt d (cV L) (jV L) 0 rfl rfl) $$ HI
  iintro HI
  iapply (fillLd d (cV L) (jV L)) $$ HV
  iintro %x HV
  iapply (fillSt d (cV L) (jV L) 1 rfl rfl) $$ HV
  iintro HV
  iapply (fillLd d (cV L) (jV L)) $$ HI
  iintro %x HI
  iapply (fillSt d (cV L) (jV L) 1 rfl rfl) $$ HI
  iintro HI
  iapply (fillLd d (cV L) (jV L)) $$ HV
  iintro %x HV
  iapply (fillSt d (cV L) (jV L) 2 rfl rfl) $$ HV
  iintro HV
  iapply (fillLd d (cV L) (jV L)) $$ HI
  iintro %x HI
  iapply (fillSt d (cV L) (jV L) 2 rfl rfl) $$ HI
  iintro HI
  iapply (fillLd d (cV L) (jV L)) $$ HV
  iintro %x HV
  iapply (fillSt d (cV L) (jV L) 3 rfl rfl) $$ HV
  iintro HV
  iapply (fillLd d (cV L) (jV L)) $$ HI
  iintro %x HI
  iapply (fillSt d (cV L) (jV L) 3 rfl rfl) $$ HI
  iintro HI
  iapply (fillLd d (cV L) (jV L)) $$ HV
  iintro %x HV
  iapply (fillSt d (cV L) (jV L) 4 rfl rfl) $$ HV
  iintro HV
  iapply (fillLd d (cV L) (jV L)) $$ HI
  iintro %x HI
  iapply (fillSt d (cV L) (jV L) 4 rfl rfl) $$ HI
  iintro HI
  dsimp only [Prog.bind]
  sl_step
  iapply HQ $$ %_ []
  · ipureintro; rfl
  isplitr [HD]
  · unfold Mid
    isplitl [Hx]; · iexact Hx
    isplitl [Hy]; · iexact Hy
    isplitl [Hd Hp Hs]
    · isplitl [Hd]; · iexact Hd
      isplitl [Hp] <;> iassumption
    isplitl [HV]; · iexact HV
    isplitl [HI]; · iexact HI
    isplitl [HsO] <;> iassumption
  · iexact HD

set_option maxHeartbeats 4000000 in
/-- The other four groups filled, the candidates stored, the write-back started. -/
theorem finish (hps : ∀ j, BitVec.toNat (ps j) < 144) (O : CellTallies nD τ sig (HIx 1)) (W : Waits sig (HIx 1)) (t : Fin k0_t1_loop.trips) (h1 : k0_cond4 L t = 1#1)
    (v43 : IVec S16 32) (h43 : v43 = iota .scVector S16 32 [0] iota_S16_d0_w32_scVector) (v50 v51 v82 : BitVec 32) (h82 : v82 = offW (row L t.val 1).val)
    {Q : _ → sProp 𝕄} :
    iprop(Mid d L d2 ps q 1 t.val 5 O W ∗ Todo d L f₀ g₀ (4 * t.val + 1))
      ⊢ iprop((∀ r, iprop(IdleIn d L d2 ps q 1 ∗ OutFl d (cV L) (jV L) d2 ps 1 (row L t.val 1) ∗ Todo d L f₀ g₀ (4 * t.val + 1 + 1) ∗ owed (F := F) d L O W) -∗ Q r)
        -∗ wp frame (wpE (defs₀ (F := F)) 𝒱₀ (thr d L) none) Set.univ
        (k0_part4 L d2V (Memref.isWhole_whole _) psV (Memref.isWhole_whole _) ovV (Memref.isWhole_whole _) oiV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _)
          (Memref.whole cc0_scratch8) (Memref.isWhole_whole _) (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _) (Memref.whole cc0_scratch15) (Memref.isWhole_whole _)
          cc0_scratch16 cc0_scratch17 cc0_scratch18 cc0_scratch19 cc0_scratch20 cc0_scratch21 cc0_scratch22 cc0_scratch23 v43 t v50 v51 h1 v82 (k0_pay4 (F := F)) k0_pay5) Q) := by
  have ht : t.val < nt L := (cond4 L t).1 h1
  have er := row_val (L := L) (t := t.val) (k := 1) ht (by omega)
  have hchk : ∀ j, k0_chk2 L t (fun y => rowP ps (row L t.val 1) ((Rect.unit (s := S5120) (k0_off9 j) S16.size (k0_off9_inb L t j h1)).emb y)) := by
    intro j
    have hb : ∀ a z, ((![fun y => rowP ps (row L t.val 1) ((Rect.unit (s := S5120) (k0_off9 j) S16.size (k0_off9_inb L t j h1)).emb y)] : Fin 1 → IVec S16 32) a z).toNat
        < S144.size a := fun a z => by
      match a with
      | 0 => exact hps _
    unfold k0_chk2
    exact ⟨fun _ => hb, fun _ => hb⟩
  simp only [k0_part4_eq_skeleton]
  unfold k0_part4_skel Mid
  iintro ⟨⟨Hx, Hy, Hin, HV, HI, HsO, HO⟩, HT⟩ HQ
  iapply (fillLd d (cV L) (jV L)) $$ HV
  iintro %x HV
  iapply (fillSt d (cV L) (jV L) 5 rfl rfl) $$ HV
  iintro HV
  iapply (fillLd d (cV L) (jV L)) $$ HI
  iintro %x HI
  iapply (fillSt d (cV L) (jV L) 5 rfl rfl) $$ HI
  iintro HI
  iapply (fillLd d (cV L) (jV L)) $$ HV
  iintro %x HV
  iapply (fillSt d (cV L) (jV L) 6 rfl rfl) $$ HV
  iintro HV
  iapply (fillLd d (cV L) (jV L)) $$ HI
  iintro %x HI
  iapply (fillSt d (cV L) (jV L) 6 rfl rfl) $$ HI
  iintro HI
  iapply (fillLd d (cV L) (jV L)) $$ HV
  iintro %x HV
  iapply (fillSt d (cV L) (jV L) 7 rfl rfl) $$ HV
  iintro HV
  iapply (fillLd d (cV L) (jV L)) $$ HI
  iintro %x HI
  iapply (fillSt d (cV L) (jV L) 7 rfl rfl) $$ HI
  iintro HI
  iapply (fillLd d (cV L) (jV L)) $$ HV
  iintro %x HV
  iapply (fillSt d (cV L) (jV L) 8 rfl rfl) $$ HV
  iintro HV
  iapply (fillLd d (cV L) (jV L)) $$ HI
  iintro %x HI
  iapply (fillSt d (cV L) (jV L) 8 rfl rfl) $$ HI
  iintro HI
  ihave HV := (fill_done d (cV L) (jV L)) $$ HV
  ihave HI := (fill_done d (cV L) (jV L)) $$ HI
  dsimp only [Prog.bind]
  sl_for (fun j _ => iprop(owns (thr d L) (dB 1) fullShare (rowD d2 (row L t.val 1)) ∗ owns (thr d L) (pB 1) fullShare (rowP ps (row L t.val 1))
      ∗ owns (thr d L) (vB 1) fullShare (tab ps d2 (infF (F := F)) (row L t.val 1) (16 * j))
      ∗ owns (thr d L) (iB 1) fullShare (tab ps colW (bigI (F := F)) (row L t.val 1) (16 * j) : S144.Idx → Elt F .i32))) $$ [Hx Hy HV HI]
  case region =>
    intro j _
    have hj : j.val < 320 := trips3 ▸ j.isLt
    have hcj := hchk j
    have eo := k0_off9_eq j
    iintro ⟨Hx, Hy, HV, HI⟩
    iapply (ld d (cV L) (jV L)) $$ Hx
    iintro Hx
    iapply (ld d (cV L) (jV L)) $$ Hy
    iintro Hy
    dsimp only [Prog.bind]
    sl_exec
    iapply (scat d (cV L) (jV L)) $$ HV
    iintro HV
    iapply (scat d (cV L) (jV L)) $$ HI
    iintro HI
    dsimp only [Prog.bind]
    sl_step
    isplitl [Hx]; · iexact Hx
    isplitl [Hy]; · iexact Hy
    isplitl [HV]
    · rw [storeIdx_tab ps d2 (infF (F := F)) (row L t.val 1) (16 * j.val) (by omega) _ _ _
        (fun l => congrArg (fun c => ps (ix2 (row L t.val 1) c)) (emb_lane eo _ l (by omega)))
        (fun l => congrArg (fun c => d2 (ix2 (row L t.val 1) c)) (emb_lane eo _ l (by omega)))]
      iexact HV
    · rw [storeIdx_tab (F := F) (e := .i32) ps colW (bigI (F := F)) (row L t.val 1) (16 * j.val) (by omega) _ _ _
        (fun l => congrArg (fun c => ps (ix2 (row L t.val 1) c)) (emb_lane eo _ l (by omega)))
        (fun l => pay_lane h43 (by unfold k0_pay6; rw [← iv_mul ⟨j.val, hj⟩]) h82 hj l)]
      iexact HI
  · isplitl [Hx]; · iexact Hx
    isplitl [Hy]; · iexact Hy
    rw [Nat.mul_zero, tab_zero, tab_zero]
    isplitl [HV] <;> iassumption
  iintro %_ ⟨Hx, Hy, HV, HI⟩
  rw [show Scf.trips k0_t3_loop.lb k0_t3_loop.ub k0_t3_loop.st = 320 from trips3]
  ihave HT := (todo_step d L f₀ g₀ (n := 4 * t.val + 1) (by omega) (r := row L t.val 1) (by omega)) $$ HT
  icases HT with ⟨⟨Hrv, Hri⟩, HT⟩
  have eout : 640 * (L 1).val + 320 * (L 0).val + 4 * t.val + 1 = (row L t.val 1).val := by unfold base at er; omega
  iapply (putV d (cV L) (jV L) d2 ps 1 (row L t.val 1) rfl (outV_of (off_row (k0_off10_eq L t) eout) _) rfl (f₀ := f₀)) $$ [HV Hrv HsO]
  · isplitl [HV]; · iexact HV
    isplitl [Hrv] <;> iassumption
  iintro HH
  iapply (putI d (cV L) (jV L) d2 ps 1 (row L t.val 1) rfl (outI_of (off_row (k0_off10_eq L t) eout) _) rfl (f₀ := g₀)) $$ [HI Hri HH]
  · isplitl [HH]; · iexact HH
    isplitl [HI] <;> iassumption
  iintro HH
  dsimp only [Prog.bind]
  sl_step
  iapply HQ
  isplitl [Hx Hy Hin]
  · unfold IdleIn
    ihave Hx := (free_intro d (cV L) (jV L) (dB 1) _) $$ Hx
    ihave Hy := (free_intro d (cV L) (jV L) (pB 1) _) $$ Hy
    isplitl [Hx]; · iexact Hx
    isplitl [Hy] <;> iassumption
  isplitl [HH]; · iexact HH
  isplitl [HT] <;> iassumption

end

end Cert.Proof.CompactSlot1

end
-- ==== Proof.CompactSlot2.lean ====
/- The third slot's turn of a trip of the compaction: the row waited for, the result rows of the trip before waited for,
   the result rows filled, the row's candidates stored one group of sixteen after another, and the result rows sent off. -/
module

public import proofs.«01_k».proof.Proof.CompactState

@[expose] public section

noncomputable section

namespace Cert.Proof.CompactSlot2

open Cert.CompactIdeal Cert.CompactIdeal.Gen Cert.Proof.CompactSlots Cert.Proof.CompactSteps Cert.Proof.CompactWords Cert.Proof.CompactState

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix2)

variable {F : FTy → Type}

local notation "𝕄" => MT nD τ sig (HIx 1) (Elt F) ℕ UU ℕ

section

variable (d : Dev nD) (L : grid0.Coords)
variable (d2 : S10000x5120.Idx → Elt F .f32) (ps : S10000x5120.Idx → Elt F .i32) (f₀ : S10000x128.Idx → Elt F .f32) (g₀ : S10000x128.Idx → Elt F .i32)
  (q : PosShare TreeShare) [FloatOps F]

set_option maxHeartbeats 4000000 in
/-- The waits, and the first five groups of sixteen entries filled. -/
theorem start (O : CellTallies nD τ sig (HIx 1)) (W : Waits sig (HIx 1)) (t : Fin k0_t1_loop.trips) (h1 : k0_cond7 L t = 1#1) (v50 v51 : BitVec 32)
    {Q : _ → sProp 𝕄} :
    iprop(InFl d (cV L) (jV L) d2 ps 2 (row L t.val 2) q ∗ OutSt d L d2 ps 2 t.val ∗ Done d L d2 ps (4 * t.val + 2) ∗ owed (F := F) d L O W
        ∗ Transfers.MayWaits (thr d L) (default : HIx 1) O)
      ⊢ iprop((∀ r, ⌜r = ⟨Scalar.select (Scalar.cmpi .sge v51 5000#32) 5000#32 0#32, k0_pay7 (F := F), k0_pay8⟩⌝
            -∗ iprop(Mid d L d2 ps q 2 t.val 5 O W ∗ Done d L d2 ps (4 * t.val + 2 + 1)) -∗ Q r)
        -∗ wp frame (wpE (defs₀ (F := F)) 𝒱₀ (thr d L) none) Set.univ
        (k0_part5 L d2V (Memref.isWhole_whole _) psV (Memref.isWhole_whole _) ovV (Memref.isWhole_whole _) oiV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _)
          (Memref.whole cc0_scratch8) (Memref.isWhole_whole _) (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _) (Memref.whole cc0_scratch15) (Memref.isWhole_whole _)
          cc0_scratch16 cc0_scratch17 cc0_scratch18 cc0_scratch19 cc0_scratch20 cc0_scratch21 cc0_scratch22 cc0_scratch23 t v50 v51 h1) Q) := by
  have ht : t.val < nt L := (cond7 L t).1 h1
  simp only [k0_part5_eq_skeleton]
  unfold k0_part5_skel
  iintro ⟨HF, HS, HD, HO, #Hmw⟩ HQ
  sl_exec
  iapply (waitD d (cV L) (jV L) d2 ps 2 (row L t.val 2) q rfl rfl) $$ [HF HO]
  · isplitl [HF]; · iexact HF
    isplitl [HO]; · iexact HO
    iexact Hmw
  iintro ⟨HF, HO⟩
  sl_exec
  iapply (waitP d (cV L) (jV L) d2 ps 2 (row L t.val 2) q rfl rfl) $$ [HF HO]
  · isplitl [HF]; · iexact HF
    isplitl [HO]; · iexact HO
    iexact Hmw
  iintro ⟨Hx, Hy, Hd, Hp, Hs, HO⟩
  by_cases h0 : 0 < t.val
  case' pos =>
    have hc : k0_cond8 t = 1#1 := (cond8 t).2 h0
    have er := row_val (L := L) (t := t.val - 1) (k := 2) (by omega) (by omega)
    ihave HS := (Entails.of_eq (OutSt_pos d L d2 ps 2 h0)) $$ HS
    sl_exec
    iapply (drainV d (cV L) (jV L) d2 ps 2 (row L (t.val - 1) 2) (outV_of (off_row (off13 L t h0) er.symm) _) rfl) $$ [HS HO]
    · isplitl [HS]; · iexact HS
      isplitl [HO]; · iexact HO
      iexact Hmw
    iintro ⟨HS, HO⟩
    sl_exec
    iapply (drainI d (cV L) (jV L) d2 ps 2 (row L (t.val - 1) 2) (outI_of (off_row (off13 L t h0) er.symm) _) rfl) $$ [HS HO]
    · isplitl [HS]; · iexact HS
      isplitl [HO]; · iexact HO
      iexact Hmw
    iintro ⟨Hrv, Hri, HV, HI, HsO, HO⟩
    ihave HD := (done_step d L d2 ps (n := 4 * t.val + 2) (by omega) (r := row L (t.val - 1) 2) (by omega)) $$ [HD Hrv Hri]
    · isplitl [HD]; · iexact HD
      isplitl [Hrv] <;> iassumption
  case' neg =>
    have hc : ¬ k0_cond8 t = 1#1 := fun h => h0 ((cond8 t).1 h)
    ihave HS := (Entails.of_eq (OutSt_neg d L d2 ps 2 h0)) $$ HS
    unfold IdleOut
    icases HS with ⟨HV, HI, HsO⟩
    ihave HD := (done_small d L d2 ps (n := 4 * t.val + 2) (by omega)) $$ HD
    sl_exec
  all_goals
  ihave HV := (fill_start d (cV L) (jV L) (fill := infF (F := F))) $$ HV
  ihave HI := (fill_start d (cV L) (jV L) (fill := bigI (F := F))) $$ HI
  iapply (fillLd d (cV L) (jV L)) $$ HV
  iintro %x HV
  iapply (fillSt d (cV L) (jV L) 0 rfl rfl) $$ HV
  iintro HV
  iapply (fillLd d (cV L) (jV L)) $$ HI
  iintro %x HI
  iapply (fillSt d (cV L) (jV L) 0 rfl rfl) $$ HI
  iintro HI
  iapply (fillLd d (cV L) (jV L)) $$ HV
  iintro %x HV
  iapply (fillSt d (cV L) (jV L) 1 rfl rfl) $$ HV
  iintro HV
  iapply (fillLd d (cV L) (jV L)) $$ HI
  iintro %x HI
  iapply (fillSt d (cV L) (jV L) 1 rfl rfl) $$ HI
  iintro HI
  iapply (fillLd d (cV L) (jV L)) $$ HV
  iintro %x HV
  iapply (fillSt d (cV L) (jV L) 2 rfl rfl) $$ HV
  iintro HV
  iapply (fillLd d (cV L) (jV L)) $$ HI
  iintro %x HI
  iapply (fillSt d (cV L) (jV L) 2 rfl rfl) $$ HI
  iintro HI
  iapply (fillLd d (cV L) (jV L)) $$ HV
  iintro %x HV
  iapply (fillSt d (cV L) (jV L) 3 rfl rfl) $$ HV
  iintro HV
  iapply (fillLd d (cV L) (jV L)) $$ HI
  iintro %x HI
  iapply (fillSt d (cV L) (jV L) 3 rfl rfl) $$ HI
  iintro HI
  iapply (fillLd d (cV L) (jV L)) $$ HV
  iintro %x HV
  iapply (fillSt d (cV L) (jV L) 4 rfl rfl) $$ HV
  iintro HV
  iapply (fillLd d (cV L) (jV L)) $$ HI
  iintro %x HI
  iapply (fillSt d (cV L) (jV L) 4 rfl rfl) $$ HI
  iintro HI
  dsimp only [Prog.bind]
  sl_step
  iapply HQ $$ %_ []
  · ipureintro; rfl
  isplitr [HD]
  · unfold Mid
    isplitl [Hx]; · iexact Hx
    isplitl [Hy]; · iexact Hy
    isplitl [Hd Hp Hs]
    · isplitl [Hd]; · iexact Hd
      isplitl [Hp] <;> iassumption
    isplitl [HV]; · iexact HV
    isplitl [HI]; · iexact HI
    isplitl [HsO] <;> iassumption
  · iexact HD

set_option maxHeartbeats 4000000 in
/-- The other four groups filled, the candidates stored, the write-back started. -/
theorem finish (hps : ∀ j, BitVec.toNat (ps j) < 144) (O : CellTallies nD τ sig (HIx 1)) (W : Waits sig (HIx 1)) (t : Fin k0_t1_loop.trips) (h1 : k0_cond7 L t = 1#1)
    (v43 : IVec S16 32) (h43 : v43 = iota .scVector S16 32 [0] iota_S16_d0_w32_scVector) (v50 v51 v82 : BitVec 32) (h82 : v82 = offW (row L t.val 2).val)
    {Q : _ → sProp 𝕄} :
    iprop(Mid d L d2 ps q 2 t.val 5 O W ∗ Todo d L f₀ g₀ (4 * t.val + 2))
      ⊢ iprop((∀ r, iprop(IdleIn d L d2 ps q 2 ∗ OutFl d (cV L) (jV L) d2 ps 2 (row L t.val 2) ∗ Todo d L f₀ g₀ (4 * t.val + 2 + 1) ∗ owed (F := F) d L O W) -∗ Q r)
        -∗ wp frame (wpE (defs₀ (F := F)) 𝒱₀ (thr d L) none) Set.univ
        (k0_part6 L d2V (Memref.isWhole_whole _) psV (Memref.isWhole_whole _) ovV (Memref.isWhole_whole _) oiV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _)
          (Memref.whole cc0_scratch8) (Memref.isWhole_whole _) (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _) (Memref.whole cc0_scratch15) (Memref.isWhole_whole _)
          cc0_scratch16 cc0_scratch17 cc0_scratch18 cc0_scratch19 cc0_scratch20 cc0_scratch21 cc0_scratch22 cc0_scratch23 v43 t v50 v51 h1 v82 (k0_pay7 (F := F)) k0_pay8) Q) := by
  have ht : t.val < nt L := (cond7 L t).1 h1
  have er := row_val (L := L) (t := t.val) (k := 2) ht (by omega)
  have hchk : ∀ j, k0_chk3 L t (fun y => rowP ps (row L t.val 2) ((Rect.unit (s := S5120) (k0_off14 j) S16.size (k0_off14_inb L t j h1)).emb y)) := by
    intro j
    have hb : ∀ a z, ((![fun y => rowP ps (row L t.val 2) ((Rect.unit (s := S5120) (k0_off14 j) S16.size (k0_off14_inb L t j h1)).emb y)] : Fin 1 → IVec S16 32) a z).toNat
        < S144.size a := fun a z => by
      match a with
      | 0 => exact hps _
    unfold k0_chk3
    exact ⟨fun _ => hb, fun _ => hb⟩
  simp only [k0_part6_eq_skeleton]
  unfold k0_part6_skel Mid
  iintro ⟨⟨Hx, Hy, Hin, HV, HI, HsO, HO⟩, HT⟩ HQ
  iapply (fillLd d (cV L) (jV L)) $$ HV
  iintro %x HV
  iapply (fillSt d (cV L) (jV L) 5 rfl rfl) $$ HV
  iintro HV
  iapply (fillLd d (cV L) (jV L)) $$ HI
  iintro %x HI
  iapply (fillSt d (cV L) (jV L) 5 rfl rfl) $$ HI
  iintro HI
  iapply (fillLd d (cV L) (jV L)) $$ HV
  iintro %x HV
  iapply (fillSt d (cV L) (jV L) 6 rfl rfl) $$ HV
  iintro HV
  iapply (fillLd d (cV L) (jV L)) $$ HI
  iintro %x HI
  iapply (fillSt d (cV L) (jV L) 6 rfl rfl) $$ HI
  iintro HI
  iapply (fillLd d (cV L) (jV L)) $$ HV
  iintro %x HV
  iapply (fillSt d (cV L) (jV L) 7 rfl rfl) $$ HV
  iintro HV
  iapply (fillLd d (cV L) (jV L)) $$ HI
  iintro %x HI
  iapply (fillSt d (cV L) (jV L) 7 rfl rfl) $$ HI
  iintro HI
  iapply (fillLd d (cV L) (jV L)) $$ HV
  iintro %x HV
  iapply (fillSt d (cV L) (jV L) 8 rfl rfl) $$ HV
  iintro HV
  iapply (fillLd d (cV L) (jV L)) $$ HI
  iintro %x HI
  iapply (fillSt d (cV L) (jV L) 8 rfl rfl) $$ HI
  iintro HI
  ihave HV := (fill_done d (cV L) (jV L)) $$ HV
  ihave HI := (fill_done d (cV L) (jV L)) $$ HI
  dsimp only [Prog.bind]
  sl_for (fun j _ => iprop(owns (thr d L) (dB 2) fullShare (rowD d2 (row L t.val 2)) ∗ owns (thr d L) (pB 2) fullShare (rowP ps (row L t.val 2))
      ∗ owns (thr d L) (vB 2) fullShare (tab ps d2 (infF (F := F)) (row L t.val 2) (16 * j))
      ∗ owns (thr d L) (iB 2) fullShare (tab ps colW (bigI (F := F)) (row L t.val 2) (16 * j) : S144.Idx → Elt F .i32))) $$ [Hx Hy HV HI]
  case region =>
    intro j _
    have hj : j.val < 320 := trips4 ▸ j.isLt
    have hcj := hchk j
    have eo := k0_off14_eq j
    iintro ⟨Hx, Hy, HV, HI⟩
    iapply (ld d (cV L) (jV L)) $$ Hx
    iintro Hx
    iapply (ld d (cV L) (jV L)) $$ Hy
    iintro Hy
    dsimp only [Prog.bind]
    sl_exec
    iapply (scat d (cV L) (jV L)) $$ HV
    iintro HV
    iapply (scat d (cV L) (jV L)) $$ HI
    iintro HI
    dsimp only [Prog.bind]
    sl_step
    isplitl [Hx]; · iexact Hx
    isplitl [Hy]; · iexact Hy
    isplitl [HV]
    · rw [storeIdx_tab ps d2 (infF (F := F)) (row L t.val 2) (16 * j.val) (by omega) _ _ _
        (fun l => congrArg (fun c => ps (ix2 (row L t.val 2) c)) (emb_lane eo _ l (by omega)))
        (fun l => congrArg (fun c => d2 (ix2 (row L t.val 2) c)) (emb_lane eo _ l (by omega)))]
      iexact HV
    · rw [storeIdx_tab (F := F) (e := .i32) ps colW (bigI (F := F)) (row L t.val 2) (16 * j.val) (by omega) _ _ _
        (fun l => congrArg (fun c => ps (ix2 (row L t.val 2) c)) (emb_lane eo _ l (by omega)))
        (fun l => pay_lane h43 (by unfold k0_pay9; rw [← iv_mul ⟨j.val, hj⟩]) h82 hj l)]
      iexact HI
  · isplitl [Hx]; · iexact Hx
    isplitl [Hy]; · iexact Hy
    rw [Nat.mul_zero, tab_zero, tab_zero]
    isplitl [HV] <;> iassumption
  iintro %_ ⟨Hx, Hy, HV, HI⟩
  rw [show Scf.trips k0_t4_loop.lb k0_t4_loop.ub k0_t4_loop.st = 320 from trips4]
  ihave HT := (todo_step d L f₀ g₀ (n := 4 * t.val + 2) (by omega) (r := row L t.val 2) (by omega)) $$ HT
  icases HT with ⟨⟨Hrv, Hri⟩, HT⟩
  have eout : 640 * (L 1).val + 320 * (L 0).val + 4 * t.val + 2 = (row L t.val 2).val := by unfold base at er; omega
  iapply (putV d (cV L) (jV L) d2 ps 2 (row L t.val 2) rfl (outV_of (off_row (k0_off15_eq L t) eout) _) rfl (f₀ := f₀)) $$ [HV Hrv HsO]
  · isplitl [HV]; · iexact HV
    isplitl [Hrv] <;> iassumption
  iintro HH
  iapply (putI d (cV L) (jV L) d2 ps 2 (row L t.val 2) rfl (outI_of (off_row (k0_off15_eq L t) eout) _) rfl (f₀ := g₀)) $$ [HI Hri HH]
  · isplitl [HH]; · iexact HH
    isplitl [HI] <;> iassumption
  iintro HH
  dsimp only [Prog.bind]
  sl_step
  iapply HQ
  isplitl [Hx Hy Hin]
  · unfold IdleIn
    ihave Hx := (free_intro d (cV L) (jV L) (dB 2) _) $$ Hx
    ihave Hy := (free_intro d (cV L) (jV L) (pB 2) _) $$ Hy
    isplitl [Hx]; · iexact Hx
    isplitl [Hy] <;> iassumption
  isplitl [HH]; · iexact HH
  isplitl [HT] <;> iassumption

end

end Cert.Proof.CompactSlot2

end
-- ==== Proof.CompactSlot3.lean ====
/- The fourth slot's turn of a trip of the compaction: the row waited for, the result rows of the trip before waited for,
   the result rows filled, the row's candidates stored one group of sixteen after another, and the result rows sent off. -/
module

public import proofs.«01_k».proof.Proof.CompactState

@[expose] public section

noncomputable section

namespace Cert.Proof.CompactSlot3

open Cert.CompactIdeal Cert.CompactIdeal.Gen Cert.Proof.CompactSlots Cert.Proof.CompactSteps Cert.Proof.CompactWords Cert.Proof.CompactState

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix2)

variable {F : FTy → Type}

local notation "𝕄" => MT nD τ sig (HIx 1) (Elt F) ℕ UU ℕ

section

variable (d : Dev nD) (L : grid0.Coords)
variable (d2 : S10000x5120.Idx → Elt F .f32) (ps : S10000x5120.Idx → Elt F .i32) (f₀ : S10000x128.Idx → Elt F .f32) (g₀ : S10000x128.Idx → Elt F .i32)
  (q : PosShare TreeShare) [FloatOps F]

set_option maxHeartbeats 4000000 in
/-- The waits, and the first five groups of sixteen entries filled. -/
theorem start (O : CellTallies nD τ sig (HIx 1)) (W : Waits sig (HIx 1)) (t : Fin k0_t1_loop.trips) (h1 : k0_cond10 L t = 1#1) (v50 v51 : BitVec 32)
    {Q : _ → sProp 𝕄} :
    iprop(InFl d (cV L) (jV L) d2 ps 3 (row L t.val 3) q ∗ OutSt d L d2 ps 3 t.val ∗ Done d L d2 ps (4 * t.val + 3) ∗ owed (F := F) d L O W
        ∗ Transfers.MayWaits (thr d L) (default : HIx 1) O)
      ⊢ iprop((∀ r, ⌜r = ⟨Scalar.select (Scalar.cmpi .sge v51 5000#32) 5000#32 0#32, k0_pay10 (F := F), k0_pay11⟩⌝
            -∗ iprop(Mid d L d2 ps q 3 t.val 5 O W ∗ Done d L d2 ps (4 * t.val + 3 + 1)) -∗ Q r)
        -∗ wp frame (wpE (defs₀ (F := F)) 𝒱₀ (thr d L) none) Set.univ
        (k0_part7 L d2V (Memref.isWhole_whole _) psV (Memref.isWhole_whole _) ovV (Memref.isWhole_whole _) oiV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _)
          (Memref.whole cc0_scratch8) (Memref.isWhole_whole _) (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _) (Memref.whole cc0_scratch15) (Memref.isWhole_whole _)
          cc0_scratch16 cc0_scratch17 cc0_scratch18 cc0_scratch19 cc0_scratch20 cc0_scratch21 cc0_scratch22 cc0_scratch23 t v50 v51 h1) Q) := by
  have ht : t.val < nt L := (cond10 L t).1 h1
  simp only [k0_part7_eq_skeleton]
  unfold k0_part7_skel
  iintro ⟨HF, HS, HD, HO, #Hmw⟩ HQ
  sl_exec
  iapply (waitD d (cV L) (jV L) d2 ps 3 (row L t.val 3) q rfl rfl) $$ [HF HO]
  · isplitl [HF]; · iexact HF
    isplitl [HO]; · iexact HO
    iexact Hmw
  iintro ⟨HF, HO⟩
  sl_exec
  iapply (waitP d (cV L) (jV L) d2 ps 3 (row L t.val 3) q rfl rfl) $$ [HF HO]
  · isplitl [HF]; · iexact HF
    isplitl [HO]; · iexact HO
    iexact Hmw
  iintro ⟨Hx, Hy, Hd, Hp, Hs, HO⟩
  by_cases h0 : 0 < t.val
  case' pos =>
    have hc : k0_cond11 t = 1#1 := (cond11 t).2 h0
    have er := row_val (L := L) (t := t.val - 1) (k := 3) (by omega) (by omega)
    ihave HS := (Entails.of_eq (OutSt_pos d L d2 ps 3 h0)) $$ HS
    sl_exec
    iapply (drainV d (cV L) (jV L) d2 ps 3 (row L (t.val - 1) 3) (outV_of (off_row (off18 L t h0) er.symm) _) rfl) $$ [HS HO]
    · isplitl [HS]; · iexact HS
      isplitl [HO]; · iexact HO
      iexact Hmw
    iintro ⟨HS, HO⟩
    sl_exec
    iapply (drainI d (cV L) (jV L) d2 ps 3 (row L (t.val - 1) 3) (outI_of (off_row (off18 L t h0) er.symm) _) rfl) $$ [HS HO]
    · isplitl [HS]; · iexact HS
      isplitl [HO]; · iexact HO
      iexact Hmw
    iintro ⟨Hrv, Hri, HV, HI, HsO, HO⟩
    ihave HD := (done_step d L d2 ps (n := 4 * t.val + 3) (by omega) (r := row L (t.val - 1) 3) (by omega)) $$ [HD Hrv Hri]
    · isplitl [HD]; · iexact HD
      isplitl [Hrv] <;> iassumption
  case' neg =>
    have hc : ¬ k0_cond11 t = 1#1 := fun h => h0 ((cond11 t).1 h)
    ihave HS := (Entails.of_eq (OutSt_neg d L d2 ps 3 h0)) $$ HS
    unfold IdleOut
    icases HS with ⟨HV, HI, HsO⟩
    ihave HD := (done_small d L d2 ps (n := 4 * t.val + 3) (by omega)) $$ HD
    sl_exec
  all_goals
  ihave HV := (fill_start d (cV L) (jV L) (fill := infF (F := F))) $$ HV
  ihave HI := (fill_start d (cV L) (jV L) (fill := bigI (F := F))) $$ HI
  iapply (fillLd d (cV L) (jV L)) $$ HV
  iintro %x HV
  iapply (fillSt d (cV L) (jV L) 0 rfl rfl) $$ HV
  iintro HV
  iapply (fillLd d (cV L) (jV L)) $$ HI
  iintro %x HI
  iapply (fillSt d (cV L) (jV L) 0 rfl rfl) $$ HI
  iintro HI
  iapply (fillLd d (cV L) (jV L)) $$ HV
  iintro %x HV
  iapply (fillSt d (cV L) (jV L) 1 rfl rfl) $$ HV
  iintro HV
  iapply (fillLd d (cV L) (jV L)) $$ HI
  iintro %x HI
  iapply (fillSt d (cV L) (jV L) 1 rfl rfl) $$ HI
  iintro HI
  iapply (fillLd d (cV L) (jV L)) $$ HV
  iintro %x HV
  iapply (fillSt d (cV L) (jV L) 2 rfl rfl) $$ HV
  iintro HV
  iapply (fillLd d (cV L) (jV L)) $$ HI
  iintro %x HI
  iapply (fillSt d (cV L) (jV L) 2 rfl rfl) $$ HI
  iintro HI
  iapply (fillLd d (cV L) (jV L)) $$ HV
  iintro %x HV
  iapply (fillSt d (cV L) (jV L) 3 rfl rfl) $$ HV
  iintro HV
  iapply (fillLd d (cV L) (jV L)) $$ HI
  iintro %x HI
  iapply (fillSt d (cV L) (jV L) 3 rfl rfl) $$ HI
  iintro HI
  iapply (fillLd d (cV L) (jV L)) $$ HV
  iintro %x HV
  iapply (fillSt d (cV L) (jV L) 4 rfl rfl) $$ HV
  iintro HV
  iapply (fillLd d (cV L) (jV L)) $$ HI
  iintro %x HI
  iapply (fillSt d (cV L) (jV L) 4 rfl rfl) $$ HI
  iintro HI
  dsimp only [Prog.bind]
  sl_step
  iapply HQ $$ %_ []
  · ipureintro; rfl
  isplitr [HD]
  · unfold Mid
    isplitl [Hx]; · iexact Hx
    isplitl [Hy]; · iexact Hy
    isplitl [Hd Hp Hs]
    · isplitl [Hd]; · iexact Hd
      isplitl [Hp] <;> iassumption
    isplitl [HV]; · iexact HV
    isplitl [HI]; · iexact HI
    isplitl [HsO] <;> iassumption
  · iexact HD

set_option maxHeartbeats 4000000 in
/-- The other four groups filled, the candidates stored, the write-back started. -/
theorem finish (hps : ∀ j, BitVec.toNat (ps j) < 144) (O : CellTallies nD τ sig (HIx 1)) (W : Waits sig (HIx 1)) (t : Fin k0_t1_loop.trips) (h1 : k0_cond10 L t = 1#1)
    (v43 : IVec S16 32) (h43 : v43 = iota .scVector S16 32 [0] iota_S16_d0_w32_scVector) (v50 v51 v82 : BitVec 32) (h82 : v82 = offW (row L t.val 3).val)
    {Q : _ → sProp 𝕄} :
    iprop(Mid d L d2 ps q 3 t.val 5 O W ∗ Todo d L f₀ g₀ (4 * t.val + 3))
      ⊢ iprop((∀ r, iprop(IdleIn d L d2 ps q 3 ∗ OutFl d (cV L) (jV L) d2 ps 3 (row L t.val 3) ∗ Todo d L f₀ g₀ (4 * t.val + 3 + 1) ∗ owed (F := F) d L O W) -∗ Q r)
        -∗ wp frame (wpE (defs₀ (F := F)) 𝒱₀ (thr d L) none) Set.univ
        (k0_part8 L d2V (Memref.isWhole_whole _) psV (Memref.isWhole_whole _) ovV (Memref.isWhole_whole _) oiV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _)
          (Memref.whole cc0_scratch8) (Memref.isWhole_whole _) (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _) (Memref.whole cc0_scratch15) (Memref.isWhole_whole _)
          cc0_scratch16 cc0_scratch17 cc0_scratch18 cc0_scratch19 cc0_scratch20 cc0_scratch21 cc0_scratch22 cc0_scratch23 v43 t v50 v51 h1 v82 (k0_pay10 (F := F)) k0_pay11) Q) := by
  have ht : t.val < nt L := (cond10 L t).1 h1
  have er := row_val (L := L) (t := t.val) (k := 3) ht (by omega)
  have hchk : ∀ j, k0_chk4 L t (fun y => rowP ps (row L t.val 3) ((Rect.unit (s := S5120) (k0_off19 j) S16.size (k0_off19_inb L t j h1)).emb y)) := by
    intro j
    have hb : ∀ a z, ((![fun y => rowP ps (row L t.val 3) ((Rect.unit (s := S5120) (k0_off19 j) S16.size (k0_off19_inb L t j h1)).emb y)] : Fin 1 → IVec S16 32) a z).toNat
        < S144.size a := fun a z => by
      match a with
      | 0 => exact hps _
    unfold k0_chk4
    exact ⟨fun _ => hb, fun _ => hb⟩
  simp only [k0_part8_eq_skeleton]
  unfold k0_part8_skel Mid
  iintro ⟨⟨Hx, Hy, Hin, HV, HI, HsO, HO⟩, HT⟩ HQ
  iapply (fillLd d (cV L) (jV L)) $$ HV
  iintro %x HV
  iapply (fillSt d (cV L) (jV L) 5 rfl rfl) $$ HV
  iintro HV
  iapply (fillLd d (cV L) (jV L)) $$ HI
  iintro %x HI
  iapply (fillSt d (cV L) (jV L) 5 rfl rfl) $$ HI
  iintro HI
  iapply (fillLd d (cV L) (jV L)) $$ HV
  iintro %x HV
  iapply (fillSt d (cV L) (jV L) 6 rfl rfl) $$ HV
  iintro HV
  iapply (fillLd d (cV L) (jV L)) $$ HI
  iintro %x HI
  iapply (fillSt d (cV L) (jV L) 6 rfl rfl) $$ HI
  iintro HI
  iapply (fillLd d (cV L) (jV L)) $$ HV
  iintro %x HV
  iapply (fillSt d (cV L) (jV L) 7 rfl rfl) $$ HV
  iintro HV
  iapply (fillLd d (cV L) (jV L)) $$ HI
  iintro %x HI
  iapply (fillSt d (cV L) (jV L) 7 rfl rfl) $$ HI
  iintro HI
  iapply (fillLd d (cV L) (jV L)) $$ HV
  iintro %x HV
  iapply (fillSt d (cV L) (jV L) 8 rfl rfl) $$ HV
  iintro HV
  iapply (fillLd d (cV L) (jV L)) $$ HI
  iintro %x HI
  iapply (fillSt d (cV L) (jV L) 8 rfl rfl) $$ HI
  iintro HI
  ihave HV := (fill_done d (cV L) (jV L)) $$ HV
  ihave HI := (fill_done d (cV L) (jV L)) $$ HI
  dsimp only [Prog.bind]
  sl_for (fun j _ => iprop(owns (thr d L) (dB 3) fullShare (rowD d2 (row L t.val 3)) ∗ owns (thr d L) (pB 3) fullShare (rowP ps (row L t.val 3))
      ∗ owns (thr d L) (vB 3) fullShare (tab ps d2 (infF (F := F)) (row L t.val 3) (16 * j))
      ∗ owns (thr d L) (iB 3) fullShare (tab ps colW (bigI (F := F)) (row L t.val 3) (16 * j) : S144.Idx → Elt F .i32))) $$ [Hx Hy HV HI]
  case region =>
    intro j _
    have hj : j.val < 320 := trips5 ▸ j.isLt
    have hcj := hchk j
    have eo := k0_off19_eq j
    iintro ⟨Hx, Hy, HV, HI⟩
    iapply (ld d (cV L) (jV L)) $$ Hx
    iintro Hx
    iapply (ld d (cV L) (jV L)) $$ Hy
    iintro Hy
    dsimp only [Prog.bind]
    sl_exec
    iapply (scat d (cV L) (jV L)) $$ HV
    iintro HV
    iapply (scat d (cV L) (jV L)) $$ HI
    iintro HI
    dsimp only [Prog.bind]
    sl_step
    isplitl [Hx]; · iexact Hx
    isplitl [Hy]; · iexact Hy
    isplitl [HV]
    · rw [storeIdx_tab ps d2 (infF (F := F)) (row L t.val 3) (16 * j.val) (by omega) _ _ _
        (fun l => congrArg (fun c => ps (ix2 (row L t.val 3) c)) (emb_lane eo _ l (by omega)))
        (fun l => congrArg (fun c => d2 (ix2 (row L t.val 3) c)) (emb_lane eo _ l (by omega)))]
      iexact HV
    · rw [storeIdx_tab (F := F) (e := .i32) ps colW (bigI (F := F)) (row L t.val 3) (16 * j.val) (by omega) _ _ _
        (fun l => congrArg (fun c => ps (ix2 (row L t.val 3) c)) (emb_lane eo _ l (by omega)))
        (fun l => pay_lane h43 (by unfold k0_pay12; rw [← iv_mul ⟨j.val, hj⟩]) h82 hj l)]
      iexact HI
  · isplitl [Hx]; · iexact Hx
    isplitl [Hy]; · iexact Hy
    rw [Nat.mul_zero, tab_zero, tab_zero]
    isplitl [HV] <;> iassumption
  iintro %_ ⟨Hx, Hy, HV, HI⟩
  rw [show Scf.trips k0_t5_loop.lb k0_t5_loop.ub k0_t5_loop.st = 320 from trips5]
  ihave HT := (todo_step d L f₀ g₀ (n := 4 * t.val + 3) (by omega) (r := row L t.val 3) (by omega)) $$ HT
  icases HT with ⟨⟨Hrv, Hri⟩, HT⟩
  have eout : 640 * (L 1).val + 320 * (L 0).val + 4 * t.val + 3 = (row L t.val 3).val := by unfold base at er; omega
  iapply (putV d (cV L) (jV L) d2 ps 3 (row L t.val 3) rfl (outV_of (off_row (k0_off20_eq L t) eout) _) rfl (f₀ := f₀)) $$ [HV Hrv HsO]
  · isplitl [HV]; · iexact HV
    isplitl [Hrv] <;> iassumption
  iintro HH
  iapply (putI d (cV L) (jV L) d2 ps 3 (row L t.val 3) rfl (outI_of (off_row (k0_off20_eq L t) eout) _) rfl (f₀ := g₀)) $$ [HI Hri HH]
  · isplitl [HH]; · iexact HH
    isplitl [HI] <;> iassumption
  iintro HH
  dsimp only [Prog.bind]
  sl_step
  iapply HQ
  isplitl [Hx Hy Hin]
  · unfold IdleIn
    ihave Hx := (free_intro d (cV L) (jV L) (dB 3) _) $$ Hx
    ihave Hy := (free_intro d (cV L) (jV L) (pB 3) _) $$ Hy
    isplitl [Hx]; · iexact Hx
    isplitl [Hy] <;> iassumption
  isplitl [HH]; · iexact HH
  isplitl [HT] <;> iassumption

end

end Cert.Proof.CompactSlot3

end
-- ==== Proof.CompactTrip.lean ====
/- A trip of the compaction's loop: the four slots' turns one after another, and the next rows' fetches started; past the
   tile's last row a trip does nothing. -/
module

public import proofs.«01_k».proof.Proof.CompactSlot0
public import proofs.«01_k».proof.Proof.CompactSlot1
public import proofs.«01_k».proof.Proof.CompactSlot2
public import proofs.«01_k».proof.Proof.CompactSlot3

@[expose] public section

noncomputable section

namespace Cert.Proof.CompactTrip

open Cert.CompactIdeal Cert.CompactIdeal.Gen Cert.Proof.CompactSlots Cert.Proof.CompactSteps Cert.Proof.CompactWords Cert.Proof.CompactState

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

section

variable (d : Dev nD) (L : grid0.Coords)
variable (d2 : S10000x5120.Idx → Elt F .f32) (ps : S10000x5120.Idx → Elt F .i32) (f₀ : S10000x128.Idx → Elt F .f32) (g₀ : S10000x128.Idx → Elt F .i32)
  (q : Fin 4 → PosShare TreeShare) [FloatOps F]
  (O : CellTallies nD τ sig (HIx 1)) (W : Waits sig (HIx 1))

/-- What a trip starts from. -/
def inv (t : ℕ) : sProp 𝕄 :=
  iprop(InSt d L d2 ps (q 0) 0 (min t (nt L)) ∗ InSt d L d2 ps (q 1) 1 (min t (nt L)) ∗ InSt d L d2 ps (q 2) 2 (min t (nt L)) ∗ InSt d L d2 ps (q 3) 3 (min t (nt L))
    ∗ OutSt d L d2 ps 0 (min t (nt L)) ∗ OutSt d L d2 ps 1 (min t (nt L)) ∗ OutSt d L d2 ps 2 (min t (nt L)) ∗ OutSt d L d2 ps 3 (min t (nt L))
    ∗ Done d L d2 ps (4 * min t (nt L)) ∗ Todo d L f₀ g₀ (4 * min t (nt L)) ∗ owed (F := F) d L O W)

omit [FloatOps F] in
theorem inSt_next (k : Fin 4) {t : ℕ} (h : t < nt L) :
    (InFl d (cV L) (jV L) d2 ps k (row L t k.val) (q k) : sProp 𝕄) ⊢ InSt d L d2 ps (q k) k t := Entails.of_eq (InSt_pos d L d2 ps (q k) k h).symm
theorem outSt_next (k : Fin 4) (t : ℕ) :
    (OutFl d (cV L) (jV L) d2 ps k (row L t k.val) : sProp 𝕄) ⊢ OutSt d L d2 ps k (t + 1) := Entails.of_eq (OutSt_pos d L d2 ps k (Nat.succ_pos t)).symm

set_option maxHeartbeats 1000000 in
theorem trip (hps : ∀ j, BitVec.toNat (ps j) < 144) (t : Fin k0_t1_loop.trips) :
    iprop(inv d L d2 ps f₀ g₀ q O W t.val ∗ Transfers.MayWaits (thr d L) (default : HIx 1) O)
      ⊢ wp frame (wpE (defs₀ (F := F)) 𝒱₀ (thr d L) none) Set.univ
        (k0_t1_body L d2V (Memref.isWhole_whole _) psV (Memref.isWhole_whole _) ovV (Memref.isWhole_whole _) oiV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _)
          (Memref.whole cc0_scratch8) (Memref.isWhole_whole _) (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _) (Memref.whole cc0_scratch15) (Memref.isWhole_whole _)
          cc0_scratch16 cc0_scratch17 cc0_scratch18 cc0_scratch19 cc0_scratch20 cc0_scratch21 cc0_scratch22 cc0_scratch23 (baseW L) (iota .scVector S16 32 [0] iota_S16_d0_w32_scVector) t ⟨⟩)
        fun _ => inv d L d2 ps f₀ g₀ q O W (t.val + 1) := by
  unfold k0_t1_body inv
  iintro ⟨⟨Hi0, Hi1, Hi2, Hi3, Ho0, Ho1, Ho2, Ho3, HD, HT, HO⟩, #Hmw⟩
  dsimp only
  by_cases ht : t.val < nt L
  case' neg =>
    have hc1 : ¬ k0_cond1 L t = 1#1 := fun h => ht ((cond1 L t).1 h)
    have hc4 : ¬ k0_cond4 L t = 1#1 := fun h => ht ((cond4 L t).1 h)
    have hc7 : ¬ k0_cond7 L t = 1#1 := fun h => ht ((cond7 L t).1 h)
    have hc10 : ¬ k0_cond10 L t = 1#1 := fun h => ht ((cond10 L t).1 h)
    rw [show min (t.val + 1) (nt L) = min t.val (nt L) by omega]
    sl_exec
    sl_step
    isplitl [Hi0]; · iexact Hi0
    isplitl [Hi1]; · iexact Hi1
    isplitl [Hi2]; · iexact Hi2
    isplitl [Hi3]; · iexact Hi3
    isplitl [Ho0]; · iexact Ho0
    isplitl [Ho1]; · iexact Ho1
    isplitl [Ho2]; · iexact Ho2
    isplitl [Ho3]; · iexact Ho3
    isplitl [HD]; · iexact HD
    isplitl [HT] <;> iassumption
  have hc1 : k0_cond1 L t = 1#1 := (cond1 L t).2 ht
  have hc4 : k0_cond4 L t = 1#1 := (cond4 L t).2 ht
  have hc7 : k0_cond7 L t = 1#1 := (cond7 L t).2 ht
  have hc10 : k0_cond10 L t = 1#1 := (cond10 L t).2 ht
  have hw : ∀ (k : Fin 4) (k' : ℕ), k.val = k' → Scalar.select (Scalar.cmpi .sge (Scalar.addi (baseW L) (rowW t (BitVec.ofNat 32 k.val))) 5000#32) 5000#32 0#32
      = offW (row L t.val k').val := fun k k' h => by
    subst h; rw [sel_eq k L t ht, row_val ht k.isLt]
  rw [show min (t.val + 1) (nt L) = t.val + 1 by omega, show min t.val (nt L) = t.val by omega]
  ihave Hi0 := (Entails.of_eq (InSt_pos d L d2 ps (q 0) 0 ht)) $$ Hi0
  ihave Hi1 := (Entails.of_eq (InSt_pos d L d2 ps (q 1) 1 ht)) $$ Hi1
  ihave Hi2 := (Entails.of_eq (InSt_pos d L d2 ps (q 2) 2 ht)) $$ Hi2
  ihave Hi3 := (Entails.of_eq (InSt_pos d L d2 ps (q 3) 3 ht)) $$ Hi3
  by_cases hn' : t.val + 1 < nt L
  case pos =>
    have hc3 : k0_cond3 L t = 1#1 := (cond3 L t).2 hn'
    have hc6 : k0_cond6 L t = 1#1 := (cond6 L t).2 hn'
    have hc9 : k0_cond9 L t = 1#1 := (cond9 L t).2 hn'
    have hc12 : k0_cond12 L t = 1#1 := (cond12 L t).2 hn'
    have hn : ∀ k, k < 4 → 640 * (L 1).val + 320 * (L 0).val + 4 * t.val + (4 + k) = (row L (t.val + 1) k).val := fun k hk => by
      have e := row_val (L := L) hn' hk
      unfold base at e; omega
    sl_exec
    iapply (CompactSlot0.start d L d2 ps (q 0) O W t hc1 (rowW t 0#32) (Scalar.addi (baseW L) (rowW t 0#32))) $$ [Hi0 Ho0 HD HO]
    · isplitl [Hi0]; · iexact Hi0
      isplitl [Ho0]; · iexact Ho0
      isplitl [HD]; · iexact HD
      isplitl [HO]; · iexact HO
      iexact Hmw
    iintro %r %hr ⟨HM, HD⟩
    subst hr
    dsimp only
    sl_exec
    iapply (CompactSlot0.finish d L d2 ps f₀ g₀ (q 0) hps O W t hc1 (iota .scVector S16 32 [0] iota_S16_d0_w32_scVector) rfl (rowW t 0#32) (Scalar.addi (baseW L) (rowW t 0#32))
      (Scalar.select (Scalar.cmpi .sge (Scalar.addi (baseW L) (rowW t 0#32)) 5000#32) 5000#32 0#32) (hw 0 0 rfl)) $$ [HM HT]
    · isplitl [HM] <;> iassumption
    iintro %r ⟨Hi0, Ho0, HT, HO⟩
    rcases r with ⟨_, _⟩
    dsimp only
    sl_exec
    unfold IdleIn
    icases Hi0 with ⟨Hx, Hy, Hd, Hp, Hs⟩
    iapply (fetchD d (cV L) (jV L) d2 ps 0 (row L (t.val + 1) 0) (q 0) (inD_of (off_row (k0_off6_eq L t) (hn 0 (by omega))) _) rfl rfl) $$ [Hx Hd Hs]
    · isplitl [Hx]; · iexact Hx
      isplitl [Hd] <;> iassumption
    iintro HH
    iapply (fetchP d (cV L) (jV L) d2 ps 0 (row L (t.val + 1) 0) (q 0) (inP_of (off_row (k0_off6_eq L t) (hn 0 (by omega))) _) rfl rfl) $$ [HH Hy Hp]
    · isplitl [HH]; · iexact HH
      isplitl [Hy] <;> iassumption
    iintro Hi0
    dsimp only [Prog.bind]
    sl_exec
    iapply (CompactSlot1.start d L d2 ps (q 1) O W t hc4 (rowW t 1#32) (Scalar.addi (baseW L) (rowW t 1#32))) $$ [Hi1 Ho1 HD HO]
    · isplitl [Hi1]; · iexact Hi1
      isplitl [Ho1]; · iexact Ho1
      isplitl [HD]; · iexact HD
      isplitl [HO]; · iexact HO
      iexact Hmw
    iintro %r %hr ⟨HM, HD⟩
    subst hr
    dsimp only
    sl_exec
    iapply (CompactSlot1.finish d L d2 ps f₀ g₀ (q 1) hps O W t hc4 (iota .scVector S16 32 [0] iota_S16_d0_w32_scVector) rfl (rowW t 1#32) (Scalar.addi (baseW L) (rowW t 1#32))
      (Scalar.select (Scalar.cmpi .sge (Scalar.addi (baseW L) (rowW t 1#32)) 5000#32) 5000#32 0#32) (hw 1 1 rfl)) $$ [HM HT]
    · isplitl [HM] <;> iassumption
    iintro %r ⟨Hi1, Ho1, HT, HO⟩
    rcases r with ⟨_, _⟩
    dsimp only
    sl_exec
    unfold IdleIn
    icases Hi1 with ⟨Hx, Hy, Hd, Hp, Hs⟩
    iapply (fetchD d (cV L) (jV L) d2 ps 1 (row L (t.val + 1) 1) (q 1) (inD_of (off_row (k0_off11_eq L t) (hn 1 (by omega))) _) rfl rfl) $$ [Hx Hd Hs]
    · isplitl [Hx]; · iexact Hx
      isplitl [Hd] <;> iassumption
    iintro HH
    iapply (fetchP d (cV L) (jV L) d2 ps 1 (row L (t.val + 1) 1) (q 1) (inP_of (off_row (k0_off11_eq L t) (hn 1 (by omega))) _) rfl rfl) $$ [HH Hy Hp]
    · isplitl [HH]; · iexact HH
      isplitl [Hy] <;> iassumption
    iintro Hi1
    dsimp only [Prog.bind]
    sl_exec
    iapply (CompactSlot2.start d L d2 ps (q 2) O W t hc7 (rowW t 2#32) (Scalar.addi (baseW L) (rowW t 2#32))) $$ [Hi2 Ho2 HD HO]
    · isplitl [Hi2]; · iexact Hi2
      isplitl [Ho2]; · iexact Ho2
      isplitl [HD]; · iexact HD
      isplitl [HO]; · iexact HO
      iexact Hmw
    iintro %r %hr ⟨HM, HD⟩
    subst hr
    dsimp only
    sl_exec
    iapply (CompactSlot2.finish d L d2 ps f₀ g₀ (q 2) hps O W t hc7 (iota .scVector S16 32 [0] iota_S16_d0_w32_scVector) rfl (rowW t 2#32) (Scalar.addi (baseW L) (rowW t 2#32))
      (Scalar.select (Scalar.cmpi .sge (Scalar.addi (baseW L) (rowW t 2#32)) 5000#32) 5000#32 0#32) (hw 2 2 rfl)) $$ [HM HT]
    · isplitl [HM] <;> iassumption
    iintro %r ⟨Hi2, Ho2, HT, HO⟩
    rcases r with ⟨_, _⟩
    dsimp only
    sl_exec
    unfold IdleIn
    icases Hi2 with ⟨Hx, Hy, Hd, Hp, Hs⟩
    iapply (fetchD d (cV L) (jV L) d2 ps 2 (row L (t.val + 1) 2) (q 2) (inD_of (off_row (k0_off16_eq L t) (hn 2 (by omega))) _) rfl rfl) $$ [Hx Hd Hs]
    · isplitl [Hx]; · iexact Hx
      isplitl [Hd] <;> iassumption
    iintro HH
    iapply (fetchP d (cV L) (jV L) d2 ps 2 (row L (t.val + 1) 2) (q 2) (inP_of (off_row (k0_off16_eq L t) (hn 2 (by omega))) _) rfl rfl) $$ [HH Hy Hp]
    · isplitl [HH]; · iexact HH
      isplitl [Hy] <;> iassumption
    iintro Hi2
    dsimp only [Prog.bind]
    sl_exec
    iapply (CompactSlot3.start d L d2 ps (q 3) O W t hc10 (rowW t 3#32) (Scalar.addi (baseW L) (rowW t 3#32))) $$ [Hi3 Ho3 HD HO]
    · isplitl [Hi3]; · iexact Hi3
      isplitl [Ho3]; · iexact Ho3
      isplitl [HD]; · iexact HD
      isplitl [HO]; · iexact HO
      iexact Hmw
    iintro %r %hr ⟨HM, HD⟩
    subst hr
    dsimp only
    sl_exec
    iapply (CompactSlot3.finish d L d2 ps f₀ g₀ (q 3) hps O W t hc10 (iota .scVector S16 32 [0] iota_S16_d0_w32_scVector) rfl (rowW t 3#32) (Scalar.addi (baseW L) (rowW t 3#32))
      (Scalar.select (Scalar.cmpi .sge (Scalar.addi (baseW L) (rowW t 3#32)) 5000#32) 5000#32 0#32) (hw 3 3 rfl)) $$ [HM HT]
    · isplitl [HM] <;> iassumption
    iintro %r ⟨Hi3, Ho3, HT, HO⟩
    rcases r with ⟨_, _⟩
    dsimp only
    sl_exec
    unfold IdleIn
    icases Hi3 with ⟨Hx, Hy, Hd, Hp, Hs⟩
    iapply (fetchD d (cV L) (jV L) d2 ps 3 (row L (t.val + 1) 3) (q 3) (inD_of (off_row (k0_off21_eq L t) (hn 3 (by omega))) _) rfl rfl) $$ [Hx Hd Hs]
    · isplitl [Hx]; · iexact Hx
      isplitl [Hd] <;> iassumption
    iintro HH
    iapply (fetchP d (cV L) (jV L) d2 ps 3 (row L (t.val + 1) 3) (q 3) (inP_of (off_row (k0_off21_eq L t) (hn 3 (by omega))) _) rfl rfl) $$ [HH Hy Hp]
    · isplitl [HH]; · iexact HH
      isplitl [Hy] <;> iassumption
    iintro Hi3
    dsimp only [Prog.bind]
    sl_exec
    sl_step
    isplitl [Hi0]; · iapply (Entails.of_eq (InSt_pos d L d2 ps (q 0) 0 hn').symm) $$ Hi0
    isplitl [Hi1]; · iapply (Entails.of_eq (InSt_pos d L d2 ps (q 1) 1 hn').symm) $$ Hi1
    isplitl [Hi2]; · iapply (Entails.of_eq (InSt_pos d L d2 ps (q 2) 2 hn').symm) $$ Hi2
    isplitl [Hi3]; · iapply (Entails.of_eq (InSt_pos d L d2 ps (q 3) 3 hn').symm) $$ Hi3
    isplitl [Ho0]; · iapply (outSt_next d L d2 ps 0 t.val) $$ Ho0
    isplitl [Ho1]; · iapply (outSt_next d L d2 ps 1 t.val) $$ Ho1
    isplitl [Ho2]; · iapply (outSt_next d L d2 ps 2 t.val) $$ Ho2
    isplitl [Ho3]; · iapply (outSt_next d L d2 ps 3 t.val) $$ Ho3
    isplitl [HD]; · iexact HD
    isplitl [HT] <;> iassumption
  case neg =>
    have hc3 : ¬ k0_cond3 L t = 1#1 := fun h => hn' ((cond3 L t).1 h)
    have hc6 : ¬ k0_cond6 L t = 1#1 := fun h => hn' ((cond6 L t).1 h)
    have hc9 : ¬ k0_cond9 L t = 1#1 := fun h => hn' ((cond9 L t).1 h)
    have hc12 : ¬ k0_cond12 L t = 1#1 := fun h => hn' ((cond12 L t).1 h)
    sl_exec
    iapply (CompactSlot0.start d L d2 ps (q 0) O W t hc1 (rowW t 0#32) (Scalar.addi (baseW L) (rowW t 0#32))) $$ [Hi0 Ho0 HD HO]
    · isplitl [Hi0]; · iexact Hi0
      isplitl [Ho0]; · iexact Ho0
      isplitl [HD]; · iexact HD
      isplitl [HO]; · iexact HO
      iexact Hmw
    iintro %r %hr ⟨HM, HD⟩
    subst hr
    dsimp only
    sl_exec
    iapply (CompactSlot0.finish d L d2 ps f₀ g₀ (q 0) hps O W t hc1 (iota .scVector S16 32 [0] iota_S16_d0_w32_scVector) rfl (rowW t 0#32) (Scalar.addi (baseW L) (rowW t 0#32))
      (Scalar.select (Scalar.cmpi .sge (Scalar.addi (baseW L) (rowW t 0#32)) 5000#32) 5000#32 0#32) (hw 0 0 rfl)) $$ [HM HT]
    · isplitl [HM] <;> iassumption
    iintro %r ⟨Hi0, Ho0, HT, HO⟩
    rcases r with ⟨_, _⟩
    dsimp only
    sl_exec
    iapply (CompactSlot1.start d L d2 ps (q 1) O W t hc4 (rowW t 1#32) (Scalar.addi (baseW L) (rowW t 1#32))) $$ [Hi1 Ho1 HD HO]
    · isplitl [Hi1]; · iexact Hi1
      isplitl [Ho1]; · iexact Ho1
      isplitl [HD]; · iexact HD
      isplitl [HO]; · iexact HO
      iexact Hmw
    iintro %r %hr ⟨HM, HD⟩
    subst hr
    dsimp only
    sl_exec
    iapply (CompactSlot1.finish d L d2 ps f₀ g₀ (q 1) hps O W t hc4 (iota .scVector S16 32 [0] iota_S16_d0_w32_scVector) rfl (rowW t 1#32) (Scalar.addi (baseW L) (rowW t 1#32))
      (Scalar.select (Scalar.cmpi .sge (Scalar.addi (baseW L) (rowW t 1#32)) 5000#32) 5000#32 0#32) (hw 1 1 rfl)) $$ [HM HT]
    · isplitl [HM] <;> iassumption
    iintro %r ⟨Hi1, Ho1, HT, HO⟩
    rcases r with ⟨_, _⟩
    dsimp only
    sl_exec
    iapply (CompactSlot2.start d L d2 ps (q 2) O W t hc7 (rowW t 2#32) (Scalar.addi (baseW L) (rowW t 2#32))) $$ [Hi2 Ho2 HD HO]
    · isplitl [Hi2]; · iexact Hi2
      isplitl [Ho2]; · iexact Ho2
      isplitl [HD]; · iexact HD
      isplitl [HO]; · iexact HO
      iexact Hmw
    iintro %r %hr ⟨HM, HD⟩
    subst hr
    dsimp only
    sl_exec
    iapply (CompactSlot2.finish d L d2 ps f₀ g₀ (q 2) hps O W t hc7 (iota .scVector S16 32 [0] iota_S16_d0_w32_scVector) rfl (rowW t 2#32) (Scalar.addi (baseW L) (rowW t 2#32))
      (Scalar.select (Scalar.cmpi .sge (Scalar.addi (baseW L) (rowW t 2#32)) 5000#32) 5000#32 0#32) (hw 2 2 rfl)) $$ [HM HT]
    · isplitl [HM] <;> iassumption
    iintro %r ⟨Hi2, Ho2, HT, HO⟩
    rcases r with ⟨_, _⟩
    dsimp only
    sl_exec
    iapply (CompactSlot3.start d L d2 ps (q 3) O W t hc10 (rowW t 3#32) (Scalar.addi (baseW L) (rowW t 3#32))) $$ [Hi3 Ho3 HD HO]
    · isplitl [Hi3]; · iexact Hi3
      isplitl [Ho3]; · iexact Ho3
      isplitl [HD]; · iexact HD
      isplitl [HO]; · iexact HO
      iexact Hmw
    iintro %r %hr ⟨HM, HD⟩
    subst hr
    dsimp only
    sl_exec
    iapply (CompactSlot3.finish d L d2 ps f₀ g₀ (q 3) hps O W t hc10 (iota .scVector S16 32 [0] iota_S16_d0_w32_scVector) rfl (rowW t 3#32) (Scalar.addi (baseW L) (rowW t 3#32))
      (Scalar.select (Scalar.cmpi .sge (Scalar.addi (baseW L) (rowW t 3#32)) 5000#32) 5000#32 0#32) (hw 3 3 rfl)) $$ [HM HT]
    · isplitl [HM] <;> iassumption
    iintro %r ⟨Hi3, Ho3, HT, HO⟩
    rcases r with ⟨_, _⟩
    dsimp only
    sl_exec
    sl_step
    isplitl [Hi0]; · iapply (Entails.of_eq (InSt_neg d L d2 ps (q 0) 0 hn').symm) $$ Hi0
    isplitl [Hi1]; · iapply (Entails.of_eq (InSt_neg d L d2 ps (q 1) 1 hn').symm) $$ Hi1
    isplitl [Hi2]; · iapply (Entails.of_eq (InSt_neg d L d2 ps (q 2) 2 hn').symm) $$ Hi2
    isplitl [Hi3]; · iapply (Entails.of_eq (InSt_neg d L d2 ps (q 3) 3 hn').symm) $$ Hi3
    isplitl [Ho0]; · iapply (outSt_next d L d2 ps 0 t.val) $$ Ho0
    isplitl [Ho1]; · iapply (outSt_next d L d2 ps 1 t.val) $$ Ho1
    isplitl [Ho2]; · iapply (outSt_next d L d2 ps 2 t.val) $$ Ho2
    isplitl [Ho3]; · iapply (outSt_next d L d2 ps 3 t.val) $$ Ho3
    isplitl [HD]; · iexact HD
    isplitl [HT] <;> iassumption

end

end Cert.Proof.CompactTrip

end
-- ==== Proof.CompactTile.lean ====
/- One tile's run of the compaction: the first four rows' fetches, the loop, the waits for the last four rows' write-backs;
   from its shares of the two tables and its rows of the two results to the rows holding the candidates. -/
module

public import proofs.«01_k».proof.Proof.CompactTrip
public import Idealize.ShloMosaic.Lib.ShareLeaves

@[expose] public section

noncomputable section

namespace Cert.Proof.CompactTile

open Cert.CompactIdeal Cert.CompactIdeal.Gen Cert.Proof.CompactSlots Cert.Proof.CompactSteps Cert.Proof.CompactWords Cert.Proof.CompactState Cert.Proof.CompactTrip

open Idealize.ShloMosaic Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable (d2 : S10000x5120.Idx → Elt F .f32) (ps : S10000x5120.Idx → Elt F .i32) (f₀ : S10000x128.Idx → Elt F .f32) (g₀ : S10000x128.Idx → Elt F .i32)

theorem first_row (k : ℕ) (hk : k < 4) : (row L 0 k).val = 640 * (L 1).val + 320 * (L 0).val + k := by
  have e := row_val (L := L) (nt_pos L) hk
  unfold base at e; omega
theorem last_row (k : ℕ) (hk : k < 4) : (row L (nt L - 1) k).val = base L + 4 * (nt L - 1) + k :=
  row_val (by have := nt_pos L; omega) hk

/-! ## The tile's scratch -/

/-- A family of distinct members taken out of a product. -/
theorem takes {I : Type} [DecidableEq I] {n : ℕ} (A : Finset I) (g : Fin n → I) (hg : Function.Injective g) (hA : ∀ i, g i ∈ A) (Φ : I → sProp 𝕄) :
    bigSep A Φ = iprop((bigSep Finset.univ fun i => Φ (g i)) ∗ bigSep (A \ Finset.univ.map ⟨g, hg⟩) Φ) := by
  have h : Finset.univ.map ⟨g, hg⟩ ⊆ A := fun x hx => by
    obtain ⟨i, -, rfl⟩ := Finset.mem_map.1 hx; exact hA i
  conv_lhs => rw [← Finset.union_sdiff_of_subset h]
  refine (BI.bigSep_union Finset.disjoint_sdiff).trans ?_
  rw [BI.bigSep_map]
  rfl

def refs : Fin 16 → Ref sig .scVector := ![cc0_scratch0, cc0_scratch1, cc0_scratch2, cc0_scratch3, cc0_scratch4, cc0_scratch5, cc0_scratch6, cc0_scratch7, cc0_scratch8, cc0_scratch10, cc0_scratch12, cc0_scratch14, cc0_scratch9, cc0_scratch11, cc0_scratch13, cc0_scratch15]
theorem refs_injective : Function.Injective refs := by decide
def sems : Fin 8 → DmaSem sig := ![sI 0, sI 1, sI 2, sI 3, sO 0, sO 1, sO 2, sO 3]
theorem sems_injective : Function.Injective sems := by decide

abbrev bufRef (i : Fin 16) : DevRef τ sig := (Proc.scVector (cV L) (jV L)).devRef (refs i)
theorem bufRef_injective : Function.Injective (bufRef L) := fun _ _ h => refs_injective (Proc.devRef_injective _ h)
abbrev semRef (i : Fin 8) : GSem nD τ sig := (thr d L, .dma (sems i))
theorem semRef_injective : Function.Injective (semRef d L) := fun _ _ h => sems_injective (SemLoc.dma.inj (congrArg Prod.snd h))

abbrev restB : sProp 𝕄 := bigSep ((ownRefs (τ := τ) (.scVector (cV L) (jV L))) \ Finset.univ.map ⟨bufRef L, bufRef_injective L⟩)
  fun b => iprop(∃ f, ((d, b) : Loc nD τ sig) ↦{fullShare} f)
abbrev restS : sProp 𝕄 := bigSep ((ownCells (thr d L)) \ Finset.univ.map ⟨semRef d L, semRef_injective d L⟩) fun g => semVal g 0

theorem to_free {s : Shape} {e : EltTy} (M : Memref sig .scVector .vmem s e) (ℓ : Loc nD τ sig) (hℓ : ℓ = M.view.loc (thr d L)) (h : M.view.set = Finset.univ) :
    (iprop(∃ f, ℓ ↦{fullShare} f) : sProp 𝕄) ⊢ Free (F := F) d (cV L) (jV L) M := by
  subst hℓ
  iintro ⟨%f, H⟩
  iapply (raw_free d (cV L) (jV L) M f)
  rw [h]
  iexact H
theorem of_free {s : Shape} {e : EltTy} (M : Memref sig .scVector .vmem s e) (ℓ : Loc nD τ sig) (hℓ : ℓ = M.view.loc (thr d L)) (h : M.view.set = Finset.univ) :
    (Free (F := F) d (cV L) (jV L) M : sProp 𝕄) ⊢ iprop(∃ f, ℓ ↦{fullShare} f) := by
  subst hℓ
  unfold Free owns
  rw [h]
  iintro ⟨%x, %f, -, H⟩
  iexists f
  iexact H

theorem sep16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
theorem sep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem ownBufs_list : (ownBufs (thr d L) : sProp 𝕄)
    = iprop((bigSep Finset.univ fun i : Fin 16 => iprop(∃ f, ((d, bufRef L i) : Loc nD τ sig) ↦{fullShare} f)) ∗ restB d L) := by
  unfold SparseCore.Cfg.ownBufs
  exact (takes _ (bufRef L) (bufRef_injective L) (fun i => SparseCore.Cfg.mem_ownRefs_of_owner (p := Proc.scVector (cV L) (jV L)) (b := bufRef L i)
    (by revert i; exact fun i => by fin_cases i <;> rfl)) _).trans rfl
theorem ownSems0_list : (ownSems0 (thr d L) : sProp 𝕄)
    = iprop((bigSep Finset.univ fun i : Fin 8 => semVal (semRef d L i) 0) ∗ restS d L) := by
  have own : ∀ i : Fin 8, (SemLoc.dma (sems i) : SemLoc sig).isScoped .scVector = true := by decide
  unfold SparseCore.Cfg.ownSems0
  exact (takes _ (semRef d L) (semRef_injective d L) (fun i => mem_ownCells.mpr ⟨rfl, own i⟩) _)

/-- The scratch, buffer by buffer. -/
def Bufs : sProp 𝕄 :=
  iprop(Free (F := F) d (cV L) (jV L) (dB 0) ∗ Free (F := F) d (cV L) (jV L) (dB 1) ∗ Free (F := F) d (cV L) (jV L) (dB 2) ∗ Free (F := F) d (cV L) (jV L) (dB 3) ∗
        Free (F := F) d (cV L) (jV L) (pB 0) ∗ Free (F := F) d (cV L) (jV L) (pB 1) ∗ Free (F := F) d (cV L) (jV L) (pB 2) ∗ Free (F := F) d (cV L) (jV L) (pB 3) ∗
        Free (F := F) d (cV L) (jV L) (vB 0) ∗ Free (F := F) d (cV L) (jV L) (vB 1) ∗ Free (F := F) d (cV L) (jV L) (vB 2) ∗ Free (F := F) d (cV L) (jV L) (vB 3) ∗
        Free (F := F) d (cV L) (jV L) (iB 0) ∗ Free (F := F) d (cV L) (jV L) (iB 1) ∗ Free (F := F) d (cV L) (jV L) (iB 2) ∗ Free (F := F) d (cV L) (jV L) (iB 3) ∗ restB d L)
theorem bufs_split : (ownBufs (thr d L) : sProp 𝕄) ⊢ Bufs d L := by
  rw [ownBufs_list, sep16]
  unfold Bufs
  iintro ⟨⟨H0, H1, H2, H3, H4, H5, H6, H7, H8, H9, H10, H11, H12, H13, H14, H15⟩, HR⟩
  isplitl [H0]; · iapply (to_free d L (dB 0) (d, bufRef L 0) rfl (View.set_whole _)) $$ H0
  isplitl [H1]; · iapply (to_free d L (dB 1) (d, bufRef L 1) rfl (View.set_whole _)) $$ H1
  isplitl [H2]; · iapply (to_free d L (dB 2) (d, bufRef L 2) rfl (View.set_whole _)) $$ H2
  isplitl [H3]; · iapply (to_free d L (dB 3) (d, bufRef L 3) rfl (View.set_whole _)) $$ H3
  isplitl [H4]; · iapply (to_free d L (pB 0) (d, bufRef L 4) rfl (View.set_whole _)) $$ H4
  isplitl [H5]; · iapply (to_free d L (pB 1) (d, bufRef L 5) rfl (View.set_whole _)) $$ H5
  isplitl [H6]; · iapply (to_free d L (pB 2) (d, bufRef L 6) rfl (View.set_whole _)) $$ H6
  isplitl [H7]; · iapply (to_free d L (pB 3) (d, bufRef L 7) rfl (View.set_whole _)) $$ H7
  isplitl [H8]; · iapply (to_free d L (vB 0) (d, bufRef L 8) rfl (View.set_whole _)) $$ H8
  isplitl [H9]; · iapply (to_free d L (vB 1) (d, bufRef L 9) rfl (View.set_whole _)) $$ H9
  isplitl [H10]; · iapply (to_free d L (vB 2) (d, bufRef L 10) rfl (View.set_whole _)) $$ H10
  isplitl [H11]; · iapply (to_free d L (vB 3) (d, bufRef L 11) rfl (View.set_whole _)) $$ H11
  isplitl [H12]; · iapply (to_free d L (iB 0) (d, bufRef L 12) rfl (View.set_whole _)) $$ H12
  isplitl [H13]; · iapply (to_free d L (iB 1) (d, bufRef L 13) rfl (View.set_whole _)) $$ H13
  isplitl [H14]; · iapply (to_free d L (iB 2) (d, bufRef L 14) rfl (View.set_whole _)) $$ H14
  isplitl [H15]; · iapply (to_free d L (iB 3) (d, bufRef L 15) rfl (View.set_whole _)) $$ H15
  iexact HR
theorem bufs_join : (Bufs d L : sProp 𝕄) ⊢ ownBufs (thr d L) := by
  rw [ownBufs_list, sep16]
  unfold Bufs
  iintro ⟨H0, H1, H2, H3, H4, H5, H6, H7, H8, H9, H10, H11, H12, H13, H14, H15, HR⟩
  isplitr [HR]; swap; · iexact HR
  isplitl [H0]; · iapply (of_free d L (dB 0) (d, bufRef L 0) rfl (View.set_whole _)) $$ H0
  isplitl [H1]; · iapply (of_free d L (dB 1) (d, bufRef L 1) rfl (View.set_whole _)) $$ H1
  isplitl [H2]; · iapply (of_free d L (dB 2) (d, bufRef L 2) rfl (View.set_whole _)) $$ H2
  isplitl [H3]; · iapply (of_free d L (dB 3) (d, bufRef L 3) rfl (View.set_whole _)) $$ H3
  isplitl [H4]; · iapply (of_free d L (pB 0) (d, bufRef L 4) rfl (View.set_whole _)) $$ H4
  isplitl [H5]; · iapply (of_free d L (pB 1) (d, bufRef L 5) rfl (View.set_whole _)) $$ H5
  isplitl [H6]; · iapply (of_free d L (pB 2) (d, bufRef L 6) rfl (View.set_whole _)) $$ H6
  isplitl [H7]; · iapply (of_free d L (pB 3) (d, bufRef L 7) rfl (View.set_whole _)) $$ H7
  isplitl [H8]; · iapply (of_free d L (vB 0) (d, bufRef L 8) rfl (View.set_whole _)) $$ H8
  isplitl [H9]; · iapply (of_free d L (vB 1) (d, bufRef L 9) rfl (View.set_whole _)) $$ H9
  isplitl [H10]; · iapply (of_free d L (vB 2) (d, bufRef L 10) rfl (View.set_whole _)) $$ H10
  isplitl [H11]; · iapply (of_free d L (vB 3) (d, bufRef L 11) rfl (View.set_whole _)) $$ H11
  isplitl [H12]; · iapply (of_free d L (iB 0) (d, bufRef L 12) rfl (View.set_whole _)) $$ H12
  isplitl [H13]; · iapply (of_free d L (iB 1) (d, bufRef L 13) rfl (View.set_whole _)) $$ H13
  isplitl [H14]; · iapply (of_free d L (iB 2) (d, bufRef L 14) rfl (View.set_whole _)) $$ H14
  iapply (of_free d L (iB 3) (d, bufRef L 15) rfl (View.set_whole _)) $$ H15

/-- The semaphores, one by one. -/
def Sems : sProp 𝕄 :=
  iprop(semVal (thr d L, .dma (sI 0)) 0 ∗ semVal (thr d L, .dma (sI 1)) 0 ∗ semVal (thr d L, .dma (sI 2)) 0 ∗ semVal (thr d L, .dma (sI 3)) 0 ∗
        semVal (thr d L, .dma (sO 0)) 0 ∗ semVal (thr d L, .dma (sO 1)) 0 ∗ semVal (thr d L, .dma (sO 2)) 0 ∗ semVal (thr d L, .dma (sO 3)) 0 ∗ restS d L)
theorem sems_eq : (ownSems0 (thr d L) : sProp 𝕄) ⊣⊢ Sems d L := by
  rw [ownSems0_list, sep8]
  unfold Sems
  constructor
  · iintro ⟨⟨H0, H1, H2, H3, H4, H5, H6, H7⟩, HR⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HR
  · iintro ⟨H0, H1, H2, H3, H4, H5, H6, H7, HR⟩
    isplitr [HR]; swap; · iexact HR
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-! ## The runs before and after the loop -/

variable (q : Fin 4 → PosShare TreeShare) [FloatOps F]

/-- A slot's last row back: its result rows free, the row written. -/
def Back (k : Fin 4) : sProp 𝕄 :=
  iprop(IdleOut (F := F) d L k ∗ vRows d (row L (nt L - 1) k).val ((row L (nt L - 1) k).val + 1) (GV d2 ps)
    ∗ iRows d (row L (nt L - 1) k).val ((row L (nt L - 1) k).val + 1) (GI ps))
theorem back_intro (k : Fin 4) :
    iprop(vRows d (row L (nt L - 1) k).val ((row L (nt L - 1) k).val + 1) (GV d2 ps) ∗ iRows d (row L (nt L - 1) k).val ((row L (nt L - 1) k).val + 1) (GI ps)
      ∗ Free (F := F) d (cV L) (jV L) (vB k) ∗ Free (F := F) d (cV L) (jV L) (iB k) ∗ semVal (thr d L, .dma (sO k)) 0)
      ⊢ (Back d L d2 ps k : sProp 𝕄) := by
  unfold Back IdleOut
  iintro ⟨Hv, Hi, Hx, Hy, Hs⟩
  isplitl [Hx Hy Hs]
  · isplitl [Hx]; · iexact Hx
    isplitl [Hy] <;> iassumption
  isplitl [Hv] <;> iassumption

set_option maxHeartbeats 1000000 in
theorem part11_wp {Q : _ → sProp 𝕄} :
    iprop(IdleIn d L d2 ps (q 0) 0 ∗ IdleIn d L d2 ps (q 1) 1 ∗ IdleIn d L d2 ps (q 2) 2)
      ⊢ iprop((∀ r, ⌜r = baseW L⌝ -∗ iprop(InFl d (cV L) (jV L) d2 ps 0 (row L 0 0) (q 0) ∗ InFl d (cV L) (jV L) d2 ps 1 (row L 0 1) (q 1)
            ∗ InHalf d (cV L) (jV L) d2 ps 2 (row L 0 2) (q 2) ∗ Free (F := F) d (cV L) (jV L) (pB 2) ∗ pLoc d ↦{q 2} ps) -∗ Q r)
        -∗ wp frame (wpE (defs₀ (F := F)) 𝒱₀ (thr d L) none) Set.univ
        (k0_part11 L d2V (Memref.isWhole_whole _) psV (Memref.isWhole_whole _) ovV (Memref.isWhole_whole _) oiV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _)
          (Memref.whole cc0_scratch8) (Memref.isWhole_whole _) (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _) (Memref.whole cc0_scratch15) (Memref.isWhole_whole _)
          cc0_scratch16 cc0_scratch17 cc0_scratch18 cc0_scratch19 cc0_scratch20 cc0_scratch21 cc0_scratch22 cc0_scratch23) Q) := by
  simp only [k0_part11_eq_skeleton]
  unfold k0_part11_skel IdleIn
  iintro ⟨⟨Hx0, Hy0, Hd0, Hp0, Hs0⟩, ⟨Hx1, Hy1, Hd1, Hp1, Hs1⟩, Hx2, Hy2, Hd2, Hp2, Hs2⟩ HQ
  sl_exec
  iapply (fetchD d (cV L) (jV L) d2 ps 0 (row L 0 0) (q 0) (inD_of (off_row (k0_off1_eq L 0) (first_row L 0 (by omega)).symm) _) rfl rfl) $$ [Hx0 Hd0 Hs0]
  · isplitl [Hx0]; · iexact Hx0
    isplitl [Hd0] <;> iassumption
  iintro HF0
  iapply (fetchP d (cV L) (jV L) d2 ps 0 (row L 0 0) (q 0) (inP_of (off_row (k0_off1_eq L 0) (first_row L 0 (by omega)).symm) _) rfl rfl) $$ [HF0 Hy0 Hp0]
  · isplitl [HF0]; · iexact HF0
    isplitl [Hy0] <;> iassumption
  iintro HF0
  iapply (fetchD d (cV L) (jV L) d2 ps 1 (row L 0 1) (q 1) (inD_of (off_row (k0_off1_eq L 1) (first_row L 1 (by omega)).symm) _) rfl rfl) $$ [Hx1 Hd1 Hs1]
  · isplitl [Hx1]; · iexact Hx1
    isplitl [Hd1] <;> iassumption
  iintro HF1
  iapply (fetchP d (cV L) (jV L) d2 ps 1 (row L 0 1) (q 1) (inP_of (off_row (k0_off1_eq L 1) (first_row L 1 (by omega)).symm) _) rfl rfl) $$ [HF1 Hy1 Hp1]
  · isplitl [HF1]; · iexact HF1
    isplitl [Hy1] <;> iassumption
  iintro HF1
  iapply (fetchD d (cV L) (jV L) d2 ps 2 (row L 0 2) (q 2) (inD_of (off_row (k0_off1_eq L 2) (first_row L 2 (by omega)).symm) _) rfl rfl) $$ [Hx2 Hd2 Hs2]
  · isplitl [Hx2]; · iexact Hx2
    isplitl [Hd2] <;> iassumption
  iintro HF2
  dsimp only [Prog.bind]
  sl_step
  iapply HQ $$ %_ []
  · ipureintro; rfl
  isplitl [HF0]; · iexact HF0
  isplitl [HF1]; · iexact HF1
  isplitl [HF2]; · iexact HF2
  isplitl [Hy2] <;> iassumption

set_option maxHeartbeats 1000000 in
theorem part9_wp (O : CellTallies nD τ sig (HIx 1)) (W : Waits sig (HIx 1)) (h13 : k0_cond13 L = 1#1) (v2 : BitVec 32) {Q : _ → sProp 𝕄} :
    iprop(OutFl d (cV L) (jV L) d2 ps 0 (row L (nt L - 1) 0) ∗ OutFl d (cV L) (jV L) d2 ps 1 (row L (nt L - 1) 1) ∗ owed (F := F) d L O W
        ∗ Transfers.MayWaits (thr d L) (default : HIx 1) O)
      ⊢ iprop((∀ r, iprop(Back d L d2 ps 0 ∗ OutFl1 d (cV L) (jV L) d2 ps 1 (row L (nt L - 1) 1) ∗ owed (F := F) d L O W) -∗ Q r)
        -∗ wp frame (wpE (defs₀ (F := F)) 𝒱₀ (thr d L) none) Set.univ
        (k0_part9 L d2V (Memref.isWhole_whole _) psV (Memref.isWhole_whole _) ovV (Memref.isWhole_whole _) oiV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _)
          (Memref.whole cc0_scratch8) (Memref.isWhole_whole _) (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _) (Memref.whole cc0_scratch15) (Memref.isWhole_whole _)
          cc0_scratch16 cc0_scratch17 cc0_scratch18 cc0_scratch19 cc0_scratch20 cc0_scratch21 cc0_scratch22 cc0_scratch23 v2 h13) Q) := by
  simp only [k0_part9_eq_skeleton]
  unfold k0_part9_skel
  iintro ⟨Ho0, Ho1, HO, #Hmw⟩ HQ
  sl_exec
  iapply (drainV d (cV L) (jV L) d2 ps 0 (row L (nt L - 1) 0) (outV_of (off_row (off22 L 0) (last_row L 0 (by omega)).symm) _) rfl) $$ [Ho0 HO]
  · isplitl [Ho0]; · iexact Ho0
    isplitl [HO]; · iexact HO
    iexact Hmw
  iintro ⟨Ho0, HO⟩
  iapply (drainI d (cV L) (jV L) d2 ps 0 (row L (nt L - 1) 0) (outI_of (off_row (off22 L 0) (last_row L 0 (by omega)).symm) _) rfl) $$ [Ho0 HO]
  · isplitl [Ho0]; · iexact Ho0
    isplitl [HO]; · iexact HO
    iexact Hmw
  iintro ⟨Hv0, Hi0, Hx0, Hy0, Hs0, HO⟩
  ihave Hb0 := (back_intro d L d2 ps 0) $$ [Hv0 Hi0 Hx0 Hy0 Hs0]
  · isplitl [Hv0]; · iexact Hv0
    isplitl [Hi0]; · iexact Hi0
    isplitl [Hx0]; · iexact Hx0
    isplitl [Hy0] <;> iassumption
  iapply (drainV d (cV L) (jV L) d2 ps 1 (row L (nt L - 1) 1) (outV_of (off_row (off22 L 1) (last_row L 1 (by omega)).symm) _) rfl) $$ [Ho1 HO]
  · isplitl [Ho1]; · iexact Ho1
    isplitl [HO]; · iexact HO
    iexact Hmw
  iintro ⟨Ho1, HO⟩
  dsimp only [Prog.bind]
  sl_step
  iapply HQ
  isplitl [Hb0]; · iexact Hb0
  isplitl [Ho1] <;> iassumption

set_option maxHeartbeats 1000000 in
theorem part10_wp (O : CellTallies nD τ sig (HIx 1)) (W : Waits sig (HIx 1)) (h13 : k0_cond13 L = 1#1) (v49 : BitVec 32) {Q : _ → sProp 𝕄} :
    iprop(OutFl1 d (cV L) (jV L) d2 ps 1 (row L (nt L - 1) 1) ∗ OutFl d (cV L) (jV L) d2 ps 2 (row L (nt L - 1) 2)
        ∗ OutFl d (cV L) (jV L) d2 ps 3 (row L (nt L - 1) 3) ∗ owed (F := F) d L O W ∗ Transfers.MayWaits (thr d L) (default : HIx 1) O)
      ⊢ iprop((∀ r, iprop(Back d L d2 ps 1 ∗ Back d L d2 ps 2 ∗ OutFl1 d (cV L) (jV L) d2 ps 3 (row L (nt L - 1) 3) ∗ owed (F := F) d L O W) -∗ Q r)
        -∗ wp frame (wpE (defs₀ (F := F)) 𝒱₀ (thr d L) none) Set.univ
        (k0_part10 L d2V (Memref.isWhole_whole _) psV (Memref.isWhole_whole _) ovV (Memref.isWhole_whole _) oiV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _)
          (Memref.whole cc0_scratch8) (Memref.isWhole_whole _) (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _) (Memref.whole cc0_scratch15) (Memref.isWhole_whole _)
          cc0_scratch16 cc0_scratch17 cc0_scratch18 cc0_scratch19 cc0_scratch20 cc0_scratch21 cc0_scratch22 cc0_scratch23 h13 v49) Q) := by
  simp only [k0_part10_eq_skeleton]
  unfold k0_part10_skel
  iintro ⟨Ho1, Ho2, Ho3, HO, #Hmw⟩ HQ
  sl_exec
  iapply (drainI d (cV L) (jV L) d2 ps 1 (row L (nt L - 1) 1) (outI_of (off_row (off22 L 1) (last_row L 1 (by omega)).symm) _) rfl) $$ [Ho1 HO]
  · isplitl [Ho1]; · iexact Ho1
    isplitl [HO]; · iexact HO
    iexact Hmw
  iintro ⟨Hv1, Hi1, Hx1, Hy1, Hs1, HO⟩
  ihave Hb1 := (back_intro d L d2 ps 1) $$ [Hv1 Hi1 Hx1 Hy1 Hs1]
  · isplitl [Hv1]; · iexact Hv1
    isplitl [Hi1]; · iexact Hi1
    isplitl [Hx1]; · iexact Hx1
    isplitl [Hy1] <;> iassumption
  iapply (drainV d (cV L) (jV L) d2 ps 2 (row L (nt L - 1) 2) (outV_of (off_row (off22 L 2) (last_row L 2 (by omega)).symm) _) rfl) $$ [Ho2 HO]
  · isplitl [Ho2]; · iexact Ho2
    isplitl [HO]; · iexact HO
    iexact Hmw
  iintro ⟨Ho2, HO⟩
  iapply (drainI d (cV L) (jV L) d2 ps 2 (row L (nt L - 1) 2) (outI_of (off_row (off22 L 2) (last_row L 2 (by omega)).symm) _) rfl) $$ [Ho2 HO]
  · isplitl [Ho2]; · iexact Ho2
    isplitl [HO]; · iexact HO
    iexact Hmw
  iintro ⟨Hv2, Hi2, Hx2, Hy2, Hs2, HO⟩
  ihave Hb2 := (back_intro d L d2 ps 2) $$ [Hv2 Hi2 Hx2 Hy2 Hs2]
  · isplitl [Hv2]; · iexact Hv2
    isplitl [Hi2]; · iexact Hi2
    isplitl [Hx2]; · iexact Hx2
    isplitl [Hy2] <;> iassumption
  iapply (drainV d (cV L) (jV L) d2 ps 3 (row L (nt L - 1) 3) (outV_of (off_row (off22 L 3) (last_row L 3 (by omega)).symm) _) rfl) $$ [Ho3 HO]
  · isplitl [Ho3]; · iexact Ho3
    isplitl [HO]; · iexact HO
    iexact Hmw
  iintro ⟨Ho3, HO⟩
  dsimp only [Prog.bind]
  sl_step
  iapply HQ
  isplitl [Hb1]; · iexact Hb1
  isplitl [Hb2]; · iexact Hb2
  isplitl [Ho3] <;> iassumption

/-- The last four rows join the others. -/
theorem done_all : iprop(Done d L d2 ps (4 * nt L) ∗ Back d L d2 ps 0 ∗ Back d L d2 ps 1 ∗ Back d L d2 ps 2 ∗ Back d L d2 ps 3)
    ⊢ (iprop((vRows d (base L) (base L + 4 * nt L) (GV d2 ps) ∗ iRows d (base L) (base L + 4 * nt L) (GI ps))
        ∗ IdleOut (F := F) d L 0 ∗ IdleOut (F := F) d L 1 ∗ IdleOut (F := F) d L 2 ∗ IdleOut (F := F) d L 3) : sProp 𝕄) := by
  have hp := nt_pos L
  unfold Back
  iintro ⟨HD, ⟨Ho0, Hv0, Hi0⟩, ⟨Ho1, Hv1, Hi1⟩, ⟨Ho2, Hv2, Hi2⟩, Ho3, Hv3, Hi3⟩
  ihave HD := (done_step d L d2 ps (n := 4 * nt L) (by omega) (r := row L (nt L - 1) ((0 : Fin 4) : ℕ)) (by rw [last_row L _ (by decide)]; show _ + 0 = _; omega)) $$ [HD Hv0 Hi0]
  · isplitl [HD]; · iexact HD
    isplitl [Hv0] <;> iassumption
  ihave HD := (done_step d L d2 ps (n := 4 * nt L + 1) (by omega) (r := row L (nt L - 1) ((1 : Fin 4) : ℕ)) (by rw [last_row L _ (by decide)]; show _ + 1 = _; omega)) $$ [HD Hv1 Hi1]
  · isplitl [HD]; · iexact HD
    isplitl [Hv1] <;> iassumption
  ihave HD := (done_step d L d2 ps (n := 4 * nt L + 2) (by omega) (r := row L (nt L - 1) ((2 : Fin 4) : ℕ)) (by rw [last_row L _ (by decide)]; show _ + 2 = _; omega)) $$ [HD Hv2 Hi2]
  · isplitl [HD]; · iexact HD
    isplitl [Hv2] <;> iassumption
  ihave HD := (done_step d L d2 ps (n := 4 * nt L + 3) (by omega) (r := row L (nt L - 1) ((3 : Fin 4) : ℕ)) (by rw [last_row L _ (by decide)]; show _ + 3 = _; omega)) $$ [HD Hv3 Hi3]
  · isplitl [HD]; · iexact HD
    isplitl [Hv3] <;> iassumption
  isplitl [HD]
  · unfold Done
    rw [show base L + (4 * nt L + 3 + 1 - 4) = base L + 4 * nt L by omega]
    iexact HD
  isplitl [Ho0]; · iexact Ho0
  isplitl [Ho1]; · iexact Ho1
  isplitl [Ho2] <;> iassumption

/-! ## The tile's run -/

/-- The four slots' shares of the tile's share. -/
abbrev qS (qd : PosShare TreeShare) (k : Fin 4) : PosShare TreeShare := leaf 2 qd k

omit [FloatOps F] in
theorem share4 {ℓ : Loc nD τ sig} (f : Buf (Elt F) ℓ) (qd : PosShare TreeShare) :
    (ℓ ↦{qd} f : sProp 𝕄) = iprop((ℓ ↦{qS qd 0} f) ∗ (ℓ ↦{qS qd 1} f) ∗ (ℓ ↦{qS qd 2} f) ∗ ℓ ↦{qS qd 3} f) :=
  (pointsTo_leaves (ℓ := ℓ) Finset.univ f 2 qd).trans (bigSep_univ_eq_bigSepL [0, 1, 2, 3] (by decide) (by decide) _)

set_option maxHeartbeats 2000000 in
theorem tile_body (qd : PosShare TreeShare) (hF : (K (F := F)).Facts) (hps : ∀ j, BitVec.toNat (ps j) < 144)
    (O : CellTallies nD τ sig (HIx 1)) (W : Waits sig (HIx 1)) (hO : ∀ g, O g none = 0) :
    iprop((levAts (K (F := F)).L (K (F := F)).lev : sProp 𝕄) ∗ emp
        ∗ ((dLoc d ↦{qd} d2) ∗ (pLoc d ↦{qd} ps) ∗ vRows d (base L) (base L + 4 * nt L) f₀ ∗ iRows d (base L) (base L + 4 * nt L) g₀)
        ∗ scopedBufs (thr d L) ∗ scopedSems0 (thr d L) ∗ owes (thr d L) O W)
      ⊢ wp frame (wpE (defs₀ (F := F)) 𝒱₀ (thr d L) none) Set.univ
          (cc0_kern L d2V (Memref.isWhole_whole _) psV (Memref.isWhole_whole _) ovV (Memref.isWhole_whole _) oiV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _)
          (Memref.whole cc0_scratch8) (Memref.isWhole_whole _) (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _) (Memref.whole cc0_scratch15) (Memref.isWhole_whole _)
          cc0_scratch16 cc0_scratch17 cc0_scratch18 cc0_scratch19 cc0_scratch20 cc0_scratch21 cc0_scratch22 cc0_scratch23)
          fun _ => iprop(((dLoc d ↦{qd} d2) ∗ (pLoc d ↦{qd} ps) ∗ vRows d (base L) (base L + 4 * nt L) (GV d2 ps) ∗ iRows d (base L) (base L + 4 * nt L) (GI ps))
            ∗ scopedBufs (thr d L) ∗ scopedSems0 (thr d L)
            ∗ ∃ W', ⌜∀ p ∈ W', p ∈ W ∨ p.2 = none⌝ ∗ owes (thr d L) O W') := by
  have h13 := cond13 L
  have hp := nt_pos L
  have hle := nt_le L
  simp only [cc0_kern_eq_skeleton]
  unfold cc0_kern_skel
  rw [(K (F := F)).scopedBufs_V hF d (cV L) (jV L), SparseCore.Cfg.scopedSems0_V (Val := Elt F) d (cV L) (jV L),
    share4 (F := F) (ℓ := dLoc d) d2 qd, share4 (F := F) (ℓ := pLoc d) ps qd]
  iintro ⟨#Hlv, -, ⟨⟨Hd0, Hd1, Hd2, Hd3⟩, ⟨Hp0, Hp1, Hp2, Hp3⟩, Hv, Hi⟩, HB, HS, HO⟩
  ihave #Hmw := (show (levAts (K (F := F)).L (K (F := F)).lev : sProp 𝕄) ⊢ Transfers.MayWaits (thr d L) (default : HIx 1) O from
    (K (F := F)).mayWaits_none (thr := thr d L) hO) $$ Hlv
  ihave HB := (bufs_split (F := F) d L) $$ HB
  ihave HS := (sems_eq (F := F) d L).1 $$ HS
  ihave HO := (show (owes (thr d L) O W : sProp 𝕄) ⊢ owed (F := F) d L O W by
    unfold CompactState.owed owing; iintro H; iexists W; isplitr; · ipureintro; exact fun p hp => .inl hp
    iexact H) $$ HO
  unfold Bufs Sems
  icases HB with ⟨Hx0, Hx1, Hx2, Hx3, Hy0, Hy1, Hy2, Hy3, Ha0, Ha1, Ha2, Ha3, Hb0, Hb1, Hb2, Hb3, HB⟩
  icases HS with ⟨Hs0, Hs1, Hs2, Hs3, Ht0, Ht1, Ht2, Ht3, HS⟩
  sl_exec
  iapply (part11_wp d L d2 ps (qS qd)) $$ [Hx0 Hy0 Hd0 Hp0 Hs0 Hx1 Hy1 Hd1 Hp1 Hs1 Hx2 Hy2 Hd2 Hp2 Hs2]
  · unfold IdleIn
    isplitl [Hx0 Hy0 Hd0 Hp0 Hs0]
    · isplitl [Hx0]; · iexact Hx0
      isplitl [Hy0]; · iexact Hy0
      isplitl [Hd0]; · iexact Hd0
      isplitl [Hp0] <;> iassumption
    isplitl [Hx1 Hy1 Hd1 Hp1 Hs1]
    · isplitl [Hx1]; · iexact Hx1
      isplitl [Hy1]; · iexact Hy1
      isplitl [Hd1]; · iexact Hd1
      isplitl [Hp1] <;> iassumption
    isplitl [Hx2]; · iexact Hx2
    isplitl [Hy2]; · iexact Hy2
    isplitl [Hd2]; · iexact Hd2
    isplitl [Hp2] <;> iassumption
  iintro %r %hr ⟨HF0, HF1, HF2, Hy2, Hp2⟩
  subst hr
  sl_exec
  iapply (fetchP d (cV L) (jV L) d2 ps 2 (row L 0 2) (qS qd 2) (inP_of (off_row (k0_off1_eq L 2) (first_row L 2 (by omega)).symm) _) rfl rfl) $$ [HF2 Hy2 Hp2]
  · isplitl [HF2]; · iexact HF2
    isplitl [Hy2] <;> iassumption
  iintro HF2
  iapply (fetchD d (cV L) (jV L) d2 ps 3 (row L 0 3) (qS qd 3) (inD_of (off_row (k0_off1_eq L 3) (first_row L 3 (by omega)).symm) _) rfl rfl) $$ [Hx3 Hd3 Hs3]
  · isplitl [Hx3]; · iexact Hx3
    isplitl [Hd3] <;> iassumption
  iintro HF3
  iapply (fetchP d (cV L) (jV L) d2 ps 3 (row L 0 3) (qS qd 3) (inP_of (off_row (k0_off1_eq L 3) (first_row L 3 (by omega)).symm) _) rfl rfl) $$ [HF3 Hy3 Hp3]
  · isplitl [HF3]; · iexact HF3
    isplitl [Hy3] <;> iassumption
  iintro HF3
  dsimp only [Prog.bind]
  sl_for (fun t _ => iprop(Transfers.MayWaits (thr d L) (default : HIx 1) O ∗ inv d L d2 ps f₀ g₀ (qS qd) O W t)) $$ [HF0 HF1 HF2 HF3 Ha0 Ha1 Ha2 Ha3 Hb0 Hb1 Hb2 Hb3 Ht0 Ht1 Ht2 Ht3 Hv Hi HO]
  case region =>
    intro t r
    iintro ⟨#Hmw, HI⟩
    ihave H := (trip d L d2 ps f₀ g₀ (qS qd) O W hps t) $$ [HI]
    · isplitl [HI]; · iexact HI
      iexact Hmw
    iapply (wp_wand Idealize.ShloMosaic.frame _ _) $$ H
    iintro %r HI
    isplitr; · iexact Hmw
    iexact HI
  · isplitr; · iexact Hmw
    unfold CompactTrip.inv
    rw [Nat.zero_min]
    isplitl [HF0]; · iapply (inSt_next d L d2 ps (qS qd) 0 hp) $$ HF0
    isplitl [HF1]; · iapply (inSt_next d L d2 ps (qS qd) 1 hp) $$ HF1
    isplitl [HF2]; · iapply (inSt_next d L d2 ps (qS qd) 2 hp) $$ HF2
    isplitl [HF3]; · iapply (inSt_next d L d2 ps (qS qd) 3 hp) $$ HF3
    isplitl [Ha0 Hb0 Ht0]
    · rw [OutSt_neg d L d2 ps 0 (lt_irrefl 0)]
      unfold IdleOut
      isplitl [Ha0]; · iexact Ha0
      isplitl [Hb0] <;> iassumption
    isplitl [Ha1 Hb1 Ht1]
    · rw [OutSt_neg d L d2 ps 1 (lt_irrefl 0)]
      unfold IdleOut
      isplitl [Ha1]; · iexact Ha1
      isplitl [Hb1] <;> iassumption
    isplitl [Ha2 Hb2 Ht2]
    · rw [OutSt_neg d L d2 ps 2 (lt_irrefl 0)]
      unfold IdleOut
      isplitl [Ha2]; · iexact Ha2
      isplitl [Hb2] <;> iassumption
    isplitl [Ha3 Hb3 Ht3]
    · rw [OutSt_neg d L d2 ps 3 (lt_irrefl 0)]
      unfold IdleOut
      isplitl [Ha3]; · iexact Ha3
      isplitl [Hb3] <;> iassumption
    isplitr
    · unfold Done vRows iRows
      rw [show base L + (4 * 0 - 4) = base L by omega, rowsSet_self, pointsTo_empty, pointsTo_empty]
      isplitl <;> iempintro
    isplitl [Hv Hi]
    · unfold Todo
      isplitl [Hv] <;> iassumption
    iexact HO
  iintro %_ ⟨-, HI⟩
  rw [show Scf.trips k0_t1_loop.lb k0_t1_loop.ub k0_t1_loop.st = 80 from trips1]
  unfold CompactTrip.inv
  rw [show min 80 (nt L) = nt L by omega, InSt_neg d L d2 ps (qS qd 0) 0 (lt_irrefl _), InSt_neg d L d2 ps (qS qd 1) 1 (lt_irrefl _),
    InSt_neg d L d2 ps (qS qd 2) 2 (lt_irrefl _), InSt_neg d L d2 ps (qS qd 3) 3 (lt_irrefl _), OutSt_pos d L d2 ps 0 hp, OutSt_pos d L d2 ps 1 hp,
    OutSt_pos d L d2 ps 2 hp, OutSt_pos d L d2 ps 3 hp]
  icases HI with ⟨HI0, HI1, HI2, HI3, Ho0, Ho1, Ho2, Ho3, HD, -, HO⟩
  sl_exec
  iapply (part9_wp d L d2 ps O W h13 (baseW L)) $$ [Ho0 Ho1 HO]
  · isplitl [Ho0]; · iexact Ho0
    isplitl [Ho1]; · iexact Ho1
    isplitl [HO]; · iexact HO
    iexact Hmw
  iintro %r ⟨Hb0, Ho1, HO⟩
  sl_exec
  iapply (part10_wp d L d2 ps O W h13 r) $$ [Ho1 Ho2 Ho3 HO]
  · isplitl [Ho1]; · iexact Ho1
    isplitl [Ho2]; · iexact Ho2
    isplitl [Ho3]; · iexact Ho3
    isplitl [HO]; · iexact HO
    iexact Hmw
  iintro %r ⟨Hb1, Hb2, Ho3, HO⟩
  iapply (drainI d (cV L) (jV L) d2 ps 3 (row L (nt L - 1) 3) (outI_of (off_row (off22 L 3) (last_row L 3 (by omega)).symm) _) rfl) $$ [Ho3 HO]
  · isplitl [Ho3]; · iexact Ho3
    isplitl [HO]; · iexact HO
    iexact Hmw
  iintro ⟨Hv3, Hi3, Hx3, Hy3, Hs3, HO⟩
  ihave Hb3 := (back_intro d L d2 ps 3) $$ [Hv3 Hi3 Hx3 Hy3 Hs3]
  · isplitl [Hv3]; · iexact Hv3
    isplitl [Hi3]; · iexact Hi3
    isplitl [Hx3]; · iexact Hx3
    isplitl [Hy3] <;> iassumption
  dsimp only [Prog.bind]
  sl_step
  ihave H := (done_all d L d2 ps) $$ [HD Hb0 Hb1 Hb2 Hb3]
  · isplitl [HD]; · iexact HD
    isplitl [Hb0]; · iexact Hb0
    isplitl [Hb1]; · iexact Hb1
    isplitl [Hb2] <;> iassumption
  unfold IdleIn IdleOut
  icases H with ⟨⟨Hv, Hi⟩, ⟨Ha0, Hb0, Ht0⟩, ⟨Ha1, Hb1, Ht1⟩, ⟨Ha2, Hb2, Ht2⟩, Ha3, Hb3, Ht3⟩
  icases HI0 with ⟨Hx0, Hy0, Hd0, Hp0, Hs0⟩
  icases HI1 with ⟨Hx1, Hy1, Hd1, Hp1, Hs1⟩
  icases HI2 with ⟨Hx2, Hy2, Hd2, Hp2, Hs2⟩
  icases HI3 with ⟨Hx3, Hy3, Hd3, Hp3, Hs3⟩
  isplitl [Hd0 Hd1 Hd2 Hd3 Hp0 Hp1 Hp2 Hp3 Hv Hi]
  · isplitl [Hd0 Hd1 Hd2 Hd3]
    · isplitl [Hd0]; · iexact Hd0
      isplitl [Hd1]; · iexact Hd1
      isplitl [Hd2] <;> iassumption
    isplitl [Hp0 Hp1 Hp2 Hp3]
    · isplitl [Hp0]; · iexact Hp0
      isplitl [Hp1]; · iexact Hp1
      isplitl [Hp2] <;> iassumption
    isplitl [Hv] <;> iassumption
  isplitl [Hx0 Hx1 Hx2 Hx3 Hy0 Hy1 Hy2 Hy3 Ha0 Ha1 Ha2 Ha3 Hb0 Hb1 Hb2 Hb3 HB]
  · iapply (bufs_join (F := F) d L)
    unfold Bufs
    isplitl [Hx0]; · iexact Hx0
    isplitl [Hx1]; · iexact Hx1
    isplitl [Hx2]; · iexact Hx2
    isplitl [Hx3]; · iexact Hx3
    isplitl [Hy0]; · iexact Hy0
    isplitl [Hy1]; · iexact Hy1
    isplitl [Hy2]; · iexact Hy2
    isplitl [Hy3]; · iexact Hy3
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hb2]; · iexact Hb2
    isplitl [Hb3]; · iexact Hb3
    iexact HB
  isplitl [Hs0 Hs1 Hs2 Hs3 Ht0 Ht1 Ht2 Ht3 HS]
  · iapply (sems_eq (F := F) d L).2
    unfold Sems
    isplitl [Hs0]; · iexact Hs0
    isplitl [Hs1]; · iexact Hs1
    isplitl [Hs2]; · iexact Hs2
    isplitl [Hs3]; · iexact Hs3
    isplitl [Ht0]; · iexact Ht0
    isplitl [Ht1]; · iexact Ht1
    isplitl [Ht2]; · iexact Ht2
    isplitl [Ht3]; · iexact Ht3
    iexact HS
  iapply (show (owing (F := F) d (cV L) (jV L) O W : sProp 𝕄) ⊢ iprop(∃ W', ⌜∀ p ∈ W', p ∈ W ∨ p.2 = none⌝ ∗ owes (thr d L) O W') by
    unfold owing; exact .rfl) $$ HO

end Cert.Proof.CompactTile

end
-- ==== Proof.CompactLaunch.lean ====
/- The launch of the compaction: the distances and the positions lent by shares to the thirty-two tiles, the rows of the two
   results dealt to them, and the results joined again; the program's run, with the values its results hold. -/
module

public import proofs.«01_k».proof.Proof.CompactTile
public import Idealize.ShloMosaic.Lib.ShareLeaves

@[expose] public section

noncomputable section

namespace Cert.Proof.CompactLaunch

open Cert.CompactIdeal Cert.CompactIdeal.Gen Cert.Proof.CompactSlots Cert.Proof.CompactSteps Cert.Proof.CompactWords Cert.Proof.CompactState Cert.Proof.CompactTile

open Idealize.ShloMosaic Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

/-! ## The tiles' rows -/

/-- The tile's place on the grid. -/
def coordsV (c : Fin (grid0.bound 0)) (s : Fin (grid0.bound 1)) : grid0.Coords :=
  fun | 0 => c | 1 => s | ⟨_ + 2, h⟩ => absurd h (Nat.not_lt.2 (Nat.le_add_left _ _))

/-- The rows of tile `(c, i)`, of core `c`. -/
def tRows (c : Fin 2) (i : Fin 16) : Finset S10000x128.Idx := rowsSet (base (coordsV c i)) (base (coordsV c i) + 4 * nt (coordsV c i))
def cRows (c : Fin 2) : Finset S10000x128.Idx := Finset.univ.biUnion (tRows c)

theorem mem_tRows {c : Fin 2} {i : Fin 16} {j : S10000x128.Idx} : j ∈ tRows c i ↔ 2 * i.val + c.val = (j 0).val / 320 := by
  have hj : (j 0).val < 10000 := (j 0).isLt
  have hi := i.isLt
  have hc := c.isLt
  unfold tRows
  rw [mem_rowsSet]
  show (640 * i.val + 320 * c.val ≤ _ ∧ _ < 640 * i.val + 320 * c.val + 4 * min 80 ((10000 - (640 * i.val + 320 * c.val)) / 4)) ↔ _
  omega

theorem tRows_disjoint (c : Fin 2) : ∀ i ∈ (Finset.univ : Finset (Fin 16)), ∀ j ∈ (Finset.univ : Finset (Fin 16)), i ≠ j → Disjoint (tRows c i) (tRows c j) := by
  intro i _ j _ h
  rw [Finset.disjoint_left]
  intro x hx hx'
  have a := mem_tRows.1 hx; have b := mem_tRows.1 hx'
  exact h (Fin.ext (by omega))
theorem cRows_disjoint : ∀ c ∈ (Finset.univ : Finset (Fin 2)), ∀ c' ∈ (Finset.univ : Finset (Fin 2)), c ≠ c' → Disjoint (cRows c) (cRows c') := by
  intro c _ c' _ h
  rw [Finset.disjoint_left]
  intro x hx hx'
  obtain ⟨i, -, hi⟩ := Finset.mem_biUnion.1 hx
  obtain ⟨i', -, hi'⟩ := Finset.mem_biUnion.1 hx'
  have a := mem_tRows.1 hi; have b := mem_tRows.1 hi'
  have := c.isLt; have := c'.isLt
  exact h (Fin.ext (by omega))
theorem cRows_cover : (Finset.univ : Finset (Fin 2)).biUnion cRows = Finset.univ := by
  refine Finset.eq_univ_of_forall fun j => ?_
  have hj : (j 0).val < 10000 := (j 0).isLt
  refine Finset.mem_biUnion.2 ⟨⟨(j 0).val / 320 % 2, by omega⟩, Finset.mem_univ _, Finset.mem_biUnion.2 ⟨⟨(j 0).val / 640, by omega⟩, Finset.mem_univ _, mem_tRows.2 ?_⟩⟩
  show 2 * ((j 0).val / 640) + (j 0).val / 320 % 2 = _
  omega

/-! ## What the handshakes carry -/

/-- Core `c`'s share of what all read, and tile `(c, i)`'s. -/
abbrev qC (c : Fin 2) : PosShare TreeShare := leaf 1 fullShare c
abbrev qW (c : Fin 2) (i : Fin 16) : PosShare TreeShare := leaf 4 (qC c) i

variable (d2 : Dev nD → S10000x5120.Idx → Elt F .f32) (ps : Dev nD → S10000x5120.Idx → Elt F .i32)
variable (f₀ : Dev nD → S10000x128.Idx → Elt F .f32) (g₀ : Dev nD → S10000x128.Idx → Elt F .i32)

/-- Core `c`'s part, and tile `(c, i)`'s: its shares of the distances and of the positions, its rows of the results at `f` and `g`. -/
abbrev coreP (d : Dev nD) (f : S10000x128.Idx → Elt F .f32) (g : S10000x128.Idx → Elt F .i32) (c : Fin 2) : sProp 𝕄 :=
  iprop((dLoc d ↦{qC c} d2 d) ∗ (pLoc d ↦{qC c} ps d) ∗ (vLoc d ↦[cRows c]{fullShare} f) ∗ iLoc d ↦[cRows c]{fullShare} g)
abbrev tileP (d : Dev nD) (f : S10000x128.Idx → Elt F .f32) (g : S10000x128.Idx → Elt F .i32) (c : Fin 2) (i : Fin 16) : sProp 𝕄 :=
  iprop((dLoc d ↦{qW c i} d2 d) ∗ (pLoc d ↦{qW c i} ps d) ∗ (vLoc d ↦[tRows c i]{fullShare} f) ∗ iLoc d ↦[tRows c i]{fullShare} g)

/-- The results: each candidate's distance, and its column's number, at its position. -/
abbrev RV (d : Dev nD) : S10000x128.Idx → Elt F .f32 := GV (F := F) (d2 d) (ps d)
abbrev RI (d : Dev nD) : S10000x128.Idx → Elt F .i32 := GI (F := F) (ps d)

/-- The call takes the distances, the positions and the results, and brings them back, the results filled. -/
def P : (K (F := F)).Pay (nD := nD) (Val := Elt F) (Name := ℕ) (U := UU) where
  st := fun q d c => match q with | 0 => coreP d2 ps d (f₀ d) (g₀ d) (Fin.cast nCore_zero c)
  dn := fun q d c => match q with | 0 => coreP d2 ps d (RV d2 ps d) (RI (F := F) ps d) (Fin.cast nCore_zero c)
  go := fun q d c i => match q with | 0 => tileP d2 ps d (f₀ d) (g₀ d) (Fin.cast nCore_zero c) (Fin.cast nSub_zero i)
  td := fun q d c i => match q with | 0 => tileP d2 ps d (RV d2 ps d) (RI (F := F) ps d) (Fin.cast nCore_zero c) (Fin.cast nSub_zero i)
  x := fun _ _ => iprop(emp)

instance P_storable : (P (F := F) d2 ps f₀ g₀).IsStorable where
  st q d c := match q with
    | 0 => (inferInstance : BI.Storable (upEmb : UEmb _ 𝕄) (coreP d2 ps d (f₀ d) (g₀ d) (Fin.cast nCore_zero c)))
  dn q d c := match q with
    | 0 => (inferInstance : BI.Storable (upEmb : UEmb _ 𝕄) (coreP d2 ps d (RV d2 ps d) (RI (F := F) ps d) (Fin.cast nCore_zero c)))
  go q d c i := match q with
    | 0 => (inferInstance : BI.Storable (upEmb : UEmb _ 𝕄) (tileP d2 ps d (f₀ d) (g₀ d) (Fin.cast nCore_zero c) (Fin.cast nSub_zero i)))
  td q d c i := match q with
    | 0 => (inferInstance : BI.Storable (upEmb : UEmb _ 𝕄) (tileP d2 ps d (RV d2 ps d) (RI (F := F) ps d) (Fin.cast nCore_zero c) (Fin.cast nSub_zero i)))

/-! ## The splits -/

theorem cores_eq (d : Dev nD) (f : S10000x128.Idx → Elt F .f32) (g : S10000x128.Idx → Elt F .i32) :
    (iprop((dLoc d ↦{fullShare} d2 d) ∗ (pLoc d ↦{fullShare} ps d) ∗ (vLoc d ↦{fullShare} f) ∗ iLoc d ↦{fullShare} g) : sProp 𝕄)
      = bigSep Finset.univ fun c : Fin 2 => coreP d2 ps d f g c := by
  unfold coreP
  rw [bigSep_sep', bigSep_sep', bigSep_sep', ← pointsTo_biUnion Finset.univ (ℓ := vLoc d) cRows cRows_disjoint,
    ← pointsTo_biUnion Finset.univ (ℓ := iLoc d) cRows cRows_disjoint, cRows_cover,
    pointsTo_leaves (ℓ := dLoc d) Finset.univ (d2 d) 1 fullShare, pointsTo_leaves (ℓ := pLoc d) Finset.univ (ps d) 1 fullShare]
  rfl
theorem tiles_eq (d : Dev nD) (f : S10000x128.Idx → Elt F .f32) (g : S10000x128.Idx → Elt F .i32) (c : Fin 2) :
    coreP d2 ps d f g c = bigSep Finset.univ fun i : Fin 16 => tileP d2 ps d f g c i := by
  unfold coreP tileP
  rw [bigSep_sep', bigSep_sep', bigSep_sep', ← pointsTo_biUnion Finset.univ (ℓ := vLoc d) (tRows c) (tRows_disjoint c),
    ← pointsTo_biUnion Finset.univ (ℓ := iLoc d) (tRows c) (tRows_disjoint c),
    pointsTo_leaves (ℓ := dLoc d) Finset.univ (d2 d) 4 (qC c), pointsTo_leaves (ℓ := pLoc d) Finset.univ (ps d) 4 (qC c)]
  rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P d2 ps f₀ g₀) 0 := by
  intro d c
  show coreP d2 ps d (f₀ d) (g₀ d) (Fin.cast nCore_zero c) ⊢ |={Set.univ}=> iprop(
      (bigSep Finset.univ fun i : Fin ((K (F := F)).nSub 0) => tileP d2 ps d (f₀ d) (g₀ d) (Fin.cast nCore_zero c) (Fin.cast nSub_zero i))
      ∗ ((bigSep Finset.univ fun i : Fin ((K (F := F)).nSub 0) => tileP d2 ps d (RV d2 ps d) (RI (F := F) ps d) (Fin.cast nCore_zero c) (Fin.cast nSub_zero i))
          -∗ coreP d2 ps d (RV d2 ps d) (RI (F := F) ps d) (Fin.cast nCore_zero c)))
  rw [bigSep_tasks (F := F) (fun i => tileP d2 ps d (f₀ d) (g₀ d) (Fin.cast nCore_zero c) i),
    bigSep_tasks (F := F) (fun i => tileP d2 ps d (RV d2 ps d) (RI (F := F) ps d) (Fin.cast nCore_zero c) i), tiles_eq, tiles_eq]
  iintro H; imodintro
  isplitl [H]; · iexact H
  iintro H
  iexact H

/-! ## The tiles' obligation -/

theorem defs₀_vector (c : Fin τ.nSC) (s : Fin τ.nSub) :
    defs₀ (F := F) (.scVector c s) 0 ()
      = SparseCore.onTile hcore0 hsub0 (fun c s => cc0_kern (coordsV c s)
          d2V (Memref.isWhole_whole _) psV (Memref.isWhole_whole _) ovV (Memref.isWhole_whole _) oiV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _)
          (Memref.whole cc0_scratch8) (Memref.isWhole_whole _) (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _) (Memref.whole cc0_scratch15) (Memref.isWhole_whole _)
          cc0_scratch16 cc0_scratch17 cc0_scratch18 cc0_scratch19 cc0_scratch20 cc0_scratch21 cc0_scratch22 cc0_scratch23) ⟨⟩ c s := rfl

/-- Every position lies within a result row and the sixteen entries kept behind it. -/
def InWindow : Prop := ∀ (d : Dev nD) (j : S10000x5120.Idx), BitVec.toNat (ps d j) < 144

theorem tRows_eq (c : Fin 2) (i : Fin 16) (L : grid0.Coords) (h0 : (L 0).val = c.val) (h1 : (L 1).val = i.val) :
    tRows c i = rowsSet (base L) (base L + 4 * nt L) := by
  have e : L = coordsV c i := by
    funext k
    match k with
    | 0 => exact Fin.ext h0
    | 1 => exact Fin.ext h1
  rw [e]; rfl

/-- Tile `(c, i)`'s part is what its body takes and leaves. -/
theorem tileP_eq (d : Dev nD) (f : S10000x128.Idx → Elt F .f32) (g : S10000x128.Idx → Elt F .i32) (c : Fin 2) (i : Fin 16) (L : grid0.Coords)
    (h0 : (L 0).val = c.val) (h1 : (L 1).val = i.val) :
    tileP d2 ps d f g c i = iprop((dLoc d ↦{qW c i} d2 d) ∗ (pLoc d ↦{qW c i} ps d)
      ∗ vRows d (base L) (base L + 4 * nt L) f ∗ iRows d (base L) (base L + 4 * nt L) g) := by
  unfold tileP vRows iRows
  rw [tRows_eq c i L h0 h1]

set_option maxRecDepth 16384 in
theorem tileObl (hin : InWindow (F := F) ps) : (K (F := F)).TileObl (D (F := F)) 𝒱 (P d2 ps f₀ g₀) v₀ 0 := by
  intro d c i O W hO _ _
  simp only [show (P d2 ps f₀ g₀).ox = fun _ _ => 0 from rfl, add_zero]
  have hci : ((K (F := F)).core 0 c).val < grid0.bound 0 ∧ ((K (F := F)).sub 0 i).val < grid0.bound 1 := ⟨c.isLt, i.isLt⟩
  rw [show (P d2 ps f₀ g₀).go 0 d c i = _ from tileP_eq d2 ps d (f₀ d) (g₀ d) (Fin.cast nCore_zero c) (Fin.cast nSub_zero i) (coordsV ⟨_, hci.1⟩ ⟨_, hci.2⟩) rfl rfl,
    show (P d2 ps f₀ g₀).td 0 d c i = _ from tileP_eq d2 ps d (RV d2 ps d) (RI (F := F) ps d) (Fin.cast nCore_zero c) (Fin.cast nSub_zero i) (coordsV ⟨_, hci.1⟩ ⟨_, hci.2⟩) rfl rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have key := tile_body (F := F) d (coordsV ⟨_, hci.1⟩ ⟨_, hci.2⟩) (d2 d) (ps d) (f₀ d) (g₀ d)
    (qW (Fin.cast nCore_zero c) (Fin.cast nSub_zero i)) facts (hin d) O W hO
  show (_ : sProp 𝕄) ⊢ _
  refine key.trans ?_
  iintro H
  iapply wp_wand frame _ _ $$ H
  iintro %_ ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P d2 ps f₀ g₀).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) d2 ps f₀ g₀).x q thr) = bigSep Finset.univ fun _ => iprop(emp) from
    bigSep_congr fun _ _ => bigSep_univ_of_subsingleton (0 : Fin 1), bigSep_emp']
  iempintro

/-! ## @main -/

variable (m : (ℓ : Loc nD τ sig) → Buf (Elt F) ℓ) (ρ : Dev nD → PrngReg)

abbrev d2Of (d : Dev nD) : S10000x5120.Idx → Elt F .f32 := m (dLoc d)
abbrev psOf (d : Dev nD) : S10000x5120.Idx → Elt F .i32 := m (pLoc d)
abbrev vOf (d : Dev nD) : S10000x128.Idx → Elt F .f32 := m (vLoc d)
abbrev iOf (d : Dev nD) : S10000x128.Idx → Elt F .i32 := m (iLoc d)
abbrev PM : (K (F := F)).Pay (nD := nD) (Val := Elt F) (Name := ℕ) (U := UU) := P (d2Of m) (psOf m) (vOf m) (iOf m)

theorem unscopedBufs_eq (d : Dev nD) (W : (b : Ref sig .tc) → Buf (Elt F) ((d.tc : Thread nD τ).loc b)) :
    (unscopedBufs d W : sProp 𝕄) = iprop((dLoc d ↦{fullShare} W main_arg0) ∗ (pLoc d ↦{fullShare} W main_arg1)
      ∗ (vLoc d ↦{fullShare} W main_v0_0) ∗ iLoc d ↦{fullShare} W main_v0_1) := by
  unfold unscopedBufs
  rw [show (Finset.univ.filter fun b : Ref sig .tc => ¬ b.isScoped) = {main_arg0, main_arg1, main_v0_0, main_v0_1} by decide,
    SparseCore.bigSep_insert' (by decide), SparseCore.bigSep_insert' (by decide), SparseCore.bigSep_insert' (by decide), bigSep_singleton]

abbrev FIN (d : Dev nD) : sProp 𝕄 :=
  iprop((dLoc d ↦{fullShare} d2Of m d) ∗ (pLoc d ↦{fullShare} psOf m d) ∗ (vLoc d ↦{fullShare} RV (d2Of m) (psOf m) d)
    ∗ iLoc d ↦{fullShare} RI (F := F) (psOf m) d)

theorem st0_eq (d : Dev nD) : (bigSep Finset.univ fun c : Fin ((K (F := F)).nCore 0) => (PM m).st 0 d c)
    = (iprop((dLoc d ↦{fullShare} d2Of m d) ∗ (pLoc d ↦{fullShare} psOf m d) ∗ (vLoc d ↦{fullShare} vOf m d) ∗ iLoc d ↦{fullShare} iOf m d) : sProp 𝕄) :=
  (bigSep_cores (F := F) (fun c => coreP (d2Of m) (psOf m) d (vOf m d) (iOf m d) c)).trans (cores_eq (d2Of m) (psOf m) d (vOf m d) (iOf m d)).symm
theorem dn0_eq (d : Dev nD) : (bigSep Finset.univ fun c : Fin ((K (F := F)).nCore 0) => (PM m).dn 0 d c) = FIN m d :=
  (bigSep_cores (F := F) (fun c => coreP (d2Of m) (psOf m) d (RV (d2Of m) (psOf m) d) (RI (F := F) (psOf m) d) c)).trans
    (cores_eq (d2Of m) (psOf m) d (RV (d2Of m) (psOf m) d) (RI (F := F) (psOf m) d)).symm

theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hops, Hts, -⟩, -⟩
  iapply ((K (F := F)).wp_run (D (F := F)) 𝒱 (EH := EH) (P := PM m) κ d 0) $$ [Hst Hops Hb Hts]
  isplitr; · iexact Hctx
  isplitl [Hst]; · iexact Hst
  isplitl [Hops]
  · rw [st0_eq]; iexact Hops
  iintro ⟨Hst, Hdn⟩
  ihave Hdn' := (Entails.of_eq (dn0_eq m d)) $$ Hdn
  imodintro
  isplitl [Hst]; · iexact Hst
  isplitl [Hdn']; · iexact Hdn'
  isplitl [Hb] <;> iassumption

def fq (d : Dev nD) (s' : Phys nD τ sig (Elt F)) : Prop :=
  s'.mem.mem (dLoc d) = m (dLoc d) ∧ s'.mem.mem (pLoc d) = m (pLoc d) ∧ s'.mem.mem (vLoc d) = RV (d2Of m) (psOf m) d
    ∧ s'.mem.mem (iLoc d) = RI (F := F) (psOf m) d

set_option maxRecDepth 16384 in
theorem hfin (d : Dev nD) (s' : Phys nD τ sig (Elt F)) : iprop(FIN m d ∗ SI s') ⊢ (⌜fq m d s'⌝ : sProp 𝕄) := by
  iintro ⟨⟨Hd, Hp, Hv, Hi⟩, HSI⟩
  ihave H := (persistent_entails_right (SI_pointsTo_agree (st := s') (ℓ := dLoc d) (I := Finset.univ) (q := fullShare) (f := m (dLoc d)))) $$ [HSI Hd]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (persistent_entails_right (SI_pointsTo_agree (st := s') (ℓ := vLoc d) (I := Finset.univ) (q := fullShare) (f := RV (d2Of m) (psOf m) d))) $$ [HSI Hv]
  · isplitl [HSI] <;> iassumption
  icases H with ⟨%h3, HSI, -⟩
  ihave H := (SI_pointsTo_agree (st := s') (ℓ := iLoc d) (I := Finset.univ) (q := fullShare) (f := RI (F := F) (psOf m) d)) $$ [HSI Hi]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

/-! ## The program's run -/

def QC : PUnit × MemSt nD τ sig (Elt F) → Prop := fun r =>
  (∀ c : Dev nD, r.2.mem (dLoc c) = m (dLoc c) ∧ r.2.mem (pLoc c) = m (pLoc c) ∧ r.2.mem (vLoc c) = RV (d2Of m) (psOf m) c
    ∧ r.2.mem (iLoc c) = RI (F := F) (psOf m) c) ∧ r.2.sem = fun _ => 0

theorem run_main [∀ e, Nonempty (Elt F e)] (hin : InWindow (F := F) (psOf m)) :
    θ_run (Cert.CompactIdeal.defs (F := F)) (Cert.CompactIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (d2Of m) (psOf m) (vOf m) (iOf m) hin)
    (fun q _ => match q with | 0 => SparseCore.Cfg.VecSplit.of_plain (vecSplit (d2Of m) (psOf m) (vOf m) (iOf m)))
    m ρ main (fun _ => iprop(emp)) (FIN m) (u₀ (F := F)) (sep_elim_left.trans (hu₀ (d2Of m) (psOf m) (vOf m) (iOf m))) (hmain m ρ) (fq m) (hfin m) (QC m) (fun _ h hz => ⟨h, hz⟩)

end Cert.Proof.CompactLaunch

end
-- ==== Proof.CompactRows.lean ====
/- The reference of the compaction read at an index: the scatter of the candidates into a filled array keeps at each entry the
   last candidate whose position names it, what the kernel's rows hold; and the precondition read back as a bound on every
   position. -/
module

public import proofs.«01_k».proof.Proof.CompactSlots
public import proofs.«01_k».proof.Pre_in_window
public import Idealize.ShloMosaic.Lib.ReduceAll
public import Idealize.ShloMosaic.Lib.Routing.OpsPair
public import Idealize.ShloMosaic.Lib.PointwiseCore

@[expose] public section

noncomputable section

namespace Cert.Proof.CompactRows

open Idealize.ShloMosaic hiding ix2
open Idealize.ShloMosaic.Routing (shape0 shape1 shape2 shape3 wrap_of_lt)
open Idealize.ShloMosaic.ScatterToDense
open Idealize.ShloMosaic.ValueIdx (ix2)
open Cert.Proof.CompactSlots Cert.Proof.CompactWords

/-! ## The reference's terms -/

/-- The row numbers, a negative one counted from the end. -/
abbrev rowNo (h₁ : (shape1 10000).BroadcastsInDim (shape2 10000 1) ![0]) (h₀ : shape0.BroadcastsInDim (shape2 10000 1) ![]) : IVec (shape2 10000 1) 32 :=
  select (cmpi .slt (broadcastInDim (shape2 10000 1) ![0] h₁ (iotaInDim (shape1 10000) 32 0)) (broadcastInDim (shape2 10000 1) ![] h₀ (constantI shape0 32 0#32)))
    (addi (broadcastInDim (shape2 10000 1) ![0] h₁ (iotaInDim (shape1 10000) 32 0)) (broadcastInDim (shape2 10000 1) ![] h₀ (constantI shape0 32 10000#32)))
    (broadcastInDim (shape2 10000 1) ![0] h₁ (iotaInDim (shape1 10000) 32 0))

/-- The positions, a negative one counted from the end. -/
abbrev posNo (h₀ : shape0.BroadcastsInDim (shape2 10000 5120) ![]) (ps : IVec (shape2 10000 5120) 32) : IVec (shape2 10000 5120) 32 :=
  select (cmpi .slt ps (broadcastInDim (shape2 10000 5120) ![] h₀ (constantI shape0 32 0#32)))
    (addi ps (broadcastInDim (shape2 10000 5120) ![] h₀ (constantI shape0 32 128#32))) ps

/-- The scatter of the reference is the kernel's result. -/
theorem scatter_eq {α : Type} (d : ScatterDims (shape2 10000 128) (shape3 10000 5120 2) (shape2 10000 5120))
    (hiw : d.insertedWindowDims = [0, 1]) (hsd : d.scatterDimsToOperandDims = [0, 1]) (hivd : d.indexVectorDim = 2)
    (h₁ : (shape1 10000).BroadcastsInDim (shape2 10000 1) ![0]) (h₀ : shape0.BroadcastsInDim (shape2 10000 1) ![])
    (hr : (shape2 10000 1).BroadcastsInDim (shape2 10000 5120) ![0, 1]) (hu : (shape2 10000 5120).BroadcastsInDim (shape3 10000 5120 1) ![0, 1])
    (hp : shape0.BroadcastsInDim (shape2 10000 5120) ![])
    (hc : Shape.Concatenates [shape3 10000 5120 1, shape3 10000 5120 1] (shape3 10000 5120 2) 2)
    (x0 : (shape2 10000 128).Idx → α) (fill : α) (hx0 : ∀ ι, x0 ι = fill) (ps : IVec (shape2 10000 5120) 32) (hps : ∀ j, (ps j).toNat < 144)
    (upd x : (shape2 10000 5120).Idx → α) (hval : ∀ (i : Fin 10000) (k : Fin 5120), upd (ix2 i k) = x (ix2 i k)) :
    Host.scatter d (fun _ b => b) x0
      (concatenate (shape3 10000 5120 2) 2
        [⟨shape3 10000 5120 1, broadcastInDim (shape3 10000 5120 1) ![0, 1] hu (broadcastInDim (shape2 10000 5120) ![0, 1] hr (rowNo h₁ h₀))⟩,
          ⟨shape3 10000 5120 1, broadcastInDim (shape3 10000 5120 1) ![0, 1] hu (posNo hp ps)⟩] hc) upd
      = G ps x fill := by
  funext ι
  refine scatter_eq_dense pos5120 d hiw hsd hivd (by decide) (by decide) _ _ _ ps x fill hx0 (fun i k => ?_) (fun i k c hcc => ?_) hval ι
  · pointwise
    exact wrap_of_lt _ _ (by
      rw [BitVec.toNat_ofNat]
      exact Nat.lt_of_le_of_lt (Nat.mod_le _ _) (by have := i.isLt; show i.val < 2 ^ 31; omega))
  · pointwise
    rw [ix2_eq_valueIdx]
    have e := wrap_of_lt (ps (ix2 i k)) (IntOp.addi (ps (ix2 i k)) 128#32) (by have := hps (ix2 i k); show _ < 2 ^ 31; omega)
    exact iff_of_eq (congrArg (fun w : BitVec 32 => c = w.toNat) e)

/-- The column numbers of the reference are the kernel's. -/
theorem cols_eq (h₁ : (shape1 10000).BroadcastsInDim (shape2 10000 1) ![0]) (h₀ : shape0.BroadcastsInDim (shape2 10000 1) ![])
    (hr : (shape2 10000 1).BroadcastsInDim (shape2 10000 5120) ![0, 1]) (hk : (shape1 5120).BroadcastsInDim (shape2 1 5120) ![1])
    (hc : (shape2 1 5120).BroadcastsInDim (shape2 10000 5120) ![0, 1]) (i : Fin 10000) (k : Fin 5120) :
    addi (broadcastInDim (shape2 10000 5120) ![0, 1] hc (broadcastInDim (shape2 1 5120) ![1] hk (iotaInDim (shape1 5120) 32 0)))
      (broadcastInDim (shape2 10000 5120) ![0, 1] hr (id (select
        (cmpi .sge (broadcastInDim (shape2 10000 1) ![0] h₁ (iotaInDim (shape1 10000) 32 0)) (broadcastInDim (shape2 10000 1) ![] h₀ (constantI shape0 32 5000#32)))
        (broadcastInDim (shape2 10000 1) ![] h₀ (constantI shape0 32 5000#32)) (broadcastInDim (shape2 10000 1) ![] h₀ (constantI shape0 32 0#32))))) (ix2 i k)
      = colW (ix2 i k) := by
  show BitVec.ofNat 32 k.val + Scalar.select (IntOp.cmpi .sge (BitVec.ofNat 32 i.val) 5000#32) 5000#32 0#32 = BitVec.ofNat 32 k.val + offW i.val
  have hi := i.isLt
  have ei : (BitVec.ofNat 32 i.val).toInt = i.val := by
    rw [BitVec.toInt_eq_toNat_cond, BitVec.toNat_ofNat, Nat.mod_eq_of_lt (by omega), if_pos (by omega)]
  congr 1
  unfold offW Scalar.select
  have h5 : (5000#32 : BitVec 32).toInt = 5000 := by decide
  have hge : IntOp.cmpi .sge (BitVec.ofNat 32 i.val) 5000#32 = (1 : BitVec 1) ↔ 5000 ≤ i.val := by
    refine Iff.trans IntOp.cmpi_sge ?_
    rw [ei, h5]
    omega
  by_cases h : i.val < 5000
  · rw [if_pos h, if_neg (fun e => by have := hge.1 e; omega)]
  · rw [if_neg h, if_pos (hge.2 (by omega))]

/-! ## The precondition -/

instance : Cert.Pre_in_window.Facts where
  bcast_S_S10000x5120 := by decide
  reducesTo_S10000x5120_S_d0_1 := by decide
  h_S_ := by decide

/-- The precondition says that every position lies within a result row and the sixteen entries behind it. -/
theorem in_window_of {F : FTy → Type} [FloatOps F] (a0 : FVec F Cert.Pre_in_window.S10000x5120 .f32) (a1 : IVec Cert.Pre_in_window.S10000x5120 32)
    (h : Cert.Pre_in_window.fn (F := F) a0 a1 = fun _ => 1#1) (j : Cert.Pre_in_window.S10000x5120.Idx) : (a1 j).toNat < 144 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 144#32) = 1#1 → v.toNat < 144 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h (fun a => a.elim0)
  unfold Pre_in_window.fn at e
  exact key _ (Host.reduce_andi_all _ _ _ _ _ e j)

end Cert.Proof.CompactRows

end
-- ==== Proof.SortStages.lean ====
/-
  The sort of the kept neighbours, as the kernel's body computes it: the 28 stages of the network one after another, each
  stage named. The body's text is cut into parts at fixed lengths, not at its stages, so a part hands on values from the midst of a
  stage. Here each value that a part hands on is one name (`w…`), a lemma per part says what it is of the entry state's two
  vectors (`part…`), and the whole body's results are the last stage's (`body_idx`, `body_dist`).
-/
module

public import proofs.«01_k».proof.Proof.Gen.SortIdeal.Value
public import Idealize.ShloMosaic.Lib.Pipeline.ValueKit

@[expose] public section

set_option maxRecDepth 16384

noncomputable section

open Idealize.ShloMosaic Idealize.ShloMosaic.TcCoe Idealize.SL.Sem

namespace Cert.SortIdeal.Stages

open Cert.SortIdeal Cert.SortIdeal.Gen

variable {F : FTy → Type} [FloatOps F]

/-- The lane numbers. -/
def lane : IVec S200x128 32 := iota .tc S200x128 32 [1] iota_S200x128_d1_w32

/-- The vector with each lane's entry that of the lane `1` after it, `1` before it, and `1` across. -/
def fwd1 {α : Type} (x : S200x128.Idx → α) : S200x128.Idx → α :=
    (concatenate S200x128 1 [⟨S200x127, extractStridedSlice S200x127 ![0, 1] x slices_S200x128_o0_1_S200x127⟩, ⟨S200x1, extractStridedSlice S200x1 ![0, 0] x slices_S200x128_o0_0_S200x1⟩] concatenates_S200x127_S200x1_S200x128_d1)
def bwd1 {α : Type} (x : S200x128.Idx → α) : S200x128.Idx → α :=
    (concatenate S200x128 1 [⟨S200x1, extractStridedSlice S200x1 ![0, 127] x slices_S200x128_o0_127_S200x1⟩, ⟨S200x127, extractStridedSlice S200x127 ![0, 0] x slices_S200x128_o0_0_S200x127⟩] concatenates_S200x1_S200x127_S200x128_d1)
def bf1 {α : Type} (x : S200x128.Idx → α) : S200x128.Idx → α :=
  select (cmpi .eq (andi lane (broadcast S200x128 1#32)) (broadcast S200x128 0#32)) (fwd1 x) (bwd1 x)

/-- The vector with each lane's entry that of the lane `2` after it, `2` before it, and `2` across. -/
def fwd2 {α : Type} (x : S200x128.Idx → α) : S200x128.Idx → α :=
    (concatenate S200x128 1 [⟨S200x126, extractStridedSlice S200x126 ![0, 2] x slices_S200x128_o0_2_S200x126⟩, ⟨S200x2, extractStridedSlice S200x2 ![0, 0] x slices_S200x128_o0_0_S200x2⟩] concatenates_S200x126_S200x2_S200x128_d1)
def bwd2 {α : Type} (x : S200x128.Idx → α) : S200x128.Idx → α :=
    (concatenate S200x128 1 [⟨S200x2, extractStridedSlice S200x2 ![0, 126] x slices_S200x128_o0_126_S200x2⟩, ⟨S200x126, extractStridedSlice S200x126 ![0, 0] x slices_S200x128_o0_0_S200x126⟩] concatenates_S200x2_S200x126_S200x128_d1)
def bf2 {α : Type} (x : S200x128.Idx → α) : S200x128.Idx → α :=
  select (cmpi .eq (andi lane (broadcast S200x128 2#32)) (broadcast S200x128 0#32)) (fwd2 x) (bwd2 x)

/-- The vector with each lane's entry that of the lane `4` after it, `4` before it, and `4` across. -/
def fwd4 {α : Type} (x : S200x128.Idx → α) : S200x128.Idx → α :=
    (concatenate S200x128 1 [⟨S200x124, extractStridedSlice S200x124 ![0, 4] x slices_S200x128_o0_4_S200x124⟩, ⟨S200x4, extractStridedSlice S200x4 ![0, 0] x slices_S200x128_o0_0_S200x4⟩] concatenates_S200x124_S200x4_S200x128_d1)
def bwd4 {α : Type} (x : S200x128.Idx → α) : S200x128.Idx → α :=
    (concatenate S200x128 1 [⟨S200x4, extractStridedSlice S200x4 ![0, 124] x slices_S200x128_o0_124_S200x4⟩, ⟨S200x124, extractStridedSlice S200x124 ![0, 0] x slices_S200x128_o0_0_S200x124⟩] concatenates_S200x4_S200x124_S200x128_d1)
def bf4 {α : Type} (x : S200x128.Idx → α) : S200x128.Idx → α :=
  select (cmpi .eq (andi lane (broadcast S200x128 4#32)) (broadcast S200x128 0#32)) (fwd4 x) (bwd4 x)

/-- The vector with each lane's entry that of the lane `8` after it, `8` before it, and `8` across. -/
def fwd8 {α : Type} (x : S200x128.Idx → α) : S200x128.Idx → α :=
    (concatenate S200x128 1 [⟨S200x120, extractStridedSlice S200x120 ![0, 8] x slices_S200x128_o0_8_S200x120⟩, ⟨S200x8, extractStridedSlice S200x8 ![0, 0] x slices_S200x128_o0_0_S200x8⟩] concatenates_S200x120_S200x8_S200x128_d1)
def bwd8 {α : Type} (x : S200x128.Idx → α) : S200x128.Idx → α :=
    (concatenate S200x128 1 [⟨S200x8, extractStridedSlice S200x8 ![0, 120] x slices_S200x128_o0_120_S200x8⟩, ⟨S200x120, extractStridedSlice S200x120 ![0, 0] x slices_S200x128_o0_0_S200x120⟩] concatenates_S200x8_S200x120_S200x128_d1)
def bf8 {α : Type} (x : S200x128.Idx → α) : S200x128.Idx → α :=
  select (cmpi .eq (andi lane (broadcast S200x128 8#32)) (broadcast S200x128 0#32)) (fwd8 x) (bwd8 x)

/-- The vector with each lane's entry that of the lane `16` after it, `16` before it, and `16` across. -/
def fwd16 {α : Type} (x : S200x128.Idx → α) : S200x128.Idx → α :=
    (concatenate S200x128 1 [⟨S200x112, extractStridedSlice S200x112 ![0, 16] x slices_S200x128_o0_16_S200x112⟩, ⟨S200x16, extractStridedSlice S200x16 ![0, 0] x slices_S200x128_o0_0_S200x16⟩] concatenates_S200x112_S200x16_S200x128_d1)
def bwd16 {α : Type} (x : S200x128.Idx → α) : S200x128.Idx → α :=
    (concatenate S200x128 1 [⟨S200x16, extractStridedSlice S200x16 ![0, 112] x slices_S200x128_o0_112_S200x16⟩, ⟨S200x112, extractStridedSlice S200x112 ![0, 0] x slices_S200x128_o0_0_S200x112⟩] concatenates_S200x16_S200x112_S200x128_d1)
def bf16 {α : Type} (x : S200x128.Idx → α) : S200x128.Idx → α :=
  select (cmpi .eq (andi lane (broadcast S200x128 16#32)) (broadcast S200x128 0#32)) (fwd16 x) (bwd16 x)

/-- The vector with each lane's entry that of the lane `32` after it, `32` before it, and `32` across. -/
def fwd32 {α : Type} (x : S200x128.Idx → α) : S200x128.Idx → α :=
    (concatenate S200x128 1 [⟨S200x96, extractStridedSlice S200x96 ![0, 32] x slices_S200x128_o0_32_S200x96⟩, ⟨S200x32, extractStridedSlice S200x32 ![0, 0] x slices_S200x128_o0_0_S200x32⟩] concatenates_S200x96_S200x32_S200x128_d1)
def bwd32 {α : Type} (x : S200x128.Idx → α) : S200x128.Idx → α :=
    (concatenate S200x128 1 [⟨S200x32, extractStridedSlice S200x32 ![0, 96] x slices_S200x128_o0_96_S200x32⟩, ⟨S200x96, extractStridedSlice S200x96 ![0, 0] x slices_S200x128_o0_0_S200x96⟩] concatenates_S200x32_S200x96_S200x128_d1)
def bf32 {α : Type} (x : S200x128.Idx → α) : S200x128.Idx → α :=
  select (cmpi .eq (andi lane (broadcast S200x128 32#32)) (broadcast S200x128 0#32)) (fwd32 x) (bwd32 x)

/-- The vector with each lane's entry that of the lane `64` after it, `64` before it, and `64` across. -/
def fwd64 {α : Type} (x : S200x128.Idx → α) : S200x128.Idx → α :=
    (concatenate S200x128 1 [⟨S200x64, extractStridedSlice S200x64 ![0, 64] x slices_S200x128_o0_64_S200x64⟩, ⟨S200x64, extractStridedSlice S200x64 ![0, 0] x slices_S200x128_o0_0_S200x64⟩] concatenates_S200x64_S200x64_S200x128_d1)
def bwd64 {α : Type} (x : S200x128.Idx → α) : S200x128.Idx → α :=
    (concatenate S200x128 1 [⟨S200x64, extractStridedSlice S200x64 ![0, 64] x slices_S200x128_o0_64_S200x64⟩, ⟨S200x64, extractStridedSlice S200x64 ![0, 0] x slices_S200x128_o0_0_S200x64⟩] concatenates_S200x64_S200x64_S200x128_d1)
def bf64 {α : Type} (x : S200x128.Idx → α) : S200x128.Idx → α :=
  select (cmpi .eq (andi lane (broadcast S200x128 64#32)) (broadcast S200x128 0#32)) (fwd64 x) (bwd64 x)

/-- Where a stage at distance `d` of the level whose blocks' order alternates at bit `s` keeps its own entry. -/
def take (pv : Vec F S200x128 .f32) (pi : Vec F S200x128 .i32) (d s : BitVec 32) (v : Vec F S200x128 .f32) (i : Vec F S200x128 .i32) : IVec S200x128 1 :=
  xori (xori (xori (xori (cmpi .eq (andi lane (broadcast S200x128 d)) (broadcast S200x128 0#32))
      (cmpi .eq (andi (shrsi lane (broadcast S200x128 s)) (broadcast S200x128 1#32)) (broadcast S200x128 0#32)))
      (constantI S200x128 1 1#1))
    (ori (cmpf .olt v pv) (andi (cmpf .oeq v pv) (cmpi .slt i pi)))) (constantI S200x128 1 1#1)

/-- One stage's values and its indices. -/
def stageV (bf : {α : Type} → (S200x128.Idx → α) → S200x128.Idx → α) (d s : BitVec 32) (v : Vec F S200x128 .f32) (i : Vec F S200x128 .i32) :
    Vec F S200x128 .f32 :=
  select (take (bf v) (bf i) d s v i) v (bf v)
def stageI (bf : {α : Type} → (S200x128.Idx → α) → S200x128.Idx → α) (d s : BitVec 32) (v : Vec F S200x128 .f32) (i : Vec F S200x128 .i32) :
    Vec F S200x128 .i32 :=
  select (take (bf v) (bf i) d s v i) i (bf i)

/-! ## What each part hands on, of a state's two vectors -/

variable (v : Vec F S200x128 .f32) (i : Vec F S200x128 .i32)

theorem part1_v13 : k0_pay4 v = (bf1 v) := rfl
theorem part1_v24 : k0_pay5 i = (bf1 i) := rfl
theorem part1_v43 : k0_pay6 v i = (xori (xori (xori (xori (cmpi .eq (andi lane (broadcast S200x128 (1#32))) (broadcast S200x128 (0#32))) (cmpi .eq (andi (shrsi lane (broadcast S200x128 (1#32))) (broadcast S200x128 (1#32))) (broadcast S200x128 (0#32)))) (constantI S200x128 1 1#1)) (ori (cmpf .olt v (bf1 v)) (andi (cmpf .oeq v (bf1 v)) (cmpi .slt i (bf1 i))))) (constantI S200x128 1 1#1)) := rfl
theorem part2_v87 : k0_pay12 v i lane (bf1 v) (bf1 i) (xori (xori (xori (xori (cmpi .eq (andi lane (broadcast S200x128 (1#32))) (broadcast S200x128 (0#32))) (cmpi .eq (andi (shrsi lane (broadcast S200x128 (1#32))) (broadcast S200x128 (1#32))) (broadcast S200x128 (0#32)))) (constantI S200x128 1 1#1)) (ori (cmpf .olt v (bf1 v)) (andi (cmpf .oeq v (bf1 v)) (cmpi .slt i (bf1 i))))) (constantI S200x128 1 1#1)) = (stageV bf2 2#32 2#32 (stageV bf1 1#32 1#32 v i) (stageI bf1 1#32 1#32 v i)) := rfl
theorem part2_v88 : k0_pay13 v i lane (bf1 v) (bf1 i) (xori (xori (xori (xori (cmpi .eq (andi lane (broadcast S200x128 (1#32))) (broadcast S200x128 (0#32))) (cmpi .eq (andi (shrsi lane (broadcast S200x128 (1#32))) (broadcast S200x128 (1#32))) (broadcast S200x128 (0#32)))) (constantI S200x128 1 1#1)) (ori (cmpf .olt v (bf1 v)) (andi (cmpf .oeq v (bf1 v)) (cmpi .slt i (bf1 i))))) (constantI S200x128 1 1#1)) = (stageI bf2 2#32 2#32 (stageV bf1 1#32 1#32 v i) (stageI bf1 1#32 1#32 v i)) := rfl
theorem part2_v90 : k0_pay14 lane = (andi lane (broadcast S200x128 (1#32))) := rfl
theorem part3_v130 : k0_pay18 lane v i (andi lane (broadcast S200x128 (1#32))) (0#32) = (stageV bf1 1#32 2#32 v i) := rfl
theorem part3_v131 : k0_pay19 lane v i (andi lane (broadcast S200x128 (1#32))) (0#32) = (stageI bf1 1#32 2#32 v i) := rfl
theorem part3_v135 : k0_pay20 lane = (cmpi .eq (andi lane (broadcast S200x128 (4#32))) (broadcast S200x128 (0#32))) := rfl
theorem part3_v138 : k0_pay21 lane v i (andi lane (broadcast S200x128 (1#32))) (0#32) = (fwd4 (stageV bf1 1#32 2#32 v i)) := rfl
theorem part3_v139 : k0_pay22 lane v i (andi lane (broadcast S200x128 (1#32))) (0#32) = (extractStridedSlice S200x4 ![0, 124] (stageV bf1 1#32 2#32 v i) slices_S200x128_o0_124_S200x4) := rfl
theorem part4_v173 : k0_pay26 lane v i (cmpi .eq (andi lane (broadcast S200x128 (4#32))) (broadcast S200x128 (0#32))) (fwd4 v) (extractStridedSlice S200x4 ![0, 124] v slices_S200x128_o0_124_S200x4) = (stageV bf4 4#32 3#32 v i) := rfl
theorem part4_v174 : k0_pay27 lane v i (cmpi .eq (andi lane (broadcast S200x128 (4#32))) (broadcast S200x128 (0#32))) (fwd4 v) (extractStridedSlice S200x4 ![0, 124] v slices_S200x128_o0_124_S200x4) = (stageI bf4 4#32 3#32 v i) := rfl
theorem part4_v185 : k0_pay28 lane v i (cmpi .eq (andi lane (broadcast S200x128 (4#32))) (broadcast S200x128 (0#32))) (fwd4 v) (extractStridedSlice S200x4 ![0, 124] v slices_S200x128_o0_124_S200x4) = (bf2 (stageV bf4 4#32 3#32 v i)) := rfl
theorem part4_v187 : k0_pay29 lane = (andi lane (broadcast S200x128 (2#32))) := rfl
theorem part5_v216 : k0_pay32 lane v i (bf2 v) (andi lane (broadcast S200x128 (2#32))) = (stageV bf2 2#32 3#32 v i) := rfl
theorem part5_v217 : k0_pay33 lane v i (bf2 v) (andi lane (broadcast S200x128 (2#32))) = (stageI bf2 2#32 3#32 v i) := rfl
theorem part5_v228 : k0_pay34 lane v i (bf2 v) (andi lane (broadcast S200x128 (2#32))) = (bf1 (stageV bf2 2#32 3#32 v i)) := rfl
theorem part5_v232 : k0_pay35 lane = (cmpi .eq (andi lane (broadcast S200x128 (1#32))) (broadcast S200x128 (0#32))) := rfl
theorem part5_v235 : k0_pay36 lane v i (bf2 v) (andi lane (broadcast S200x128 (2#32))) = (fwd1 (stageI bf2 2#32 3#32 v i)) := rfl
theorem part6_v259 : k0_pay39 lane v i (bf1 v) (cmpi .eq (andi lane (broadcast S200x128 (1#32))) (broadcast S200x128 (0#32))) (fwd1 i) = (stageV bf1 1#32 3#32 v i) := rfl
theorem part6_v260 : k0_pay40 lane v i (bf1 v) (cmpi .eq (andi lane (broadcast S200x128 (1#32))) (broadcast S200x128 (0#32))) (fwd1 i) = (stageI bf1 1#32 3#32 v i) := rfl
theorem part6_v271 : k0_pay41 lane v i (bf1 v) (cmpi .eq (andi lane (broadcast S200x128 (1#32))) (broadcast S200x128 (0#32))) (fwd1 i) = (bf8 (stageV bf1 1#32 3#32 v i)) := rfl
theorem part6_v282 : k0_pay42 lane v i (bf1 v) (cmpi .eq (andi lane (broadcast S200x128 (1#32))) (broadcast S200x128 (0#32))) (fwd1 i) = (bf8 (stageI bf1 1#32 3#32 v i)) := rfl
theorem part6_v283 : k0_pay43 = (broadcast S200x128 (4#32)) := rfl
theorem part7_v302 : k0_pay45 lane v i (bf8 v) (bf8 i) (broadcast S200x128 (4#32)) = (stageV bf8 8#32 4#32 v i) := rfl
theorem part7_v303 : k0_pay46 lane v i (bf8 v) (bf8 i) (broadcast S200x128 (4#32)) = (stageI bf8 8#32 4#32 v i) := rfl
theorem part7_v314 : k0_pay47 lane v i (bf8 v) (bf8 i) (broadcast S200x128 (4#32)) = (bf4 (stageV bf8 8#32 4#32 v i)) := rfl
theorem part7_v325 : k0_pay48 lane v i (bf8 v) (bf8 i) (broadcast S200x128 (4#32)) = (bf4 (stageI bf8 8#32 4#32 v i)) := rfl
theorem part7_v329 : k0_pay49 lane = (andi (shrsi lane (broadcast S200x128 (4#32))) (broadcast S200x128 (1#32))) := rfl
theorem part7_v330 : k0_pay50 = (broadcast S200x128 (0#32)) := rfl
theorem part8_v345 : k0_pay52 lane v i (bf4 v) (bf4 i) (andi (shrsi lane (broadcast S200x128 (4#32))) (broadcast S200x128 (1#32))) (broadcast S200x128 (0#32)) = (stageV bf4 4#32 4#32 v i) := rfl
theorem part8_v346 : k0_pay53 lane v i (bf4 v) (bf4 i) (andi (shrsi lane (broadcast S200x128 (4#32))) (broadcast S200x128 (1#32))) (broadcast S200x128 (0#32)) = (stageI bf4 4#32 4#32 v i) := rfl
theorem part8_v357 : k0_pay54 lane v i (bf4 v) (bf4 i) (andi (shrsi lane (broadcast S200x128 (4#32))) (broadcast S200x128 (1#32))) (broadcast S200x128 (0#32)) = (bf2 (stageV bf4 4#32 4#32 v i)) := rfl
theorem part8_v368 : k0_pay55 lane v i (bf4 v) (bf4 i) (andi (shrsi lane (broadcast S200x128 (4#32))) (broadcast S200x128 (1#32))) (broadcast S200x128 (0#32)) = (bf2 (stageI bf4 4#32 4#32 v i)) := rfl
theorem part8_v374 : k0_pay56 lane = (cmpi .eq (andi (shrsi lane (broadcast S200x128 (4#32))) (broadcast S200x128 (1#32))) (broadcast S200x128 (0#32))) := rfl
theorem part8_v376 : k0_pay57 lane = (andi lane (broadcast S200x128 (2#32))) := rfl
theorem part8_v377 : k0_pay58 = (broadcast S200x128 (0#32)) := rfl
theorem part9_v388 : k0_pay60 v i (bf2 v) (bf2 i) (cmpi .eq (andi (shrsi lane (broadcast S200x128 (4#32))) (broadcast S200x128 (1#32))) (broadcast S200x128 (0#32))) (andi lane (broadcast S200x128 (2#32))) (broadcast S200x128 (0#32)) = (stageV bf2 2#32 4#32 v i) := rfl
theorem part9_v389 : k0_pay61 v i (bf2 v) (bf2 i) (cmpi .eq (andi (shrsi lane (broadcast S200x128 (4#32))) (broadcast S200x128 (1#32))) (broadcast S200x128 (0#32))) (andi lane (broadcast S200x128 (2#32))) (broadcast S200x128 (0#32)) = (stageI bf2 2#32 4#32 v i) := rfl
theorem part9_v400 : k0_pay62 lane v i (bf2 v) (bf2 i) (cmpi .eq (andi (shrsi lane (broadcast S200x128 (4#32))) (broadcast S200x128 (1#32))) (broadcast S200x128 (0#32))) (andi lane (broadcast S200x128 (2#32))) (broadcast S200x128 (0#32)) = (bf1 (stageV bf2 2#32 4#32 v i)) := rfl
theorem part9_v411 : k0_pay63 lane v i (bf2 v) (bf2 i) (cmpi .eq (andi (shrsi lane (broadcast S200x128 (4#32))) (broadcast S200x128 (1#32))) (broadcast S200x128 (0#32))) (andi lane (broadcast S200x128 (2#32))) (broadcast S200x128 (0#32)) = (bf1 (stageI bf2 2#32 4#32 v i)) := rfl
theorem part9_v423 : k0_pay64 lane = (xori (xori (cmpi .eq (andi lane (broadcast S200x128 (1#32))) (broadcast S200x128 (0#32))) (cmpi .eq (andi (shrsi lane (broadcast S200x128 (4#32))) (broadcast S200x128 (1#32))) (broadcast S200x128 (0#32)))) (constantI S200x128 1 1#1)) := rfl
theorem part9_v424 : k0_pay65 lane v i (bf2 v) (bf2 i) (cmpi .eq (andi (shrsi lane (broadcast S200x128 (4#32))) (broadcast S200x128 (1#32))) (broadcast S200x128 (0#32))) (andi lane (broadcast S200x128 (2#32))) (broadcast S200x128 (0#32)) = (cmpf .olt (stageV bf2 2#32 4#32 v i) (bf1 (stageV bf2 2#32 4#32 v i))) := rfl
theorem part9_v425 : k0_pay66 lane v i (bf2 v) (bf2 i) (cmpi .eq (andi (shrsi lane (broadcast S200x128 (4#32))) (broadcast S200x128 (1#32))) (broadcast S200x128 (0#32))) (andi lane (broadcast S200x128 (2#32))) (broadcast S200x128 (0#32)) = (cmpf .oeq (stageV bf2 2#32 4#32 v i) (bf1 (stageV bf2 2#32 4#32 v i))) := rfl
theorem part10_v431 : k0_pay68 v i (bf1 v) (bf1 i) (xori (xori (cmpi .eq (andi lane (broadcast S200x128 (1#32))) (broadcast S200x128 (0#32))) (cmpi .eq (andi (shrsi lane (broadcast S200x128 (4#32))) (broadcast S200x128 (1#32))) (broadcast S200x128 (0#32)))) (constantI S200x128 1 1#1)) (cmpf .olt v (bf1 v)) (cmpf .oeq v (bf1 v)) = (stageV bf1 1#32 4#32 v i) := rfl
theorem part10_v432 : k0_pay69 i (bf1 i) (xori (xori (cmpi .eq (andi lane (broadcast S200x128 (1#32))) (broadcast S200x128 (0#32))) (cmpi .eq (andi (shrsi lane (broadcast S200x128 (4#32))) (broadcast S200x128 (1#32))) (broadcast S200x128 (0#32)))) (constantI S200x128 1 1#1)) (cmpf .olt v (bf1 v)) (cmpf .oeq v (bf1 v)) = (stageI bf1 1#32 4#32 v i) := rfl
theorem part10_v443 : k0_pay70 lane v i (bf1 v) (bf1 i) (xori (xori (cmpi .eq (andi lane (broadcast S200x128 (1#32))) (broadcast S200x128 (0#32))) (cmpi .eq (andi (shrsi lane (broadcast S200x128 (4#32))) (broadcast S200x128 (1#32))) (broadcast S200x128 (0#32)))) (constantI S200x128 1 1#1)) (cmpf .olt v (bf1 v)) (cmpf .oeq v (bf1 v)) = (bf16 (stageV bf1 1#32 4#32 v i)) := rfl
theorem part10_v454 : k0_pay71 lane i (bf1 i) (xori (xori (cmpi .eq (andi lane (broadcast S200x128 (1#32))) (broadcast S200x128 (0#32))) (cmpi .eq (andi (shrsi lane (broadcast S200x128 (4#32))) (broadcast S200x128 (1#32))) (broadcast S200x128 (0#32)))) (constantI S200x128 1 1#1)) (cmpf .olt v (bf1 v)) (cmpf .oeq v (bf1 v)) = (bf16 (stageI bf1 1#32 4#32 v i)) := rfl
theorem part10_v473 : k0_pay72 lane v i (bf1 v) (bf1 i) (xori (xori (cmpi .eq (andi lane (broadcast S200x128 (1#32))) (broadcast S200x128 (0#32))) (cmpi .eq (andi (shrsi lane (broadcast S200x128 (4#32))) (broadcast S200x128 (1#32))) (broadcast S200x128 (0#32)))) (constantI S200x128 1 1#1)) (cmpf .olt v (bf1 v)) (cmpf .oeq v (bf1 v)) = (xori (xori (xori (xori (cmpi .eq (andi lane (broadcast S200x128 (16#32))) (broadcast S200x128 (0#32))) (cmpi .eq (andi (shrsi lane (broadcast S200x128 (5#32))) (broadcast S200x128 (1#32))) (broadcast S200x128 (0#32)))) (constantI S200x128 1 1#1)) (ori (cmpf .olt (stageV bf1 1#32 4#32 v i) (bf16 (stageV bf1 1#32 4#32 v i))) (andi (cmpf .oeq (stageV bf1 1#32 4#32 v i) (bf16 (stageV bf1 1#32 4#32 v i))) (cmpi .slt (stageI bf1 1#32 4#32 v i) (bf16 (stageI bf1 1#32 4#32 v i)))))) (constantI S200x128 1 1#1)) := rfl
theorem part11_v517 : k0_pay78 lane v i (bf16 v) (bf16 i) (xori (xori (xori (xori (cmpi .eq (andi lane (broadcast S200x128 (16#32))) (broadcast S200x128 (0#32))) (cmpi .eq (andi (shrsi lane (broadcast S200x128 (5#32))) (broadcast S200x128 (1#32))) (broadcast S200x128 (0#32)))) (constantI S200x128 1 1#1)) (ori (cmpf .olt v (bf16 v)) (andi (cmpf .oeq v (bf16 v)) (cmpi .slt i (bf16 i))))) (constantI S200x128 1 1#1)) = (stageV bf8 8#32 5#32 (stageV bf16 16#32 5#32 v i) (stageI bf16 16#32 5#32 v i)) := rfl
theorem part11_v518 : k0_pay79 lane v i (bf16 v) (bf16 i) (xori (xori (xori (xori (cmpi .eq (andi lane (broadcast S200x128 (16#32))) (broadcast S200x128 (0#32))) (cmpi .eq (andi (shrsi lane (broadcast S200x128 (5#32))) (broadcast S200x128 (1#32))) (broadcast S200x128 (0#32)))) (constantI S200x128 1 1#1)) (ori (cmpf .olt v (bf16 v)) (andi (cmpf .oeq v (bf16 v)) (cmpi .slt i (bf16 i))))) (constantI S200x128 1 1#1)) = (stageI bf8 8#32 5#32 (stageV bf16 16#32 5#32 v i) (stageI bf16 16#32 5#32 v i)) := rfl
theorem part11_v520 : k0_pay80 lane = (andi lane (broadcast S200x128 (4#32))) := rfl
theorem part12_v560 : k0_pay84 lane v i (andi lane (broadcast S200x128 (4#32))) (0#32) = (stageV bf4 4#32 5#32 v i) := rfl
theorem part12_v561 : k0_pay85 lane v i (andi lane (broadcast S200x128 (4#32))) (0#32) = (stageI bf4 4#32 5#32 v i) := rfl
theorem part12_v565 : k0_pay86 lane = (cmpi .eq (andi lane (broadcast S200x128 (2#32))) (broadcast S200x128 (0#32))) := rfl
theorem part12_v568 : k0_pay87 lane v i (andi lane (broadcast S200x128 (4#32))) (0#32) = (fwd2 (stageV bf4 4#32 5#32 v i)) := rfl
theorem part12_v569 : k0_pay88 lane v i (andi lane (broadcast S200x128 (4#32))) (0#32) = (extractStridedSlice S200x2 ![0, 126] (stageV bf4 4#32 5#32 v i) slices_S200x128_o0_126_S200x2) := rfl
theorem part13_v603 : k0_pay92 lane v i (cmpi .eq (andi lane (broadcast S200x128 (2#32))) (broadcast S200x128 (0#32))) (fwd2 v) (extractStridedSlice S200x2 ![0, 126] v slices_S200x128_o0_126_S200x2) = (stageV bf2 2#32 5#32 v i) := rfl
theorem part13_v604 : k0_pay93 lane v i (cmpi .eq (andi lane (broadcast S200x128 (2#32))) (broadcast S200x128 (0#32))) (fwd2 v) (extractStridedSlice S200x2 ![0, 126] v slices_S200x128_o0_126_S200x2) = (stageI bf2 2#32 5#32 v i) := rfl
theorem part13_v615 : k0_pay94 lane v i (cmpi .eq (andi lane (broadcast S200x128 (2#32))) (broadcast S200x128 (0#32))) (fwd2 v) (extractStridedSlice S200x2 ![0, 126] v slices_S200x128_o0_126_S200x2) = (bf1 (stageV bf2 2#32 5#32 v i)) := rfl
theorem part13_v617 : k0_pay95 lane = (andi lane (broadcast S200x128 (1#32))) := rfl
theorem part14_v646 : k0_pay98 lane v i (bf1 v) (andi lane (broadcast S200x128 (1#32))) = (stageV bf1 1#32 5#32 v i) := rfl
theorem part14_v647 : k0_pay99 lane v i (bf1 v) (andi lane (broadcast S200x128 (1#32))) = (stageI bf1 1#32 5#32 v i) := rfl
theorem part14_v658 : k0_pay100 lane v i (bf1 v) (andi lane (broadcast S200x128 (1#32))) = (bf32 (stageV bf1 1#32 5#32 v i)) := rfl
theorem part14_v662 : k0_pay101 lane = (cmpi .eq (andi lane (broadcast S200x128 (32#32))) (broadcast S200x128 (0#32))) := rfl
theorem part14_v665 : k0_pay102 lane v i (bf1 v) (andi lane (broadcast S200x128 (1#32))) = (fwd32 (stageI bf1 1#32 5#32 v i)) := rfl
theorem part15_v689 : k0_pay105 lane v i (bf32 v) (cmpi .eq (andi lane (broadcast S200x128 (32#32))) (broadcast S200x128 (0#32))) (fwd32 i) = (stageV bf32 32#32 6#32 v i) := rfl
theorem part15_v690 : k0_pay106 lane v i (bf32 v) (cmpi .eq (andi lane (broadcast S200x128 (32#32))) (broadcast S200x128 (0#32))) (fwd32 i) = (stageI bf32 32#32 6#32 v i) := rfl
theorem part15_v701 : k0_pay107 lane v i (bf32 v) (cmpi .eq (andi lane (broadcast S200x128 (32#32))) (broadcast S200x128 (0#32))) (fwd32 i) = (bf16 (stageV bf32 32#32 6#32 v i)) := rfl
theorem part15_v712 : k0_pay108 lane v i (bf32 v) (cmpi .eq (andi lane (broadcast S200x128 (32#32))) (broadcast S200x128 (0#32))) (fwd32 i) = (bf16 (stageI bf32 32#32 6#32 v i)) := rfl
theorem part15_v713 : k0_pay109 = (broadcast S200x128 (6#32)) := rfl
theorem part16_v732 : k0_pay111 lane v i (bf16 v) (bf16 i) (broadcast S200x128 (6#32)) = (stageV bf16 16#32 6#32 v i) := rfl
theorem part16_v733 : k0_pay112 lane v i (bf16 v) (bf16 i) (broadcast S200x128 (6#32)) = (stageI bf16 16#32 6#32 v i) := rfl
theorem part16_v744 : k0_pay113 lane v i (bf16 v) (bf16 i) (broadcast S200x128 (6#32)) = (bf8 (stageV bf16 16#32 6#32 v i)) := rfl
theorem part16_v755 : k0_pay114 lane v i (bf16 v) (bf16 i) (broadcast S200x128 (6#32)) = (bf8 (stageI bf16 16#32 6#32 v i)) := rfl
theorem part16_v759 : k0_pay115 lane = (andi (shrsi lane (broadcast S200x128 (6#32))) (broadcast S200x128 (1#32))) := rfl
theorem part16_v760 : k0_pay116 = (broadcast S200x128 (0#32)) := rfl
theorem part17_v775 : k0_pay118 lane v i (bf8 v) (bf8 i) (andi (shrsi lane (broadcast S200x128 (6#32))) (broadcast S200x128 (1#32))) (broadcast S200x128 (0#32)) = (stageV bf8 8#32 6#32 v i) := rfl
theorem part17_v776 : k0_pay119 lane v i (bf8 v) (bf8 i) (andi (shrsi lane (broadcast S200x128 (6#32))) (broadcast S200x128 (1#32))) (broadcast S200x128 (0#32)) = (stageI bf8 8#32 6#32 v i) := rfl
theorem part17_v787 : k0_pay120 lane v i (bf8 v) (bf8 i) (andi (shrsi lane (broadcast S200x128 (6#32))) (broadcast S200x128 (1#32))) (broadcast S200x128 (0#32)) = (bf4 (stageV bf8 8#32 6#32 v i)) := rfl
theorem part17_v798 : k0_pay121 lane v i (bf8 v) (bf8 i) (andi (shrsi lane (broadcast S200x128 (6#32))) (broadcast S200x128 (1#32))) (broadcast S200x128 (0#32)) = (bf4 (stageI bf8 8#32 6#32 v i)) := rfl
theorem part17_v804 : k0_pay122 lane = (cmpi .eq (andi (shrsi lane (broadcast S200x128 (6#32))) (broadcast S200x128 (1#32))) (broadcast S200x128 (0#32))) := rfl
theorem part17_v806 : k0_pay123 lane = (andi lane (broadcast S200x128 (4#32))) := rfl
theorem part17_v807 : k0_pay124 = (broadcast S200x128 (0#32)) := rfl
theorem part18_v818 : k0_pay126 v i (bf4 v) (bf4 i) (cmpi .eq (andi (shrsi lane (broadcast S200x128 (6#32))) (broadcast S200x128 (1#32))) (broadcast S200x128 (0#32))) (andi lane (broadcast S200x128 (4#32))) (broadcast S200x128 (0#32)) = (stageV bf4 4#32 6#32 v i) := rfl
theorem part18_v819 : k0_pay127 v i (bf4 v) (bf4 i) (cmpi .eq (andi (shrsi lane (broadcast S200x128 (6#32))) (broadcast S200x128 (1#32))) (broadcast S200x128 (0#32))) (andi lane (broadcast S200x128 (4#32))) (broadcast S200x128 (0#32)) = (stageI bf4 4#32 6#32 v i) := rfl
theorem part18_v830 : k0_pay128 lane v i (bf4 v) (bf4 i) (cmpi .eq (andi (shrsi lane (broadcast S200x128 (6#32))) (broadcast S200x128 (1#32))) (broadcast S200x128 (0#32))) (andi lane (broadcast S200x128 (4#32))) (broadcast S200x128 (0#32)) = (bf2 (stageV bf4 4#32 6#32 v i)) := rfl
theorem part18_v841 : k0_pay129 lane v i (bf4 v) (bf4 i) (cmpi .eq (andi (shrsi lane (broadcast S200x128 (6#32))) (broadcast S200x128 (1#32))) (broadcast S200x128 (0#32))) (andi lane (broadcast S200x128 (4#32))) (broadcast S200x128 (0#32)) = (bf2 (stageI bf4 4#32 6#32 v i)) := rfl
theorem part18_v853 : k0_pay130 lane = (xori (xori (cmpi .eq (andi lane (broadcast S200x128 (2#32))) (broadcast S200x128 (0#32))) (cmpi .eq (andi (shrsi lane (broadcast S200x128 (6#32))) (broadcast S200x128 (1#32))) (broadcast S200x128 (0#32)))) (constantI S200x128 1 1#1)) := rfl
theorem part18_v854 : k0_pay131 lane v i (bf4 v) (bf4 i) (cmpi .eq (andi (shrsi lane (broadcast S200x128 (6#32))) (broadcast S200x128 (1#32))) (broadcast S200x128 (0#32))) (andi lane (broadcast S200x128 (4#32))) (broadcast S200x128 (0#32)) = (cmpf .olt (stageV bf4 4#32 6#32 v i) (bf2 (stageV bf4 4#32 6#32 v i))) := rfl
theorem part18_v855 : k0_pay132 lane v i (bf4 v) (bf4 i) (cmpi .eq (andi (shrsi lane (broadcast S200x128 (6#32))) (broadcast S200x128 (1#32))) (broadcast S200x128 (0#32))) (andi lane (broadcast S200x128 (4#32))) (broadcast S200x128 (0#32)) = (cmpf .oeq (stageV bf4 4#32 6#32 v i) (bf2 (stageV bf4 4#32 6#32 v i))) := rfl
theorem part19_v861 : k0_pay134 v i (bf2 v) (bf2 i) (xori (xori (cmpi .eq (andi lane (broadcast S200x128 (2#32))) (broadcast S200x128 (0#32))) (cmpi .eq (andi (shrsi lane (broadcast S200x128 (6#32))) (broadcast S200x128 (1#32))) (broadcast S200x128 (0#32)))) (constantI S200x128 1 1#1)) (cmpf .olt v (bf2 v)) (cmpf .oeq v (bf2 v)) = (stageV bf2 2#32 6#32 v i) := rfl
theorem part19_v862 : k0_pay135 i (bf2 i) (xori (xori (cmpi .eq (andi lane (broadcast S200x128 (2#32))) (broadcast S200x128 (0#32))) (cmpi .eq (andi (shrsi lane (broadcast S200x128 (6#32))) (broadcast S200x128 (1#32))) (broadcast S200x128 (0#32)))) (constantI S200x128 1 1#1)) (cmpf .olt v (bf2 v)) (cmpf .oeq v (bf2 v)) = (stageI bf2 2#32 6#32 v i) := rfl
theorem part19_v873 : k0_pay136 lane v i (bf2 v) (bf2 i) (xori (xori (cmpi .eq (andi lane (broadcast S200x128 (2#32))) (broadcast S200x128 (0#32))) (cmpi .eq (andi (shrsi lane (broadcast S200x128 (6#32))) (broadcast S200x128 (1#32))) (broadcast S200x128 (0#32)))) (constantI S200x128 1 1#1)) (cmpf .olt v (bf2 v)) (cmpf .oeq v (bf2 v)) = (bf1 (stageV bf2 2#32 6#32 v i)) := rfl
theorem part19_v884 : k0_pay137 lane i (bf2 i) (xori (xori (cmpi .eq (andi lane (broadcast S200x128 (2#32))) (broadcast S200x128 (0#32))) (cmpi .eq (andi (shrsi lane (broadcast S200x128 (6#32))) (broadcast S200x128 (1#32))) (broadcast S200x128 (0#32)))) (constantI S200x128 1 1#1)) (cmpf .olt v (bf2 v)) (cmpf .oeq v (bf2 v)) = (bf1 (stageI bf2 2#32 6#32 v i)) := rfl
theorem part19_v903 : k0_pay138 lane v i (bf2 v) (bf2 i) (xori (xori (cmpi .eq (andi lane (broadcast S200x128 (2#32))) (broadcast S200x128 (0#32))) (cmpi .eq (andi (shrsi lane (broadcast S200x128 (6#32))) (broadcast S200x128 (1#32))) (broadcast S200x128 (0#32)))) (constantI S200x128 1 1#1)) (cmpf .olt v (bf2 v)) (cmpf .oeq v (bf2 v)) = (xori (xori (xori (xori (cmpi .eq (andi lane (broadcast S200x128 (1#32))) (broadcast S200x128 (0#32))) (cmpi .eq (andi (shrsi lane (broadcast S200x128 (6#32))) (broadcast S200x128 (1#32))) (broadcast S200x128 (0#32)))) (constantI S200x128 1 1#1)) (ori (cmpf .olt (stageV bf2 2#32 6#32 v i) (bf1 (stageV bf2 2#32 6#32 v i))) (andi (cmpf .oeq (stageV bf2 2#32 6#32 v i) (bf1 (stageV bf2 2#32 6#32 v i))) (cmpi .slt (stageI bf2 2#32 6#32 v i) (bf1 (stageI bf2 2#32 6#32 v i)))))) (constantI S200x128 1 1#1)) := rfl
theorem part20_v947 : k0_pay144 lane v i (bf1 v) (bf1 i) (xori (xori (xori (xori (cmpi .eq (andi lane (broadcast S200x128 (1#32))) (broadcast S200x128 (0#32))) (cmpi .eq (andi (shrsi lane (broadcast S200x128 (6#32))) (broadcast S200x128 (1#32))) (broadcast S200x128 (0#32)))) (constantI S200x128 1 1#1)) (ori (cmpf .olt v (bf1 v)) (andi (cmpf .oeq v (bf1 v)) (cmpi .slt i (bf1 i))))) (constantI S200x128 1 1#1)) = (stageV bf64 64#32 7#32 (stageV bf1 1#32 6#32 v i) (stageI bf1 1#32 6#32 v i)) := rfl
theorem part20_v948 : k0_pay145 lane v i (bf1 v) (bf1 i) (xori (xori (xori (xori (cmpi .eq (andi lane (broadcast S200x128 (1#32))) (broadcast S200x128 (0#32))) (cmpi .eq (andi (shrsi lane (broadcast S200x128 (6#32))) (broadcast S200x128 (1#32))) (broadcast S200x128 (0#32)))) (constantI S200x128 1 1#1)) (ori (cmpf .olt v (bf1 v)) (andi (cmpf .oeq v (bf1 v)) (cmpi .slt i (bf1 i))))) (constantI S200x128 1 1#1)) = (stageI bf64 64#32 7#32 (stageV bf1 1#32 6#32 v i) (stageI bf1 1#32 6#32 v i)) := rfl
theorem part20_v950 : k0_pay146 lane = (andi lane (broadcast S200x128 (32#32))) := rfl
theorem part21_v990 : k0_pay150 lane v i (andi lane (broadcast S200x128 (32#32))) (0#32) = (stageV bf32 32#32 7#32 v i) := rfl
theorem part21_v991 : k0_pay151 lane v i (andi lane (broadcast S200x128 (32#32))) (0#32) = (stageI bf32 32#32 7#32 v i) := rfl
theorem part21_v995 : k0_pay152 lane = (cmpi .eq (andi lane (broadcast S200x128 (16#32))) (broadcast S200x128 (0#32))) := rfl
theorem part21_v998 : k0_pay153 lane v i (andi lane (broadcast S200x128 (32#32))) (0#32) = (fwd16 (stageV bf32 32#32 7#32 v i)) := rfl
theorem part21_v999 : k0_pay154 lane v i (andi lane (broadcast S200x128 (32#32))) (0#32) = (extractStridedSlice S200x16 ![0, 112] (stageV bf32 32#32 7#32 v i) slices_S200x128_o0_112_S200x16) := rfl
theorem part22_v1033 : k0_pay158 lane v i (cmpi .eq (andi lane (broadcast S200x128 (16#32))) (broadcast S200x128 (0#32))) (fwd16 v) (extractStridedSlice S200x16 ![0, 112] v slices_S200x128_o0_112_S200x16) = (stageV bf16 16#32 7#32 v i) := rfl
theorem part22_v1034 : k0_pay159 lane v i (cmpi .eq (andi lane (broadcast S200x128 (16#32))) (broadcast S200x128 (0#32))) (fwd16 v) (extractStridedSlice S200x16 ![0, 112] v slices_S200x128_o0_112_S200x16) = (stageI bf16 16#32 7#32 v i) := rfl
theorem part22_v1045 : k0_pay160 lane v i (cmpi .eq (andi lane (broadcast S200x128 (16#32))) (broadcast S200x128 (0#32))) (fwd16 v) (extractStridedSlice S200x16 ![0, 112] v slices_S200x128_o0_112_S200x16) = (bf8 (stageV bf16 16#32 7#32 v i)) := rfl
theorem part22_v1047 : k0_pay161 lane = (andi lane (broadcast S200x128 (8#32))) := rfl
theorem part23_v1076 : k0_pay164 lane v i (bf8 v) (andi lane (broadcast S200x128 (8#32))) = (stageV bf8 8#32 7#32 v i) := rfl
theorem part23_v1077 : k0_pay165 lane v i (bf8 v) (andi lane (broadcast S200x128 (8#32))) = (stageI bf8 8#32 7#32 v i) := rfl
theorem part23_v1088 : k0_pay166 lane v i (bf8 v) (andi lane (broadcast S200x128 (8#32))) = (bf4 (stageV bf8 8#32 7#32 v i)) := rfl
theorem part23_v1092 : k0_pay167 lane = (cmpi .eq (andi lane (broadcast S200x128 (4#32))) (broadcast S200x128 (0#32))) := rfl
theorem part23_v1095 : k0_pay168 lane v i (bf8 v) (andi lane (broadcast S200x128 (8#32))) = (fwd4 (stageI bf8 8#32 7#32 v i)) := rfl
theorem part24_v1119 : k0_pay171 lane v i (bf4 v) (cmpi .eq (andi lane (broadcast S200x128 (4#32))) (broadcast S200x128 (0#32))) (fwd4 i) = (stageV bf4 4#32 7#32 v i) := rfl
theorem part24_v1120 : k0_pay172 lane v i (bf4 v) (cmpi .eq (andi lane (broadcast S200x128 (4#32))) (broadcast S200x128 (0#32))) (fwd4 i) = (stageI bf4 4#32 7#32 v i) := rfl
theorem part24_v1131 : k0_pay173 lane v i (bf4 v) (cmpi .eq (andi lane (broadcast S200x128 (4#32))) (broadcast S200x128 (0#32))) (fwd4 i) = (bf2 (stageV bf4 4#32 7#32 v i)) := rfl
theorem part24_v1142 : k0_pay174 lane v i (bf4 v) (cmpi .eq (andi lane (broadcast S200x128 (4#32))) (broadcast S200x128 (0#32))) (fwd4 i) = (bf2 (stageI bf4 4#32 7#32 v i)) := rfl
theorem part24_v1143 : k0_pay175 = (broadcast S200x128 (7#32)) := rfl
theorem part25_v1162 : k0_pay177 lane v i (bf2 v) (bf2 i) (broadcast S200x128 (7#32)) = (stageV bf2 2#32 7#32 v i) := rfl
theorem part25_v1163 : k0_pay178 lane v i (bf2 v) (bf2 i) (broadcast S200x128 (7#32)) = (stageI bf2 2#32 7#32 v i) := rfl
theorem part25_v1174 : k0_pay179 lane v i (bf2 v) (bf2 i) (broadcast S200x128 (7#32)) = (bf1 (stageV bf2 2#32 7#32 v i)) := rfl
theorem part25_v1185 : k0_pay180 lane v i (bf2 v) (bf2 i) (broadcast S200x128 (7#32)) = (bf1 (stageI bf2 2#32 7#32 v i)) := rfl
theorem part25_v1189 : k0_pay181 lane = (andi (shrsi lane (broadcast S200x128 (7#32))) (broadcast S200x128 (1#32))) := rfl
theorem part25_v1190 : k0_pay182 = (broadcast S200x128 (0#32)) := rfl
theorem last_idx : k0_pay2 lane v i (bf1 v) (bf1 i) (andi (shrsi lane (broadcast S200x128 (7#32))) (broadcast S200x128 (1#32))) (broadcast S200x128 (0#32)) = ((stageI bf1 1#32 7#32 v i) : Vec F S200x128 .i32) := rfl
theorem last_dist : k0_pay3 lane v i (bf1 v) (bf1 i) (andi (shrsi lane (broadcast S200x128 (7#32))) (broadcast S200x128 (1#32))) (broadcast S200x128 (0#32)) = maximumf (stageV bf1 1#32 7#32 v i) (broadcast S200x128 (Scalar.ofBits .f32 0x00000000#32)) := rfl

/-! ## The states, and the values handed on at the body's arguments -/

def sv0 (x0 : Vec F S200x128 .f32) (x1 : Vec F S200x128 .i32) : Vec F S200x128 .f32 := x0
def si0 (x0 : Vec F S200x128 .f32) (x1 : Vec F S200x128 .i32) : Vec F S200x128 .i32 := x1

variable (x0 : Vec F S200x128 .f32) (x1 : Vec F S200x128 .i32)

def sv1 : Vec F S200x128 .f32 := stageV bf1 1#32 1#32 (sv0 x0 x1) (si0 x0 x1)
def si1 : Vec F S200x128 .i32 := stageI bf1 1#32 1#32 (sv0 x0 x1) (si0 x0 x1)
def sv2 : Vec F S200x128 .f32 := stageV bf2 2#32 2#32 (sv1 x0 x1) (si1 x0 x1)
def si2 : Vec F S200x128 .i32 := stageI bf2 2#32 2#32 (sv1 x0 x1) (si1 x0 x1)
def sv3 : Vec F S200x128 .f32 := stageV bf1 1#32 2#32 (sv2 x0 x1) (si2 x0 x1)
def si3 : Vec F S200x128 .i32 := stageI bf1 1#32 2#32 (sv2 x0 x1) (si2 x0 x1)
def sv4 : Vec F S200x128 .f32 := stageV bf4 4#32 3#32 (sv3 x0 x1) (si3 x0 x1)
def si4 : Vec F S200x128 .i32 := stageI bf4 4#32 3#32 (sv3 x0 x1) (si3 x0 x1)
def sv5 : Vec F S200x128 .f32 := stageV bf2 2#32 3#32 (sv4 x0 x1) (si4 x0 x1)
def si5 : Vec F S200x128 .i32 := stageI bf2 2#32 3#32 (sv4 x0 x1) (si4 x0 x1)
def sv6 : Vec F S200x128 .f32 := stageV bf1 1#32 3#32 (sv5 x0 x1) (si5 x0 x1)
def si6 : Vec F S200x128 .i32 := stageI bf1 1#32 3#32 (sv5 x0 x1) (si5 x0 x1)
def sv7 : Vec F S200x128 .f32 := stageV bf8 8#32 4#32 (sv6 x0 x1) (si6 x0 x1)
def si7 : Vec F S200x128 .i32 := stageI bf8 8#32 4#32 (sv6 x0 x1) (si6 x0 x1)
def sv8 : Vec F S200x128 .f32 := stageV bf4 4#32 4#32 (sv7 x0 x1) (si7 x0 x1)
def si8 : Vec F S200x128 .i32 := stageI bf4 4#32 4#32 (sv7 x0 x1) (si7 x0 x1)
def sv9 : Vec F S200x128 .f32 := stageV bf2 2#32 4#32 (sv8 x0 x1) (si8 x0 x1)
def si9 : Vec F S200x128 .i32 := stageI bf2 2#32 4#32 (sv8 x0 x1) (si8 x0 x1)
def sv10 : Vec F S200x128 .f32 := stageV bf1 1#32 4#32 (sv9 x0 x1) (si9 x0 x1)
def si10 : Vec F S200x128 .i32 := stageI bf1 1#32 4#32 (sv9 x0 x1) (si9 x0 x1)
def sv11 : Vec F S200x128 .f32 := stageV bf16 16#32 5#32 (sv10 x0 x1) (si10 x0 x1)
def si11 : Vec F S200x128 .i32 := stageI bf16 16#32 5#32 (sv10 x0 x1) (si10 x0 x1)
def sv12 : Vec F S200x128 .f32 := stageV bf8 8#32 5#32 (sv11 x0 x1) (si11 x0 x1)
def si12 : Vec F S200x128 .i32 := stageI bf8 8#32 5#32 (sv11 x0 x1) (si11 x0 x1)
def sv13 : Vec F S200x128 .f32 := stageV bf4 4#32 5#32 (sv12 x0 x1) (si12 x0 x1)
def si13 : Vec F S200x128 .i32 := stageI bf4 4#32 5#32 (sv12 x0 x1) (si12 x0 x1)
def sv14 : Vec F S200x128 .f32 := stageV bf2 2#32 5#32 (sv13 x0 x1) (si13 x0 x1)
def si14 : Vec F S200x128 .i32 := stageI bf2 2#32 5#32 (sv13 x0 x1) (si13 x0 x1)
def sv15 : Vec F S200x128 .f32 := stageV bf1 1#32 5#32 (sv14 x0 x1) (si14 x0 x1)
def si15 : Vec F S200x128 .i32 := stageI bf1 1#32 5#32 (sv14 x0 x1) (si14 x0 x1)
def sv16 : Vec F S200x128 .f32 := stageV bf32 32#32 6#32 (sv15 x0 x1) (si15 x0 x1)
def si16 : Vec F S200x128 .i32 := stageI bf32 32#32 6#32 (sv15 x0 x1) (si15 x0 x1)
def sv17 : Vec F S200x128 .f32 := stageV bf16 16#32 6#32 (sv16 x0 x1) (si16 x0 x1)
def si17 : Vec F S200x128 .i32 := stageI bf16 16#32 6#32 (sv16 x0 x1) (si16 x0 x1)
def sv18 : Vec F S200x128 .f32 := stageV bf8 8#32 6#32 (sv17 x0 x1) (si17 x0 x1)
def si18 : Vec F S200x128 .i32 := stageI bf8 8#32 6#32 (sv17 x0 x1) (si17 x0 x1)
def sv19 : Vec F S200x128 .f32 := stageV bf4 4#32 6#32 (sv18 x0 x1) (si18 x0 x1)
def si19 : Vec F S200x128 .i32 := stageI bf4 4#32 6#32 (sv18 x0 x1) (si18 x0 x1)
def sv20 : Vec F S200x128 .f32 := stageV bf2 2#32 6#32 (sv19 x0 x1) (si19 x0 x1)
def si20 : Vec F S200x128 .i32 := stageI bf2 2#32 6#32 (sv19 x0 x1) (si19 x0 x1)
def sv21 : Vec F S200x128 .f32 := stageV bf1 1#32 6#32 (sv20 x0 x1) (si20 x0 x1)
def si21 : Vec F S200x128 .i32 := stageI bf1 1#32 6#32 (sv20 x0 x1) (si20 x0 x1)
def sv22 : Vec F S200x128 .f32 := stageV bf64 64#32 7#32 (sv21 x0 x1) (si21 x0 x1)
def si22 : Vec F S200x128 .i32 := stageI bf64 64#32 7#32 (sv21 x0 x1) (si21 x0 x1)
def sv23 : Vec F S200x128 .f32 := stageV bf32 32#32 7#32 (sv22 x0 x1) (si22 x0 x1)
def si23 : Vec F S200x128 .i32 := stageI bf32 32#32 7#32 (sv22 x0 x1) (si22 x0 x1)
def sv24 : Vec F S200x128 .f32 := stageV bf16 16#32 7#32 (sv23 x0 x1) (si23 x0 x1)
def si24 : Vec F S200x128 .i32 := stageI bf16 16#32 7#32 (sv23 x0 x1) (si23 x0 x1)
def sv25 : Vec F S200x128 .f32 := stageV bf8 8#32 7#32 (sv24 x0 x1) (si24 x0 x1)
def si25 : Vec F S200x128 .i32 := stageI bf8 8#32 7#32 (sv24 x0 x1) (si24 x0 x1)
def sv26 : Vec F S200x128 .f32 := stageV bf4 4#32 7#32 (sv25 x0 x1) (si25 x0 x1)
def si26 : Vec F S200x128 .i32 := stageI bf4 4#32 7#32 (sv25 x0 x1) (si25 x0 x1)
def sv27 : Vec F S200x128 .f32 := stageV bf2 2#32 7#32 (sv26 x0 x1) (si26 x0 x1)
def si27 : Vec F S200x128 .i32 := stageI bf2 2#32 7#32 (sv26 x0 x1) (si26 x0 x1)
def sv28 : Vec F S200x128 .f32 := stageV bf1 1#32 7#32 (sv27 x0 x1) (si27 x0 x1)
def si28 : Vec F S200x128 .i32 := stageI bf1 1#32 7#32 (sv27 x0 x1) (si27 x0 x1)

def w13 (x0 : Vec F S200x128 .f32) (x1 : Vec F S200x128 .i32) : FVec F S200x128 .f32 := k0_pay4 x0
theorem w13_eq : w13 x0 x1 = (bf1 (sv0 x0 x1)) := by
  unfold w13; exact part1_v13 (sv0 x0 x1)
def w24 (x0 : Vec F S200x128 .f32) (x1 : Vec F S200x128 .i32) : IVec S200x128 32 := k0_pay5 x1
theorem w24_eq : w24 x0 x1 = (bf1 (si0 x0 x1)) := by
  unfold w24; exact part1_v24 (si0 x0 x1)
def w43 (x0 : Vec F S200x128 .f32) (x1 : Vec F S200x128 .i32) : IVec S200x128 1 := k0_pay6 x0 x1
theorem w43_eq : w43 x0 x1 = (xori (xori (xori (xori (cmpi .eq (andi lane (broadcast S200x128 (1#32))) (broadcast S200x128 (0#32))) (cmpi .eq (andi (shrsi lane (broadcast S200x128 (1#32))) (broadcast S200x128 (1#32))) (broadcast S200x128 (0#32)))) (constantI S200x128 1 1#1)) (ori (cmpf .olt (sv0 x0 x1) (bf1 (sv0 x0 x1))) (andi (cmpf .oeq (sv0 x0 x1) (bf1 (sv0 x0 x1))) (cmpi .slt (si0 x0 x1) (bf1 (si0 x0 x1)))))) (constantI S200x128 1 1#1)) := by
  unfold w43; exact part1_v43 (sv0 x0 x1) (si0 x0 x1)
def w87 (x0 : Vec F S200x128 .f32) (x1 : Vec F S200x128 .i32) : Vec F S200x128 .f32 := k0_pay12 x0 x1 lane (w13 x0 x1) (w24 x0 x1) (w43 x0 x1)
theorem w87_eq : w87 x0 x1 = sv2 x0 x1 := by
  unfold w87; rw [w13_eq, w24_eq, w43_eq]; exact part2_v87 (sv0 x0 x1) (si0 x0 x1)
def w88 (x0 : Vec F S200x128 .f32) (x1 : Vec F S200x128 .i32) : Vec F S200x128 .i32 := k0_pay13 x0 x1 lane (w13 x0 x1) (w24 x0 x1) (w43 x0 x1)
theorem w88_eq : w88 x0 x1 = si2 x0 x1 := by
  unfold w88; rw [w13_eq, w24_eq, w43_eq]; exact part2_v88 (sv0 x0 x1) (si0 x0 x1)
def w90 (x0 : Vec F S200x128 .f32) (x1 : Vec F S200x128 .i32) : IVec S200x128 32 := k0_pay14 lane
theorem w90_eq : w90 x0 x1 = (andi lane (broadcast S200x128 (1#32))) := by
  unfold w90; exact part2_v90
def w130 (x0 : Vec F S200x128 .f32) (x1 : Vec F S200x128 .i32) : Vec F S200x128 .f32 := k0_pay18 lane (w87 x0 x1) (w88 x0 x1) (w90 x0 x1) 0#32
theorem w130_eq : w130 x0 x1 = sv3 x0 x1 := by
  unfold w130; rw [w87_eq, w88_eq, w90_eq]; exact part3_v130 (sv2 x0 x1) (si2 x0 x1)
def w131 (x0 : Vec F S200x128 .f32) (x1 : Vec F S200x128 .i32) : Vec F S200x128 .i32 := k0_pay19 lane (w87 x0 x1) (w88 x0 x1) (w90 x0 x1) 0#32
theorem w131_eq : w131 x0 x1 = si3 x0 x1 := by
  unfold w131; rw [w87_eq, w88_eq, w90_eq]; exact part3_v131 (sv2 x0 x1) (si2 x0 x1)
def w135 (x0 : Vec F S200x128 .f32) (x1 : Vec F S200x128 .i32) : IVec S200x128 1 := k0_pay20 lane
theorem w135_eq : w135 x0 x1 = (cmpi .eq (andi lane (broadcast S200x128 (4#32))) (broadcast S200x128 (0#32))) := by
  unfold w135; exact part3_v135
def w138 (x0 : Vec F S200x128 .f32) (x1 : Vec F S200x128 .i32) : FVec F S200x128 .f32 := k0_pay21 lane (w87 x0 x1) (w88 x0 x1) (w90 x0 x1) 0#32
theorem w138_eq : w138 x0 x1 = (fwd4 (sv3 x0 x1)) := by
  unfold w138; rw [w87_eq, w88_eq, w90_eq]; exact part3_v138 (sv2 x0 x1) (si2 x0 x1)
def w139 (x0 : Vec F S200x128 .f32) (x1 : Vec F S200x128 .i32) : FVec F S200x4 .f32 := k0_pay22 lane (w87 x0 x1) (w88 x0 x1) (w90 x0 x1) 0#32
theorem w139_eq : w139 x0 x1 = (extractStridedSlice S200x4 ![0, 124] (sv3 x0 x1) slices_S200x128_o0_124_S200x4) := by
  unfold w139; rw [w87_eq, w88_eq, w90_eq]; exact part3_v139 (sv2 x0 x1) (si2 x0 x1)
def w173 (x0 : Vec F S200x128 .f32) (x1 : Vec F S200x128 .i32) : Vec F S200x128 .f32 := k0_pay26 lane (w130 x0 x1) (w131 x0 x1) (w135 x0 x1) (w138 x0 x1) (w139 x0 x1)
theorem w173_eq : w173 x0 x1 = sv4 x0 x1 := by
  unfold w173; rw [w130_eq, w131_eq, w135_eq, w138_eq, w139_eq]; exact part4_v173 (sv3 x0 x1) (si3 x0 x1)
def w174 (x0 : Vec F S200x128 .f32) (x1 : Vec F S200x128 .i32) : Vec F S200x128 .i32 := k0_pay27 lane (w130 x0 x1) (w131 x0 x1) (w135 x0 x1) (w138 x0 x1) (w139 x0 x1)
theorem w174_eq : w174 x0 x1 = si4 x0 x1 := by
  unfold w174; rw [w130_eq, w131_eq, w135_eq, w138_eq, w139_eq]; exact part4_v174 (sv3 x0 x1) (si3 x0 x1)
def w185 (x0 : Vec F S200x128 .f32) (x1 : Vec F S200x128 .i32) : FVec F S200x128 .f32 := k0_pay28 lane (w130 x0 x1) (w131 x0 x1) (w135 x0 x1) (w138 x0 x1) (w139 x0 x1)
theorem w185_eq : w185 x0 x1 = (bf2 (sv4 x0 x1)) := by
  unfold w185; rw [w130_eq, w131_eq, w135_eq, w138_eq, w139_eq]; exact part4_v185 (sv3 x0 x1) (si3 x0 x1)
def w187 (x0 : Vec F S200x128 .f32) (x1 : Vec F S200x128 .i32) : IVec S200x128 32 := k0_pay29 lane
theorem w187_eq : w187 x0 x1 = (andi lane (broadcast S200x128 (2#32))) := by
  unfold w187; exact part4_v187
def w216 (x0 : Vec F S200x128 .f32) (x1 : Vec F S200x128 .i32) : Vec F S200x128 .f32 := k0_pay32 lane (w173 x0 x1) (w174 x0 x1) (w185 x0 x1) (w187 x0 x1)
theorem w216_eq : w216 x0 x1 = sv5 x0 x1 := by
  unfold w216; rw [w173_eq, w174_eq, w185_eq, w187_eq]; exact part5_v216 (sv4 x0 x1) (si4 x0 x1)
def w217 (x0 : Vec F S200x128 .f32) (x1 : Vec F S200x128 .i32) : Vec F S200x128 .i32 := k0_pay33 lane (w173 x0 x1) (w174 x0 x1) (w185 x0 x1) (w187 x0 x1)
theorem w217_eq : w217 x0 x1 = si5 x0 x1 := by
  unfold w217; rw [w173_eq, w174_eq, w185_eq, w187_eq]; exact part5_v217 (sv4 x0 x1) (si4 x0 x1)
def w228 (x0 : Vec F S200x128 .f32) (x1 : Vec F S200x128 .i32) : FVec F S200x128 .f32 := k0_pay34 lane (w173 x0 x1) (w174 x0 x1) (w185 x0 x1) (w187 x0 x1)
theorem w228_eq : w228 x0 x1 = (bf1 (sv5 x0 x1)) := by
  unfold w228; rw [w173_eq, w174_eq, w185_eq, w187_eq]; exact part5_v228 (sv4 x0 x1) (si4 x0 x1)
def w232 (x0 : Vec F S200x128 .f32) (x1 : Vec F S200x128 .i32) : IVec S200x128 1 := k0_pay35 lane
theorem w232_eq : w232 x0 x1 = (cmpi .eq (andi lane (broadcast S200x128 (1#32))) (broadcast S200x128 (0#32))) := by
  unfold w232; exact part5_v232
def w235 (x0 : Vec F S200x128 .f32) (x1 : Vec F S200x128 .i32) : IVec S200x128 32 := k0_pay36 lane (w173 x0 x1) (w174 x0 x1) (w185 x0 x1) (w187 x0 x1)
theorem w235_eq : w235 x0 x1 = (fwd1 (si5 x0 x1)) := by
  unfold w235; rw [w173_eq, w174_eq, w185_eq, w187_eq]; exact part5_v235 (sv4 x0 x1) (si4 x0 x1)
def w259 (x0 : Vec F S200x128 .f32) (x1 : Vec F S200x128 .i32) : Vec F S200x128 .f32 := k0_pay39 lane (w216 x0 x1) (w217 x0 x1) (w228 x0 x1) (w232 x0 x1) (w235 x0 x1)
theorem w259_eq : w259 x0 x1 = sv6 x0 x1 := by
  unfold w259; rw [w216_eq, w217_eq, w228_eq, w232_eq, w235_eq]; exact part6_v259 (sv5 x0 x1) (si5 x0 x1)
def w260 (x0 : Vec F S200x128 .f32) (x1 : Vec F S200x128 .i32) : Vec F S200x128 .i32 := k0_pay40 lane (w216 x0 x1) (w217 x0 x1) (w228 x0 x1) (w232 x0 x1) (w235 x0 x1)
theorem w260_eq : w260 x0 x1 = si6 x0 x1 := by
  unfold w260; rw [w216_eq, w217_eq, w228_eq, w232_eq, w235_eq]; exact part6_v260 (sv5 x0 x1) (si5 x0 x1)
def w271 (x0 : Vec F S200x128 .f32) (x1 : Vec F S200x128 .i32) : FVec F S200x128 .f32 := k0_pay41 lane (w216 x0 x1) (w217 x0 x1) (w228 x0 x1) (w232 x0 x1) (w235 x0 x1)
theorem w271_eq : w271 x0 x1 = (bf8 (sv6 x0 x1)) := by
  unfold w271; rw [w216_eq, w217_eq, w228_eq, w232_eq, w235_eq]; exact part6_v271 (sv5 x0 x1) (si5 x0 x1)
def w282 (x0 : Vec F S200x128 .f32) (x1 : Vec F S200x128 .i32) : IVec S200x128 32 := k0_pay42 lane (w216 x0 x1) (w217 x0 x1) (w228 x0 x1) (w232 x0 x1) (w235 x0 x1)
theorem w282_eq : w282 x0 x1 = (bf8 (si6 x0 x1)) := by
  unfold w282; rw [w216_eq, w217_eq, w228_eq, w232_eq, w235_eq]; exact part6_v282 (sv5 x0 x1) (si5 x0 x1)
def w283 (x0 : Vec F S200x128 .f32) (x1 : Vec F S200x128 .i32) : IVec S200x128 32 := k0_pay43
theorem w283_eq : w283 x0 x1 = (broadcast S200x128 (4#32)) := by
  unfold w283; exact part6_v283
def w302 (x0 : Vec F S200x128 .f32) (x1 : Vec F S200x128 .i32) : Vec F S200x128 .f32 := k0_pay45 lane (w259 x0 x1) (w260 x0 x1) (w271 x0 x1) (w282 x0 x1) (w283 x0 x1)
theorem w302_eq : w302 x0 x1 = sv7 x0 x1 := by
  unfold w302; rw [w259_eq, w260_eq, w271_eq, w282_eq, w283_eq]; exact part7_v302 (sv6 x0 x1) (si6 x0 x1)
def w303 (x0 : Vec F S200x128 .f32) (x1 : Vec F S200x128 .i32) : Vec F S200x128 .i32 := k0_pay46 lane (w259 x0 x1) (w260 x0 x1) (w271 x0 x1) (w282 x0 x1) (w283 x0 x1)
theorem w303_eq : w303 x0 x1 = si7 x0 x1 := by
  unfold w303; rw [w259_eq, w260_eq, w271_eq, w282_eq, w283_eq]; exact part7_v303 (sv6 x0 x1) (si6 x0 x1)
def w314 (x0 : Vec F S200x128 .f32) (x1 : Vec F S200x128 .i32) : FVec F S200x128 .f32 := k0_pay47 lane (w259 x0 x1) (w260 x0 x1) (w271 x0 x1) (w282 x0 x1) (w283 x0 x1)
theorem w314_eq : w314 x0 x1 = (bf4 (sv7 x0 x1)) := by
  unfold w314; rw [w259_eq, w260_eq, w271_eq, w282_eq, w283_eq]; exact part7_v314 (sv6 x0 x1) (si6 x0 x1)
def w325 (x0 : Vec F S200x128 .f32) (x1 : Vec F S200x128 .i32) : IVec S200x128 32 := k0_pay48 lane (w259 x0 x1) (w260 x0 x1) (w271 x0 x1) (w282 x0 x1) (w283 x0 x1)
theorem w325_eq : w325 x0 x1 = (bf4 (si7 x0 x1)) := by
  unfold w325; rw [w259_eq, w260_eq, w271_eq, w282_eq, w283_eq]; exact part7_v325 (sv6 x0 x1) (si6 x0 x1)
def w329 (x0 : Vec F S200x128 .f32) (x1 : Vec F S200x128 .i32) : IVec S200x128 32 := k0_pay49 lane
theorem w329_eq : w329 x0 x1 = (andi (shrsi lane (broadcast S200x128 (4#32))) (broadcast S200x128 (1#32))) := by
  unfold w329; exact part7_v329
def w330 (x0 : Vec F S200x128 .f32) (x1 : Vec F S200x128 .i32) : IVec S200x128 32 := k0_pay50
theorem w330_eq : w330 x0 x1 = (broadcast S200x128 (0#32)) := by
  unfold w330; exact part7_v330
def w345 (x0 : Vec F S200x128 .f32) (x1 : Vec F S200x128 .i32) : Vec F S200x128 .f32 := k0_pay52 lane (w302 x0 x1) (w303 x0 x1) (w314 x0 x1) (w325 x0 x1) (w329 x0 x1) (w330 x0 x1)
theorem w345_eq : w345 x0 x1 = sv8 x0 x1 := by
  unfold w345; rw [w302_eq, w303_eq, w314_eq, w325_eq, w329_eq, w330_eq]; exact part8_v345 (sv7 x0 x1) (si7 x0 x1)
def w346 (x0 : Vec F S200x128 .f32) (x1 : Vec F S200x128 .i32) : Vec F S200x128 .i32 := k0_pay53 lane (w302 x0 x1) (w303 x0 x1) (w314 x0 x1) (w325 x0 x1) (w329 x0 x1) (w330 x0 x1)
theorem w346_eq : w346 x0 x1 = si8 x0 x1 := by
  unfold w346; rw [w302_eq, w303_eq, w314_eq, w325_eq, w329_eq, w330_eq]; exact part8_v346 (sv7 x0 x1) (si7 x0 x1)
def w357 (x0 : Vec F S200x128 .f32) (x1 : Vec F S200x128 .i32) : FVec F S200x128 .f32 := k0_pay54 lane (w302 x0 x1) (w303 x0 x1) (w314 x0 x1) (w325 x0 x1) (w329 x0 x1) (w330 x0 x1)
theorem w357_eq : w357 x0 x1 = (bf2 (sv8 x0 x1)) := by
  unfold w357; rw [w302_eq, w303_eq, w314_eq, w325_eq, w329_eq, w330_eq]; exact part8_v357 (sv7 x0 x1) (si7 x0 x1)
def w368 (x0 : Vec F S200x128 .f32) (x1 : Vec F S200x128 .i32) : IVec S200x128 32 := k0_pay55 lane (w302 x0 x1) (w303 x0 x1) (w314 x0 x1) (w325 x0 x1) (w329 x0 x1) (w330 x0 x1)
theorem w368_eq : w368 x0 x1 = (bf2 (si8 x0 x1)) := by
  unfold w368; rw [w302_eq, w303_eq, w314_eq, w325_eq, w329_eq, w330_eq]; exact part8_v368 (sv7 x0 x1) (si7 x0 x1)
def w374 (x0 : Vec F S200x128 .f32) (x1 : Vec F S200x128 .i32) : IVec S200x128 1 := k0_pay56 lane
theorem w374_eq : w374 x0 x1 = (cmpi .eq (andi (shrsi lane (broadcast S200x128 (4#32))) (broadcast S200x128 (1#32))) (broadcast S200x128 (0#32))) := by
  unfold w374; exact part8_v374
def w376 (x0 : Vec F S200x128 .f32) (x1 : Vec F S200x128 .i32) : IVec S200x128 32 := k0_pay57 lane
theorem w376_eq : w376 x0 x1 = (andi lane (broadcast S200x128 (2#32))) := by
  unfold w376; exact part8_v376
def w377 (x0 : Vec F S200x128 .f32) (x1 : Vec F S200x128 .i32) : IVec S200x128 32 := k0_pay58
theorem w377_eq : w377 x0 x1 = (broadcast S200x128 (0#32)) := by
  unfold w377; exact part8_v377
def w388 (x0 : Vec F S200x128 .f32) (x1 : Vec F S200x128 .i32) : Vec F S200x128 .f32 := k0_pay60 (w345 x0 x1) (w346 x0 x1) (w357 x0 x1) (w368 x0 x1) (w374 x0 x1) (w376 x0 x1) (w377 x0 x1)
theorem w388_eq : w388 x0 x1 = sv9 x0 x1 := by
  unfold w388; rw [w345_eq, w346_eq, w357_eq, w368_eq, w374_eq, w376_eq, w377_eq]; exact part9_v388 (sv8 x0 x1) (si8 x0 x1)
def w389 (x0 : Vec F S200x128 .f32) (x1 : Vec F S200x128 .i32) : Vec F S200x128 .i32 := k0_pay61 (w345 x0 x1) (w346 x0 x1) (w357 x0 x1) (w368 x0 x1) (w374 x0 x1) (w376 x0 x1) (w377 x0 x1)
theorem w389_eq : w389 x0 x1 = si9 x0 x1 := by
  unfold w389; rw [w345_eq, w346_eq, w357_eq, w368_eq, w374_eq, w376_eq, w377_eq]; exact part9_v389 (sv8 x0 x1) (si8 x0 x1)
def w400 (x0 : Vec F S200x128 .f32) (x1 : Vec F S200x128 .i32) : FVec F S200x128 .f32 := k0_pay62 lane (w345 x0 x1) (w346 x0 x1) (w357 x0 x1) (w368 x0 x1) (w374 x0 x1) (w376 x0 x1) (w377 x0 x1)
theorem w400_eq : w400 x0 x1 = (bf1 (sv9 x0 x1)) := by
  unfold w400; rw [w345_eq, w346_eq, w357_eq, w368_eq, w374_eq, w376_eq, w377_eq]; exact part9_v400 (sv8 x0 x1) (si8 x0 x1)
def w411 (x0 : Vec F S200x128 .f32) (x1 : Vec F S200x128 .i32) : IVec S200x128 32 := k0_pay63 lane (w345 x0 x1) (w346 x0 x1) (w357 x0 x1) (w368 x0 x1) (w374 x0 x1) (w376 x0 x1) (w377 x0 x1)
theorem w411_eq : w411 x0 x1 = (bf1 (si9 x0 x1)) := by
  unfold w411; rw [w345_eq, w346_eq, w357_eq, w368_eq, w374_eq, w376_eq, w377_eq]; exact part9_v411 (sv8 x0 x1) (si8 x0 x1)
def w423 (x0 : Vec F S200x128 .f32) (x1 : Vec F S200x128 .i32) : IVec S200x128 1 := k0_pay64 lane
theorem w423_eq : w423 x0 x1 = (xori (xori (cmpi .eq (andi lane (broadcast S200x128 (1#32))) (broadcast S200x128 (0#32))) (cmpi .eq (andi (shrsi lane (broadcast S200x128 (4#32))) (broadcast S200x128 (1#32))) (broadcast S200x128 (0#32)))) (constantI S200x128 1 1#1)) := by
  unfold w423; exact part9_v423
def w424 (x0 : Vec F S200x128 .f32) (x1 : Vec F S200x128 .i32) : IVec S200x128 1 := k0_pay65 lane (w345 x0 x1) (w346 x0 x1) (w357 x0 x1) (w368 x0 x1) (w374 x0 x1) (w376 x0 x1) (w377 x0 x1)
theorem w424_eq : w424 x0 x1 = (cmpf .olt (sv9 x0 x1) (bf1 (sv9 x0 x1))) := by
  unfold w424; rw [w345_eq, w346_eq, w357_eq, w368_eq, w374_eq, w376_eq, w377_eq]; exact part9_v424 (sv8 x0 x1) (si8 x0 x1)
def w425 (x0 : Vec F S200x128 .f32) (x1 : Vec F S200x128 .i32) : IVec S200x128 1 := k0_pay66 lane (w345 x0 x1) (w346 x0 x1) (w357 x0 x1) (w368 x0 x1) (w374 x0 x1) (w376 x0 x1) (w377 x0 x1)
theorem w425_eq : w425 x0 x1 = (cmpf .oeq (sv9 x0 x1) (bf1 (sv9 x0 x1))) := by
  unfold w425; rw [w345_eq, w346_eq, w357_eq, w368_eq, w374_eq, w376_eq, w377_eq]; exact part9_v425 (sv8 x0 x1) (si8 x0 x1)
def w431 (x0 : Vec F S200x128 .f32) (x1 : Vec F S200x128 .i32) : Vec F S200x128 .f32 := k0_pay68 (w388 x0 x1) (w389 x0 x1) (w400 x0 x1) (w411 x0 x1) (w423 x0 x1) (w424 x0 x1) (w425 x0 x1)
theorem w431_eq : w431 x0 x1 = sv10 x0 x1 := by
  unfold w431; rw [w388_eq, w389_eq, w400_eq, w411_eq, w423_eq, w424_eq, w425_eq]; exact part10_v431 (sv9 x0 x1) (si9 x0 x1)
def w432 (x0 : Vec F S200x128 .f32) (x1 : Vec F S200x128 .i32) : Vec F S200x128 .i32 := k0_pay69 (w389 x0 x1) (w411 x0 x1) (w423 x0 x1) (w424 x0 x1) (w425 x0 x1)
theorem w432_eq : w432 x0 x1 = si10 x0 x1 := by
  unfold w432; rw [w389_eq, w411_eq, w423_eq, w424_eq, w425_eq]; exact part10_v432 (sv9 x0 x1) (si9 x0 x1)
def w443 (x0 : Vec F S200x128 .f32) (x1 : Vec F S200x128 .i32) : FVec F S200x128 .f32 := k0_pay70 lane (w388 x0 x1) (w389 x0 x1) (w400 x0 x1) (w411 x0 x1) (w423 x0 x1) (w424 x0 x1) (w425 x0 x1)
theorem w443_eq : w443 x0 x1 = (bf16 (sv10 x0 x1)) := by
  unfold w443; rw [w388_eq, w389_eq, w400_eq, w411_eq, w423_eq, w424_eq, w425_eq]; exact part10_v443 (sv9 x0 x1) (si9 x0 x1)
def w454 (x0 : Vec F S200x128 .f32) (x1 : Vec F S200x128 .i32) : IVec S200x128 32 := k0_pay71 lane (w389 x0 x1) (w411 x0 x1) (w423 x0 x1) (w424 x0 x1) (w425 x0 x1)
theorem w454_eq : w454 x0 x1 = (bf16 (si10 x0 x1)) := by
  unfold w454; rw [w389_eq, w411_eq, w423_eq, w424_eq, w425_eq]; exact part10_v454 (sv9 x0 x1) (si9 x0 x1)
def w473 (x0 : Vec F S200x128 .f32) (x1 : Vec F S200x128 .i32) : IVec S200x128 1 := k0_pay72 lane (w388 x0 x1) (w389 x0 x1) (w400 x0 x1) (w411 x0 x1) (w423 x0 x1) (w424 x0 x1) (w425 x0 x1)
theorem w473_eq : w473 x0 x1 = (xori (xori (xori (xori (cmpi .eq (andi lane (broadcast S200x128 (16#32))) (broadcast S200x128 (0#32))) (cmpi .eq (andi (shrsi lane (broadcast S200x128 (5#32))) (broadcast S200x128 (1#32))) (broadcast S200x128 (0#32)))) (constantI S200x128 1 1#1)) (ori (cmpf .olt (sv10 x0 x1) (bf16 (sv10 x0 x1))) (andi (cmpf .oeq (sv10 x0 x1) (bf16 (sv10 x0 x1))) (cmpi .slt (si10 x0 x1) (bf16 (si10 x0 x1)))))) (constantI S200x128 1 1#1)) := by
  unfold w473; rw [w388_eq, w389_eq, w400_eq, w411_eq, w423_eq, w424_eq, w425_eq]; exact part10_v473 (sv9 x0 x1) (si9 x0 x1)
def w517 (x0 : Vec F S200x128 .f32) (x1 : Vec F S200x128 .i32) : Vec F S200x128 .f32 := k0_pay78 lane (w431 x0 x1) (w432 x0 x1) (w443 x0 x1) (w454 x0 x1) (w473 x0 x1)
theorem w517_eq : w517 x0 x1 = sv12 x0 x1 := by
  unfold w517; rw [w431_eq, w432_eq, w443_eq, w454_eq, w473_eq]; exact part11_v517 (sv10 x0 x1) (si10 x0 x1)
def w518 (x0 : Vec F S200x128 .f32) (x1 : Vec F S200x128 .i32) : Vec F S200x128 .i32 := k0_pay79 lane (w431 x0 x1) (w432 x0 x1) (w443 x0 x1) (w454 x0 x1) (w473 x0 x1)
theorem w518_eq : w518 x0 x1 = si12 x0 x1 := by
  unfold w518; rw [w431_eq, w432_eq, w443_eq, w454_eq, w473_eq]; exact part11_v518 (sv10 x0 x1) (si10 x0 x1)
def w520 (x0 : Vec F S200x128 .f32) (x1 : Vec F S200x128 .i32) : IVec S200x128 32 := k0_pay80 lane
theorem w520_eq : w520 x0 x1 = (andi lane (broadcast S200x128 (4#32))) := by
  unfold w520; exact part11_v520
def w560 (x0 : Vec F S200x128 .f32) (x1 : Vec F S200x128 .i32) : Vec F S200x128 .f32 := k0_pay84 lane (w517 x0 x1) (w518 x0 x1) (w520 x0 x1) 0#32
theorem w560_eq : w560 x0 x1 = sv13 x0 x1 := by
  unfold w560; rw [w517_eq, w518_eq, w520_eq]; exact part12_v560 (sv12 x0 x1) (si12 x0 x1)
def w561 (x0 : Vec F S200x128 .f32) (x1 : Vec F S200x128 .i32) : Vec F S200x128 .i32 := k0_pay85 lane (w517 x0 x1) (w518 x0 x1) (w520 x0 x1) 0#32
theorem w561_eq : w561 x0 x1 = si13 x0 x1 := by
  unfold w561; rw [w517_eq, w518_eq, w520_eq]; exact part12_v561 (sv12 x0 x1) (si12 x0 x1)
def w565 (x0 : Vec F S200x128 .f32) (x1 : Vec F S200x128 .i32) : IVec S200x128 1 := k0_pay86 lane
theorem w565_eq : w565 x0 x1 = (cmpi .eq (andi lane (broadcast S200x128 (2#32))) (broadcast S200x128 (0#32))) := by
  unfold w565; exact part12_v565
def w568 (x0 : Vec F S200x128 .f32) (x1 : Vec F S200x128 .i32) : FVec F S200x128 .f32 := k0_pay87 lane (w517 x0 x1) (w518 x0 x1) (w520 x0 x1) 0#32
theorem w568_eq : w568 x0 x1 = (fwd2 (sv13 x0 x1)) := by
  unfold w568; rw [w517_eq, w518_eq, w520_eq]; exact part12_v568 (sv12 x0 x1) (si12 x0 x1)
def w569 (x0 : Vec F S200x128 .f32) (x1 : Vec F S200x128 .i32) : FVec F S200x2 .f32 := k0_pay88 lane (w517 x0 x1) (w518 x0 x1) (w520 x0 x1) 0#32
theorem w569_eq : w569 x0 x1 = (extractStridedSlice S200x2 ![0, 126] (sv13 x0 x1) slices_S200x128_o0_126_S200x2) := by
  unfold w569; rw [w517_eq, w518_eq, w520_eq]; exact part12_v569 (sv12 x0 x1) (si12 x0 x1)
def w603 (x0 : Vec F S200x128 .f32) (x1 : Vec F S200x128 .i32) : Vec F S200x128 .f32 := k0_pay92 lane (w560 x0 x1) (w561 x0 x1) (w565 x0 x1) (w568 x0 x1) (w569 x0 x1)
theorem w603_eq : w603 x0 x1 = sv14 x0 x1 := by
  unfold w603; rw [w560_eq, w561_eq, w565_eq, w568_eq, w569_eq]; exact part13_v603 (sv13 x0 x1) (si13 x0 x1)
def w604 (x0 : Vec F S200x128 .f32) (x1 : Vec F S200x128 .i32) : Vec F S200x128 .i32 := k0_pay93 lane (w560 x0 x1) (w561 x0 x1) (w565 x0 x1) (w568 x0 x1) (w569 x0 x1)
theorem w604_eq : w604 x0 x1 = si14 x0 x1 := by
  unfold w604; rw [w560_eq, w561_eq, w565_eq, w568_eq, w569_eq]; exact part13_v604 (sv13 x0 x1) (si13 x0 x1)
def w615 (x0 : Vec F S200x128 .f32) (x1 : Vec F S200x128 .i32) : FVec F S200x128 .f32 := k0_pay94 lane (w560 x0 x1) (w561 x0 x1) (w565 x0 x1) (w568 x0 x1) (w569 x0 x1)
theorem w615_eq : w615 x0 x1 = (bf1 (sv14 x0 x1)) := by
  unfold w615; rw [w560_eq, w561_eq, w565_eq, w568_eq, w569_eq]; exact part13_v615 (sv13 x0 x1) (si13 x0 x1)
def w617 (x0 : Vec F S200x128 .f32) (x1 : Vec F S200x128 .i32) : IVec S200x128 32 := k0_pay95 lane
theorem w617_eq : w617 x0 x1 = (andi lane (broadcast S200x128 (1#32))) := by
  unfold w617; exact part13_v617
def w646 (x0 : Vec F S200x128 .f32) (x1 : Vec F S200x128 .i32) : Vec F S200x128 .f32 := k0_pay98 lane (w603 x0 x1) (w604 x0 x1) (w615 x0 x1) (w617 x0 x1)
theorem w646_eq : w646 x0 x1 = sv15 x0 x1 := by
  unfold w646; rw [w603_eq, w604_eq, w615_eq, w617_eq]; exact part14_v646 (sv14 x0 x1) (si14 x0 x1)
def w647 (x0 : Vec F S200x128 .f32) (x1 : Vec F S200x128 .i32) : Vec F S200x128 .i32 := k0_pay99 lane (w603 x0 x1) (w604 x0 x1) (w615 x0 x1) (w617 x0 x1)
theorem w647_eq : w647 x0 x1 = si15 x0 x1 := by
  unfold w647; rw [w603_eq, w604_eq, w615_eq, w617_eq]; exact part14_v647 (sv14 x0 x1) (si14 x0 x1)
def w658 (x0 : Vec F S200x128 .f32) (x1 : Vec F S200x128 .i32) : FVec F S200x128 .f32 := k0_pay100 lane (w603 x0 x1) (w604 x0 x1) (w615 x0 x1) (w617 x0 x1)
theorem w658_eq : w658 x0 x1 = (bf32 (sv15 x0 x1)) := by
  unfold w658; rw [w603_eq, w604_eq, w615_eq, w617_eq]; exact part14_v658 (sv14 x0 x1) (si14 x0 x1)
def w662 (x0 : Vec F S200x128 .f32) (x1 : Vec F S200x128 .i32) : IVec S200x128 1 := k0_pay101 lane
theorem w662_eq : w662 x0 x1 = (cmpi .eq (andi lane (broadcast S200x128 (32#32))) (broadcast S200x128 (0#32))) := by
  unfold w662; exact part14_v662
def w665 (x0 : Vec F S200x128 .f32) (x1 : Vec F S200x128 .i32) : IVec S200x128 32 := k0_pay102 lane (w603 x0 x1) (w604 x0 x1) (w615 x0 x1) (w617 x0 x1)
theorem w665_eq : w665 x0 x1 = (fwd32 (si15 x0 x1)) := by
  unfold w665; rw [w603_eq, w604_eq, w615_eq, w617_eq]; exact part14_v665 (sv14 x0 x1) (si14 x0 x1)
def w689 (x0 : Vec F S200x128 .f32) (x1 : Vec F S200x128 .i32) : Vec F S200x128 .f32 := k0_pay105 lane (w646 x0 x1) (w647 x0 x1) (w658 x0 x1) (w662 x0 x1) (w665 x0 x1)
theorem w689_eq : w689 x0 x1 = sv16 x0 x1 := by
  unfold w689; rw [w646_eq, w647_eq, w658_eq, w662_eq, w665_eq]; exact part15_v689 (sv15 x0 x1) (si15 x0 x1)
def w690 (x0 : Vec F S200x128 .f32) (x1 : Vec F S200x128 .i32) : Vec F S200x128 .i32 := k0_pay106 lane (w646 x0 x1) (w647 x0 x1) (w658 x0 x1) (w662 x0 x1) (w665 x0 x1)
theorem w690_eq : w690 x0 x1 = si16 x0 x1 := by
  unfold w690; rw [w646_eq, w647_eq, w658_eq, w662_eq, w665_eq]; exact part15_v690 (sv15 x0 x1) (si15 x0 x1)
def w701 (x0 : Vec F S200x128 .f32) (x1 : Vec F S200x128 .i32) : FVec F S200x128 .f32 := k0_pay107 lane (w646 x0 x1) (w647 x0 x1) (w658 x0 x1) (w662 x0 x1) (w665 x0 x1)
theorem w701_eq : w701 x0 x1 = (bf16 (sv16 x0 x1)) := by
  unfold w701; rw [w646_eq, w647_eq, w658_eq, w662_eq, w665_eq]; exact part15_v701 (sv15 x0 x1) (si15 x0 x1)
def w712 (x0 : Vec F S200x128 .f32) (x1 : Vec F S200x128 .i32) : IVec S200x128 32 := k0_pay108 lane (w646 x0 x1) (w647 x0 x1) (w658 x0 x1) (w662 x0 x1) (w665 x0 x1)
theorem w712_eq : w712 x0 x1 = (bf16 (si16 x0 x1)) := by
  unfold w712; rw [w646_eq, w647_eq, w658_eq, w662_eq, w665_eq]; exact part15_v712 (sv15 x0 x1) (si15 x0 x1)
def w713 (x0 : Vec F S200x128 .f32) (x1 : Vec F S200x128 .i32) : IVec S200x128 32 := k0_pay109
theorem w713_eq : w713 x0 x1 = (broadcast S200x128 (6#32)) := by
  unfold w713; exact part15_v713
def w732 (x0 : Vec F S200x128 .f32) (x1 : Vec F S200x128 .i32) : Vec F S200x128 .f32 := k0_pay111 lane (w689 x0 x1) (w690 x0 x1) (w701 x0 x1) (w712 x0 x1) (w713 x0 x1)
theorem w732_eq : w732 x0 x1 = sv17 x0 x1 := by
  unfold w732; rw [w689_eq, w690_eq, w701_eq, w712_eq, w713_eq]; exact part16_v732 (sv16 x0 x1) (si16 x0 x1)
def w733 (x0 : Vec F S200x128 .f32) (x1 : Vec F S200x128 .i32) : Vec F S200x128 .i32 := k0_pay112 lane (w689 x0 x1) (w690 x0 x1) (w701 x0 x1) (w712 x0 x1) (w713 x0 x1)
theorem w733_eq : w733 x0 x1 = si17 x0 x1 := by
  unfold w733; rw [w689_eq, w690_eq, w701_eq, w712_eq, w713_eq]; exact part16_v733 (sv16 x0 x1) (si16 x0 x1)
def w744 (x0 : Vec F S200x128 .f32) (x1 : Vec F S200x128 .i32) : FVec F S200x128 .f32 := k0_pay113 lane (w689 x0 x1) (w690 x0 x1) (w701 x0 x1) (w712 x0 x1) (w713 x0 x1)
theorem w744_eq : w744 x0 x1 = (bf8 (sv17 x0 x1)) := by
  unfold w744; rw [w689_eq, w690_eq, w701_eq, w712_eq, w713_eq]; exact part16_v744 (sv16 x0 x1) (si16 x0 x1)
def w755 (x0 : Vec F S200x128 .f32) (x1 : Vec F S200x128 .i32) : IVec S200x128 32 := k0_pay114 lane (w689 x0 x1) (w690 x0 x1) (w701 x0 x1) (w712 x0 x1) (w713 x0 x1)
theorem w755_eq : w755 x0 x1 = (bf8 (si17 x0 x1)) := by
  unfold w755; rw [w689_eq, w690_eq, w701_eq, w712_eq, w713_eq]; exact part16_v755 (sv16 x0 x1) (si16 x0 x1)
def w759 (x0 : Vec F S200x128 .f32) (x1 : Vec F S200x128 .i32) : IVec S200x128 32 := k0_pay115 lane
theorem w759_eq : w759 x0 x1 = (andi (shrsi lane (broadcast S200x128 (6#32))) (broadcast S200x128 (1#32))) := by
  unfold w759; exact part16_v759
def w760 (x0 : Vec F S200x128 .f32) (x1 : Vec F S200x128 .i32) : IVec S200x128 32 := k0_pay116
theorem w760_eq : w760 x0 x1 = (broadcast S200x128 (0#32)) := by
  unfold w760; exact part16_v760
def w775 (x0 : Vec F S200x128 .f32) (x1 : Vec F S200x128 .i32) : Vec F S200x128 .f32 := k0_pay118 lane (w732 x0 x1) (w733 x0 x1) (w744 x0 x1) (w755 x0 x1) (w759 x0 x1) (w760 x0 x1)
theorem w775_eq : w775 x0 x1 = sv18 x0 x1 := by
  unfold w775; rw [w732_eq, w733_eq, w744_eq, w755_eq, w759_eq, w760_eq]; exact part17_v775 (sv17 x0 x1) (si17 x0 x1)
def w776 (x0 : Vec F S200x128 .f32) (x1 : Vec F S200x128 .i32) : Vec F S200x128 .i32 := k0_pay119 lane (w732 x0 x1) (w733 x0 x1) (w744 x0 x1) (w755 x0 x1) (w759 x0 x1) (w760 x0 x1)
theorem w776_eq : w776 x0 x1 = si18 x0 x1 := by
  unfold w776; rw [w732_eq, w733_eq, w744_eq, w755_eq, w759_eq, w760_eq]; exact part17_v776 (sv17 x0 x1) (si17 x0 x1)
def w787 (x0 : Vec F S200x128 .f32) (x1 : Vec F S200x128 .i32) : FVec F S200x128 .f32 := k0_pay120 lane (w732 x0 x1) (w733 x0 x1) (w744 x0 x1) (w755 x0 x1) (w759 x0 x1) (w760 x0 x1)
theorem w787_eq : w787 x0 x1 = (bf4 (sv18 x0 x1)) := by
  unfold w787; rw [w732_eq, w733_eq, w744_eq, w755_eq, w759_eq, w760_eq]; exact part17_v787 (sv17 x0 x1) (si17 x0 x1)
def w798 (x0 : Vec F S200x128 .f32) (x1 : Vec F S200x128 .i32) : IVec S200x128 32 := k0_pay121 lane (w732 x0 x1) (w733 x0 x1) (w744 x0 x1) (w755 x0 x1) (w759 x0 x1) (w760 x0 x1)
theorem w798_eq : w798 x0 x1 = (bf4 (si18 x0 x1)) := by
  unfold w798; rw [w732_eq, w733_eq, w744_eq, w755_eq, w759_eq, w760_eq]; exact part17_v798 (sv17 x0 x1) (si17 x0 x1)
def w804 (x0 : Vec F S200x128 .f32) (x1 : Vec F S200x128 .i32) : IVec S200x128 1 := k0_pay122 lane
theorem w804_eq : w804 x0 x1 = (cmpi .eq (andi (shrsi lane (broadcast S200x128 (6#32))) (broadcast S200x128 (1#32))) (broadcast S200x128 (0#32))) := by
  unfold w804; exact part17_v804
def w806 (x0 : Vec F S200x128 .f32) (x1 : Vec F S200x128 .i32) : IVec S200x128 32 := k0_pay123 lane
theorem w806_eq : w806 x0 x1 = (andi lane (broadcast S200x128 (4#32))) := by
  unfold w806; exact part17_v806
def w807 (x0 : Vec F S200x128 .f32) (x1 : Vec F S200x128 .i32) : IVec S200x128 32 := k0_pay124
theorem w807_eq : w807 x0 x1 = (broadcast S200x128 (0#32)) := by
  unfold w807; exact part17_v807
def w818 (x0 : Vec F S200x128 .f32) (x1 : Vec F S200x128 .i32) : Vec F S200x128 .f32 := k0_pay126 (w775 x0 x1) (w776 x0 x1) (w787 x0 x1) (w798 x0 x1) (w804 x0 x1) (w806 x0 x1) (w807 x0 x1)
theorem w818_eq : w818 x0 x1 = sv19 x0 x1 := by
  unfold w818; rw [w775_eq, w776_eq, w787_eq, w798_eq, w804_eq, w806_eq, w807_eq]; exact part18_v818 (sv18 x0 x1) (si18 x0 x1)
def w819 (x0 : Vec F S200x128 .f32) (x1 : Vec F S200x128 .i32) : Vec F S200x128 .i32 := k0_pay127 (w775 x0 x1) (w776 x0 x1) (w787 x0 x1) (w798 x0 x1) (w804 x0 x1) (w806 x0 x1) (w807 x0 x1)
theorem w819_eq : w819 x0 x1 = si19 x0 x1 := by
  unfold w819; rw [w775_eq, w776_eq, w787_eq, w798_eq, w804_eq, w806_eq, w807_eq]; exact part18_v819 (sv18 x0 x1) (si18 x0 x1)
def w830 (x0 : Vec F S200x128 .f32) (x1 : Vec F S200x128 .i32) : FVec F S200x128 .f32 := k0_pay128 lane (w775 x0 x1) (w776 x0 x1) (w787 x0 x1) (w798 x0 x1) (w804 x0 x1) (w806 x0 x1) (w807 x0 x1)
theorem w830_eq : w830 x0 x1 = (bf2 (sv19 x0 x1)) := by
  unfold w830; rw [w775_eq, w776_eq, w787_eq, w798_eq, w804_eq, w806_eq, w807_eq]; exact part18_v830 (sv18 x0 x1) (si18 x0 x1)
def w841 (x0 : Vec F S200x128 .f32) (x1 : Vec F S200x128 .i32) : IVec S200x128 32 := k0_pay129 lane (w775 x0 x1) (w776 x0 x1) (w787 x0 x1) (w798 x0 x1) (w804 x0 x1) (w806 x0 x1) (w807 x0 x1)
theorem w841_eq : w841 x0 x1 = (bf2 (si19 x0 x1)) := by
  unfold w841; rw [w775_eq, w776_eq, w787_eq, w798_eq, w804_eq, w806_eq, w807_eq]; exact part18_v841 (sv18 x0 x1) (si18 x0 x1)
def w853 (x0 : Vec F S200x128 .f32) (x1 : Vec F S200x128 .i32) : IVec S200x128 1 := k0_pay130 lane
theorem w853_eq : w853 x0 x1 = (xori (xori (cmpi .eq (andi lane (broadcast S200x128 (2#32))) (broadcast S200x128 (0#32))) (cmpi .eq (andi (shrsi lane (broadcast S200x128 (6#32))) (broadcast S200x128 (1#32))) (broadcast S200x128 (0#32)))) (constantI S200x128 1 1#1)) := by
  unfold w853; exact part18_v853
def w854 (x0 : Vec F S200x128 .f32) (x1 : Vec F S200x128 .i32) : IVec S200x128 1 := k0_pay131 lane (w775 x0 x1) (w776 x0 x1) (w787 x0 x1) (w798 x0 x1) (w804 x0 x1) (w806 x0 x1) (w807 x0 x1)
theorem w854_eq : w854 x0 x1 = (cmpf .olt (sv19 x0 x1) (bf2 (sv19 x0 x1))) := by
  unfold w854; rw [w775_eq, w776_eq, w787_eq, w798_eq, w804_eq, w806_eq, w807_eq]; exact part18_v854 (sv18 x0 x1) (si18 x0 x1)
def w855 (x0 : Vec F S200x128 .f32) (x1 : Vec F S200x128 .i32) : IVec S200x128 1 := k0_pay132 lane (w775 x0 x1) (w776 x0 x1) (w787 x0 x1) (w798 x0 x1) (w804 x0 x1) (w806 x0 x1) (w807 x0 x1)
theorem w855_eq : w855 x0 x1 = (cmpf .oeq (sv19 x0 x1) (bf2 (sv19 x0 x1))) := by
  unfold w855; rw [w775_eq, w776_eq, w787_eq, w798_eq, w804_eq, w806_eq, w807_eq]; exact part18_v855 (sv18 x0 x1) (si18 x0 x1)
def w861 (x0 : Vec F S200x128 .f32) (x1 : Vec F S200x128 .i32) : Vec F S200x128 .f32 := k0_pay134 (w818 x0 x1) (w819 x0 x1) (w830 x0 x1) (w841 x0 x1) (w853 x0 x1) (w854 x0 x1) (w855 x0 x1)
theorem w861_eq : w861 x0 x1 = sv20 x0 x1 := by
  unfold w861; rw [w818_eq, w819_eq, w830_eq, w841_eq, w853_eq, w854_eq, w855_eq]; exact part19_v861 (sv19 x0 x1) (si19 x0 x1)
def w862 (x0 : Vec F S200x128 .f32) (x1 : Vec F S200x128 .i32) : Vec F S200x128 .i32 := k0_pay135 (w819 x0 x1) (w841 x0 x1) (w853 x0 x1) (w854 x0 x1) (w855 x0 x1)
theorem w862_eq : w862 x0 x1 = si20 x0 x1 := by
  unfold w862; rw [w819_eq, w841_eq, w853_eq, w854_eq, w855_eq]; exact part19_v862 (sv19 x0 x1) (si19 x0 x1)
def w873 (x0 : Vec F S200x128 .f32) (x1 : Vec F S200x128 .i32) : FVec F S200x128 .f32 := k0_pay136 lane (w818 x0 x1) (w819 x0 x1) (w830 x0 x1) (w841 x0 x1) (w853 x0 x1) (w854 x0 x1) (w855 x0 x1)
theorem w873_eq : w873 x0 x1 = (bf1 (sv20 x0 x1)) := by
  unfold w873; rw [w818_eq, w819_eq, w830_eq, w841_eq, w853_eq, w854_eq, w855_eq]; exact part19_v873 (sv19 x0 x1) (si19 x0 x1)
def w884 (x0 : Vec F S200x128 .f32) (x1 : Vec F S200x128 .i32) : IVec S200x128 32 := k0_pay137 lane (w819 x0 x1) (w841 x0 x1) (w853 x0 x1) (w854 x0 x1) (w855 x0 x1)
theorem w884_eq : w884 x0 x1 = (bf1 (si20 x0 x1)) := by
  unfold w884; rw [w819_eq, w841_eq, w853_eq, w854_eq, w855_eq]; exact part19_v884 (sv19 x0 x1) (si19 x0 x1)
def w903 (x0 : Vec F S200x128 .f32) (x1 : Vec F S200x128 .i32) : IVec S200x128 1 := k0_pay138 lane (w818 x0 x1) (w819 x0 x1) (w830 x0 x1) (w841 x0 x1) (w853 x0 x1) (w854 x0 x1) (w855 x0 x1)
theorem w903_eq : w903 x0 x1 = (xori (xori (xori (xori (cmpi .eq (andi lane (broadcast S200x128 (1#32))) (broadcast S200x128 (0#32))) (cmpi .eq (andi (shrsi lane (broadcast S200x128 (6#32))) (broadcast S200x128 (1#32))) (broadcast S200x128 (0#32)))) (constantI S200x128 1 1#1)) (ori (cmpf .olt (sv20 x0 x1) (bf1 (sv20 x0 x1))) (andi (cmpf .oeq (sv20 x0 x1) (bf1 (sv20 x0 x1))) (cmpi .slt (si20 x0 x1) (bf1 (si20 x0 x1)))))) (constantI S200x128 1 1#1)) := by
  unfold w903; rw [w818_eq, w819_eq, w830_eq, w841_eq, w853_eq, w854_eq, w855_eq]; exact part19_v903 (sv19 x0 x1) (si19 x0 x1)
def w947 (x0 : Vec F S200x128 .f32) (x1 : Vec F S200x128 .i32) : Vec F S200x128 .f32 := k0_pay144 lane (w861 x0 x1) (w862 x0 x1) (w873 x0 x1) (w884 x0 x1) (w903 x0 x1)
theorem w947_eq : w947 x0 x1 = sv22 x0 x1 := by
  unfold w947; rw [w861_eq, w862_eq, w873_eq, w884_eq, w903_eq]; exact part20_v947 (sv20 x0 x1) (si20 x0 x1)
def w948 (x0 : Vec F S200x128 .f32) (x1 : Vec F S200x128 .i32) : Vec F S200x128 .i32 := k0_pay145 lane (w861 x0 x1) (w862 x0 x1) (w873 x0 x1) (w884 x0 x1) (w903 x0 x1)
theorem w948_eq : w948 x0 x1 = si22 x0 x1 := by
  unfold w948; rw [w861_eq, w862_eq, w873_eq, w884_eq, w903_eq]; exact part20_v948 (sv20 x0 x1) (si20 x0 x1)
def w950 (x0 : Vec F S200x128 .f32) (x1 : Vec F S200x128 .i32) : IVec S200x128 32 := k0_pay146 lane
theorem w950_eq : w950 x0 x1 = (andi lane (broadcast S200x128 (32#32))) := by
  unfold w950; exact part20_v950
def w990 (x0 : Vec F S200x128 .f32) (x1 : Vec F S200x128 .i32) : Vec F S200x128 .f32 := k0_pay150 lane (w947 x0 x1) (w948 x0 x1) (w950 x0 x1) 0#32
theorem w990_eq : w990 x0 x1 = sv23 x0 x1 := by
  unfold w990; rw [w947_eq, w948_eq, w950_eq]; exact part21_v990 (sv22 x0 x1) (si22 x0 x1)
def w991 (x0 : Vec F S200x128 .f32) (x1 : Vec F S200x128 .i32) : Vec F S200x128 .i32 := k0_pay151 lane (w947 x0 x1) (w948 x0 x1) (w950 x0 x1) 0#32
theorem w991_eq : w991 x0 x1 = si23 x0 x1 := by
  unfold w991; rw [w947_eq, w948_eq, w950_eq]; exact part21_v991 (sv22 x0 x1) (si22 x0 x1)
def w995 (x0 : Vec F S200x128 .f32) (x1 : Vec F S200x128 .i32) : IVec S200x128 1 := k0_pay152 lane
theorem w995_eq : w995 x0 x1 = (cmpi .eq (andi lane (broadcast S200x128 (16#32))) (broadcast S200x128 (0#32))) := by
  unfold w995; exact part21_v995
def w998 (x0 : Vec F S200x128 .f32) (x1 : Vec F S200x128 .i32) : FVec F S200x128 .f32 := k0_pay153 lane (w947 x0 x1) (w948 x0 x1) (w950 x0 x1) 0#32
theorem w998_eq : w998 x0 x1 = (fwd16 (sv23 x0 x1)) := by
  unfold w998; rw [w947_eq, w948_eq, w950_eq]; exact part21_v998 (sv22 x0 x1) (si22 x0 x1)
def w999 (x0 : Vec F S200x128 .f32) (x1 : Vec F S200x128 .i32) : FVec F S200x16 .f32 := k0_pay154 lane (w947 x0 x1) (w948 x0 x1) (w950 x0 x1) 0#32
theorem w999_eq : w999 x0 x1 = (extractStridedSlice S200x16 ![0, 112] (sv23 x0 x1) slices_S200x128_o0_112_S200x16) := by
  unfold w999; rw [w947_eq, w948_eq, w950_eq]; exact part21_v999 (sv22 x0 x1) (si22 x0 x1)
def w1033 (x0 : Vec F S200x128 .f32) (x1 : Vec F S200x128 .i32) : Vec F S200x128 .f32 := k0_pay158 lane (w990 x0 x1) (w991 x0 x1) (w995 x0 x1) (w998 x0 x1) (w999 x0 x1)
theorem w1033_eq : w1033 x0 x1 = sv24 x0 x1 := by
  unfold w1033; rw [w990_eq, w991_eq, w995_eq, w998_eq, w999_eq]; exact part22_v1033 (sv23 x0 x1) (si23 x0 x1)
def w1034 (x0 : Vec F S200x128 .f32) (x1 : Vec F S200x128 .i32) : Vec F S200x128 .i32 := k0_pay159 lane (w990 x0 x1) (w991 x0 x1) (w995 x0 x1) (w998 x0 x1) (w999 x0 x1)
theorem w1034_eq : w1034 x0 x1 = si24 x0 x1 := by
  unfold w1034; rw [w990_eq, w991_eq, w995_eq, w998_eq, w999_eq]; exact part22_v1034 (sv23 x0 x1) (si23 x0 x1)
def w1045 (x0 : Vec F S200x128 .f32) (x1 : Vec F S200x128 .i32) : FVec F S200x128 .f32 := k0_pay160 lane (w990 x0 x1) (w991 x0 x1) (w995 x0 x1) (w998 x0 x1) (w999 x0 x1)
theorem w1045_eq : w1045 x0 x1 = (bf8 (sv24 x0 x1)) := by
  unfold w1045; rw [w990_eq, w991_eq, w995_eq, w998_eq, w999_eq]; exact part22_v1045 (sv23 x0 x1) (si23 x0 x1)
def w1047 (x0 : Vec F S200x128 .f32) (x1 : Vec F S200x128 .i32) : IVec S200x128 32 := k0_pay161 lane
theorem w1047_eq : w1047 x0 x1 = (andi lane (broadcast S200x128 (8#32))) := by
  unfold w1047; exact part22_v1047
def w1076 (x0 : Vec F S200x128 .f32) (x1 : Vec F S200x128 .i32) : Vec F S200x128 .f32 := k0_pay164 lane (w1033 x0 x1) (w1034 x0 x1) (w1045 x0 x1) (w1047 x0 x1)
theorem w1076_eq : w1076 x0 x1 = sv25 x0 x1 := by
  unfold w1076; rw [w1033_eq, w1034_eq, w1045_eq, w1047_eq]; exact part23_v1076 (sv24 x0 x1) (si24 x0 x1)
def w1077 (x0 : Vec F S200x128 .f32) (x1 : Vec F S200x128 .i32) : Vec F S200x128 .i32 := k0_pay165 lane (w1033 x0 x1) (w1034 x0 x1) (w1045 x0 x1) (w1047 x0 x1)
theorem w1077_eq : w1077 x0 x1 = si25 x0 x1 := by
  unfold w1077; rw [w1033_eq, w1034_eq, w1045_eq, w1047_eq]; exact part23_v1077 (sv24 x0 x1) (si24 x0 x1)
def w1088 (x0 : Vec F S200x128 .f32) (x1 : Vec F S200x128 .i32) : FVec F S200x128 .f32 := k0_pay166 lane (w1033 x0 x1) (w1034 x0 x1) (w1045 x0 x1) (w1047 x0 x1)
theorem w1088_eq : w1088 x0 x1 = (bf4 (sv25 x0 x1)) := by
  unfold w1088; rw [w1033_eq, w1034_eq, w1045_eq, w1047_eq]; exact part23_v1088 (sv24 x0 x1) (si24 x0 x1)
def w1092 (x0 : Vec F S200x128 .f32) (x1 : Vec F S200x128 .i32) : IVec S200x128 1 := k0_pay167 lane
theorem w1092_eq : w1092 x0 x1 = (cmpi .eq (andi lane (broadcast S200x128 (4#32))) (broadcast S200x128 (0#32))) := by
  unfold w1092; exact part23_v1092
def w1095 (x0 : Vec F S200x128 .f32) (x1 : Vec F S200x128 .i32) : IVec S200x128 32 := k0_pay168 lane (w1033 x0 x1) (w1034 x0 x1) (w1045 x0 x1) (w1047 x0 x1)
theorem w1095_eq : w1095 x0 x1 = (fwd4 (si25 x0 x1)) := by
  unfold w1095; rw [w1033_eq, w1034_eq, w1045_eq, w1047_eq]; exact part23_v1095 (sv24 x0 x1) (si24 x0 x1)
def w1119 (x0 : Vec F S200x128 .f32) (x1 : Vec F S200x128 .i32) : Vec F S200x128 .f32 := k0_pay171 lane (w1076 x0 x1) (w1077 x0 x1) (w1088 x0 x1) (w1092 x0 x1) (w1095 x0 x1)
theorem w1119_eq : w1119 x0 x1 = sv26 x0 x1 := by
  unfold w1119; rw [w1076_eq, w1077_eq, w1088_eq, w1092_eq, w1095_eq]; exact part24_v1119 (sv25 x0 x1) (si25 x0 x1)
def w1120 (x0 : Vec F S200x128 .f32) (x1 : Vec F S200x128 .i32) : Vec F S200x128 .i32 := k0_pay172 lane (w1076 x0 x1) (w1077 x0 x1) (w1088 x0 x1) (w1092 x0 x1) (w1095 x0 x1)
theorem w1120_eq : w1120 x0 x1 = si26 x0 x1 := by
  unfold w1120; rw [w1076_eq, w1077_eq, w1088_eq, w1092_eq, w1095_eq]; exact part24_v1120 (sv25 x0 x1) (si25 x0 x1)
def w1131 (x0 : Vec F S200x128 .f32) (x1 : Vec F S200x128 .i32) : FVec F S200x128 .f32 := k0_pay173 lane (w1076 x0 x1) (w1077 x0 x1) (w1088 x0 x1) (w1092 x0 x1) (w1095 x0 x1)
theorem w1131_eq : w1131 x0 x1 = (bf2 (sv26 x0 x1)) := by
  unfold w1131; rw [w1076_eq, w1077_eq, w1088_eq, w1092_eq, w1095_eq]; exact part24_v1131 (sv25 x0 x1) (si25 x0 x1)
def w1142 (x0 : Vec F S200x128 .f32) (x1 : Vec F S200x128 .i32) : IVec S200x128 32 := k0_pay174 lane (w1076 x0 x1) (w1077 x0 x1) (w1088 x0 x1) (w1092 x0 x1) (w1095 x0 x1)
theorem w1142_eq : w1142 x0 x1 = (bf2 (si26 x0 x1)) := by
  unfold w1142; rw [w1076_eq, w1077_eq, w1088_eq, w1092_eq, w1095_eq]; exact part24_v1142 (sv25 x0 x1) (si25 x0 x1)
def w1143 (x0 : Vec F S200x128 .f32) (x1 : Vec F S200x128 .i32) : IVec S200x128 32 := k0_pay175
theorem w1143_eq : w1143 x0 x1 = (broadcast S200x128 (7#32)) := by
  unfold w1143; exact part24_v1143
def w1162 (x0 : Vec F S200x128 .f32) (x1 : Vec F S200x128 .i32) : Vec F S200x128 .f32 := k0_pay177 lane (w1119 x0 x1) (w1120 x0 x1) (w1131 x0 x1) (w1142 x0 x1) (w1143 x0 x1)
theorem w1162_eq : w1162 x0 x1 = sv27 x0 x1 := by
  unfold w1162; rw [w1119_eq, w1120_eq, w1131_eq, w1142_eq, w1143_eq]; exact part25_v1162 (sv26 x0 x1) (si26 x0 x1)
def w1163 (x0 : Vec F S200x128 .f32) (x1 : Vec F S200x128 .i32) : Vec F S200x128 .i32 := k0_pay178 lane (w1119 x0 x1) (w1120 x0 x1) (w1131 x0 x1) (w1142 x0 x1) (w1143 x0 x1)
theorem w1163_eq : w1163 x0 x1 = si27 x0 x1 := by
  unfold w1163; rw [w1119_eq, w1120_eq, w1131_eq, w1142_eq, w1143_eq]; exact part25_v1163 (sv26 x0 x1) (si26 x0 x1)
def w1174 (x0 : Vec F S200x128 .f32) (x1 : Vec F S200x128 .i32) : FVec F S200x128 .f32 := k0_pay179 lane (w1119 x0 x1) (w1120 x0 x1) (w1131 x0 x1) (w1142 x0 x1) (w1143 x0 x1)
theorem w1174_eq : w1174 x0 x1 = (bf1 (sv27 x0 x1)) := by
  unfold w1174; rw [w1119_eq, w1120_eq, w1131_eq, w1142_eq, w1143_eq]; exact part25_v1174 (sv26 x0 x1) (si26 x0 x1)
def w1185 (x0 : Vec F S200x128 .f32) (x1 : Vec F S200x128 .i32) : IVec S200x128 32 := k0_pay180 lane (w1119 x0 x1) (w1120 x0 x1) (w1131 x0 x1) (w1142 x0 x1) (w1143 x0 x1)
theorem w1185_eq : w1185 x0 x1 = (bf1 (si27 x0 x1)) := by
  unfold w1185; rw [w1119_eq, w1120_eq, w1131_eq, w1142_eq, w1143_eq]; exact part25_v1185 (sv26 x0 x1) (si26 x0 x1)
def w1189 (x0 : Vec F S200x128 .f32) (x1 : Vec F S200x128 .i32) : IVec S200x128 32 := k0_pay181 lane
theorem w1189_eq : w1189 x0 x1 = (andi (shrsi lane (broadcast S200x128 (7#32))) (broadcast S200x128 (1#32))) := by
  unfold w1189; exact part25_v1189
def w1190 (x0 : Vec F S200x128 .f32) (x1 : Vec F S200x128 .i32) : IVec S200x128 32 := k0_pay182
theorem w1190_eq : w1190 x0 x1 = (broadcast S200x128 (0#32)) := by
  unfold w1190; exact part25_v1190

/-- The indices that the body stores are the last stage's, -/
theorem body_idx : k0_pay2 lane (w1162 x0 x1) (w1163 x0 x1) (w1174 x0 x1) (w1185 x0 x1) (w1189 x0 x1) (w1190 x0 x1) = si28 x0 x1 := by
  rw [w1162_eq, w1163_eq, w1174_eq, w1185_eq, w1189_eq, w1190_eq]; exact last_idx (sv27 x0 x1) (si27 x0 x1)

/-- and the distances its values, cut below at zero. -/
theorem body_dist : k0_pay3 lane (w1162 x0 x1) (w1163 x0 x1) (w1174 x0 x1) (w1185 x0 x1) (w1189 x0 x1) (w1190 x0 x1) = maximumf (sv28 x0 x1) (broadcast S200x128 (Scalar.ofBits .f32 0x00000000#32)) := by
  rw [w1162_eq, w1163_eq, w1174_eq, w1185_eq, w1189_eq, w1190_eq]; exact last_dist (sv27 x0 x1) (si27 x0 x1)

/-- What the body leaves in the staging buffer of the indices, -/
theorem out_idx (c : Dev nD) (t : Fin cfg0.N) (X0 : Vec F S200x128 .f32) (X1 : Vec F S200x128 .i32) :
    out0_A_2 c (grid0.coords t) (ms0_0 t) (hs0_0 t) (ms0_1 t) (hs0_1 t) (ms0_2 t) (hs0_2 t) (ms0_3 t) (hs0_3 t) scM0_0 (Memref.isWhole_whole _) X0 X1
      = k0_pay2 lane (w1162 X0 X1) (w1163 X0 X1) (w1174 X0 X1) (w1185 X0 X1) (w1189 X0 X1) (w1190 X0 X1) := by
  frame_out
  rfl

/-- and in that of the distances. -/
theorem out_dist (c : Dev nD) (t : Fin cfg0.N) (X0 : Vec F S200x128 .f32) (X1 : Vec F S200x128 .i32) :
    out0_A_3 c (grid0.coords t) (ms0_0 t) (hs0_0 t) (ms0_1 t) (hs0_1 t) (ms0_2 t) (hs0_2 t) (ms0_3 t) (hs0_3 t) scM0_0 (Memref.isWhole_whole _) X0 X1
      = k0_pay3 lane (w1162 X0 X1) (w1163 X0 X1) (w1174 X0 X1) (w1185 X0 X1) (w1189 X0 X1) (w1190 X0 X1) := by
  frame_out
  rfl

end Cert.SortIdeal.Stages

end
-- ==== Proof.SortValue.lean ====
/-
  The sort's value. A row's entries, each a value with its index, are compared by value and then by index, a linear order of the pairs.
  Each stage of the body is one stage of the bitonic network at that order (`stage_row`), the 28 of them the whole network
  (`rows`), which sorts; the reference's sort rearranges the same entries in the same order (`sorted_row`); and a rearrangement of given
  entries in ascending order is unique (`ascending_unique`), equal entries being equal in both their parts.
-/
module

public import proofs.«01_k».proof.Proof.SortStages
public import proofs.«01_k».proof.Proof.Gen.SortReferenceIdeal.Run
public import Idealize.ShloMosaic.Lib.Pipeline.ValueKit
public import Idealize.ShloMosaic.Lib.Pointwise
public import Idealize.ShloMosaic.Lib.SortFacts
public import Idealize.ShloMosaic.Lib.SortNet.Sorts
public import Mathlib.Data.List.OfFn

@[expose] public section

set_option maxRecDepth 16384

noncomputable section

open Idealize.ShloMosaic Idealize.ShloMosaic.TcCoe Idealize.SL.Sem
open Idealize.ShloMosaic.SortNet

namespace Cert.SortIdeal.Order

open Cert.SortIdeal Cert.SortIdeal.Gen Cert.SortIdeal.Stages

/-! ## The exchanges of lanes -/

theorem lane_apply (r : Fin 200) (c : Fin 128) : lane (ix2 r c) = BitVec.ofNat 32 c.val := by
  unfold lane; pointwise

theorem fwd1_apply {α : Type} (x : S200x128.Idx → α) (r : Fin 200) (c : Fin 128) (h : c.val + 1 < 128) :
    fwd1 x (ix2 r c) = x (ix2 r ⟨c.val + 1, h⟩) := by
  unfold fwd1; pointwise
  first | rw [dif_pos (by omega)] | rw [if_pos (by omega)]
  try blk_ext

theorem bwd1_apply {α : Type} (x : S200x128.Idx → α) (r : Fin 200) (c : Fin 128) (h : 1 ≤ c.val) :
    bwd1 x (ix2 r c) = x (ix2 r ⟨c.val - 1, by omega⟩) := by
  unfold bwd1; pointwise
  first | rw [dif_neg (by omega)] | rw [if_neg (by omega)]
  try blk_ext

theorem bf1_apply {α : Type} (x : S200x128.Idx → α) (r : Fin 200) (c : Fin 128) : bf1 x (ix2 r c) = x (ix2 r (partner 7 0 c)) := by
  unfold bf1
  show Scalar.select (IntOp.cmpi .eq (IntOp.andi (lane (ix2 r c)) 1#32) 0#32) (fwd1 x (ix2 r c)) (bwd1 x (ix2 r c)) = _
  rw [lane_apply, (by decide +kernel : ∀ c : Fin 128, IntOp.cmpi .eq (IntOp.andi (BitVec.ofNat 32 c.val) 1#32) 0#32
    = BitVec.ofBool (decide (c.val &&& 2 ^ 0 = 0))) c]
  by_cases hc : c.val &&& 2 ^ 0 = 0
  · rw [decide_eq_true hc]
    have e := partner_val_of_clear (p := 7) (s := 0) (by decide) c hc
    have hl := (partner 7 0 c).isLt
    show fwd1 x (ix2 r c) = _
    rw [fwd1_apply x r c (by omega)]
    exact congrArg x (congrArg (ix2 r) (Fin.ext e.symm))
  · rw [decide_eq_false hc]
    have e := partner_val_of_set (p := 7) (s := 0) (by decide) c hc
    show bwd1 x (ix2 r c) = _
    rw [bwd1_apply x r c (by omega)]
    exact congrArg x (congrArg (ix2 r) (Fin.ext e.2.symm))

theorem fwd2_apply {α : Type} (x : S200x128.Idx → α) (r : Fin 200) (c : Fin 128) (h : c.val + 2 < 128) :
    fwd2 x (ix2 r c) = x (ix2 r ⟨c.val + 2, h⟩) := by
  unfold fwd2; pointwise
  first | rw [dif_pos (by omega)] | rw [if_pos (by omega)]
  try blk_ext

theorem bwd2_apply {α : Type} (x : S200x128.Idx → α) (r : Fin 200) (c : Fin 128) (h : 2 ≤ c.val) :
    bwd2 x (ix2 r c) = x (ix2 r ⟨c.val - 2, by omega⟩) := by
  unfold bwd2; pointwise
  first | rw [dif_neg (by omega)] | rw [if_neg (by omega)]
  try blk_ext

theorem bf2_apply {α : Type} (x : S200x128.Idx → α) (r : Fin 200) (c : Fin 128) : bf2 x (ix2 r c) = x (ix2 r (partner 7 1 c)) := by
  unfold bf2
  show Scalar.select (IntOp.cmpi .eq (IntOp.andi (lane (ix2 r c)) 2#32) 0#32) (fwd2 x (ix2 r c)) (bwd2 x (ix2 r c)) = _
  rw [lane_apply, (by decide +kernel : ∀ c : Fin 128, IntOp.cmpi .eq (IntOp.andi (BitVec.ofNat 32 c.val) 2#32) 0#32
    = BitVec.ofBool (decide (c.val &&& 2 ^ 1 = 0))) c]
  by_cases hc : c.val &&& 2 ^ 1 = 0
  · rw [decide_eq_true hc]
    have e := partner_val_of_clear (p := 7) (s := 1) (by decide) c hc
    have hl := (partner 7 1 c).isLt
    show fwd2 x (ix2 r c) = _
    rw [fwd2_apply x r c (by omega)]
    exact congrArg x (congrArg (ix2 r) (Fin.ext e.symm))
  · rw [decide_eq_false hc]
    have e := partner_val_of_set (p := 7) (s := 1) (by decide) c hc
    show bwd2 x (ix2 r c) = _
    rw [bwd2_apply x r c (by omega)]
    exact congrArg x (congrArg (ix2 r) (Fin.ext e.2.symm))

theorem fwd4_apply {α : Type} (x : S200x128.Idx → α) (r : Fin 200) (c : Fin 128) (h : c.val + 4 < 128) :
    fwd4 x (ix2 r c) = x (ix2 r ⟨c.val + 4, h⟩) := by
  unfold fwd4; pointwise
  first | rw [dif_pos (by omega)] | rw [if_pos (by omega)]
  try blk_ext

theorem bwd4_apply {α : Type} (x : S200x128.Idx → α) (r : Fin 200) (c : Fin 128) (h : 4 ≤ c.val) :
    bwd4 x (ix2 r c) = x (ix2 r ⟨c.val - 4, by omega⟩) := by
  unfold bwd4; pointwise
  first | rw [dif_neg (by omega)] | rw [if_neg (by omega)]
  try blk_ext

theorem bf4_apply {α : Type} (x : S200x128.Idx → α) (r : Fin 200) (c : Fin 128) : bf4 x (ix2 r c) = x (ix2 r (partner 7 2 c)) := by
  unfold bf4
  show Scalar.select (IntOp.cmpi .eq (IntOp.andi (lane (ix2 r c)) 4#32) 0#32) (fwd4 x (ix2 r c)) (bwd4 x (ix2 r c)) = _
  rw [lane_apply, (by decide +kernel : ∀ c : Fin 128, IntOp.cmpi .eq (IntOp.andi (BitVec.ofNat 32 c.val) 4#32) 0#32
    = BitVec.ofBool (decide (c.val &&& 2 ^ 2 = 0))) c]
  by_cases hc : c.val &&& 2 ^ 2 = 0
  · rw [decide_eq_true hc]
    have e := partner_val_of_clear (p := 7) (s := 2) (by decide) c hc
    have hl := (partner 7 2 c).isLt
    show fwd4 x (ix2 r c) = _
    rw [fwd4_apply x r c (by omega)]
    exact congrArg x (congrArg (ix2 r) (Fin.ext e.symm))
  · rw [decide_eq_false hc]
    have e := partner_val_of_set (p := 7) (s := 2) (by decide) c hc
    show bwd4 x (ix2 r c) = _
    rw [bwd4_apply x r c (by omega)]
    exact congrArg x (congrArg (ix2 r) (Fin.ext e.2.symm))

theorem fwd8_apply {α : Type} (x : S200x128.Idx → α) (r : Fin 200) (c : Fin 128) (h : c.val + 8 < 128) :
    fwd8 x (ix2 r c) = x (ix2 r ⟨c.val + 8, h⟩) := by
  unfold fwd8; pointwise
  first | rw [dif_pos (by omega)] | rw [if_pos (by omega)]
  try blk_ext

theorem bwd8_apply {α : Type} (x : S200x128.Idx → α) (r : Fin 200) (c : Fin 128) (h : 8 ≤ c.val) :
    bwd8 x (ix2 r c) = x (ix2 r ⟨c.val - 8, by omega⟩) := by
  unfold bwd8; pointwise
  first | rw [dif_neg (by omega)] | rw [if_neg (by omega)]
  try blk_ext

theorem bf8_apply {α : Type} (x : S200x128.Idx → α) (r : Fin 200) (c : Fin 128) : bf8 x (ix2 r c) = x (ix2 r (partner 7 3 c)) := by
  unfold bf8
  show Scalar.select (IntOp.cmpi .eq (IntOp.andi (lane (ix2 r c)) 8#32) 0#32) (fwd8 x (ix2 r c)) (bwd8 x (ix2 r c)) = _
  rw [lane_apply, (by decide +kernel : ∀ c : Fin 128, IntOp.cmpi .eq (IntOp.andi (BitVec.ofNat 32 c.val) 8#32) 0#32
    = BitVec.ofBool (decide (c.val &&& 2 ^ 3 = 0))) c]
  by_cases hc : c.val &&& 2 ^ 3 = 0
  · rw [decide_eq_true hc]
    have e := partner_val_of_clear (p := 7) (s := 3) (by decide) c hc
    have hl := (partner 7 3 c).isLt
    show fwd8 x (ix2 r c) = _
    rw [fwd8_apply x r c (by omega)]
    exact congrArg x (congrArg (ix2 r) (Fin.ext e.symm))
  · rw [decide_eq_false hc]
    have e := partner_val_of_set (p := 7) (s := 3) (by decide) c hc
    show bwd8 x (ix2 r c) = _
    rw [bwd8_apply x r c (by omega)]
    exact congrArg x (congrArg (ix2 r) (Fin.ext e.2.symm))

theorem fwd16_apply {α : Type} (x : S200x128.Idx → α) (r : Fin 200) (c : Fin 128) (h : c.val + 16 < 128) :
    fwd16 x (ix2 r c) = x (ix2 r ⟨c.val + 16, h⟩) := by
  unfold fwd16; pointwise
  first | rw [dif_pos (by omega)] | rw [if_pos (by omega)]
  try blk_ext

theorem bwd16_apply {α : Type} (x : S200x128.Idx → α) (r : Fin 200) (c : Fin 128) (h : 16 ≤ c.val) :
    bwd16 x (ix2 r c) = x (ix2 r ⟨c.val - 16, by omega⟩) := by
  unfold bwd16; pointwise
  first | rw [dif_neg (by omega)] | rw [if_neg (by omega)]
  try blk_ext

theorem bf16_apply {α : Type} (x : S200x128.Idx → α) (r : Fin 200) (c : Fin 128) : bf16 x (ix2 r c) = x (ix2 r (partner 7 4 c)) := by
  unfold bf16
  show Scalar.select (IntOp.cmpi .eq (IntOp.andi (lane (ix2 r c)) 16#32) 0#32) (fwd16 x (ix2 r c)) (bwd16 x (ix2 r c)) = _
  rw [lane_apply, (by decide +kernel : ∀ c : Fin 128, IntOp.cmpi .eq (IntOp.andi (BitVec.ofNat 32 c.val) 16#32) 0#32
    = BitVec.ofBool (decide (c.val &&& 2 ^ 4 = 0))) c]
  by_cases hc : c.val &&& 2 ^ 4 = 0
  · rw [decide_eq_true hc]
    have e := partner_val_of_clear (p := 7) (s := 4) (by decide) c hc
    have hl := (partner 7 4 c).isLt
    show fwd16 x (ix2 r c) = _
    rw [fwd16_apply x r c (by omega)]
    exact congrArg x (congrArg (ix2 r) (Fin.ext e.symm))
  · rw [decide_eq_false hc]
    have e := partner_val_of_set (p := 7) (s := 4) (by decide) c hc
    show bwd16 x (ix2 r c) = _
    rw [bwd16_apply x r c (by omega)]
    exact congrArg x (congrArg (ix2 r) (Fin.ext e.2.symm))

theorem fwd32_apply {α : Type} (x : S200x128.Idx → α) (r : Fin 200) (c : Fin 128) (h : c.val + 32 < 128) :
    fwd32 x (ix2 r c) = x (ix2 r ⟨c.val + 32, h⟩) := by
  unfold fwd32; pointwise
  first | rw [dif_pos (by omega)] | rw [if_pos (by omega)]
  try blk_ext

theorem bwd32_apply {α : Type} (x : S200x128.Idx → α) (r : Fin 200) (c : Fin 128) (h : 32 ≤ c.val) :
    bwd32 x (ix2 r c) = x (ix2 r ⟨c.val - 32, by omega⟩) := by
  unfold bwd32; pointwise
  first | rw [dif_neg (by omega)] | rw [if_neg (by omega)]
  try blk_ext

theorem bf32_apply {α : Type} (x : S200x128.Idx → α) (r : Fin 200) (c : Fin 128) : bf32 x (ix2 r c) = x (ix2 r (partner 7 5 c)) := by
  unfold bf32
  show Scalar.select (IntOp.cmpi .eq (IntOp.andi (lane (ix2 r c)) 32#32) 0#32) (fwd32 x (ix2 r c)) (bwd32 x (ix2 r c)) = _
  rw [lane_apply, (by decide +kernel : ∀ c : Fin 128, IntOp.cmpi .eq (IntOp.andi (BitVec.ofNat 32 c.val) 32#32) 0#32
    = BitVec.ofBool (decide (c.val &&& 2 ^ 5 = 0))) c]
  by_cases hc : c.val &&& 2 ^ 5 = 0
  · rw [decide_eq_true hc]
    have e := partner_val_of_clear (p := 7) (s := 5) (by decide) c hc
    have hl := (partner 7 5 c).isLt
    show fwd32 x (ix2 r c) = _
    rw [fwd32_apply x r c (by omega)]
    exact congrArg x (congrArg (ix2 r) (Fin.ext e.symm))
  · rw [decide_eq_false hc]
    have e := partner_val_of_set (p := 7) (s := 5) (by decide) c hc
    show bwd32 x (ix2 r c) = _
    rw [bwd32_apply x r c (by omega)]
    exact congrArg x (congrArg (ix2 r) (Fin.ext e.2.symm))

theorem fwd64_apply {α : Type} (x : S200x128.Idx → α) (r : Fin 200) (c : Fin 128) (h : c.val + 64 < 128) :
    fwd64 x (ix2 r c) = x (ix2 r ⟨c.val + 64, h⟩) := by
  unfold fwd64; pointwise
  first | rw [dif_pos (by omega)] | rw [if_pos (by omega)]
  try blk_ext

theorem bwd64_apply {α : Type} (x : S200x128.Idx → α) (r : Fin 200) (c : Fin 128) (h : 64 ≤ c.val) :
    bwd64 x (ix2 r c) = x (ix2 r ⟨c.val - 64, by omega⟩) := by
  unfold bwd64; pointwise
  first | rw [dif_neg (by omega)] | rw [if_neg (by omega)]
  try blk_ext

theorem bf64_apply {α : Type} (x : S200x128.Idx → α) (r : Fin 200) (c : Fin 128) : bf64 x (ix2 r c) = x (ix2 r (partner 7 6 c)) := by
  unfold bf64
  show Scalar.select (IntOp.cmpi .eq (IntOp.andi (lane (ix2 r c)) 64#32) 0#32) (fwd64 x (ix2 r c)) (bwd64 x (ix2 r c)) = _
  rw [lane_apply, (by decide +kernel : ∀ c : Fin 128, IntOp.cmpi .eq (IntOp.andi (BitVec.ofNat 32 c.val) 64#32) 0#32
    = BitVec.ofBool (decide (c.val &&& 2 ^ 6 = 0))) c]
  by_cases hc : c.val &&& 2 ^ 6 = 0
  · rw [decide_eq_true hc]
    have e := partner_val_of_clear (p := 7) (s := 6) (by decide) c hc
    have hl := (partner 7 6 c).isLt
    show fwd64 x (ix2 r c) = _
    rw [fwd64_apply x r c (by omega)]
    exact congrArg x (congrArg (ix2 r) (Fin.ext e.symm))
  · rw [decide_eq_false hc]
    have e := partner_val_of_set (p := 7) (s := 6) (by decide) c hc
    show bwd64 x (ix2 r c) = _
    rw [bwd64_apply x r c (by omega)]
    exact congrArg x (congrArg (ix2 r) (Fin.ext e.2.symm))

/-! ## One stage -/

/-- A row's entries, in the order of the sort: by value, then by index. -/
def row {R : Nat} (v : (⟨2, ![R, 128]⟩ : Shape).Idx → EReal) (i : (⟨2, ![R, 128]⟩ : Shape).Idx → BitVec 32) (r : Fin R) (l : Fin (2 ^ 7)) :
    EReal ×ₗ ℤ :=
  toLex (v (ix2 r l), (i (ix2 r l)).toInt)

/-- The comparison of value and index is the order's. -/
theorem before_eq (a b : EReal) (x y : BitVec 32) :
    IntOp.ori (Ideal.cmp .olt a b) (IntOp.andi (Ideal.cmp .oeq a b) (IntOp.cmpi .slt x y))
      = BitVec.ofBool (decide (toLex (a, x.toInt) < toLex (b, y.toInt))) := by
  have e : IntOp.cmpi .slt x y = BitVec.ofBool (decide (x.toInt < y.toInt)) := rfl
  have h : decide (toLex (a, x.toInt) < toLex (b, y.toInt)) = decide (a < b ∨ a = b ∧ x.toInt < y.toInt) :=
    decide_eq_decide.mpr Prod.Lex.toLex_lt_toLex
  rw [e, h]
  show IntOp.ori (BitVec.ofBool (decide (a < b))) (IntOp.andi (BitVec.ofBool (decide (a = b))) _) = _
  by_cases h1 : a < b <;> by_cases h2 : a = b <;> by_cases h3 : x.toInt < y.toInt <;> simp [h1, h2, h3, IntOp.ori, IntOp.andi]

/-- Where a position keeps its own entry if that is the greater of the two: in a stage at distance `2 ^ t` of the level whose blocks'
    order alternates at bit `b`. -/
def keepGreater (t b : Nat) (j : Fin (2 ^ 7)) : Bool := (decide (j.val &&& 2 ^ t = 0)) ^^ (decide (j.val &&& 2 ^ b = 0))

theorem word_take (p q : Bool) :
    IntOp.xori (IntOp.xori (IntOp.xori (BitVec.ofBool p) 1#1) (BitVec.ofBool q)) 1#1 = BitVec.ofBool (p ^^ q) := by
  revert p q; decide

theorem select_pair (p : Bool) (a b : EReal) (x y : BitVec 32) :
    (toLex (Scalar.select (BitVec.ofBool p) a b, (Scalar.select (BitVec.ofBool p) x y).toInt) : EReal ×ₗ ℤ)
      = if p = true then toLex (a, x.toInt) else toLex (b, y.toInt) := by
  cases p <;> rfl

theorem ofBool_beq (p : Bool) : (BitVec.ofBool p == 1#1) = p := by
  cases p <;> rfl

/-- One stage of the body on a row is one stage of the network on its entries. -/
theorem stage_row (t b : Nat) (ht : t < 7) (d s : BitVec 32) (bf : {α : Type} → (S200x128.Idx → α) → S200x128.Idx → α)
    (hbf : ∀ {α : Type} (x : S200x128.Idx → α) (r : Fin 200) (c : Fin 128), bf x (ix2 r c) = x (ix2 r (partner 7 t c)))
    (hk : ∀ c : Fin 128, IntOp.xori (IntOp.cmpi .eq (IntOp.andi (BitVec.ofNat 32 c.val) d) 0#32)
      (IntOp.cmpi .eq (IntOp.andi (IntOp.shrsi .vector (BitVec.ofNat 32 c.val) s) 1#32) 0#32) = BitVec.ofBool (keepGreater t b c))
    (hflip : ∀ c, keepGreater t b (partner 7 t c) = !keepGreater t b c)
    (hw : ∀ c : Fin (2 ^ 7), c.val &&& 2 ^ t = 0 → ((decide (c.val &&& 2 ^ b = 0)) == false) = keepGreater t b c)
    (v : Vec Ideal S200x128 .f32) (i : Vec Ideal S200x128 .i32) (r : Fin 200) :
    row (stageV bf d s v i) (stageI bf d s v i) r
      = Network.apply (stage 7 t fun c => (decide (c.val &&& 2 ^ b = 0)) == false) (row v i r) := by
  funext j
  rw [stage_congr hw, apply_stage_select ht _ hflip]
  have htake : take (bf v) (bf i) d s v i (ix2 r j) = BitVec.ofBool (keepGreater t b j ^^ decide (row v i r j < row v i r (partner 7 t j))) := by
    show IntOp.xori (IntOp.xori (IntOp.xori (IntOp.xori (IntOp.cmpi .eq (IntOp.andi (lane (ix2 r j)) d) 0#32)
      (IntOp.cmpi .eq (IntOp.andi (IntOp.shrsi .vector (lane (ix2 r j)) s) 1#32) 0#32)) 1#1)
      (IntOp.ori (Ideal.cmp .olt (v (ix2 r j)) (bf v (ix2 r j))) (IntOp.andi (Ideal.cmp .oeq (v (ix2 r j)) (bf v (ix2 r j)))
        (IntOp.cmpi .slt (i (ix2 r j)) (bf i (ix2 r j)))))) 1#1 = _
    rw [lane_apply, hk, before_eq, hbf, hbf]
    exact word_take _ _
  have e1 : row (stageV bf d s v i) (stageI bf d s v i) r j
      = if (keepGreater t b j ^^ decide (row v i r j < row v i r (partner 7 t j))) = true then row v i r j else row v i r (partner 7 t j) := by
    unfold row stageV stageI
    show toLex (Scalar.select (take (bf v) (bf i) d s v i (ix2 r j)) (v (ix2 r j)) (bf v (ix2 r j)),
      (Scalar.select (take (bf v) (bf i) d s v i (ix2 r j)) (i (ix2 r j)) (bf i (ix2 r j))).toInt) = _
    rw [htake, hbf, hbf]
    exact select_pair _ _ _ _ _
  rw [e1]
  rcases lt_trichotomy (row v i r j) (row v i r (partner 7 t j)) with h | h | h
  · rw [decide_eq_true h, decide_eq_false (not_lt.mpr h.le)]
    cases keepGreater t b j <;> rfl
  · rw [h]; simp
  · rw [decide_eq_true h, decide_eq_false (not_lt.mpr h.le)]
    cases keepGreater t b j <;> rfl

/-! ## The 28 stages -/

variable (x0 : Vec Ideal S200x128 .f32) (x1 : Vec Ideal S200x128 .i32) (r : Fin 200)

theorem row1 : row (sv1 x0 x1) (si1 x0 x1) r = Network.apply (stage 7 0 fun c => (decide (c.val &&& 2 ^ 1 = 0)) == false) (row (sv0 x0 x1) (si0 x0 x1) r) :=
  stage_row 0 1 (by decide) 1#32 1#32 bf1 bf1_apply (by decide +kernel) (by decide +kernel) (by decide +kernel) _ _ r
theorem row2 : row (sv2 x0 x1) (si2 x0 x1) r = Network.apply (stage 7 1 fun c => (decide (c.val &&& 2 ^ 2 = 0)) == false) (row (sv1 x0 x1) (si1 x0 x1) r) :=
  stage_row 1 2 (by decide) 2#32 2#32 bf2 bf2_apply (by decide +kernel) (by decide +kernel) (by decide +kernel) _ _ r
theorem row3 : row (sv3 x0 x1) (si3 x0 x1) r = Network.apply (stage 7 0 fun c => (decide (c.val &&& 2 ^ 2 = 0)) == false) (row (sv2 x0 x1) (si2 x0 x1) r) :=
  stage_row 0 2 (by decide) 1#32 2#32 bf1 bf1_apply (by decide +kernel) (by decide +kernel) (by decide +kernel) _ _ r
theorem row4 : row (sv4 x0 x1) (si4 x0 x1) r = Network.apply (stage 7 2 fun c => (decide (c.val &&& 2 ^ 3 = 0)) == false) (row (sv3 x0 x1) (si3 x0 x1) r) :=
  stage_row 2 3 (by decide) 4#32 3#32 bf4 bf4_apply (by decide +kernel) (by decide +kernel) (by decide +kernel) _ _ r
theorem row5 : row (sv5 x0 x1) (si5 x0 x1) r = Network.apply (stage 7 1 fun c => (decide (c.val &&& 2 ^ 3 = 0)) == false) (row (sv4 x0 x1) (si4 x0 x1) r) :=
  stage_row 1 3 (by decide) 2#32 3#32 bf2 bf2_apply (by decide +kernel) (by decide +kernel) (by decide +kernel) _ _ r
theorem row6 : row (sv6 x0 x1) (si6 x0 x1) r = Network.apply (stage 7 0 fun c => (decide (c.val &&& 2 ^ 3 = 0)) == false) (row (sv5 x0 x1) (si5 x0 x1) r) :=
  stage_row 0 3 (by decide) 1#32 3#32 bf1 bf1_apply (by decide +kernel) (by decide +kernel) (by decide +kernel) _ _ r
theorem row7 : row (sv7 x0 x1) (si7 x0 x1) r = Network.apply (stage 7 3 fun c => (decide (c.val &&& 2 ^ 4 = 0)) == false) (row (sv6 x0 x1) (si6 x0 x1) r) :=
  stage_row 3 4 (by decide) 8#32 4#32 bf8 bf8_apply (by decide +kernel) (by decide +kernel) (by decide +kernel) _ _ r
theorem row8 : row (sv8 x0 x1) (si8 x0 x1) r = Network.apply (stage 7 2 fun c => (decide (c.val &&& 2 ^ 4 = 0)) == false) (row (sv7 x0 x1) (si7 x0 x1) r) :=
  stage_row 2 4 (by decide) 4#32 4#32 bf4 bf4_apply (by decide +kernel) (by decide +kernel) (by decide +kernel) _ _ r
theorem row9 : row (sv9 x0 x1) (si9 x0 x1) r = Network.apply (stage 7 1 fun c => (decide (c.val &&& 2 ^ 4 = 0)) == false) (row (sv8 x0 x1) (si8 x0 x1) r) :=
  stage_row 1 4 (by decide) 2#32 4#32 bf2 bf2_apply (by decide +kernel) (by decide +kernel) (by decide +kernel) _ _ r
theorem row10 : row (sv10 x0 x1) (si10 x0 x1) r = Network.apply (stage 7 0 fun c => (decide (c.val &&& 2 ^ 4 = 0)) == false) (row (sv9 x0 x1) (si9 x0 x1) r) :=
  stage_row 0 4 (by decide) 1#32 4#32 bf1 bf1_apply (by decide +kernel) (by decide +kernel) (by decide +kernel) _ _ r
theorem row11 : row (sv11 x0 x1) (si11 x0 x1) r = Network.apply (stage 7 4 fun c => (decide (c.val &&& 2 ^ 5 = 0)) == false) (row (sv10 x0 x1) (si10 x0 x1) r) :=
  stage_row 4 5 (by decide) 16#32 5#32 bf16 bf16_apply (by decide +kernel) (by decide +kernel) (by decide +kernel) _ _ r
theorem row12 : row (sv12 x0 x1) (si12 x0 x1) r = Network.apply (stage 7 3 fun c => (decide (c.val &&& 2 ^ 5 = 0)) == false) (row (sv11 x0 x1) (si11 x0 x1) r) :=
  stage_row 3 5 (by decide) 8#32 5#32 bf8 bf8_apply (by decide +kernel) (by decide +kernel) (by decide +kernel) _ _ r
theorem row13 : row (sv13 x0 x1) (si13 x0 x1) r = Network.apply (stage 7 2 fun c => (decide (c.val &&& 2 ^ 5 = 0)) == false) (row (sv12 x0 x1) (si12 x0 x1) r) :=
  stage_row 2 5 (by decide) 4#32 5#32 bf4 bf4_apply (by decide +kernel) (by decide +kernel) (by decide +kernel) _ _ r
theorem row14 : row (sv14 x0 x1) (si14 x0 x1) r = Network.apply (stage 7 1 fun c => (decide (c.val &&& 2 ^ 5 = 0)) == false) (row (sv13 x0 x1) (si13 x0 x1) r) :=
  stage_row 1 5 (by decide) 2#32 5#32 bf2 bf2_apply (by decide +kernel) (by decide +kernel) (by decide +kernel) _ _ r
theorem row15 : row (sv15 x0 x1) (si15 x0 x1) r = Network.apply (stage 7 0 fun c => (decide (c.val &&& 2 ^ 5 = 0)) == false) (row (sv14 x0 x1) (si14 x0 x1) r) :=
  stage_row 0 5 (by decide) 1#32 5#32 bf1 bf1_apply (by decide +kernel) (by decide +kernel) (by decide +kernel) _ _ r
theorem row16 : row (sv16 x0 x1) (si16 x0 x1) r = Network.apply (stage 7 5 fun c => (decide (c.val &&& 2 ^ 6 = 0)) == false) (row (sv15 x0 x1) (si15 x0 x1) r) :=
  stage_row 5 6 (by decide) 32#32 6#32 bf32 bf32_apply (by decide +kernel) (by decide +kernel) (by decide +kernel) _ _ r
theorem row17 : row (sv17 x0 x1) (si17 x0 x1) r = Network.apply (stage 7 4 fun c => (decide (c.val &&& 2 ^ 6 = 0)) == false) (row (sv16 x0 x1) (si16 x0 x1) r) :=
  stage_row 4 6 (by decide) 16#32 6#32 bf16 bf16_apply (by decide +kernel) (by decide +kernel) (by decide +kernel) _ _ r
theorem row18 : row (sv18 x0 x1) (si18 x0 x1) r = Network.apply (stage 7 3 fun c => (decide (c.val &&& 2 ^ 6 = 0)) == false) (row (sv17 x0 x1) (si17 x0 x1) r) :=
  stage_row 3 6 (by decide) 8#32 6#32 bf8 bf8_apply (by decide +kernel) (by decide +kernel) (by decide +kernel) _ _ r
theorem row19 : row (sv19 x0 x1) (si19 x0 x1) r = Network.apply (stage 7 2 fun c => (decide (c.val &&& 2 ^ 6 = 0)) == false) (row (sv18 x0 x1) (si18 x0 x1) r) :=
  stage_row 2 6 (by decide) 4#32 6#32 bf4 bf4_apply (by decide +kernel) (by decide +kernel) (by decide +kernel) _ _ r
theorem row20 : row (sv20 x0 x1) (si20 x0 x1) r = Network.apply (stage 7 1 fun c => (decide (c.val &&& 2 ^ 6 = 0)) == false) (row (sv19 x0 x1) (si19 x0 x1) r) :=
  stage_row 1 6 (by decide) 2#32 6#32 bf2 bf2_apply (by decide +kernel) (by decide +kernel) (by decide +kernel) _ _ r
theorem row21 : row (sv21 x0 x1) (si21 x0 x1) r = Network.apply (stage 7 0 fun c => (decide (c.val &&& 2 ^ 6 = 0)) == false) (row (sv20 x0 x1) (si20 x0 x1) r) :=
  stage_row 0 6 (by decide) 1#32 6#32 bf1 bf1_apply (by decide +kernel) (by decide +kernel) (by decide +kernel) _ _ r
theorem row22 : row (sv22 x0 x1) (si22 x0 x1) r = Network.apply (stage 7 6 fun c => (decide (c.val &&& 2 ^ 7 = 0)) == false) (row (sv21 x0 x1) (si21 x0 x1) r) :=
  stage_row 6 7 (by decide) 64#32 7#32 bf64 bf64_apply (by decide +kernel) (by decide +kernel) (by decide +kernel) _ _ r
theorem row23 : row (sv23 x0 x1) (si23 x0 x1) r = Network.apply (stage 7 5 fun c => (decide (c.val &&& 2 ^ 7 = 0)) == false) (row (sv22 x0 x1) (si22 x0 x1) r) :=
  stage_row 5 7 (by decide) 32#32 7#32 bf32 bf32_apply (by decide +kernel) (by decide +kernel) (by decide +kernel) _ _ r
theorem row24 : row (sv24 x0 x1) (si24 x0 x1) r = Network.apply (stage 7 4 fun c => (decide (c.val &&& 2 ^ 7 = 0)) == false) (row (sv23 x0 x1) (si23 x0 x1) r) :=
  stage_row 4 7 (by decide) 16#32 7#32 bf16 bf16_apply (by decide +kernel) (by decide +kernel) (by decide +kernel) _ _ r
theorem row25 : row (sv25 x0 x1) (si25 x0 x1) r = Network.apply (stage 7 3 fun c => (decide (c.val &&& 2 ^ 7 = 0)) == false) (row (sv24 x0 x1) (si24 x0 x1) r) :=
  stage_row 3 7 (by decide) 8#32 7#32 bf8 bf8_apply (by decide +kernel) (by decide +kernel) (by decide +kernel) _ _ r
theorem row26 : row (sv26 x0 x1) (si26 x0 x1) r = Network.apply (stage 7 2 fun c => (decide (c.val &&& 2 ^ 7 = 0)) == false) (row (sv25 x0 x1) (si25 x0 x1) r) :=
  stage_row 2 7 (by decide) 4#32 7#32 bf4 bf4_apply (by decide +kernel) (by decide +kernel) (by decide +kernel) _ _ r
theorem row27 : row (sv27 x0 x1) (si27 x0 x1) r = Network.apply (stage 7 1 fun c => (decide (c.val &&& 2 ^ 7 = 0)) == false) (row (sv26 x0 x1) (si26 x0 x1) r) :=
  stage_row 1 7 (by decide) 2#32 7#32 bf2 bf2_apply (by decide +kernel) (by decide +kernel) (by decide +kernel) _ _ r
theorem row28 : row (sv28 x0 x1) (si28 x0 x1) r = Network.apply (stage 7 0 fun c => (decide (c.val &&& 2 ^ 7 = 0)) == false) (row (sv27 x0 x1) (si27 x0 x1) r) :=
  stage_row 0 7 (by decide) 1#32 7#32 bf1 bf1_apply (by decide +kernel) (by decide +kernel) (by decide +kernel) _ _ r

/-- After the last stage a row's entries are the network's. -/
theorem rows : row (sv28 x0 x1) (si28 x0 x1) r = Network.apply (sortNet 7 false) (row x0 x1 r) := by
  simp only [sortNet, show List.range 7 = [0, 1, 2, 3, 4, 5, 6] from rfl, List.flatMap_cons, List.flatMap_nil, List.append_nil,
    Nat.reduceAdd, show (List.range 1).reverse = [0] from rfl, show (List.range 2).reverse = [1, 0] from rfl,
    show (List.range 3).reverse = [2, 1, 0] from rfl, show (List.range 4).reverse = [3, 2, 1, 0] from rfl,
    show (List.range 5).reverse = [4, 3, 2, 1, 0] from rfl, show (List.range 6).reverse = [5, 4, 3, 2, 1, 0] from rfl,
    show ([0, 1, 2, 3, 4, 5, 6] : List Nat).reverse = [6, 5, 4, 3, 2, 1, 0] from rfl, Network.apply_append]
  rw [row28, row27, row26, row25, row24, row23, row22, row21, row20, row19, row18, row17, row16, row15, row14, row13, row12, row11, row10, row9, row8, row7, row6, row5, row4, row3, row2, row1]
  rfl

/-! ## The reference's sort -/

/-- The comparator's replacements of a zero by zero and of a value unequal to itself change no extended real. -/
theorem canon (q w z : EReal) : Scalar.select (Ideal.cmp .une z z) q (Scalar.select (Ideal.cmp .oeq z w) w z) = z := by
  have h0 : Ideal.cmp .une z z = 0#1 := by
    show BitVec.ofBool (decide (z ≠ z)) = 0#1
    rw [decide_eq_false (fun h => h rfl)]; rfl
  rw [h0]
  show Scalar.select (BitVec.ofBool (decide (z = w))) w z = z
  by_cases h : z = w
  · rw [decide_eq_true h]; exact h.symm
  · rw [decide_eq_false h]; rfl

/-- The reference's comparator is the order's. -/
theorem comparator_eq (p q : EReal × BitVec 32) : Cert.SortReferenceIdeal.comparator_f32_i32_d1 (F := Ideal) p q
      = BitVec.ofBool (decide (toLex (p.1, p.2.toInt) < toLex (q.1, q.2.toInt))) := by
  rw [← before_eq]
  refine Eq.trans ?_ (congrArg₂ IntOp.ori (congrArg₂ (Ideal.cmp .olt) (canon (Ideal.ofBits .f32 0x7FC00000#32) (Ideal.ofBits .f32 0x00000000#32) p.1) (canon (Ideal.ofBits .f32 0x7FC00000#32) (Ideal.ofBits .f32 0x00000000#32) q.1))
    (congrArg₂ IntOp.andi (congrArg₂ (Ideal.cmp .oeq) (canon (Ideal.ofBits .f32 0x7FC00000#32) (Ideal.ofBits .f32 0x00000000#32) p.1) (canon (Ideal.ofBits .f32 0x7FC00000#32) (Ideal.ofBits .f32 0x00000000#32) q.1)) rfl))
  rfl

/-- Two rearrangements of the same entries that both ascend are equal. -/
theorem ascending_unique {n : Nat} {α : Type} [LinearOrder α] (f : Fin n → α) (σ τ : Equiv.Perm (Fin n)) (hσ : Monotone (f ∘ σ)) (hτ : Monotone (f ∘ τ)) :
    f ∘ σ = f ∘ τ := by
  have h1 := Equiv.Perm.ofFn_comp_perm σ f
  have h2 := Equiv.Perm.ofFn_comp_perm τ f
  refine List.ofFn_injective (List.Perm.eq_of_pairwise (le := (· ≤ ·)) (fun a b _ _ p q => le_antisymm p q) ?_ ?_ (h1.trans h2.symm))
  · rw [List.pairwise_ofFn]; exact fun i j hij => hσ (le_of_lt hij)
  · rw [List.pairwise_ofFn]; exact fun i j hij => hτ (le_of_lt hij)

open Cert.SortReferenceIdeal (comparator_f32_i32_d1)

/-- The reference's two sorted arrays. -/
def sorted (A : Vec Ideal S10000x128 .f32) (B : Vec Ideal S10000x128 .i32) : Vec Ideal S10000x128 .f32 × Vec Ideal S10000x128 .i32 :=
  Host.sort2 S10000x128 1 (comparator_f32_i32_d1 (F := Ideal)) A B

/-- A sort of two arrays along the lanes, read at an entry. -/
theorem sort2_apply {α β : Type} (cmp : α × β → α × β → BitVec 1) (A : S10000x128.Idx → α) (B : S10000x128.Idx → β) (R : Fin 10000) (l : Fin 128) :
    (Host.sort2 S10000x128 1 cmp A B).1 (ix2 R l) = A (ix2 R (sortedFrom (fun a b : Fin 128 => cmp (A (ix2 R a), B (ix2 R a)) (A (ix2 R b), B (ix2 R b)) == 1#1) l))
      ∧ (Host.sort2 S10000x128 1 cmp A B).2 (ix2 R l) = B (ix2 R (sortedFrom (fun a b : Fin 128 => cmp (A (ix2 R a), B (ix2 R a)) (A (ix2 R b), B (ix2 R b)) == 1#1) l)) := by
  have key : ∀ g : Fin 128 → S10000x128.Idx, g = (fun k => ix2 R k) →
      A (g (sortedFrom (fun a b : Fin 128 => cmp (A (g a), B (g a)) (A (g b), B (g b)) == 1#1) l)) = A (ix2 R (sortedFrom (fun a b : Fin 128 => cmp (A (ix2 R a), B (ix2 R a)) (A (ix2 R b), B (ix2 R b)) == 1#1) l))
      ∧ B (g (sortedFrom (fun a b : Fin 128 => cmp (A (g a), B (g a)) (A (g b), B (g b)) == 1#1) l)) = B (ix2 R (sortedFrom (fun a b : Fin 128 => cmp (A (ix2 R a), B (ix2 R a)) (A (ix2 R b), B (ix2 R b)) == 1#1) l)) := by
    rintro _ rfl; exact ⟨rfl, rfl⟩
  have hd : 1 < S10000x128.rank := by decide
  have hg : (fun k : Fin 128 => (ix2 R l : S10000x128.Idx).along ⟨1, hd⟩ k) = fun k => ix2 R k := by
    funext k a
    unfold Shape.Idx.along
    match a with
    | ⟨0, _⟩ => rfl
    | ⟨1, _⟩ => rfl
  unfold Host.sort2
  rw [dif_pos hd]
  exact key _ hg

/-- Positions sorted by their entries rearrange the entries in ascending order. -/
theorem sortedFrom_ascending {n : Nat} {α : Type} [LinearOrder α] (f : Fin n → α) :
    ∃ τ : Equiv.Perm (Fin n), (∀ l, sortedFrom (fun a b => decide (f a < f b)) l = τ l) ∧ Monotone (f ∘ τ) := by
  have hm : ∀ a b, a < b → ¬ f (sortedFrom (fun a b => decide (f a < f b)) b) < f (sortedFrom (fun a b => decide (f a < f b)) a) := fun a b h =>
    of_decide_eq_false (sortedFrom_noInversion (fun a b => decide (f a < f b)) (fun a b => decide (f a < f b))
      (fun a b h => decide_eq_false (not_lt.mpr (le_of_lt (of_decide_eq_true h)))) (fun _ _ h => h)
      (fun a b c h1 h2 => decide_eq_false (not_lt.mpr (le_trans (not_lt.mp (of_decide_eq_false h2)) (not_lt.mp (of_decide_eq_false h1))))) a b h)
  refine ⟨Equiv.ofBijective (sortedFrom fun a b => decide (f a < f b)) ⟨sortedFrom_injective _, sortedFrom_surjective _⟩, fun _ => rfl, fun a b hab => ?_⟩
  rcases lt_or_eq_of_le hab with h | h
  · exact not_lt.mp (hm a b h)
  · rw [h]

/-- A sorted row is an ascending rearrangement of the row. -/
theorem sorted_row (A : Vec Ideal S10000x128 .f32) (B : Vec Ideal S10000x128 .i32) (R : Fin 10000) :
    ∃ τ : Equiv.Perm (Fin (2 ^ 7)), row (sorted A B).1 (sorted A B).2 R = row A B R ∘ τ ∧ Monotone (row A B R ∘ τ) := by
  obtain ⟨τ, hτ, mτ⟩ := sortedFrom_ascending (row A B R)
  refine ⟨τ, funext fun l => ?_, mτ⟩
  have hbefore : (fun a b : Fin 128 => comparator_f32_i32_d1 (F := Ideal) (A (ix2 R a), B (ix2 R a)) (A (ix2 R b), B (ix2 R b)) == 1#1)
      = fun a b => decide (row A B R a < row A B R b) := by
    funext a b
    rw [comparator_eq]
    exact ofBool_beq _
  have h := sort2_apply (comparator_f32_i32_d1 (F := Ideal)) A B R l
  rw [hbefore] at h
  have hl : sortedFrom (n := 128) (fun a b => decide (row A B R a < row A B R b)) l = τ l := hτ l
  exact congrArg₂ (fun (p : EReal) (q : BitVec 32) => (toLex (p, q.toInt) : EReal ×ₗ ℤ))
    (h.1.trans (congrArg (fun k : Fin 128 => A (ix2 R k)) hl)) (h.2.trans (congrArg (fun k : Fin 128 => B (ix2 R k)) hl))

/-- The last stage's row is the sorted row, where the block's row is the array's. -/
theorem row_eq (A : Vec Ideal S10000x128 .f32) (B : Vec Ideal S10000x128 .i32) (R : Fin 10000)
    (hv : ∀ l : Fin 128, x0 (ix2 r l) = A (ix2 R l)) (hi : ∀ l : Fin 128, x1 (ix2 r l) = B (ix2 R l)) (l : Fin 128) :
    sv28 x0 x1 (ix2 r l) = (sorted A B).1 (ix2 R l) ∧ si28 x0 x1 (ix2 r l) = (sorted A B).2 (ix2 R l) := by
  have e0 : row x0 x1 r = row A B R := by
    funext l
    show toLex (x0 (ix2 r l), (x1 (ix2 r l)).toInt) = toLex (A (ix2 R l), (B (ix2 R l)).toInt)
    rw [hv, hi]
  obtain ⟨τ, hτ, mτ⟩ := sorted_row A B R
  obtain ⟨σ, hσ⟩ := Network.exists_perm (sortNet 7 false) (row A B R)
  have mσ := sortNet_apply_monotone 7 (row A B R)
  rw [hσ] at mσ
  have e := rows x0 x1 r
  rw [e0, hσ, ascending_unique _ σ τ mσ mτ, ← hτ] at e
  have h : (sv28 x0 x1 (ix2 r l), (si28 x0 x1 (ix2 r l)).toInt) = ((sorted A B).1 (ix2 R l), ((sorted A B).2 (ix2 R l)).toInt) := toLex.injective (congrFun e l)
  exact ⟨congrArg Prod.fst h, BitVec.eq_of_toInt_eq (congrArg Prod.snd h)⟩

/-! ## The whole arrays -/

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)

/-- The reference's distances: the sorted values, cut below at zero. -/
def REFD (A : Vec Ideal S10000x128 .f32) (B : Vec Ideal S10000x128 .i32) : FVec Ideal S10000x128 .f32 :=
  maximumf ((sorted A B).1 : FVec Ideal S10000x128 .f32) (broadcastInDim Cert.SortReferenceIdeal.S10000x128 ![] Cert.SortReferenceIdeal.Gen.bcast_S_S10000x128 (constant Cert.SortReferenceIdeal.S_ .f32 0x00000000#32))

theorem block0 (c : Dev nD) (t : Fin cfg0.N) (r : Fin 200) (l : Fin 128) (h : t.val * 200 + r.val < 10000) :
    iblk m c 0 t (ix2 r l) = m ((c : Thread nD τ).loc main_arg0) (ix2 ⟨t.val * 200 + r.val, h⟩ l) := by
  show V m c main_arg0 (((cfg0.win 0).blk t).view.emb _) = _
  rw [V_main_arg0]
  blk_ext [idx t]

theorem block1 (c : Dev nD) (t : Fin cfg0.N) (r : Fin 200) (l : Fin 128) (h : t.val * 200 + r.val < 10000) :
    iblk m c 1 t (ix2 r l) = m ((c : Thread nD τ).loc main_arg1) (ix2 ⟨t.val * 200 + r.val, h⟩ l) := by
  show V m c main_arg1 (((cfg0.win 1).blk t).view.emb _) = _
  rw [V_main_arg1]
  blk_ext [idx t]

theorem final_idx (c : Dev nD) : (dats m 0 c).arrAt 2 (cfgs 0).N
    = (sorted (m ((c : Thread nD τ).loc main_arg0)) (m ((c : Thread nD τ).loc main_arg1))).2 := by
  refine (dats m 0 c).arrAt_eq_of_covers 2 _ (by decide +kernel) fun t _ y => ?_
  blk_simp
  rw [after0_2]
  refine (congrFun ((out_idx (F := Ideal) c t (iblk m c 0 t) (iblk m c 1 t)).trans (body_idx _ _)) _).trans ?_
  idx_vars y
  have ht : t.val < 50 := lt_of_lt_of_eq t.isLt N_0
  refine (row_eq _ _ y0 _ _ ⟨t.val * 200 + y0.val, by omega⟩ (fun l => block0 m c t y0 l (by omega)) (fun l => block1 m c t y0 l (by omega)) y1).2.trans (congrArg _ ?_)
  blk_ext [idx t]

theorem final_dist (c : Dev nD) : (dats m 0 c).arrAt 3 (cfgs 0).N
    = REFD (m ((c : Thread nD τ).loc main_arg0)) (m ((c : Thread nD τ).loc main_arg1)) := by
  refine (dats m 0 c).arrAt_eq_of_covers 3 _ (by decide +kernel) fun t _ y => ?_
  blk_simp
  rw [after0_3]
  refine (congrFun ((out_dist (F := Ideal) c t (iblk m c 0 t) (iblk m c 1 t)).trans (body_dist _ _)) _).trans ?_
  idx_vars y
  have ht : t.val < 50 := lt_of_lt_of_eq t.isLt N_0
  have e := (row_eq _ _ y0 _ _ ⟨t.val * 200 + y0.val, by omega⟩ (fun l => block0 m c t y0 l (by omega)) (fun l => block1 m c t y0 l (by omega)) y1).1
  show max (α := EReal) (sv28 (iblk m c 0 t) (iblk m c 1 t) (ix2 y0 y1)) (Ideal.ofBits .f32 0x00000000#32) = _
  rw [e]
  refine Eq.trans (?_ : _ = REFD _ _ (ix2 ⟨t.val * 200 + y0.val, by omega⟩ y1)) (congrArg _ ?_)
  · rfl
  · blk_ext [idx t]

/-- The run with its values: the reference's two arrays of the arguments, which are unchanged. -/
theorem run : θ_run defs (onTc (τ := τ) (main (F := Ideal))) ⟨m, fun _ => 0, ρ⟩ fun r => ∀ c : Dev nD,
      r.2.mem ((c : Thread nD τ).loc main_v0_0) = (sorted (m ((c : Thread nD τ).loc main_arg0)) (m ((c : Thread nD τ).loc main_arg1))).2
      ∧ r.2.mem ((c : Thread nD τ).loc main_v0_1) = REFD (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_idx m c), (h c).2.1.trans (final_dist m c), (h c).2.2⟩) (Value.run_blocks m ρ)

end Cert.SortIdeal.Order

end
-- ==== Proof.DistValue.lean ====
/-
  The distances' value. A block is 200 rows of one half of the points against the 5120 columns of that half: the body's entry is the
  reference's entry of its half (`pay_eq`, `half_apply`).
-/
module

public import proofs.«01_k».proof.Proof.Gen.DistIdeal.Value
public import proofs.«01_k».proof.Proof.Gen.DistReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! ## The reference's term -/

namespace Cert.DistReferenceIdeal.Squared

open Cert.DistReferenceIdeal Cert.DistReferenceIdeal.Gen

/-- The squared distances of 5000 points from 5120 columns. -/
def HALF (a : FVec Ideal S5000x4 .f32) (b : FVec Ideal S4x5120 .f32) : FVec Ideal S5000x5120 .f32 :=
  subf (addf (broadcastInDim S5000x5120 ![0, 1] bcast_S5000x1_S5000x5120_0_1 (broadcastInDim S5000x1 ![0] bcast_S5000_S5000x1_0 (Host.reduceAdd (mulf a a) (constant S_ .f32 0x00000000#32) reducesTo_S5000x4_S5000_d1 h_S_)))
      (broadcastInDim S5000x5120 ![0, 1] bcast_S1x5120_S5000x5120_0_1 (broadcastInDim S1x5120 ![1] bcast_S5120_S1x5120_1 (Host.reduceAdd (mulf b b) (constant S_ .f32 0x00000000#32) reducesTo_S4x5120_S5120_d0 h_S_))))
    (mulf (broadcastInDim S5000x5120 ![] bcast_S_S5000x5120 (constant S_ .f32 0x40000000#32)) (Host.dotGeneral dot_S5000x4_S4x5120_S5000x5120_1_0_0_1_n_n none a b))

/-- The two halves, one above the other. -/
def REF (A : FVec Ideal S10000x4 .f32) (B : FVec Ideal S4x10240 .f32) : FVec Ideal S10000x5120 .f32 :=
  concatenate S10000x5120 0 [⟨S5000x5120, HALF (extractStridedSlice S5000x4 ![0, 0] A slices_S10000x4_S5000x4_0_0) (extractStridedSlice S4x5120 ![0, 0] B slices_S4x10240_S4x5120_0_0)⟩,
    ⟨S5000x5120, HALF (extractStridedSlice S5000x4 ![5000, 0] A slices_S10000x4_S5000x4_5000_0) (extractStridedSlice S4x5120 ![0, 5120] B slices_S4x10240_S4x5120_0_5120)⟩] concatenates_S5000x5120_S5000x5120_S10000x5120_d0

end Cert.DistReferenceIdeal.Squared

namespace Cert.DistIdeal.Squared

open Cert.DistIdeal Cert.DistIdeal.Gen
open Cert.DistReferenceIdeal.Squared (REF HALF)

/-- The squared distance of two points of four coordinates. -/
def sq (x y : Fin 4 → EReal) : EReal := ((∑ k, x k * x k) + ∑ k, y k * y k) - Ideal.ofBits .f32 0x40000000#32 * ∑ k, x k * y k

theorem half_apply (a : FVec Ideal Cert.DistReferenceIdeal.S5000x4 .f32) (b : FVec Ideal Cert.DistReferenceIdeal.S4x5120 .f32) (r : Fin 5000) (j : Fin 5120) :
    HALF a b (ix2 r j) = sq (fun k => a (ix2 r k)) fun k => b (ix2 k j) := by
  pointwise [HALF, sq]

theorem pay_eq (x0 : FVec Ideal S200x4 .f32) (x1 : FVec Ideal S4x5120 .f32) (r : Fin 200) (j : Fin 5120) :
    k0_pay2 (F := Ideal) x0 x1 (ix2 r j) = sq (fun k => x0 (ix2 r k)) fun k => x1 (ix2 k j) := by
  pointwise [k0_pay2, sq]
  simp only [Fin.sum_univ_four]

theorem ref_apply (A : FVec Ideal Cert.DistReferenceIdeal.S10000x4 .f32) (B : FVec Ideal Cert.DistReferenceIdeal.S4x10240 .f32) (R : Fin 10000) (j : Fin 5120) :
    REF A B (ix2 R j) = sq (fun k => A (ix2 R k)) fun k => B (ix2 k ⟨R.val / 5000 * 5120 + j.val, by omega⟩) := by
  have h : ∀ (a b : FVec Ideal Cert.DistReferenceIdeal.S5000x5120 .f32), concatenate Cert.DistReferenceIdeal.S10000x5120 0 [⟨Cert.DistReferenceIdeal.S5000x5120, a⟩, ⟨Cert.DistReferenceIdeal.S5000x5120, b⟩] Cert.DistReferenceIdeal.Gen.concatenates_S5000x5120_S5000x5120_S10000x5120_d0 (ix2 R j)
      = if q : R.val < 5000 then a (ix2 ⟨R.val, q⟩ j) else b (ix2 ⟨R.val - 5000, by omega⟩ j) := fun a b => by pointwise
  refine (h _ _).trans ?_
  by_cases q : R.val < 5000
  · rw [dif_pos q, half_apply]
    refine congrArg₂ sq (funext fun k => ?_) (funext fun k => ?_)
    · pointwise
    · pointwise
      refine congrArg (fun q => B (ix2 k q)) (Fin.ext ?_)
      show j.val = R.val / 5000 * 5120 + j.val
      have := R.isLt
      omega
  · rw [dif_neg q, half_apply]
    refine congrArg₂ sq (funext fun k => ?_) (funext fun k => ?_)
    · pointwise
      refine congrArg (fun q => A (ix2 q k)) (Fin.ext ?_)
      show 5000 + (R.val - 5000) = R.val
      omega
    · pointwise
      refine congrArg (fun q => B (ix2 k q)) (Fin.ext ?_)
      show 5120 + j.val = R.val / 5000 * 5120 + j.val
      have := R.isLt
      omega

variable (m : (ℓ : Loc nD τ sig) → Buf (Elt Ideal) ℓ) (ρ : Dev nD → PrngReg)

theorem idx : ∀ t : Fin cfg0.N, win0_0.index t = ![t.val, 0] ∧ win0_1.index t = ![0, t.val / 25] ∧ win0_2.index t = ![t.val, 0] ∧ win0_3.index t = ![t.val, 0] :=
  (by decide +kernel : ∀ t : Fin grid0.N, _)

theorem block0 (c : Dev nD) (t : Fin cfg0.N) (r : Fin 200) (l : Fin 4) (h : t.val * 200 + r.val < 10000) :
    iblk m c 0 t (ix2 r l) = m ((c : Thread nD τ).loc main_arg0) (ix2 ⟨t.val * 200 + r.val, h⟩ l) := by
  show V m c main_arg0 (((cfg0.win 0).blk t).view.emb _) = _
  rw [V_main_arg0]
  blk_ext [idx t]

theorem block1 (c : Dev nD) (t : Fin cfg0.N) (k : Fin 4) (j : Fin 5120) (h : t.val / 25 * 5120 + j.val < 10240) :
    iblk m c 1 t (ix2 k j) = m ((c : Thread nD τ).loc main_arg1) (ix2 k ⟨t.val / 25 * 5120 + j.val, h⟩) := by
  show V m c main_arg1 (((cfg0.win 1).blk t).view.emb _) = _
  rw [V_main_arg1]
  blk_ext [idx t]

/-- One block's entry is the reference's. -/
theorem block_eq (c : Dev nD) (t : Fin cfg0.N) (r : Fin 200) (j : Fin 5120) (h : t.val * 200 + r.val < 10000) :
    k0_pay2 (F := Ideal) (iblk m c 0 t) (iblk m c 1 t) (ix2 r j)
      = REF (m ((c : Thread nD τ).loc main_arg0)) (m ((c : Thread nD τ).loc main_arg1)) (ix2 ⟨t.val * 200 + r.val, h⟩ j) := by
  have ht : t.val < 50 := lt_of_lt_of_eq t.isLt N_0
  have e : (t.val * 200 + r.val) / 5000 = t.val / 25 := by omega
  rw [pay_eq, ref_apply]
  refine congrArg₂ sq (funext fun k => block0 m c t r k h) (funext fun k => (block1 m c t k j (by omega)).trans (congrArg (fun q => m ((c : Thread nD τ).loc main_arg1) (ix2 k q)) (Fin.ext ?_)))
  show _ = (t.val * 200 + r.val) / 5000 * 5120 + j.val
  rw [e]

theorem out_d2 {F : FTy → Type} [FloatOps F] (c : Dev nD) (t : Fin cfg0.N) (X0 : Vec F S200x4 .f32) (X1 : Vec F S4x5120 .f32) :
    out0_A_2 c (grid0.coords t) (ms0_0 t) (hs0_0 t) (ms0_1 t) (hs0_1 t) (ms0_2 t) (hs0_2 t) (ms0_3 t) (hs0_3 t) scM0_0 (Memref.isWhole_whole _) X0 X1
      = k0_pay2 X0 X1 := by
  frame_out

/-- What a point leaves in the distances' block. -/
theorem point_d2 (c : Dev nD) (t : Fin cfg0.N) : (outsAt0 m c t).1 = k0_pay2 (F := Ideal) (iblk m c 0 t) (iblk m c 1 t) := by
  simp only [outsAt0]
  exact out_d2 (F := Ideal) c t (iblk m c 0 t) (iblk m c 1 t)

/-- The array of distances after the run is the reference's term of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2, point_d2]
  have ht : t.val < 50 := lt_of_lt_of_eq t.isLt N_0
  idx_vars y
  refine (block_eq m c t y0 y1 (by omega)).trans (congrArg _ ?_)
  blk_ext [idx t]

/-- The run with its value: the distances are the reference's term of the arguments, which are unchanged. -/
theorem run : θ_run defs (onTc (τ := τ) (main (F := Ideal))) ⟨m, fun _ => 0, ρ⟩ fun r => ∀ c : Dev nD,
      r.2.mem ((c : Thread nD τ).loc main_v0_0) = REF (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2.2⟩) (Value.run_blocks m ρ)

end Cert.DistIdeal.Squared

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal.Run
public import proofs.«01_k».proof.Proof.Gen.Reference.Run
public import proofs.«01_k».proof.Proof.Launch
public import proofs.«01_k».proof.Proof.Rows
public import proofs.«01_k».proof.Proof.Gen.Prep.Frame
public import proofs.«01_k».proof.Proof.Gen.Finish.Frame
public import proofs.«01_k».proof.Proof.PrepValue
public import proofs.«01_k».proof.Proof.FinishValue
public import proofs.«01_k».proof.Proof.Gen.Compact
public import proofs.«01_k».proof.Proof.Gen.Compact.Skeleton
public import proofs.«01_k».proof.Proof.Gen.CompactReferenceIdeal.Run
public import proofs.«01_k».proof.Proof.Gen.CompactReference.Run
public import proofs.«01_k».proof.Proof.CompactLaunch
public import proofs.«01_k».proof.Proof.CompactRows
public import proofs.«01_k».proof.Proof.Gen.Sort.Frame
public import proofs.«01_k».proof.Proof.Gen.SortReferenceIdeal.Run
public import proofs.«01_k».proof.Proof.SortValue
public import proofs.«01_k».proof.Proof.Gen.Dist.Frame
public import proofs.«01_k».proof.Proof.DistValue
public import proofs.«01_k».proof.Proof.Gen.DistReferenceIdeal.Run

public import Idealize.ShloMosaic.Adequacy
public import Idealize.ShloMosaic.Init

@[expose] public section

noncomputable section

namespace Cert.Proof

open Idealize.ShloMosaic Idealize.SL.Sem Cert.Kernel

/-! ## The precondition, at each program's memory -/

theorem inRows_kernel (m : (ℓ : Loc Cert.Kernel.nD Cert.Kernel.τ Cert.Kernel.sig) → Buf (Elt Bits) ℓ) (h : Cert.Pre_Kernel m) :
    Launch.InRows (F := Bits) (Launch.idxOf m) := fun d j => Rows.in_rows_of _ _ (h d) j
theorem inRows_kernelIdeal (m : (ℓ : Loc Cert.KernelIdeal.nD Cert.KernelIdeal.τ Cert.KernelIdeal.sig) → Buf (Elt Ideal) ℓ) (h : Cert.Pre_KernelIdeal m) :
    Launch.InRows (F := Ideal) (Launch.idxOf m) := fun d j => Rows.in_rows_of _ _ (h d) j

/-! ## The frames -/

/-- `Cert.quiescent_Kernel`: the one run, at the bits. -/
theorem frame_kernel : Cert.quiescent_Kernel := fun m ρ hpre =>
  (θ_run Cert.KernelIdeal.defs _ _).mono (fun _ h => ⟨fun c => ⟨(h.1 c).1, (h.1 c).2.1⟩, h.2⟩)
    (Launch.run_main (F := Bits) m ρ (inRows_kernel m hpre))

/-- `Cert.quiescent_KernelIdeal`: the same run, at the ideal instance. -/
theorem frame_kernelIdeal : Cert.quiescent_KernelIdeal := fun m ρ hpre =>
  (θ_run Cert.KernelIdeal.defs _ _).mono (fun _ h => ⟨fun c => ⟨(h.1 c).1, (h.1 c).2.1⟩, h.2⟩)
    (Launch.run_main (F := Ideal) m ρ (inRows_kernelIdeal m hpre))

/-- `Cert.quiescent_ReferenceIdeal`: its run; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_pre : Cert.quiescent_ReferenceIdeal_pre_in_rows := fun m ρ _ => frame_referenceIdeal m ρ trivial

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-! ## The values -/

/-- `Cert.algebraic_KernelIdeal_ReferenceIdeal`: both results are the gathered rows. -/
theorem algebraic : Cert.algebraic_KernelIdeal_ReferenceIdeal := by
  intro m ρ m' ρ' hpre hagree
  refine ⟨fun c => Slots.G (Launch.tblOf m c) (Launch.idxOf m c), (θ_run Cert.KernelIdeal.defs _ _).mono (fun _ h c => ⟨(h.1 c).2.2, (h.1 c).1, (h.1 c).2.1⟩)
    (Launch.run_main (F := Ideal) m ρ (inRows_kernelIdeal m hpre)), ?_⟩
  refine (θ_run Cert.ReferenceIdeal.defs _ _).mono (fun _ h c => ⟨(h c).1.trans ?_, (h c).2⟩) (Cert.ReferenceIdeal.Value.run (F := Ideal) m' ρ')
  rw [(hagree c).1, (hagree c).2]
  exact Rows.ref_eq _ _ (inRows_kernelIdeal m hpre c) _ _ _ _

/-- `Cert.bitexact_Kernel_Reference`: likewise at the bits. -/
theorem bitexact : Cert.bitexact_Kernel_Reference := by
  intro m ρ m' ρ' hpre hagree
  refine ⟨fun c => Slots.G (Launch.tblOf m c) (Launch.idxOf m c), (θ_run Cert.KernelIdeal.defs _ _).mono (fun _ h c => ⟨(h.1 c).2.2, (h.1 c).1, (h.1 c).2.1⟩)
    (Launch.run_main (F := Bits) m ρ (inRows_kernel m hpre)), ?_⟩
  refine (θ_run Cert.Reference.defs _ _).mono (fun _ h c => ⟨(h c).1.trans ?_, (h c).2⟩) (Cert.Reference.Value.run (F := Bits) m' ρ')
  rw [(hagree c).1, (hagree c).2]
  exact Rows.ref_eq _ _ (inRows_kernel m hpre c) _ _ _ _

/-! ## The dense layers and the aggregation -/

theorem frame_prep : Cert.quiescent_Prep := fun m ρ _ => Cert.Prep.Gen.frame (F := Bits) m ρ

theorem frame_prepIdeal : Cert.quiescent_PrepIdeal := fun m ρ _ => Cert.PrepIdeal.Gen.frame (F := Ideal) m ρ

theorem frame_prepReferenceIdeal : Cert.quiescent_PrepReferenceIdeal := fun m ρ _ =>
  (θ_run Cert.PrepReferenceIdeal.defs _ _).mono (fun r h => ⟨fun c => (h c).2, sem_eq_zero_of_no_sems (by decide) r.2⟩)
    (Cert.PrepReferenceIdeal.Value.run (F := Ideal) m ρ)

theorem frame_finish : Cert.quiescent_Finish := fun m ρ _ => Cert.Finish.Gen.frame (F := Bits) m ρ

theorem frame_finishIdeal : Cert.quiescent_FinishIdeal := fun m ρ _ => Cert.FinishIdeal.Gen.frame (F := Ideal) m ρ

theorem frame_finishReferenceIdeal : Cert.quiescent_FinishReferenceIdeal := fun m ρ _ =>
  (θ_run Cert.FinishReferenceIdeal.defs _ _).mono (fun r h => ⟨fun c => (h c).2, sem_eq_zero_of_no_sems (by decide) r.2⟩)
    (Cert.FinishReferenceIdeal.Value.run (F := Ideal) m ρ)

/-- `Cert.algebraic_PrepIdeal_PrepReferenceIdeal`: the kernel's array is the reference's term. -/
theorem algebraic_prep : Cert.algebraic_PrepIdeal_PrepReferenceIdeal := by
  intro m ρ m' ρ' hpre hagree
  refine ⟨_, Cert.PrepIdeal.Dense.run m ρ, ?_⟩
  refine (θ_run Cert.PrepReferenceIdeal.defs _ _).mono (fun _ h c => ⟨(h c).1.trans ?_, (h c).2⟩) (Cert.PrepReferenceIdeal.Value.run (F := Ideal) m' ρ')
  obtain ⟨e0, e1, e2, e3⟩ := hagree c
  rw [e0, e1, e2, e3]
  rfl

/-- `Cert.algebraic_FinishIdeal_FinishReferenceIdeal`: the kernel's array is the reference's term. -/
theorem algebraic_finish : Cert.algebraic_FinishIdeal_FinishReferenceIdeal := by
  intro m ρ m' ρ' hpre hagree
  refine ⟨_, Cert.FinishIdeal.Aggregate.run m ρ, ?_⟩
  refine (θ_run Cert.FinishReferenceIdeal.defs _ _).mono (fun _ h c => ⟨(h c).1.trans ?_, (h c).2⟩) (Cert.FinishReferenceIdeal.Value.run (F := Ideal) m' ρ')
  obtain ⟨e0, e1, e2, e3, e4, e5⟩ := hagree c
  rw [e0, e1, e2, e3, e4, e5]
  rfl

/-! ## The compaction -/

theorem inWindow_compact (m : (ℓ : Loc Cert.Compact.nD Cert.Compact.τ Cert.Compact.sig) → Buf (Elt Bits) ℓ) (h : Cert.Pre_Compact m) :
    CompactLaunch.InWindow (F := Bits) (CompactLaunch.psOf m) := fun d j => CompactRows.in_window_of _ _ (h d) j
theorem inWindow_compactIdeal (m : (ℓ : Loc Cert.CompactIdeal.nD Cert.CompactIdeal.τ Cert.CompactIdeal.sig) → Buf (Elt Ideal) ℓ) (h : Cert.Pre_CompactIdeal m) :
    CompactLaunch.InWindow (F := Ideal) (CompactLaunch.psOf m) := fun d j => CompactRows.in_window_of _ _ (h d) j

/-- `Cert.quiescent_Compact`: the one run, at the bits. -/
theorem frame_compact : Cert.quiescent_Compact := fun m ρ hpre =>
  (θ_run Cert.CompactIdeal.defs _ _).mono (fun _ h => ⟨fun c => ⟨(h.1 c).1, (h.1 c).2.1⟩, h.2⟩)
    (CompactLaunch.run_main (F := Bits) m ρ (inWindow_compact m hpre))

/-- `Cert.quiescent_CompactIdeal`: the same run, at the ideal instance. -/
theorem frame_compactIdeal : Cert.quiescent_CompactIdeal := fun m ρ hpre =>
  (θ_run Cert.CompactIdeal.defs _ _).mono (fun _ h => ⟨fun c => ⟨(h.1 c).1, (h.1 c).2.1⟩, h.2⟩)
    (CompactLaunch.run_main (F := Ideal) m ρ (inWindow_compactIdeal m hpre))

theorem frame_compactReferenceIdeal : Cert.quiescent_CompactReferenceIdeal := fun m ρ _ =>
  (θ_run Cert.CompactReferenceIdeal.defs _ _).mono (fun r h => ⟨fun c => (h c).2.2, sem_eq_zero_of_no_sems (by decide) r.2⟩)
    (Cert.CompactReferenceIdeal.Value.run (F := Ideal) m ρ)

theorem frame_compactReferenceIdeal_pre : Cert.quiescent_CompactReferenceIdeal_pre_in_window := fun m ρ _ => frame_compactReferenceIdeal m ρ trivial

theorem frame_compactReference : Cert.quiescent_CompactReference := fun m ρ _ =>
  (θ_run Cert.CompactReference.defs _ _).mono (fun r h => ⟨fun c => (h c).2.2, sem_eq_zero_of_no_sems (by decide) r.2⟩)
    (Cert.CompactReference.Value.run (F := Bits) m ρ)

/-- `Cert.algebraic_CompactIdeal_CompactReferenceIdeal`: the results are the candidates' distances and columns, each at its position. -/
theorem algebraic_compact : Cert.algebraic_CompactIdeal_CompactReferenceIdeal := by
  intro m ρ m' ρ' hpre hagree
  refine ⟨fun c => CompactLaunch.RV (CompactLaunch.d2Of m) (CompactLaunch.psOf m) c, fun c => CompactLaunch.RI (F := Ideal) (CompactLaunch.psOf m) c,
    (θ_run Cert.CompactIdeal.defs _ _).mono (fun _ h c => ⟨(h.1 c).2.2.1, (h.1 c).2.2.2, (h.1 c).1, (h.1 c).2.1⟩)
      (CompactLaunch.run_main (F := Ideal) m ρ (inWindow_compactIdeal m hpre)), ?_⟩
  refine (θ_run Cert.CompactReferenceIdeal.defs _ _).mono (fun _ h c => ⟨(h c).1.trans ?_, (h c).2.1.trans ?_, (h c).2.2⟩)
    (Cert.CompactReferenceIdeal.Value.run (F := Ideal) m' ρ')
  · rw [(hagree c).1, (hagree c).2]
    exact CompactRows.scatter_eq _ rfl rfl rfl _ _ _ _ _ _ _ _ (fun _ => rfl) _ (inWindow_compactIdeal m hpre c) _ _ (fun _ _ => rfl)
  · rw [(hagree c).2]
    exact CompactRows.scatter_eq _ rfl rfl rfl _ _ _ _ _ _ _ _ (fun _ => rfl) _ (inWindow_compactIdeal m hpre c) _ _ (CompactRows.cols_eq _ _ _ _ _)

/-- `Cert.bitexact_Compact_CompactReference`: likewise at the bits. -/
theorem bitexact_compact : Cert.bitexact_Compact_CompactReference := by
  intro m ρ m' ρ' hpre hagree
  refine ⟨fun c => CompactLaunch.RV (CompactLaunch.d2Of m) (CompactLaunch.psOf m) c, fun c => CompactLaunch.RI (F := Bits) (CompactLaunch.psOf m) c,
    (θ_run Cert.CompactIdeal.defs _ _).mono (fun _ h c => ⟨(h.1 c).2.2.1, (h.1 c).2.2.2, (h.1 c).1, (h.1 c).2.1⟩)
      (CompactLaunch.run_main (F := Bits) m ρ (inWindow_compact m hpre)), ?_⟩
  refine (θ_run Cert.CompactReference.defs _ _).mono (fun _ h c => ⟨(h c).1.trans ?_, (h c).2.1.trans ?_, (h c).2.2⟩)
    (Cert.CompactReference.Value.run (F := Bits) m' ρ')
  · rw [(hagree c).1, (hagree c).2]
    exact CompactRows.scatter_eq _ rfl rfl rfl _ _ _ _ _ _ _ _ (fun _ => rfl) _ (inWindow_compact m hpre c) _ _ (fun _ _ => rfl)
  · rw [(hagree c).2]
    exact CompactRows.scatter_eq _ rfl rfl rfl _ _ _ _ _ _ _ _ (fun _ => rfl) _ (inWindow_compact m hpre c) _ _ (CompactRows.cols_eq _ _ _ _ _)

/-! ## The sort -/

theorem frame_sort : Cert.quiescent_Sort := fun m ρ _ => Cert.Sort.Gen.frame (F := Bits) m ρ

theorem frame_sortIdeal : Cert.quiescent_SortIdeal := fun m ρ _ => Cert.SortIdeal.Gen.frame (F := Ideal) m ρ

theorem frame_sortReferenceIdeal : Cert.quiescent_SortReferenceIdeal := fun m ρ _ =>
  (θ_run Cert.SortReferenceIdeal.defs _ _).mono (fun r h => ⟨fun c => (h c).2.2, sem_eq_zero_of_no_sems (by decide) r.2⟩)
    (Cert.SortReferenceIdeal.Value.run (F := Ideal) m ρ)

/-- `Cert.algebraic_SortIdeal_SortReferenceIdeal`: each row's indices and distances in ascending order. -/
theorem algebraic_sort : Cert.algebraic_SortIdeal_SortReferenceIdeal := by
  intro m ρ m' ρ' hpre hagree
  refine ⟨_, _, Cert.SortIdeal.Order.run m ρ, ?_⟩
  refine (θ_run Cert.SortReferenceIdeal.defs _ _).mono (fun _ h c => ⟨(h c).1.trans ?_, (h c).2.1.trans ?_, (h c).2.2⟩)
    (Cert.SortReferenceIdeal.Value.run (F := Ideal) m' ρ')
  · rw [(hagree c).1, (hagree c).2]
    rfl
  · rw [(hagree c).1, (hagree c).2]
    rfl

/-! ## The distances -/

theorem frame_dist : Cert.quiescent_Dist := fun m ρ _ => Cert.Dist.Gen.frame (F := Bits) m ρ

theorem frame_distIdeal : Cert.quiescent_DistIdeal := fun m ρ _ => Cert.DistIdeal.Gen.frame (F := Ideal) m ρ

theorem frame_distReferenceIdeal : Cert.quiescent_DistReferenceIdeal := fun m ρ _ =>
  (θ_run Cert.DistReferenceIdeal.defs _ _).mono (fun r h => ⟨fun c => (h c).2, sem_eq_zero_of_no_sems (by decide) r.2⟩)
    (Cert.DistReferenceIdeal.Value.run (F := Ideal) m ρ)

/-- `Cert.algebraic_DistIdeal_DistReferenceIdeal`: the kernel's array of distances is the reference's term. -/
theorem algebraic_dist : Cert.algebraic_DistIdeal_DistReferenceIdeal := by
  intro m ρ m' ρ' hpre hagree
  refine ⟨_, Cert.DistIdeal.Squared.run m ρ, ?_⟩
  refine (θ_run Cert.DistReferenceIdeal.defs _ _).mono (fun _ h c => ⟨(h c).1.trans ?_, (h c).2⟩) (Cert.DistReferenceIdeal.Value.run (F := Ideal) m' ρ')
  obtain ⟨e0, e1⟩ := hagree c
  rw [e0, e1]
  rfl

/-- `Cert.Claim` (Defs.lean). -/
theorem claim : Cert.Claim :=
  ⟨Cert.Kernel.Gen.facts, Cert.KernelIdeal.Gen.facts, Cert.ReferenceIdeal.Gen.facts, Cert.Reference.Gen.facts,
    Cert.Prep.Gen.facts, Cert.PrepIdeal.Gen.facts, Cert.PrepReferenceIdeal.Gen.facts,
    Cert.Finish.Gen.facts, Cert.FinishIdeal.Gen.facts, Cert.FinishReferenceIdeal.Gen.facts,
    Cert.Compact.Gen.facts, Cert.CompactIdeal.Gen.facts, Cert.CompactReferenceIdeal.Gen.facts, Cert.CompactReference.Gen.facts,
    Cert.Sort.Gen.facts, Cert.SortIdeal.Gen.facts, Cert.SortReferenceIdeal.Gen.facts,
    Cert.Dist.Gen.facts, Cert.DistIdeal.Gen.facts, Cert.DistReferenceIdeal.Gen.facts,
    inferInstance, inferInstance,
    frame_kernel, frame_kernelIdeal, frame_referenceIdeal, frame_referenceIdeal_pre, frame_reference,
    frame_prep, frame_prepIdeal, frame_prepReferenceIdeal, frame_finish, frame_finishIdeal, frame_finishReferenceIdeal,
    frame_compact, frame_compactIdeal, frame_compactReferenceIdeal, frame_compactReferenceIdeal_pre, frame_compactReference,
    frame_sort, frame_sortIdeal, frame_sortReferenceIdeal,
    frame_dist, frame_distIdeal, frame_distReferenceIdeal,
    trivial, algebraic, bitexact, trivial, algebraic_prep, trivial, algebraic_finish, trivial, algebraic_compact, bitexact_compact,
    trivial, algebraic_sort, trivial, algebraic_dist⟩

end Cert.Proof

end
